-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)
  ∧ IdealRules.named_const.Statement Cert.KernelIdeal.κ "log2e_inv_sqrt_d" .f32 0x3E0293EE#32 (((Real.sqrt 128)⁻¹ * (Real.log 2)⁻¹ : ℝ) : EReal)

def preserves_Reference_ReferenceIdeal : Prop :=
  IdealRules.named_const.Statement Cert.ReferenceIdeal.κ "inv_sqrt_d" .f32 0x3DB504F3#32 (((Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37_0) = v0 c
          ∧ r.2.mem ((c.tc : Thread Cert.ReferenceIdeal.nD Cert.ReferenceIdeal.τ).loc Cert.ReferenceIdeal.main_v37_1) = v1 c
          ∧ r.2.mem ((c.tc : Thread Cert.ReferenceIdeal.nD Cert.ReferenceIdeal.τ).loc Cert.ReferenceIdeal.main_v37_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S8x4096x4096 : Shape := ⟨3, ![8, 4096, 4096]⟩
abbrev S8x8x4096x128 : Shape := ⟨4, ![8, 8, 4096, 128]⟩
abbrev S8x4096x8 : Shape := ⟨3, ![8, 4096, 8]⟩
abbrev S8x8x128x4096 : Shape := ⟨4, ![8, 8, 128, 4096]⟩
abbrev S8x8x128 : Shape := ⟨3, ![8, 8, 128]⟩
abbrev S_ : Shape := ⟨0, ![]⟩
abbrev S1x1 : Shape := ⟨2, ![1, 1]⟩
abbrev S1x2 : Shape := ⟨2, ![1, 2]⟩
abbrev S2x2 : Shape := ⟨2, ![2, 2]⟩
abbrev S2x4 : Shape := ⟨2, ![2, 4]⟩
abbrev S4x4 : Shape := ⟨2, ![4, 4]⟩
abbrev S4x8 : Shape := ⟨2, ![4, 8]⟩
abbrev S8x8 : Shape := ⟨2, ![8, 8]⟩
abbrev S8x16 : Shape := ⟨2, ![8, 16]⟩
abbrev S16x16 : Shape := ⟨2, ![16, 16]⟩
abbrev S16x32 : Shape := ⟨2, ![16, 32]⟩
abbrev S32x32 : Shape := ⟨2, ![32, 32]⟩
abbrev S32x64 : Shape := ⟨2, ![32, 64]⟩
abbrev S64x64 : Shape := ⟨2, ![64, 64]⟩
abbrev S64x128 : Shape := ⟨2, ![64, 128]⟩
abbrev S128x128 : Shape := ⟨2, ![128, 128]⟩
abbrev S128x256 : Shape := ⟨2, ![128, 256]⟩
abbrev S256x256 : Shape := ⟨2, ![256, 256]⟩
abbrev S8x4096x32x128 : Shape := ⟨4, ![8, 4096, 32, 128]⟩
abbrev S8x4096x32 : Shape := ⟨3, ![8, 4096, 32]⟩
abbrev S1x256x4096 : Shape := ⟨3, ![1, 256, 4096]⟩
abbrev S1x8x4096x128 : Shape := ⟨4, ![1, 8, 4096, 128]⟩
abbrev S1x4096x8 : Shape := ⟨3, ![1, 4096, 8]⟩
abbrev S1x8x128x4096 : Shape := ⟨4, ![1, 8, 128, 4096]⟩
abbrev S1x8x128 : Shape := ⟨3, ![1, 8, 128]⟩
abbrev S1x256x32x128 : Shape := ⟨4, ![1, 256, 32, 128]⟩
abbrev S1x256x32 : Shape := ⟨3, ![1, 256, 32]⟩
abbrev S256x4096 : Shape := ⟨2, ![256, 4096]⟩
abbrev S32x256x128 : Shape := ⟨3, ![32, 256, 128]⟩
abbrev S8x4096x128 : Shape := ⟨3, ![8, 4096, 128]⟩
abbrev S4096x256 : Shape := ⟨2, ![4096, 256]⟩
abbrev S8x256 : Shape := ⟨2, ![8, 256]⟩
abbrev S1x4096x1 : Shape := ⟨3, ![1, 4096, 1]⟩
abbrev S4096x1 : Shape := ⟨2, ![4096, 1]⟩
abbrev S4096x128 : Shape := ⟨2, ![4096, 128]⟩
abbrev S1x4096x128 : Shape := ⟨3, ![1, 4096, 128]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S256x1x128 : Shape := ⟨3, ![256, 1, 128]⟩
abbrev S256x4x128 : Shape := ⟨3, ![256, 4, 128]⟩
abbrev S1x256x4x128 : Shape := ⟨4, ![1, 256, 4, 128]⟩
abbrev S256x32 : Shape := ⟨2, ![256, 32]⟩
abbrev S1x1x256x128 : Shape := ⟨4, ![1, 1, 256, 128]⟩
abbrev S32x8x256 : Shape := ⟨3, ![32, 8, 256]⟩
abbrev S1x256 : Shape := ⟨2, ![1, 256]⟩
abbrev S1x1x128x256 : Shape := ⟨4, ![1, 1, 128, 256]⟩
abbrev S1x1x128 : Shape := ⟨3, ![1, 1, 128]⟩
abbrev S1x128 : Shape := ⟨2, ![1, 128]⟩

abbrev nBuf : Space → Nat
  | .hbm => 44
  | .vmem => 23
  | .smem => 0
  | _ => 0

abbrev bufTy : (tb : Table) → Fin (tcTables nBuf tb) → BufTy
  | .hbm, ⟨0, _⟩ => ⟨S8x4096x4096, .bf16⟩
  | .hbm, ⟨1, _⟩ => ⟨S8x8x4096x128, .fp8e4m3⟩
  | .hbm, ⟨2, _⟩ => ⟨S8x4096x8, .f32⟩
  | .hbm, ⟨3, _⟩ => ⟨S8x8x128x4096, .fp8e4m3⟩
  | .hbm, ⟨4, _⟩ => ⟨S8x8x128, .f32⟩
  | .hbm, ⟨5, _⟩ => ⟨S_, .f32⟩
  | .hbm, ⟨6, _⟩ => ⟨S1x1, .f32⟩
  | .hbm, ⟨7, _⟩ => ⟨S1x2, .f32⟩
  | .hbm, ⟨8, _⟩ => ⟨S1x1, .f32⟩
  | .hbm, ⟨9, _⟩ => ⟨S1x2, .f32⟩
  | .hbm, ⟨10, _⟩ => ⟨S2x2, .f32⟩
  | .hbm, ⟨11, _⟩ => ⟨S2x4, .f32⟩
  | .hbm, ⟨12, _⟩ => ⟨S2x2, .f32⟩
  | .hbm, ⟨13, _⟩ => ⟨S2x4, .f32⟩
  | .hbm, ⟨14, _⟩ => ⟨S4x4, .f32⟩
  | .hbm, ⟨15, _⟩ => ⟨S4x8, .f32⟩
  | .hbm, ⟨16, _⟩ => ⟨S4x4, .f32⟩
  | .hbm, ⟨17, _⟩ => ⟨S4x8, .f32⟩
  | .hbm, ⟨18, _⟩ => ⟨S8x8, .f32⟩
  | .hbm, ⟨19, _⟩ => ⟨S8x16, .f32⟩
  | .hbm, ⟨20, _⟩ => ⟨S8x8, .f32⟩
  | .hbm, ⟨21, _⟩ => ⟨S8x16, .f32⟩
  | .hbm, ⟨22, _⟩ => ⟨S16x16, .f32⟩
  | .hbm, ⟨23, _⟩ => ⟨S16x32, .f32⟩
  | .hbm, ⟨24, _⟩ => ⟨S16x16, .f32⟩
  | .hbm, ⟨25, _⟩ => ⟨S16x32, .f32⟩
  | .hbm, ⟨26, _⟩ => ⟨S32x32, .f32⟩
  | .hbm, ⟨27, _⟩ => ⟨S32x64, .f32⟩
  | .hbm, ⟨28, _⟩ => ⟨S32x32, .f32⟩
  | .hbm, ⟨29, _⟩ => ⟨S32x64, .f32⟩
  | .hbm, ⟨30, _⟩ => ⟨S64x64, .f32⟩
  | .hbm, ⟨31, _⟩ => ⟨S64x128, .f32⟩
  | .hbm, ⟨32, _⟩ => ⟨S64x64, .f32⟩
  | .hbm, ⟨33, _⟩ => ⟨S64x128, .f32⟩
  | .hbm, ⟨34, _⟩ => ⟨S128x128, .f32⟩
  | .hbm, ⟨35, _⟩ => ⟨S_, .f32⟩
  | .hbm, ⟨36, _⟩ => ⟨S128x128, .f32⟩
  | .hbm, ⟨37, _⟩ => ⟨S128x256, .f32⟩
  | .hbm, ⟨38, _⟩ => ⟨S128x256, .f32⟩
  | .hbm, ⟨39, _⟩ => ⟨S256x256, .f32⟩
  | .hbm, ⟨40, _⟩ => ⟨S256x256, .bf16⟩
  | .hbm, ⟨41, _⟩ => ⟨S8x4096x4096, .bf16⟩
  | .hbm, ⟨42, _⟩ => ⟨S8x4096x32x128, .fp8e4m3⟩
  | .hbm, ⟨43, _⟩ => ⟨S8x4096x32, .f32⟩
  | .local _ .vmem, ⟨0, _⟩ => ⟨S1x256x4096, .bf16⟩
  | .local _ .vmem, ⟨1, _⟩ => ⟨S1x256x4096, .bf16⟩
  | .local _ .vmem, ⟨2, _⟩ => ⟨S1x8x4096x128, .fp8e4m3⟩
  | .local _ .vmem, ⟨3, _⟩ => ⟨S1x8x4096x128, .fp8e4m3⟩
  | .local _ .vmem, ⟨4, _⟩ => ⟨S1x4096x8, .f32⟩
  | .local _ .vmem, ⟨5, _⟩ => ⟨S1x4096x8, .f32⟩
  | .local _ .vmem, ⟨6, _⟩ => ⟨S1x8x128x4096, .fp8e4m3⟩
  | .local _ .vmem, ⟨7, _⟩ => ⟨S1x8x128x4096, .fp8e4m3⟩
  | .local _ .vmem, ⟨8, _⟩ => ⟨S1x8x128, .f32⟩
  | .local _ .vmem, ⟨9, _⟩ => ⟨S1x8x128, .f32⟩
  | .local _ .vmem, ⟨10, _⟩ => ⟨S256x256, .bf16⟩
  | .local _ .vmem, ⟨11, _⟩ => ⟨S1x256x4096, .bf16⟩
  | .local _ .vmem, ⟨12, _⟩ => ⟨S1x256x4096, .bf16⟩
  | .local _ .vmem, ⟨13, _⟩ => ⟨S1x256x32x128, .fp8e4m3⟩
  | .local _ .vmem, ⟨14, _⟩ => ⟨S1x256x32x128, .fp8e4m3⟩
  | .local _ .vmem, ⟨15, _⟩ => ⟨S1x256x32, .f32⟩
  | .local _ .vmem, ⟨16, _⟩ => ⟨S1x256x32, .f32⟩
  | .local _ .vmem, ⟨17, _⟩ => ⟨S256x4096, .f32⟩
  | .local _ .vmem, ⟨18, _⟩ => ⟨S32x256x128, .fp8e4m3⟩
  | .local _ .vmem, ⟨19, _⟩ => ⟨S8x4096x128, .f32⟩
  | .local _ .vmem, ⟨20, _⟩ => ⟨S128x256, .f32⟩
  | .local _ .vmem, ⟨21, _⟩ => ⟨S4096x256, .f32⟩
  | .local _ .vmem, ⟨22, _⟩ => ⟨S8x256, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34_0 : Ref sig .tc := ⟨.hbm, 41, rfl⟩
abbrev main_v34_1 : Ref sig .tc := ⟨.hbm, 42, rfl⟩
abbrev main_v34_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c0_i32_417 : BitVec 32 := 0#32
  let v957 : BitVec 1 := Scalar.cmpi .eq arg1 c0_i32_417
  let v958 : BitVec 32 := Scalar.extui v957
  let c0_i32_418 : BitVec 32 := 0#32
  let v959 : BitVec 1 := Scalar.cmpi .ne v958 c0_i32_418
  v959

@[reducible] def k0_t1_loop : Scf.Loop 32 :=
  let c0_i32_470 : BitVec 32 := 0#32
  let c32_i32 : BitVec 32 := 32#32
  let v1033 : BitVec 32 := Scalar.addi c0_i32_470 c32_i32
  let c1_i32_471 : BitVec 32 := 1#32
  ⟨c0_i32_470, v1033, c1_i32_471⟩
def k0_off1 (k0_t1 : Fin k0_t1_loop.trips) : Fin 2 → Nat :=
  let c0_i32_474 : BitVec 32 := 0#32
  let c0_i32_470 : BitVec 32 := 0#32
  let c1_i32_471 : BitVec 32 := 1#32
  let arg17 : BitVec 32 := Scf.iv c0_i32_470 c1_i32_471 k0_t1
  let c1_i32_473 : BitVec 32 := 1#32
  let v1034 : BitVec 32 := Scalar.muli arg17 c1_i32_473
  let v1035 : BitVec 32 := Scalar.addi c0_i32_474 v1034
  let v1038 : Index := Scalar.indexCast v1035
  let c0_477 : Index := 0#32
  ![v1038.toNat, 0]
def k0_off2 (k0_t1 : Fin k0_t1_loop.trips) : Fin 4 → Nat :=
  let c0_493 : Index := 0#32
  let c0_i32_474 : BitVec 32 := 0#32
  let c0_i32_470 : BitVec 32 := 0#32
  let c1_i32_471 : BitVec 32 := 1#32
  let arg17 : BitVec 32 := Scf.iv c0_i32_470 c1_i32_471 k0_t1
  let c1_i32_473 : BitVec 32 := 1#32
  let v1034 : BitVec 32 := Scalar.muli arg17 c1_i32_473
  let v1035 : BitVec 32 := Scalar.addi c0_i32_474 v1034
  let c0_i32_482 : BitVec 32 := 0#32
  let v1045 : BitVec 1 := Scalar.cmpi .sgt v1035 c0_i32_482
  let v1046 : BitVec 32 := Scalar.extui v1045
  let c0_i32_483 : BitVec 32 := 0#32
  let v1047 : BitVec 1 := Scalar.cmpi .slt v1035 c0_i32_483
  let v1048 : BitVec 32 := Scalar.extui v1047
  let v1049 : BitVec 32 := Scalar.subi v1046 v1048
  let c4_i32_481 : BitVec 32 := 4#32
  let c0_i32_484 : BitVec 32 := 0#32
  let v1050 : BitVec 1 := Scalar.cmpi .sgt c4_i32_481 c0_i32_484
  let v1051 : BitVec 32 := Scalar.extui v1050
  let c0_i32_485 : BitVec 32 := 0#32
  let v1052 : BitVec 1 := Scalar.cmpi .slt c4_i32_481 c0_i32_485
  let v1053 : BitVec 32 := Scalar.extui v1052
  let v1054 : BitVec 32 := Scalar.subi v1051 v1053
  let v1055 : BitVec 1 := Scalar.cmpi .ne v1049 v1054
  let v1056 : BitVec 32 := Scalar.remsi v1035 c4_i32_481
  let c0_i32_486 : BitVec 32 := 0#32
  let v1057 : BitVec 1 := Scalar.cmpi .ne v1056 c0_i32_486
  let v1058 : BitVec 1 := Scalar.andi v1055 v1057
  let v1044 : BitVec 32 := Scalar.divsi v1035 c4_i32_481
  let c1_i32_487 : BitVec 32 := 1#32
  let v1059 : BitVec 32 := Scalar.subi v1044 c1_i32_487
  let v1060 : BitVec 32 := Scalar.select v1058 v1059 v1044
  let v1072 : Index := Scalar.indexCast v1060
  let c0_494 : Index := 0#32
  let c0_495 : Index := 0#32
  ![0, v1072.toNat, 0, 0]
def k0_off3 (k0_t1 : Fin k0_t1_loop.trips) : Fin 4 → Nat :=
  let c0_506 : Index := 0#32
  let c0_i32_474 : BitVec 32 := 0#32
  let c0_i32_470 : BitVec 32 := 0#32
  let c1_i32_471 : BitVec 32 := 1#32
  let arg17 : BitVec 32 := Scf.iv c0_i32_470 c1_i32_471 k0_t1
  let c1_i32_473 : BitVec 32 := 1#32
  let v1034 : BitVec 32 := Scalar.muli arg17 c1_i32_473
  let v1035 : BitVec 32 := Scalar.addi c0_i32_474 v1034
  let c1_i32_475 : BitVec 32 := 1#32
  let v1036 : BitVec 32 := Scalar.addi v1035 c1_i32_475
  let c31_i32_476 : BitVec 32 := 31#32
  let v1037 : BitVec 32 := Scalar.minsi v1036 c31_i32_476
  let c0_i32_500 : BitVec 32 := 0#32
  let v1083 : BitVec 1 := Scalar.cmpi .sgt v1037 c0_i32_500
  let v1084 : BitVec 32 := Scalar.extui v1083
  let c0_i32_501 : BitVec 32 := 0#32
  let v1085 : BitVec 1 := Scalar.cmpi .slt v1037 c0_i32_501
  let v1086 : BitVec 32 := Scalar.extui v1085
  let v1087 : BitVec 32 := Scalar.subi v1084 v1086
  let c4_i32_499 : BitVec 32 := 4#32
  let c0_i32_502 : BitVec 32 := 0#32
  let v1088 : BitVec 1 := Scalar.cmpi .sgt c4_i32_499 c0_i32_502
  let v1089 : BitVec 32 := Scalar.extui v1088
  let c0_i32_503 : BitVec 32 := 0#32
  let v1090 : BitVec 1 := Scalar.cmpi .slt c4_i32_499 c0_i32_503
  let v1091 : BitVec 32 := Scalar.extui v1090
  let v1092 : BitVec 32 := Scalar.subi v1089 v1091
  let v1093 : BitVec 1 := Scalar.cmpi .ne v1087 v1092
  let v1094 : BitVec 32 := Scalar.remsi v1037 c4_i32_499
  let c0_i32_504 : BitVec 32 := 0#32
  let v1095 : BitVec 1 := Scalar.cmpi .ne v1094 c0_i32_504
  let v1096 : BitVec 1 := Scalar.andi v1093 v1095
  let v1082 : BitVec 32 := Scalar.divsi v1037 c4_i32_499
  let c1_i32_505 : BitVec 32 := 1#32
  let v1097 : BitVec 32 := Scalar.subi v1082 c1_i32_505
  let v1098 : BitVec 32 := Scalar.select v1096 v1097 v1082
  let v1099 : Index := Scalar.indexCast v1098
  let c0_507 : Index := 0#32
  let c0_508 : Index := 0#32
  ![0, v1099.toNat, 0, 0]
def k0_off4 (k0_t1 : Fin k0_t1_loop.trips) : Fin 3 → Nat :=
  let c0_i32_474 : BitVec 32 := 0#32
  let c0_i32_470 : BitVec 32 := 0#32
  let c1_i32_471 : BitVec 32 := 1#32
  let arg17 : BitVec 32 := Scf.iv c0_i32_470 c1_i32_471 k0_t1
  let c1_i32_473 : BitVec 32 := 1#32
  let v1034 : BitVec 32 := Scalar.muli arg17 c1_i32_473
  let v1035 : BitVec 32 := Scalar.addi c0_i32_474 v1034
  let c1_i32_475 : BitVec 32 := 1#32
  let v1036 : BitVec 32 := Scalar.addi v1035 c1_i32_475
  let c31_i32_476 : BitVec 32 := 31#32
  let v1037 : BitVec 32 := Scalar.minsi v1036 c31_i32_476
  let v1102 : Index := Scalar.indexCast v1037
  let c0_509 : Index := 0#32
  let c0_510 : Index := 0#32
  ![v1102.toNat, 0, 0]
def k0_off5 (k0_t1 : Fin k0_t1_loop.trips) : Fin 3 → Nat :=
  let c0_i32_474 : BitVec 32 := 0#32
  let c0_i32_470 : BitVec 32 := 0#32
  let c1_i32_471 : BitVec 32 := 1#32
  let arg17 : BitVec 32 := Scf.iv c0_i32_470 c1_i32_471 k0_t1
  let c1_i32_473 : BitVec 32 := 1#32
  let v1034 : BitVec 32 := Scalar.muli arg17 c1_i32_473
  let v1035 : BitVec 32 := Scalar.addi c0_i32_474 v1034
  let c1_i32_475 : BitVec 32 := 1#32
  let v1036 : BitVec 32 := Scalar.addi v1035 c1_i32_475
  let c31_i32_476 : BitVec 32 := 31#32
  let v1037 : BitVec 32 := Scalar.minsi v1036 c31_i32_476
  let c0_i32_500 : BitVec 32 := 0#32
  let v1083 : BitVec 1 := Scalar.cmpi .sgt v1037 c0_i32_500
  let v1084 : BitVec 32 := Scalar.extui v1083
  let c0_i32_501 : BitVec 32 := 0#32
  let v1085 : BitVec 1 := Scalar.cmpi .slt v1037 c0_i32_501
  let v1086 : BitVec 32 := Scalar.extui v1085
  let v1087 : BitVec 32 := Scalar.subi v1084 v1086
  let c4_i32_499 : BitVec 32 := 4#32
  let c0_i32_502 : BitVec 32 := 0#32
  let v1088 : BitVec 1 := Scalar.cmpi .sgt c4_i32_499 c0_i32_502
  let v1089 : BitVec 32 := Scalar.extui v1088
  let c0_i32_503 : BitVec 32 := 0#32
  let v1090 : BitVec 1 := Scalar.cmpi .slt c4_i32_499 c0_i32_503
  let v1091 : BitVec 32 := Scalar.extui v1090
  let v1092 : BitVec 32 := Scalar.subi v1089 v1091
  let v1093 : BitVec 1 := Scalar.cmpi .ne v1087 v1092
  let v1094 : BitVec 32 := Scalar.remsi v1037 c4_i32_499
  let c0_i32_504 : BitVec 32 := 0#32
  let v1095 : BitVec 1 := Scalar.cmpi .ne v1094 c0_i32_504
  let v1096 : BitVec 1 := Scalar.andi v1093 v1095
  let v1082 : BitVec 32 := Scalar.divsi v1037 c4_i32_499
  let c1_i32_505 : BitVec 32 := 1#32
  let v1097 : BitVec 32 := Scalar.subi v1082 c1_i32_505
  let v1098 : BitVec 32 := Scalar.select v1096 v1097 v1082
  let v1106 : Index := Scalar.indexCast v1098
  let c0_512 : Index := 0#32
  let c0_513 : Index := 0#32
  ![v1106.toNat, 0, 0]
def k0_off6 (k0_t1 : Fin k0_t1_loop.trips) : Fin 3 → Nat :=
  let c0_523 : Index := 0#32
  let c0_i32_474 : BitVec 32 := 0#32
  let c0_i32_470 : BitVec 32 := 0#32
  let c1_i32_471 : BitVec 32 := 1#32
  let arg17 : BitVec 32 := Scf.iv c0_i32_470 c1_i32_471 k0_t1
  let c1_i32_473 : BitVec 32 := 1#32
  let v1034 : BitVec 32 := Scalar.muli arg17 c1_i32_473
  let v1035 : BitVec 32 := Scalar.addi c0_i32_474 v1034
  let c0_i32_482 : BitVec 32 := 0#32
  let v1045 : BitVec 1 := Scalar.cmpi .sgt v1035 c0_i32_482
  let v1046 : BitVec 32 := Scalar.extui v1045
  let c0_i32_483 : BitVec 32 := 0#32
  let v1047 : BitVec 1 := Scalar.cmpi .slt v1035 c0_i32_483
  let v1048 : BitVec 32 := Scalar.extui v1047
  let v1049 : BitVec 32 := Scalar.subi v1046 v1048
  let c4_i32_481 : BitVec 32 := 4#32
  let c0_i32_484 : BitVec 32 := 0#32
  let v1050 : BitVec 1 := Scalar.cmpi .sgt c4_i32_481 c0_i32_484
  let v1051 : BitVec 32 := Scalar.extui v1050
  let c0_i32_485 : BitVec 32 := 0#32
  let v1052 : BitVec 1 := Scalar.cmpi .slt c4_i32_481 c0_i32_485
  let v1053 : BitVec 32 := Scalar.extui v1052
  let v1054 : BitVec 32 := Scalar.subi v1051 v1053
  let v1055 : BitVec 1 := Scalar.cmpi .ne v1049 v1054
  let v1056 : BitVec 32 := Scalar.remsi v1035 c4_i32_481
  let c0_i32_486 : BitVec 32 := 0#32
  let v1057 : BitVec 1 := Scalar.cmpi .ne v1056 c0_i32_486
  let v1058 : BitVec 1 := Scalar.andi v1055 v1057
  let v1044 : BitVec 32 := Scalar.divsi v1035 c4_i32_481
  let c1_i32_487 : BitVec 32 := 1#32
  let v1059 : BitVec 32 := Scalar.subi v1044 c1_i32_487
  let v1060 : BitVec 32 := Scalar.select v1058 v1059 v1044
  let v1136 : Index := Scalar.indexCast v1060
  let c0_524 : Index := 0#32
  ![0, v1136.toNat, 0]
def k0_mult1 (k0_t1 : Fin k0_t1_loop.trips) : BitVec 32 :=
  let c0_i32_474 : BitVec 32 := 0#32
  let c0_i32_470 : BitVec 32 := 0#32
  let c1_i32_471 : BitVec 32 := 1#32
  let arg17 : BitVec 32 := Scf.iv c0_i32_470 c1_i32_471 k0_t1
  let c1_i32_473 : BitVec 32 := 1#32
  let v1034 : BitVec 32 := Scalar.muli arg17 c1_i32_473
  let v1035 : BitVec 32 := Scalar.addi c0_i32_474 v1034
  let c128_i32 : BitVec 32 := 128#32
  let v1142 : BitVec 32 := Scalar.muli v1035 c128_i32
  v1142
def k0_off7 (k0_t1 : Fin k0_t1_loop.trips) : Fin 3 → Nat :=
  let c0_525 : Index := 0#32
  let c0_526 : Index := 0#32
  let c0_i32_474 : BitVec 32 := 0#32
  let c0_i32_470 : BitVec 32 := 0#32
  let c1_i32_471 : BitVec 32 := 1#32
  let arg17 : BitVec 32 := Scf.iv c0_i32_470 c1_i32_471 k0_t1
  let c1_i32_473 : BitVec 32 := 1#32
  let v1034 : BitVec 32 := Scalar.muli arg17 c1_i32_473
  let v1035 : BitVec 32 := Scalar.addi c0_i32_474 v1034
  let c128_i32 : BitVec 32 := 128#32
  let v1142 : BitVec 32 := Scalar.muli v1035 c128_i32
  let v1143 : BitVec 32 := v1142
  let v1144 : Index := Scalar.indexCast v1143
  ![0, 0, v1144.toNat]
def k0_cond3 (i : grid0.Coords) : BitVec 1 :=
  let arg1 : BitVec 32 := BitVec.ofNat 32 (i 1).val
  let c1_i32_419 : BitVec 32 := 1#32
  let v960 : BitVec 1 := Scalar.cmpi .eq arg1 c1_i32_419
  let v961 : BitVec 32 := Scalar.extui v960
  let c0_i32_420 : BitVec 32 := 0#32
  let v962 : BitVec 1 := Scalar.cmpi .ne v961 c0_i32_420
  v962

def k0_mult2 : BitVec 32 :=
  let c0_i32_449 : BitVec 32 := 0#32
  let c256_i32 : BitVec 32 := 256#32
  let v1005 : BitVec 32 := Scalar.muli c0_i32_449 c256_i32
  v1005
def k0_off8 : Fin 4 → Nat :=
  let c0_450 : Index := 0#32
  let c0_451 : Index := 0#32
  let c0_i32_449 : BitVec 32 := 0#32
  let c256_i32 : BitVec 32 := 256#32
  let v1005 : BitVec 32 := Scalar.muli c0_i32_449 c256_i32
  let v1006 : BitVec 32 := v1005
  let v1007 : Index := Scalar.indexCast v1006
  let c0_452 : Index := 0#32
  ![0, 0, v1007.toNat, 0]
def k0_off9 : Fin 3 → Nat :=
  let c0_457 : Index := 0#32
  let c0_i32_449 : BitVec 32 := 0#32
  let c256_i32 : BitVec 32 := 256#32
  let v1005 : BitVec 32 := Scalar.muli c0_i32_449 c256_i32
  let v1006 : BitVec 32 := v1005
  let v1013 : Index := Scalar.indexCast v1006
  let c0_458 : Index := 0#32
  ![0, v1013.toNat, 0]
def k0_off10 : Fin 2 → Nat :=
  let c0_i32_449 : BitVec 32 := 0#32
  let c256_i32 : BitVec 32 := 256#32
  let v1005 : BitVec 32 := Scalar.muli c0_i32_449 c256_i32
  let v1006 : BitVec 32 := v1005
  let v1018 : Index := Scalar.indexCast v1006
  let c0_459 : Index := 0#32
  ![v1018.toNat, 0]
@[reducible] def k0_t2_loop : Scf.Loop 32 :=
  let c0_i32_480 : BitVec 32 := 0#32
  let c32_i32 : BitVec 32 := 32#32
  let v1052 : BitVec 32 := Scalar.addi c0_i32_480 c32_i32
  let c1_i32_481 : BitVec 32 := 1#32
  ⟨c0_i32_480, v1052, c1_i32_481⟩
def k0_off11 (k0_t2 : Fin k0_t2_loop.trips) : Fin 2 → Nat :=
  let c0_i32_484 : BitVec 32 := 0#32
  let c0_i32_480 : BitVec 32 := 0#32
  let c1_i32_481 : BitVec 32 := 1#32
  let arg17 : BitVec 32 := Scf.iv c0_i32_480 c1_i32_481 k0_t2
  let c1_i32_483 : BitVec 32 := 1#32
  let v1053 : BitVec 32 := Scalar.muli arg17 c1_i32_483
  let v1054 : BitVec 32 := Scalar.addi c0_i32_484 v1053
  let v1057 : Index := Scalar.indexCast v1054
  let c0_487 : Index := 0#32
  ![v1057.toNat, 0]
def k0_off12 (k0_t2 : Fin k0_t2_loop.trips) : Fin 4 → Nat :=
  let c0_503 : Index := 0#32
  let c0_i32_484 : BitVec 32 := 0#32
  let c0_i32_480 : BitVec 32 := 0#32
  let c1_i32_481 : BitVec 32 := 1#32
  let arg17 : BitVec 32 := Scf.iv c0_i32_480 c1_i32_481 k0_t2
  let c1_i32_483 : BitVec 32 := 1#32
  let v1053 : BitVec 32 := Scalar.muli arg17 c1_i32_483
  let v1054 : BitVec 32 := Scalar.addi c0_i32_484 v1053
  let c0_i32_492 : BitVec 32 := 0#32
  let v1064 : BitVec 1 := Scalar.cmpi .sgt v1054 c0_i32_492
  let v1065 : BitVec 32 := Scalar.extui v1064
  let c0_i32_493 : BitVec 32 := 0#32
  let v1066 : BitVec 1 := Scalar.cmpi .slt v1054 c0_i32_493
  let v1067 : BitVec 32 := Scalar.extui v1066
  let v1068 : BitVec 32 := Scalar.subi v1065 v1067
  let c4_i32_491 : BitVec 32 := 4#32
  let c0_i32_494 : BitVec 32 := 0#32
  let v1069 : BitVec 1 := Scalar.cmpi .sgt c4_i32_491 c0_i32_494
  let v1070 : BitVec 32 := Scalar.extui v1069
  let c0_i32_495 : BitVec 32 := 0#32
  let v1071 : BitVec 1 := Scalar.cmpi .slt c4_i32_491 c0_i32_495
  let v1072 : BitVec 32 := Scalar.extui v1071
  let v1073 : BitVec 32 := Scalar.subi v1070 v1072
  let v1074 : BitVec 1 := Scalar.cmpi .ne v1068 v1073
  let v1075 : BitVec 32 := Scalar.remsi v1054 c4_i32_491
  let c0_i32_496 : BitVec 32 := 0#32
  let v1076 : BitVec 1 := Scalar.cmpi .ne v1075 c0_i32_496
  let v1077 : BitVec 1 := Scalar.andi v1074 v1076
  let v1063 : BitVec 32 := Scalar.divsi v1054 c4_i32_491
  let c1_i32_497 : BitVec 32 := 1#32
  let v1078 : BitVec 32 := Scalar.subi v1063 c1_i32_497
  let v1079 : BitVec 32 := Scalar.select v1077 v1078 v1063
  let v1091 : Index := Scalar.indexCast v1079
  let c0_504 : Index := 0#32
  let c0_505 : Index := 0#32
  ![0, v1091.toNat, 0, 0]
def k0_off13 (k0_t2 : Fin k0_t2_loop.trips) : Fin 4 → Nat :=
  let c0_516 : Index := 0#32
  let c0_i32_484 : BitVec 32 := 0#32
  let c0_i32_480 : BitVec 32 := 0#32
  let c1_i32_481 : BitVec 32 := 1#32
  let arg17 : BitVec 32 := Scf.iv c0_i32_480 c1_i32_481 k0_t2
  let c1_i32_483 : BitVec 32 := 1#32
  let v1053 : BitVec 32 := Scalar.muli arg17 c1_i32_483
  let v1054 : BitVec 32 := Scalar.addi c0_i32_484 v1053
  let c1_i32_485 : BitVec 32 := 1#32
  let v1055 : BitVec 32 := Scalar.addi v1054 c1_i32_485
  let c31_i32_486 : BitVec 32 := 31#32
  let v1056 : BitVec 32 := Scalar.minsi v1055 c31_i32_486
  let c0_i32_510 : BitVec 32 := 0#32
  let v1102 : BitVec 1 := Scalar.cmpi .sgt v1056 c0_i32_510
  let v1103 : BitVec 32 := Scalar.extui v1102
  let c0_i32_511 : BitVec 32 := 0#32
  let v1104 : BitVec 1 := Scalar.cmpi .slt v1056 c0_i32_511
  let v1105 : BitVec 32 := Scalar.extui v1104
  let v1106 : BitVec 32 := Scalar.subi v1103 v1105
  let c4_i32_509 : BitVec 32 := 4#32
  let c0_i32_512 : BitVec 32 := 0#32
  let v1107 : BitVec 1 := Scalar.cmpi .sgt c4_i32_509 c0_i32_512
  let v1108 : BitVec 32 := Scalar.extui v1107
  let c0_i32_513 : BitVec 32 := 0#32
  let v1109 : BitVec 1 := Scalar.cmpi .slt c4_i32_509 c0_i32_513
  let v1110 : BitVec 32 := Scalar.extui v1109
  let v1111 : BitVec 32 := Scalar.subi v1108 v1110
  let v1112 : BitVec 1 := Scalar.cmpi .ne v1106 v1111
  let v1113 : BitVec 32 := Scalar.remsi v1056 c4_i32_509
  let c0_i32_514 : BitVec 32 := 0#32
  let v1114 : BitVec 1 := Scalar.cmpi .ne v1113 c0_i32_514
  let v1115 : BitVec 1 := Scalar.andi v1112 v1114
  let v1101 : BitVec 32 := Scalar.divsi v1056 c4_i32_509
  let c1_i32_515 : BitVec 32 := 1#32
  let v1116 : BitVec 32 := Scalar.subi v1101 c1_i32_515
  let v1117 : BitVec 32 := Scalar.select v1115 v1116 v1101
  let v1118 : Index := Scalar.indexCast v1117
  let c0_517 : Index := 0#32
  let c0_518 : Index := 0#32
  ![0, v1118.toNat, 0, 0]
def k0_off14 (k0_t2 : Fin k0_t2_loop.trips) : Fin 3 → Nat :=
  let c0_i32_484 : BitVec 32 := 0#32
  let c0_i32_480 : BitVec 32 := 0#32
  let c1_i32_481 : BitVec 32 := 1#32
  let arg17 : BitVec 32 := Scf.iv c0_i32_480 c1_i32_481 k0_t2
  let c1_i32_483 : BitVec 32 := 1#32
  let v1053 : BitVec 32 := Scalar.muli arg17 c1_i32_483
  let v1054 : BitVec 32 := Scalar.addi c0_i32_484 v1053
  let c1_i32_485 : BitVec 32 := 1#32
  let v1055 : BitVec 32 := Scalar.addi v1054 c1_i32_485
  let c31_i32_486 : BitVec 32 := 31#32
  let v1056 : BitVec 32 := Scalar.minsi v1055 c31_i32_486
  let v1121 : Index := Scalar.indexCast v1056
  let c0_519 : Index := 0#32
  let c0_520 : Index := 0#32
  ![v1121.toNat, 0, 0]
def k0_off15 (k0_t2 : Fin k0_t2_loop.trips) : Fin 3 → Nat :=
  let c0_i32_484 : BitVec 32 := 0#32
  let c0_i32_480 : BitVec 32 := 0#32
  let c1_i32_481 : BitVec 32 := 1#32
  let arg17 : BitVec 32 := Scf.iv c0_i32_480 c1_i32_481 k0_t2
  let c1_i32_483 : BitVec 32 := 1#32
  let v1053 : BitVec 32 := Scalar.muli arg17 c1_i32_483
  let v1054 : BitVec 32 := Scalar.addi c0_i32_484 v1053
  let c1_i32_485 : BitVec 32 := 1#32
  let v1055 : BitVec 32 := Scalar.addi v1054 c1_i32_485
  let c31_i32_486 : BitVec 32 := 31#32
  let v1056 : BitVec 32 := Scalar.minsi v1055 c31_i32_486
  let c0_i32_510 : BitVec 32 := 0#32
  let v1102 : BitVec 1 := Scalar.cmpi .sgt v1056 c0_i32_510
  let v1103 : BitVec 32 := Scalar.extui v1102
  let c0_i32_511 : BitVec 32 := 0#32
  let v1104 : BitVec 1 := Scalar.cmpi .slt v1056 c0_i32_511
  let v1105 : BitVec 32 := Scalar.extui v1104
  let v1106 : BitVec 32 := Scalar.subi v1103 v1105
  let c4_i32_509 : BitVec 32 := 4#32
  let c0_i32_512 : BitVec 32 := 0#32
  let v1107 : BitVec 1 := Scalar.cmpi .sgt c4_i32_509 c0_i32_512
  let v1108 : BitVec 32 := Scalar.extui v1107
  let c0_i32_513 : BitVec 32 := 0#32
  let v1109 : BitVec 1 := Scalar.cmpi .slt c4_i32_509 c0_i32_513
  let v1110 : BitVec 32 := Scalar.extui v1109
  let v1111 : BitVec 32 := Scalar.subi v1108 v1110
  let v1112 : BitVec 1 := Scalar.cmpi .ne v1106 v1111
  let v1113 : BitVec 32 := Scalar.remsi v1056 c4_i32_509
  let c0_i32_514 : BitVec 32 := 0#32
  let v1114 : BitVec 1 := Scalar.cmpi .ne v1113 c0_i32_514
  let v1115 : BitVec 1 := Scalar.andi v1112 v1114
  let v1101 : BitVec 32 := Scalar.divsi v1056 c4_i32_509
  let c1_i32_515 : BitVec 32 := 1#32
  let v1116 : BitVec 32 := Scalar.subi v1101 c1_i32_515
  let v1117 : BitVec 32 := Scalar.select v1115 v1116 v1101
  let v1125 : Index := Scalar.indexCast v1117
  let c0_522 : Index := 0#32
  let c0_523 : Index := 0#32
  ![v1125.toNat, 0, 0]
def k0_off16 (k0_t2 : Fin k0_t2_loop.trips) : Fin 4 → Nat :=
  let c0_530 : Index := 0#32
  let c0_i32_484 : BitVec 32 := 0#32
  let c0_i32_480 : BitVec 32 := 0#32
  let c1_i32_481 : BitVec 32 := 1#32
  let arg17 : BitVec 32 := Scf.iv c0_i32_480 c1_i32_481 k0_t2
  let c1_i32_483 : BitVec 32 := 1#32
  let v1053 : BitVec 32 := Scalar.muli arg17 c1_i32_483
  let v1054 : BitVec 32 := Scalar.addi c0_i32_484 v1053
  let c0_i32_492 : BitVec 32 := 0#32
  let v1064 : BitVec 1 := Scalar.cmpi .sgt v1054 c0_i32_492
  let v1065 : BitVec 32 := Scalar.extui v1064
  let c0_i32_493 : BitVec 32 := 0#32
  let v1066 : BitVec 1 := Scalar.cmpi .slt v1054 c0_i32_493
  let v1067 : BitVec 32 := Scalar.extui v1066
  let v1068 : BitVec 32 := Scalar.subi v1065 v1067
  let c4_i32_491 : BitVec 32 := 4#32
  let c0_i32_494 : BitVec 32 := 0#32
  let v1069 : BitVec 1 := Scalar.cmpi .sgt c4_i32_491 c0_i32_494
  let v1070 : BitVec 32 := Scalar.extui v1069
  let c0_i32_495 : BitVec 32 := 0#32
  let v1071 : BitVec 1 := Scalar.cmpi .slt c4_i32_491 c0_i32_495
  let v1072 : BitVec 32 := Scalar.extui v1071
  let v1073 : BitVec 32 := Scalar.subi v1070 v1072
  let v1074 : BitVec 1 := Scalar.cmpi .ne v1068 v1073
  let v1075 : BitVec 32 := Scalar.remsi v1054 c4_i32_491
  let c0_i32_496 : BitVec 32 := 0#32
  let v1076 : BitVec 1 := Scalar.cmpi .ne v1075 c0_i32_496
  let v1077 : BitVec 1 := Scalar.andi v1074 v1076
  let v1063 : BitVec 32 := Scalar.divsi v1054 c4_i32_491
  let c1_i32_497 : BitVec 32 := 1#32
  let v1078 : BitVec 32 := Scalar.subi v1063 c1_i32_497
  let v1079 : BitVec 32 := Scalar.select v1077 v1078 v1063
  let v1145 : Index := Scalar.indexCast v1079
  let c0_531 : Index := 0#32
  let c256_532 : Index := 256#32
  ![0, v1145.toNat, 0, 256]
def k0_off17 (k0_t2 : Fin k0_t2_loop.trips) : Fin 4 → Nat :=
  let c0_543 : Index := 0#32
  let c0_i32_484 : BitVec 32 := 0#32
  let c0_i32_480 : BitVec 32 := 0#32
  let c1_i32_481 : BitVec 32 := 1#32
  let arg17 : BitVec 32 := Scf.iv c0_i32_480 c1_i32_481 k0_t2
  let c1_i32_483 : BitVec 32 := 1#32
  let v1053 : BitVec 32 := Scalar.muli arg17 c1_i32_483
  let v1054 : BitVec 32 := Scalar.addi c0_i32_484 v1053
  let c1_i32_485 : BitVec 32 := 1#32
  let v1055 : BitVec 32 := Scalar.addi v1054 c1_i32_485
  let c31_i32_486 : BitVec 32 := 31#32
  let v1056 : BitVec 32 := Scalar.minsi v1055 c31_i32_486
  let c0_i32_537 : BitVec 32 := 0#32
  let v1156 : BitVec 1 := Scalar.cmpi .sgt v1056 c0_i32_537
  let v1157 : BitVec 32 := Scalar.extui v1156
  let c0_i32_538 : BitVec 32 := 0#32
  let v1158 : BitVec 1 := Scalar.cmpi .slt v1056 c0_i32_538
  let v1159 : BitVec 32 := Scalar.extui v1158
  let v1160 : BitVec 32 := Scalar.subi v1157 v1159
  let c4_i32_536 : BitVec 32 := 4#32
  let c0_i32_539 : BitVec 32 := 0#32
  let v1161 : BitVec 1 := Scalar.cmpi .sgt c4_i32_536 c0_i32_539
  let v1162 : BitVec 32 := Scalar.extui v1161
  let c0_i32_540 : BitVec 32 := 0#32
  let v1163 : BitVec 1 := Scalar.cmpi .slt c4_i32_536 c0_i32_540
  let v1164 : BitVec 32 := Scalar.extui v1163
  let v1165 : BitVec 32 := Scalar.subi v1162 v1164
  let v1166 : BitVec 1 := Scalar.cmpi .ne v1160 v1165
  let v1167 : BitVec 32 := Scalar.remsi v1056 c4_i32_536
  let c0_i32_541 : BitVec 32 := 0#32
  let v1168 : BitVec 1 := Scalar.cmpi .ne v1167 c0_i32_541
  let v1169 : BitVec 1 := Scalar.andi v1166 v1168
  let v1155 : BitVec 32 := Scalar.divsi v1056 c4_i32_536
  let c1_i32_542 : BitVec 32 := 1#32
  let v1170 : BitVec 32 := Scalar.subi v1155 c1_i32_542
  let v1171 : BitVec 32 := Scalar.select v1169 v1170 v1155
  let v1172 : Index := Scalar.indexCast v1171
  let c256_544 : Index := 256#32
  let c0_545 : Index := 0#32
  ![0, v1172.toNat, 256, 0]
def k0_off18 (k0_t2 : Fin k0_t2_loop.trips) : Fin 3 → Nat :=
  let c0_i32_484 : BitVec 32 := 0#32
  let c0_i32_480 : BitVec 32 := 0#32
  let c1_i32_481 : BitVec 32 := 1#32
  let arg17 : BitVec 32 := Scf.iv c0_i32_480 c1_i32_481 k0_t2
  let c1_i32_483 : BitVec 32 := 1#32
  let v1053 : BitVec 32 := Scalar.muli arg17 c1_i32_483
  let v1054 : BitVec 32 := Scalar.addi c0_i32_484 v1053
  let c1_i32_485 : BitVec 32 := 1#32
  let v1055 : BitVec 32 := Scalar.addi v1054 c1_i32_485
  let c31_i32_486 : BitVec 32 := 31#32
  let v1056 : BitVec 32 := Scalar.minsi v1055 c31_i32_486
  let c0_i32_537 : BitVec 32 := 0#32
  let v1156 : BitVec 1 := Scalar.cmpi .sgt v1056 c0_i32_537
  let v1157 : BitVec 32 := Scalar.extui v1156
  let c0_i32_538 : BitVec 32 := 0#32
  let v1158 : BitVec 1 := Scalar.cmpi .slt v1056 c0_i32_538
  let v1159 : BitVec 32 := Scalar.extui v1158
  let v1160 : BitVec 32 := Scalar.subi v1157 v1159
  let c4_i32_536 : BitVec 32 := 4#32
  let c0_i32_539 : BitVec 32 := 0#32
  let v1161 : BitVec 1 := Scalar.cmpi .sgt c4_i32_536 c0_i32_539
  let v1162 : BitVec 32 := Scalar.extui v1161
  let c0_i32_540 : BitVec 32 := 0#32
  let v1163 : BitVec 1 := Scalar.cmpi .slt c4_i32_536 c0_i32_540
  let v1164 : BitVec 32 := Scalar.extui v1163
  let v1165 : BitVec 32 := Scalar.subi v1162 v1164
  let v1166 : BitVec 1 := Scalar.cmpi .ne v1160 v1165
  let v1167 : BitVec 32 := Scalar.remsi v1056 c4_i32_536
  let c0_i32_541 : BitVec 32 := 0#32
  let v1168 : BitVec 1 := Scalar.cmpi .ne v1167 c0_i32_541
  let v1169 : BitVec 1 := Scalar.andi v1166 v1168
  let v1155 : BitVec 32 := Scalar.divsi v1056 c4_i32_536
  let c1_i32_542 : BitVec 32 := 1#32
  let v1170 : BitVec 32 := Scalar.subi v1155 c1_i32_542
  let v1171 : BitVec 32 := Scalar.select v1169 v1170 v1155
  let v1179 : Index := Scalar.indexCast v1171
  let c256_549 : Index := 256#32
  let c0_550 : Index := 0#32
  ![v1179.toNat, 256, 0]
def k0_off19 (k0_t2 : Fin k0_t2_loop.trips) : Fin 3 → Nat :=
  let c0_560 : Index := 0#32
  let c0_i32_484 : BitVec 32 := 0#32
  let c0_i32_480 : BitVec 32 := 0#32
  let c1_i32_481 : BitVec 32 := 1#32
  let arg17 : BitVec 32 := Scf.iv c0_i32_480 c1_i32_481 k0_t2
  let c1_i32_483 : BitVec 32 := 1#32
  let v1053 : BitVec 32 := Scalar.muli arg17 c1_i32_483
  let v1054 : BitVec 32 := Scalar.addi c0_i32_484 v1053
  let c0_i32_492 : BitVec 32 := 0#32
  let v1064 : BitVec 1 := Scalar.cmpi .sgt v1054 c0_i32_492
  let v1065 : BitVec 32 := Scalar.extui v1064
  let c0_i32_493 : BitVec 32 := 0#32
  let v1066 : BitVec 1 := Scalar.cmpi .slt v1054 c0_i32_493
  let v1067 : BitVec 32 := Scalar.extui v1066
  let v1068 : BitVec 32 := Scalar.subi v1065 v1067
  let c4_i32_491 : BitVec 32 := 4#32
  let c0_i32_494 : BitVec 32 := 0#32
  let v1069 : BitVec 1 := Scalar.cmpi .sgt c4_i32_491 c0_i32_494
  let v1070 : BitVec 32 := Scalar.extui v1069
  let c0_i32_495 : BitVec 32 := 0#32
  let v1071 : BitVec 1 := Scalar.cmpi .slt c4_i32_491 c0_i32_495
  let v1072 : BitVec 32 := Scalar.extui v1071
  let v1073 : BitVec 32 := Scalar.subi v1070 v1072
  let v1074 : BitVec 1 := Scalar.cmpi .ne v1068 v1073
  let v1075 : BitVec 32 := Scalar.remsi v1054 c4_i32_491
  let c0_i32_496 : BitVec 32 := 0#32
  let v1076 : BitVec 1 := Scalar.cmpi .ne v1075 c0_i32_496
  let v1077 : BitVec 1 := Scalar.andi v1074 v1076
  let v1063 : BitVec 32 := Scalar.divsi v1054 c4_i32_491
  let c1_i32_497 : BitVec 32 := 1#32
  let v1078 : BitVec 32 := Scalar.subi v1063 c1_i32_497
  let v1079 : BitVec 32 := Scalar.select v1077 v1078 v1063
  let v1209 : Index := Scalar.indexCast v1079
  let c0_561 : Index := 0#32
  ![0, v1209.toNat, 0]
def k0_mult3 (k0_t2 : Fin k0_t2_loop.trips) : BitVec 32 :=
  let c0_i32_484 : BitVec 32 := 0#32
  let c0_i32_480 : BitVec 32 := 0#32
  let c1_i32_481 : BitVec 32 := 1#32
  let arg17 : BitVec 32 := Scf.iv c0_i32_480 c1_i32_481 k0_t2
  let c1_i32_483 : BitVec 32 := 1#32
  let v1053 : BitVec 32 := Scalar.muli arg17 c1_i32_483
  let v1054 : BitVec 32 := Scalar.addi c0_i32_484 v1053
  let c128_i32 : BitVec 32 := 128#32
  let v1215 : BitVec 32 := Scalar.muli v1054 c128_i32
  v1215
def k0_off20 (k0_t2 : Fin k0_t2_loop.trips) : Fin 3 → Nat :=
  let c0_562 : Index := 0#32
  let c0_563 : Index := 0#32
  let c0_i32_484 : BitVec 32 := 0#32
  let c0_i32_480 : BitVec 32 := 0#32
  let c1_i32_481 : BitVec 32 := 1#32
  let arg17 : BitVec 32 := Scf.iv c0_i32_480 c1_i32_481 k0_t2
  let c1_i32_483 : BitVec 32 := 1#32
  let v1053 : BitVec 32 := Scalar.muli arg17 c1_i32_483
  let v1054 : BitVec 32 := Scalar.addi c0_i32_484 v1053
  let c128_i32 : BitVec 32 := 128#32
  let v1215 : BitVec 32 := Scalar.muli v1054 c128_i32
  let v1216 : BitVec 32 := v1215
  let v1217 : Index := Scalar.indexCast v1216
  ![0, 0, v1217.toNat]
def k0_cond4 (i : grid0.Coords) : BitVec 1 :=
  let arg1 : BitVec 32 := BitVec.ofNat 32 (i 1).val
  let c2_i32_421 : BitVec 32 := 2#32
  let v963 : BitVec 1 := Scalar.cmpi .eq arg1 c2_i32_421
  let v964 : BitVec 32 := Scalar.extui v963
  let c0_i32_422 : BitVec 32 := 0#32
  let v965 : BitVec 1 := Scalar.cmpi .ne v964 c0_i32_422
  v965

@[reducible] def k0_t3_loop : Scf.Loop 32 :=
  let c0_i32_449 : BitVec 32 := 0#32
  let c2_i32_450 : BitVec 32 := 2#32
  let v1005 : BitVec 32 := Scalar.addi c0_i32_449 c2_i32_450
  let c1_i32_451 : BitVec 32 := 1#32
  ⟨c0_i32_449, v1005, c1_i32_451⟩
def k0_mult4 (k0_t3 : Fin k0_t3_loop.trips) : BitVec 32 :=
  let c0_i32_449 : BitVec 32 := 0#32
  let c1_i32_451 : BitVec 32 := 1#32
  let arg17 : BitVec 32 := Scf.iv c0_i32_449 c1_i32_451 k0_t3
  let c256_i32 : BitVec 32 := 256#32
  let v1035 : BitVec 32 := Scalar.muli arg17 c256_i32
  v1035
def k0_off21 (k0_t3 : Fin k0_t3_loop.trips) : Fin 4 → Nat :=
  let c0_474 : Index := 0#32
  let c0_475 : Index := 0#32
  let c0_i32_449 : BitVec 32 := 0#32
  let c1_i32_451 : BitVec 32 := 1#32
  let arg17 : BitVec 32 := Scf.iv c0_i32_449 c1_i32_451 k0_t3
  let c256_i32 : BitVec 32 := 256#32
  let v1035 : BitVec 32 := Scalar.muli arg17 c256_i32
  let v1036 : BitVec 32 := v1035
  let v1037 : Index := Scalar.indexCast v1036
  let c0_476 : Index := 0#32
  ![0, 0, v1037.toNat, 0]
def k0_off22 (k0_t3 : Fin k0_t3_loop.trips) : Fin 3 → Nat :=
  let c0_481 : Index := 0#32
  let c0_i32_449 : BitVec 32 := 0#32
  let c1_i32_451 : BitVec 32 := 1#32
  let arg17 : BitVec 32 := Scf.iv c0_i32_449 c1_i32_451 k0_t3
  let c256_i32 : BitVec 32 := 256#32
  let v1035 : BitVec 32 := Scalar.muli arg17 c256_i32
  let v1036 : BitVec 32 := v1035
  let v1043 : Index := Scalar.indexCast v1036
  let c0_482 : Index := 0#32
  ![0, v1043.toNat, 0]
def k0_off23 (k0_t3 : Fin k0_t3_loop.trips) : Fin 2 → Nat :=
  let c0_i32_449 : BitVec 32 := 0#32
  let c1_i32_451 : BitVec 32 := 1#32
  let arg17 : BitVec 32 := Scf.iv c0_i32_449 c1_i32_451 k0_t3
  let c256_i32 : BitVec 32 := 256#32
  let v1035 : BitVec 32 := Scalar.muli arg17 c256_i32
  let v1036 : BitVec 32 := v1035
  let v1048 : Index := Scalar.indexCast v1036
  let c0_483 : Index := 0#32
  ![v1048.toNat, 0]
@[reducible] def k0_t4_loop : Scf.Loop 32 :=
  let c0_i32_471 : BitVec 32 := 0#32
  let c32_i32 : BitVec 32 := 32#32
  let v1034 : BitVec 32 := Scalar.addi c0_i32_471 c32_i32
  let c1_i32_472 : BitVec 32 := 1#32
  ⟨c0_i32_471, v1034, c1_i32_472⟩
def k0_off24 (k0_t4 : Fin k0_t4_loop.trips) : Fin 2 → Nat :=
  let c0_i32_475 : BitVec 32 := 0#32
  let c0_i32_471 : BitVec 32 := 0#32
  let c1_i32_472 : BitVec 32 := 1#32
  let arg17 : BitVec 32 := Scf.iv c0_i32_471 c1_i32_472 k0_t4
  let c1_i32_474 : BitVec 32 := 1#32
  let v1035 : BitVec 32 := Scalar.muli arg17 c1_i32_474
  let v1036 : BitVec 32 := Scalar.addi c0_i32_475 v1035
  let v1039 : Index := Scalar.indexCast v1036
  let c0_478 : Index := 0#32
  ![v1039.toNat, 0]
def k0_off25 (k0_t4 : Fin k0_t4_loop.trips) : Fin 4 → Nat :=
  let c0_494 : Index := 0#32
  let c0_i32_475 : BitVec 32 := 0#32
  let c0_i32_471 : BitVec 32 := 0#32
  let c1_i32_472 : BitVec 32 := 1#32
  let arg17 : BitVec 32 := Scf.iv c0_i32_471 c1_i32_472 k0_t4
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1073 : Index := Scalar.indexCast v1061
  let c0_495 : Index := 0#32
  let c0_496 : Index := 0#32
  ![0, v1073.toNat, 0, 0]
def k0_off26 (k0_t4 : Fin k0_t4_loop.trips) : Fin 4 → Nat :=
  let c0_507 : Index := 0#32
  let c0_i32_475 : BitVec 32 := 0#32
  let c0_i32_471 : BitVec 32 := 0#32
  let c1_i32_472 : BitVec 32 := 1#32
  let arg17 : BitVec 32 := Scf.iv c0_i32_471 c1_i32_472 k0_t4
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1100 : Index := Scalar.indexCast v1099
  let c0_508 : Index := 0#32
  let c0_509 : Index := 0#32
  ![0, v1100.toNat, 0, 0]
def k0_off27 (k0_t4 : Fin k0_t4_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t4
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let v1103 : Index := Scalar.indexCast v1038
  let c0_510 : Index := 0#32
  let c0_511 : Index := 0#32
  ![v1103.toNat, 0, 0]
def k0_off28 (k0_t4 : Fin k0_t4_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t4
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1107 : Index := Scalar.indexCast v1099
  let c0_513 : Index := 0#32
  let c0_514 : Index := 0#32
  ![v1107.toNat, 0, 0]
def k0_off29 (k0_t4 : Fin k0_t4_loop.trips) : Fin 4 → Nat :=
  let c0_521 : Index := 0#32
  let c0_i32_475 : BitVec 32 := 0#32
  let c0_i32_471 : BitVec 32 := 0#32
  let c1_i32_472 : BitVec 32 := 1#32
  let arg17 : BitVec 32 := Scf.iv c0_i32_471 c1_i32_472 k0_t4
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1127 : Index := Scalar.indexCast v1061
  let c0_522 : Index := 0#32
  let c256_523 : Index := 256#32
  ![0, v1127.toNat, 0, 256]
def k0_off30 (k0_t4 : Fin k0_t4_loop.trips) : Fin 4 → Nat :=
  let c0_534 : Index := 0#32
  let c0_i32_475 : BitVec 32 := 0#32
  let c0_i32_471 : BitVec 32 := 0#32
  let c1_i32_472 : BitVec 32 := 1#32
  let arg17 : BitVec 32 := Scf.iv c0_i32_471 c1_i32_472 k0_t4
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1154 : Index := Scalar.indexCast v1153
  let c256_535 : Index := 256#32
  let c0_536 : Index := 0#32
  ![0, v1154.toNat, 256, 0]
def k0_off31 (k0_t4 : Fin k0_t4_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t4
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1161 : Index := Scalar.indexCast v1153
  let c256_540 : Index := 256#32
  let c0_541 : Index := 0#32
  ![v1161.toNat, 256, 0]
def k0_off32 (k0_t4 : Fin k0_t4_loop.trips) : Fin 4 → Nat :=
  let c0_548 : Index := 0#32
  let c0_i32_475 : BitVec 32 := 0#32
  let c0_i32_471 : BitVec 32 := 0#32
  let c1_i32_472 : BitVec 32 := 1#32
  let arg17 : BitVec 32 := Scf.iv c0_i32_471 c1_i32_472 k0_t4
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1181 : Index := Scalar.indexCast v1061
  let c0_549 : Index := 0#32
  let c512_550 : Index := 512#32
  ![0, v1181.toNat, 0, 512]
def k0_off33 (k0_t4 : Fin k0_t4_loop.trips) : Fin 4 → Nat :=
  let c0_561 : Index := 0#32
  let c0_i32_475 : BitVec 32 := 0#32
  let c0_i32_471 : BitVec 32 := 0#32
  let c1_i32_472 : BitVec 32 := 1#32
  let arg17 : BitVec 32 := Scf.iv c0_i32_471 c1_i32_472 k0_t4
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1208 : Index := Scalar.indexCast v1207
  let c512_562 : Index := 512#32
  let c0_563 : Index := 0#32
  ![0, v1208.toNat, 512, 0]
def k0_off34 (k0_t4 : Fin k0_t4_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t4
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1215 : Index := Scalar.indexCast v1207
  let c512_567 : Index := 512#32
  let c0_568 : Index := 0#32
  ![v1215.toNat, 512, 0]
def k0_off35 (k0_t4 : Fin k0_t4_loop.trips) : Fin 3 → Nat :=
  let c0_578 : Index := 0#32
  let c0_i32_475 : BitVec 32 := 0#32
  let c0_i32_471 : BitVec 32 := 0#32
  let c1_i32_472 : BitVec 32 := 1#32
  let arg17 : BitVec 32 := Scf.iv c0_i32_471 c1_i32_472 k0_t4
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1245 : Index := Scalar.indexCast v1061
  let c0_579 : Index := 0#32
  ![0, v1245.toNat, 0]
def k0_mult5 (k0_t4 : Fin k0_t4_loop.trips) : BitVec 32 :=
  let c0_i32_475 : BitVec 32 := 0#32
  let c0_i32_471 : BitVec 32 := 0#32
  let c1_i32_472 : BitVec 32 := 1#32
  let arg17 : BitVec 32 := Scf.iv c0_i32_471 c1_i32_472 k0_t4
  let c1_i32_474 : BitVec 32 := 1#32
  let v1035 : BitVec 32 := Scalar.muli arg17 c1_i32_474
  let v1036 : BitVec 32 := Scalar.addi c0_i32_475 v1035
  let c128_i32 : BitVec 32 := 128#32
  let v1251 : BitVec 32 := Scalar.muli v1036 c128_i32
  v1251
def k0_off36 (k0_t4 : Fin k0_t4_loop.trips) : Fin 3 → Nat :=
  let c0_580 : Index := 0#32
  let c0_581 : Index := 0#32
  let c0_i32_475 : BitVec 32 := 0#32
  let c0_i32_471 : BitVec 32 := 0#32
  let c1_i32_472 : BitVec 32 := 1#32
  let arg17 : BitVec 32 := Scf.iv c0_i32_471 c1_i32_472 k0_t4
  let c1_i32_474 : BitVec 32 := 1#32
  let v1035 : BitVec 32 := Scalar.muli arg17 c1_i32_474
  let v1036 : BitVec 32 := Scalar.addi c0_i32_475 v1035
  let c128_i32 : BitVec 32 := 128#32
  let v1251 : BitVec 32 := Scalar.muli v1036 c128_i32
  let v1252 : BitVec 32 := v1251
  let v1253 : Index := Scalar.indexCast v1252
  ![0, 0, v1253.toNat]
def k0_cond5 (i : grid0.Coords) : BitVec 1 :=
  let arg1 : BitVec 32 := BitVec.ofNat 32 (i 1).val
  let c3_i32_423 : BitVec 32 := 3#32
  let v966 : BitVec 1 := Scalar.cmpi .eq arg1 c3_i32_423
  let v967 : BitVec 32 := Scalar.extui v966
  let c0_i32_424 : BitVec 32 := 0#32
  let v968 : BitVec 1 := Scalar.cmpi .ne v967 c0_i32_424
  v968

@[reducible] def k0_t5_loop : Scf.Loop 32 :=
  let c0_i32_449 : BitVec 32 := 0#32
  let c3_i32_450 : BitVec 32 := 3#32
  let v1005 : BitVec 32 := Scalar.addi c0_i32_449 c3_i32_450
  let c1_i32_451 : BitVec 32 := 1#32
  ⟨c0_i32_449, v1005, c1_i32_451⟩
def k0_mult6 (k0_t5 : Fin k0_t5_loop.trips) : BitVec 32 :=
  let c0_i32_449 : BitVec 32 := 0#32
  let c1_i32_451 : BitVec 32 := 1#32
  let arg17 : BitVec 32 := Scf.iv c0_i32_449 c1_i32_451 k0_t5
  let c256_i32 : BitVec 32 := 256#32
  let v1035 : BitVec 32 := Scalar.muli arg17 c256_i32
  v1035
def k0_off37 (k0_t5 : Fin k0_t5_loop.trips) : Fin 4 → Nat :=
  let c0_474 : Index := 0#32
  let c0_475 : Index := 0#32
  let c0_i32_449 : BitVec 32 := 0#32
  let c1_i32_451 : BitVec 32 := 1#32
  let arg17 : BitVec 32 := Scf.iv c0_i32_449 c1_i32_451 k0_t5
  let c256_i32 : BitVec 32 := 256#32
  let v1035 : BitVec 32 := Scalar.muli arg17 c256_i32
  let v1036 : BitVec 32 := v1035
  let v1037 : Index := Scalar.indexCast v1036
  let c0_476 : Index := 0#32
  ![0, 0, v1037.toNat, 0]
def k0_off38 (k0_t5 : Fin k0_t5_loop.trips) : Fin 3 → Nat :=
  let c0_481 : Index := 0#32
  let c0_i32_449 : BitVec 32 := 0#32
  let c1_i32_451 : BitVec 32 := 1#32
  let arg17 : BitVec 32 := Scf.iv c0_i32_449 c1_i32_451 k0_t5
  let c256_i32 : BitVec 32 := 256#32
  let v1035 : BitVec 32 := Scalar.muli arg17 c256_i32
  let v1036 : BitVec 32 := v1035
  let v1043 : Index := Scalar.indexCast v1036
  let c0_482 : Index := 0#32
  ![0, v1043.toNat, 0]
def k0_off39 (k0_t5 : Fin k0_t5_loop.trips) : Fin 2 → Nat :=
  let c0_i32_449 : BitVec 32 := 0#32
  let c1_i32_451 : BitVec 32 := 1#32
  let arg17 : BitVec 32 := Scf.iv c0_i32_449 c1_i32_451 k0_t5
  let c256_i32 : BitVec 32 := 256#32
  let v1035 : BitVec 32 := Scalar.muli arg17 c256_i32
  let v1036 : BitVec 32 := v1035
  let v1048 : Index := Scalar.indexCast v1036
  let c0_483 : Index := 0#32
  ![v1048.toNat, 0]
@[reducible] def k0_t6_loop : Scf.Loop 32 :=
  let c0_i32_471 : BitVec 32 := 0#32
  let c32_i32 : BitVec 32 := 32#32
  let v1034 : BitVec 32 := Scalar.addi c0_i32_471 c32_i32
  let c1_i32_472 : BitVec 32 := 1#32
  ⟨c0_i32_471, v1034, c1_i32_472⟩
def k0_off40 (k0_t6 : Fin k0_t6_loop.trips) : Fin 2 → Nat :=
  let c0_i32_475 : BitVec 32 := 0#32
  let c0_i32_471 : BitVec 32 := 0#32
  let c1_i32_472 : BitVec 32 := 1#32
  let arg17 : BitVec 32 := Scf.iv c0_i32_471 c1_i32_472 k0_t6
  let c1_i32_474 : BitVec 32 := 1#32
  let v1035 : BitVec 32 := Scalar.muli arg17 c1_i32_474
  let v1036 : BitVec 32 := Scalar.addi c0_i32_475 v1035
  let v1039 : Index := Scalar.indexCast v1036
  let c0_478 : Index := 0#32
  ![v1039.toNat, 0]
def k0_off41 (k0_t6 : Fin k0_t6_loop.trips) : Fin 4 → Nat :=
  let c0_494 : Index := 0#32
  let c0_i32_475 : BitVec 32 := 0#32
  let c0_i32_471 : BitVec 32 := 0#32
  let c1_i32_472 : BitVec 32 := 1#32
  let arg17 : BitVec 32 := Scf.iv c0_i32_471 c1_i32_472 k0_t6
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1073 : Index := Scalar.indexCast v1061
  let c0_495 : Index := 0#32
  let c0_496 : Index := 0#32
  ![0, v1073.toNat, 0, 0]
def k0_off42 (k0_t6 : Fin k0_t6_loop.trips) : Fin 4 → Nat :=
  let c0_507 : Index := 0#32
  let c0_i32_475 : BitVec 32 := 0#32
  let c0_i32_471 : BitVec 32 := 0#32
  let c1_i32_472 : BitVec 32 := 1#32
  let arg17 : BitVec 32 := Scf.iv c0_i32_471 c1_i32_472 k0_t6
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1100 : Index := Scalar.indexCast v1099
  let c0_508 : Index := 0#32
  let c0_509 : Index := 0#32
  ![0, v1100.toNat, 0, 0]
def k0_off43 (k0_t6 : Fin k0_t6_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t6
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let v1103 : Index := Scalar.indexCast v1038
  let c0_510 : Index := 0#32
  let c0_511 : Index := 0#32
  ![v1103.toNat, 0, 0]
def k0_off44 (k0_t6 : Fin k0_t6_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t6
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1107 : Index := Scalar.indexCast v1099
  let c0_513 : Index := 0#32
  let c0_514 : Index := 0#32
  ![v1107.toNat, 0, 0]
def k0_off45 (k0_t6 : Fin k0_t6_loop.trips) : Fin 4 → Nat :=
  let c0_521 : Index := 0#32
  let c0_i32_475 : BitVec 32 := 0#32
  let c0_i32_471 : BitVec 32 := 0#32
  let c1_i32_472 : BitVec 32 := 1#32
  let arg17 : BitVec 32 := Scf.iv c0_i32_471 c1_i32_472 k0_t6
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1127 : Index := Scalar.indexCast v1061
  let c0_522 : Index := 0#32
  let c256_523 : Index := 256#32
  ![0, v1127.toNat, 0, 256]
def k0_off46 (k0_t6 : Fin k0_t6_loop.trips) : Fin 4 → Nat :=
  let c0_534 : Index := 0#32
  let c0_i32_475 : BitVec 32 := 0#32
  let c0_i32_471 : BitVec 32 := 0#32
  let c1_i32_472 : BitVec 32 := 1#32
  let arg17 : BitVec 32 := Scf.iv c0_i32_471 c1_i32_472 k0_t6
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1154 : Index := Scalar.indexCast v1153
  let c256_535 : Index := 256#32
  let c0_536 : Index := 0#32
  ![0, v1154.toNat, 256, 0]
def k0_off47 (k0_t6 : Fin k0_t6_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t6
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1161 : Index := Scalar.indexCast v1153
  let c256_540 : Index := 256#32
  let c0_541 : Index := 0#32
  ![v1161.toNat, 256, 0]
def k0_off48 (k0_t6 : Fin k0_t6_loop.trips) : Fin 4 → Nat :=
  let c0_548 : Index := 0#32
  let c0_i32_475 : BitVec 32 := 0#32
  let c0_i32_471 : BitVec 32 := 0#32
  let c1_i32_472 : BitVec 32 := 1#32
  let arg17 : BitVec 32 := Scf.iv c0_i32_471 c1_i32_472 k0_t6
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1181 : Index := Scalar.indexCast v1061
  let c0_549 : Index := 0#32
  let c512_550 : Index := 512#32
  ![0, v1181.toNat, 0, 512]
def k0_off49 (k0_t6 : Fin k0_t6_loop.trips) : Fin 4 → Nat :=
  let c0_561 : Index := 0#32
  let c0_i32_475 : BitVec 32 := 0#32
  let c0_i32_471 : BitVec 32 := 0#32
  let c1_i32_472 : BitVec 32 := 1#32
  let arg17 : BitVec 32 := Scf.iv c0_i32_471 c1_i32_472 k0_t6
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1208 : Index := Scalar.indexCast v1207
  let c512_562 : Index := 512#32
  let c0_563 : Index := 0#32
  ![0, v1208.toNat, 512, 0]
def k0_off50 (k0_t6 : Fin k0_t6_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t6
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1215 : Index := Scalar.indexCast v1207
  let c512_567 : Index := 512#32
  let c0_568 : Index := 0#32
  ![v1215.toNat, 512, 0]
def k0_off51 (k0_t6 : Fin k0_t6_loop.trips) : Fin 4 → Nat :=
  let c0_575 : Index := 0#32
  let c0_i32_475 : BitVec 32 := 0#32
  let c0_i32_471 : BitVec 32 := 0#32
  let c1_i32_472 : BitVec 32 := 1#32
  let arg17 : BitVec 32 := Scf.iv c0_i32_471 c1_i32_472 k0_t6
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1235 : Index := Scalar.indexCast v1061
  let c0_576 : Index := 0#32
  let c768_577 : Index := 768#32
  ![0, v1235.toNat, 0, 768]
def k0_off52 (k0_t6 : Fin k0_t6_loop.trips) : Fin 4 → Nat :=
  let c0_588 : Index := 0#32
  let c0_i32_475 : BitVec 32 := 0#32
  let c0_i32_471 : BitVec 32 := 0#32
  let c1_i32_472 : BitVec 32 := 1#32
  let arg17 : BitVec 32 := Scf.iv c0_i32_471 c1_i32_472 k0_t6
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1262 : Index := Scalar.indexCast v1261
  let c768_589 : Index := 768#32
  let c0_590 : Index := 0#32
  ![0, v1262.toNat, 768, 0]
def k0_off53 (k0_t6 : Fin k0_t6_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t6
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1269 : Index := Scalar.indexCast v1261
  let c768_594 : Index := 768#32
  let c0_595 : Index := 0#32
  ![v1269.toNat, 768, 0]
def k0_off54 (k0_t6 : Fin k0_t6_loop.trips) : Fin 3 → Nat :=
  let c0_605 : Index := 0#32
  let c0_i32_475 : BitVec 32 := 0#32
  let c0_i32_471 : BitVec 32 := 0#32
  let c1_i32_472 : BitVec 32 := 1#32
  let arg17 : BitVec 32 := Scf.iv c0_i32_471 c1_i32_472 k0_t6
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1299 : Index := Scalar.indexCast v1061
  let c0_606 : Index := 0#32
  ![0, v1299.toNat, 0]
def k0_mult7 (k0_t6 : Fin k0_t6_loop.trips) : BitVec 32 :=
  let c0_i32_475 : BitVec 32 := 0#32
  let c0_i32_471 : BitVec 32 := 0#32
  let c1_i32_472 : BitVec 32 := 1#32
  let arg17 : BitVec 32 := Scf.iv c0_i32_471 c1_i32_472 k0_t6
  let c1_i32_474 : BitVec 32 := 1#32
  let v1035 : BitVec 32 := Scalar.muli arg17 c1_i32_474
  let v1036 : BitVec 32 := Scalar.addi c0_i32_475 v1035
  let c128_i32 : BitVec 32 := 128#32
  let v1305 : BitVec 32 := Scalar.muli v1036 c128_i32
  v1305
def k0_off55 (k0_t6 : Fin k0_t6_loop.trips) : Fin 3 → Nat :=
  let c0_607 : Index := 0#32
  let c0_608 : Index := 0#32
  let c0_i32_475 : BitVec 32 := 0#32
  let c0_i32_471 : BitVec 32 := 0#32
  let c1_i32_472 : BitVec 32 := 1#32
  let arg17 : BitVec 32 := Scf.iv c0_i32_471 c1_i32_472 k0_t6
  let c1_i32_474 : BitVec 32 := 1#32
  let v1035 : BitVec 32 := Scalar.muli arg17 c1_i32_474
  let v1036 : BitVec 32 := Scalar.addi c0_i32_475 v1035
  let c128_i32 : BitVec 32 := 128#32
  let v1305 : BitVec 32 := Scalar.muli v1036 c128_i32
  let v1306 : BitVec 32 := v1305
  let v1307 : Index := Scalar.indexCast v1306
  ![0, 0, v1307.toNat]
def k0_cond6 (i : grid0.Coords) : BitVec 1 :=
  let arg1 : BitVec 32 := BitVec.ofNat 32 (i 1).val
  let c4_i32_425 : BitVec 32 := 4#32
  let v969 : BitVec 1 := Scalar.cmpi .eq arg1 c4_i32_425
  let v970 : BitVec 32 := Scalar.extui v969
  let c0_i32_426 : BitVec 32 := 0#32
  let v971 : BitVec 1 := Scalar.cmpi .ne v970 c0_i32_426
  v971

@[reducible] def k0_t7_loop : Scf.Loop 32 :=
  let c0_i32_449 : BitVec 32 := 0#32
  let c4_i32_450 : BitVec 32 := 4#32
  let v1005 : BitVec 32 := Scalar.addi c0_i32_449 c4_i32_450
  let c1_i32_451 : BitVec 32 := 1#32
  ⟨c0_i32_449, v1005, c1_i32_451⟩
def k0_mult8 (k0_t7 : Fin k0_t7_loop.trips) : BitVec 32 :=
  let c0_i32_449 : BitVec 32 := 0#32
  let c1_i32_451 : BitVec 32 := 1#32
  let arg17 : BitVec 32 := Scf.iv c0_i32_449 c1_i32_451 k0_t7
  let c256_i32 : BitVec 32 := 256#32
  let v1035 : BitVec 32 := Scalar.muli arg17 c256_i32
  v1035
def k0_off56 (k0_t7 : Fin k0_t7_loop.trips) : Fin 4 → Nat :=
  let c0_474 : Index := 0#32
  let c0_475 : Index := 0#32
  let c0_i32_449 : BitVec 32 := 0#32
  let c1_i32_451 : BitVec 32 := 1#32
  let arg17 : BitVec 32 := Scf.iv c0_i32_449 c1_i32_451 k0_t7
  let c256_i32 : BitVec 32 := 256#32
  let v1035 : BitVec 32 := Scalar.muli arg17 c256_i32
  let v1036 : BitVec 32 := v1035
  let v1037 : Index := Scalar.indexCast v1036
  let c0_476 : Index := 0#32
  ![0, 0, v1037.toNat, 0]
def k0_off57 (k0_t7 : Fin k0_t7_loop.trips) : Fin 3 → Nat :=
  let c0_481 : Index := 0#32
  let c0_i32_449 : BitVec 32 := 0#32
  let c1_i32_451 : BitVec 32 := 1#32
  let arg17 : BitVec 32 := Scf.iv c0_i32_449 c1_i32_451 k0_t7
  let c256_i32 : BitVec 32 := 256#32
  let v1035 : BitVec 32 := Scalar.muli arg17 c256_i32
  let v1036 : BitVec 32 := v1035
  let v1043 : Index := Scalar.indexCast v1036
  let c0_482 : Index := 0#32
  ![0, v1043.toNat, 0]
def k0_off58 (k0_t7 : Fin k0_t7_loop.trips) : Fin 2 → Nat :=
  let c0_i32_449 : BitVec 32 := 0#32
  let c1_i32_451 : BitVec 32 := 1#32
  let arg17 : BitVec 32 := Scf.iv c0_i32_449 c1_i32_451 k0_t7
  let c256_i32 : BitVec 32 := 256#32
  let v1035 : BitVec 32 := Scalar.muli arg17 c256_i32
  let v1036 : BitVec 32 := v1035
  let v1048 : Index := Scalar.indexCast v1036
  let c0_483 : Index := 0#32
  ![v1048.toNat, 0]
@[reducible] def k0_t8_loop : Scf.Loop 32 :=
  let c0_i32_471 : BitVec 32 := 0#32
  let c32_i32 : BitVec 32 := 32#32
  let v1034 : BitVec 32 := Scalar.addi c0_i32_471 c32_i32
  let c1_i32_472 : BitVec 32 := 1#32
  ⟨c0_i32_471, v1034, c1_i32_472⟩
def k0_off59 (k0_t8 : Fin k0_t8_loop.trips) : Fin 2 → Nat :=
  let c0_i32_475 : BitVec 32 := 0#32
  let c0_i32_471 : BitVec 32 := 0#32
  let c1_i32_472 : BitVec 32 := 1#32
  let arg17 : BitVec 32 := Scf.iv c0_i32_471 c1_i32_472 k0_t8
  let c1_i32_474 : BitVec 32 := 1#32
  let v1035 : BitVec 32 := Scalar.muli arg17 c1_i32_474
  let v1036 : BitVec 32 := Scalar.addi c0_i32_475 v1035
  let v1039 : Index := Scalar.indexCast v1036
  let c0_478 : Index := 0#32
  ![v1039.toNat, 0]
def k0_off60 (k0_t8 : Fin k0_t8_loop.trips) : Fin 4 → Nat :=
  let c0_494 : Index := 0#32
  let c0_i32_475 : BitVec 32 := 0#32
  let c0_i32_471 : BitVec 32 := 0#32
  let c1_i32_472 : BitVec 32 := 1#32
  let arg17 : BitVec 32 := Scf.iv c0_i32_471 c1_i32_472 k0_t8
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1073 : Index := Scalar.indexCast v1061
  let c0_495 : Index := 0#32
  let c0_496 : Index := 0#32
  ![0, v1073.toNat, 0, 0]
def k0_off61 (k0_t8 : Fin k0_t8_loop.trips) : Fin 4 → Nat :=
  let c0_507 : Index := 0#32
  let c0_i32_475 : BitVec 32 := 0#32
  let c0_i32_471 : BitVec 32 := 0#32
  let c1_i32_472 : BitVec 32 := 1#32
  let arg17 : BitVec 32 := Scf.iv c0_i32_471 c1_i32_472 k0_t8
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1100 : Index := Scalar.indexCast v1099
  let c0_508 : Index := 0#32
  let c0_509 : Index := 0#32
  ![0, v1100.toNat, 0, 0]
def k0_off62 (k0_t8 : Fin k0_t8_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t8
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let v1103 : Index := Scalar.indexCast v1038
  let c0_510 : Index := 0#32
  let c0_511 : Index := 0#32
  ![v1103.toNat, 0, 0]
def k0_off63 (k0_t8 : Fin k0_t8_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t8
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1107 : Index := Scalar.indexCast v1099
  let c0_513 : Index := 0#32
  let c0_514 : Index := 0#32
  ![v1107.toNat, 0, 0]
def k0_off64 (k0_t8 : Fin k0_t8_loop.trips) : Fin 4 → Nat :=
  let c0_521 : Index := 0#32
  let c0_i32_475 : BitVec 32 := 0#32
  let c0_i32_471 : BitVec 32 := 0#32
  let c1_i32_472 : BitVec 32 := 1#32
  let arg17 : BitVec 32 := Scf.iv c0_i32_471 c1_i32_472 k0_t8
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1127 : Index := Scalar.indexCast v1061
  let c0_522 : Index := 0#32
  let c256_523 : Index := 256#32
  ![0, v1127.toNat, 0, 256]
def k0_off65 (k0_t8 : Fin k0_t8_loop.trips) : Fin 4 → Nat :=
  let c0_534 : Index := 0#32
  let c0_i32_475 : BitVec 32 := 0#32
  let c0_i32_471 : BitVec 32 := 0#32
  let c1_i32_472 : BitVec 32 := 1#32
  let arg17 : BitVec 32 := Scf.iv c0_i32_471 c1_i32_472 k0_t8
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1154 : Index := Scalar.indexCast v1153
  let c256_535 : Index := 256#32
  let c0_536 : Index := 0#32
  ![0, v1154.toNat, 256, 0]
def k0_off66 (k0_t8 : Fin k0_t8_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t8
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1161 : Index := Scalar.indexCast v1153
  let c256_540 : Index := 256#32
  let c0_541 : Index := 0#32
  ![v1161.toNat, 256, 0]
def k0_off67 (k0_t8 : Fin k0_t8_loop.trips) : Fin 4 → Nat :=
  let c0_548 : Index := 0#32
  let c0_i32_475 : BitVec 32 := 0#32
  let c0_i32_471 : BitVec 32 := 0#32
  let c1_i32_472 : BitVec 32 := 1#32
  let arg17 : BitVec 32 := Scf.iv c0_i32_471 c1_i32_472 k0_t8
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1181 : Index := Scalar.indexCast v1061
  let c0_549 : Index := 0#32
  let c512_550 : Index := 512#32
  ![0, v1181.toNat, 0, 512]
def k0_off68 (k0_t8 : Fin k0_t8_loop.trips) : Fin 4 → Nat :=
  let c0_561 : Index := 0#32
  let c0_i32_475 : BitVec 32 := 0#32
  let c0_i32_471 : BitVec 32 := 0#32
  let c1_i32_472 : BitVec 32 := 1#32
  let arg17 : BitVec 32 := Scf.iv c0_i32_471 c1_i32_472 k0_t8
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1208 : Index := Scalar.indexCast v1207
  let c512_562 : Index := 512#32
  let c0_563 : Index := 0#32
  ![0, v1208.toNat, 512, 0]
def k0_off69 (k0_t8 : Fin k0_t8_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t8
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1215 : Index := Scalar.indexCast v1207
  let c512_567 : Index := 512#32
  let c0_568 : Index := 0#32
  ![v1215.toNat, 512, 0]
def k0_off70 (k0_t8 : Fin k0_t8_loop.trips) : Fin 4 → Nat :=
  let c0_575 : Index := 0#32
  let c0_i32_475 : BitVec 32 := 0#32
  let c0_i32_471 : BitVec 32 := 0#32
  let c1_i32_472 : BitVec 32 := 1#32
  let arg17 : BitVec 32 := Scf.iv c0_i32_471 c1_i32_472 k0_t8
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1235 : Index := Scalar.indexCast v1061
  let c0_576 : Index := 0#32
  let c768_577 : Index := 768#32
  ![0, v1235.toNat, 0, 768]
def k0_off71 (k0_t8 : Fin k0_t8_loop.trips) : Fin 4 → Nat :=
  let c0_588 : Index := 0#32
  let c0_i32_475 : BitVec 32 := 0#32
  let c0_i32_471 : BitVec 32 := 0#32
  let c1_i32_472 : BitVec 32 := 1#32
  let arg17 : BitVec 32 := Scf.iv c0_i32_471 c1_i32_472 k0_t8
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1262 : Index := Scalar.indexCast v1261
  let c768_589 : Index := 768#32
  let c0_590 : Index := 0#32
  ![0, v1262.toNat, 768, 0]
def k0_off72 (k0_t8 : Fin k0_t8_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t8
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1269 : Index := Scalar.indexCast v1261
  let c768_594 : Index := 768#32
  let c0_595 : Index := 0#32
  ![v1269.toNat, 768, 0]
def k0_off73 (k0_t8 : Fin k0_t8_loop.trips) : Fin 4 → Nat :=
  let c0_602 : Index := 0#32
  let c0_i32_475 : BitVec 32 := 0#32
  let c0_i32_471 : BitVec 32 := 0#32
  let c1_i32_472 : BitVec 32 := 1#32
  let arg17 : BitVec 32 := Scf.iv c0_i32_471 c1_i32_472 k0_t8
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1289 : Index := Scalar.indexCast v1061
  let c0_603 : Index := 0#32
  let c1024_604 : Index := 1024#32
  ![0, v1289.toNat, 0, 1024]
def k0_off74 (k0_t8 : Fin k0_t8_loop.trips) : Fin 4 → Nat :=
  let c0_615 : Index := 0#32
  let c0_i32_475 : BitVec 32 := 0#32
  let c0_i32_471 : BitVec 32 := 0#32
  let c1_i32_472 : BitVec 32 := 1#32
  let arg17 : BitVec 32 := Scf.iv c0_i32_471 c1_i32_472 k0_t8
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1316 : Index := Scalar.indexCast v1315
  let c1024_616 : Index := 1024#32
  let c0_617 : Index := 0#32
  ![0, v1316.toNat, 1024, 0]
def k0_off75 (k0_t8 : Fin k0_t8_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t8
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1323 : Index := Scalar.indexCast v1315
  let c1024_621 : Index := 1024#32
  let c0_622 : Index := 0#32
  ![v1323.toNat, 1024, 0]
def k0_off76 (k0_t8 : Fin k0_t8_loop.trips) : Fin 3 → Nat :=
  let c0_632 : Index := 0#32
  let c0_i32_475 : BitVec 32 := 0#32
  let c0_i32_471 : BitVec 32 := 0#32
  let c1_i32_472 : BitVec 32 := 1#32
  let arg17 : BitVec 32 := Scf.iv c0_i32_471 c1_i32_472 k0_t8
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1353 : Index := Scalar.indexCast v1061
  let c0_633 : Index := 0#32
  ![0, v1353.toNat, 0]
def k0_mult9 (k0_t8 : Fin k0_t8_loop.trips) : BitVec 32 :=
  let c0_i32_475 : BitVec 32 := 0#32
  let c0_i32_471 : BitVec 32 := 0#32
  let c1_i32_472 : BitVec 32 := 1#32
  let arg17 : BitVec 32 := Scf.iv c0_i32_471 c1_i32_472 k0_t8
  let c1_i32_474 : BitVec 32 := 1#32
  let v1035 : BitVec 32 := Scalar.muli arg17 c1_i32_474
  let v1036 : BitVec 32 := Scalar.addi c0_i32_475 v1035
  let c128_i32 : BitVec 32 := 128#32
  let v1359 : BitVec 32 := Scalar.muli v1036 c128_i32
  v1359
def k0_off77 (k0_t8 : Fin k0_t8_loop.trips) : Fin 3 → Nat :=
  let c0_634 : Index := 0#32
  let c0_635 : Index := 0#32
  let c0_i32_475 : BitVec 32 := 0#32
  let c0_i32_471 : BitVec 32 := 0#32
  let c1_i32_472 : BitVec 32 := 1#32
  let arg17 : BitVec 32 := Scf.iv c0_i32_471 c1_i32_472 k0_t8
  let c1_i32_474 : BitVec 32 := 1#32
  let v1035 : BitVec 32 := Scalar.muli arg17 c1_i32_474
  let v1036 : BitVec 32 := Scalar.addi c0_i32_475 v1035
  let c128_i32 : BitVec 32 := 128#32
  let v1359 : BitVec 32 := Scalar.muli v1036 c128_i32
  let v1360 : BitVec 32 := v1359
  let v1361 : Index := Scalar.indexCast v1360
  ![0, 0, v1361.toNat]
def k0_cond7 (i : grid0.Coords) : BitVec 1 :=
  let arg1 : BitVec 32 := BitVec.ofNat 32 (i 1).val
  let c5_i32_427 : BitVec 32 := 5#32
  let v972 : BitVec 1 := Scalar.cmpi .eq arg1 c5_i32_427
  let v973 : BitVec 32 := Scalar.extui v972
  let c0_i32_428 : BitVec 32 := 0#32
  let v974 : BitVec 1 := Scalar.cmpi .ne v973 c0_i32_428
  v974

@[reducible] def k0_t9_loop : Scf.Loop 32 :=
  let c0_i32_449 : BitVec 32 := 0#32
  let c5_i32_450 : BitVec 32 := 5#32
  let v1005 : BitVec 32 := Scalar.addi c0_i32_449 c5_i32_450
  let c1_i32_451 : BitVec 32 := 1#32
  ⟨c0_i32_449, v1005, c1_i32_451⟩
def k0_mult10 (k0_t9 : Fin k0_t9_loop.trips) : BitVec 32 :=
  let c0_i32_449 : BitVec 32 := 0#32
  let c1_i32_451 : BitVec 32 := 1#32
  let arg17 : BitVec 32 := Scf.iv c0_i32_449 c1_i32_451 k0_t9
  let c256_i32 : BitVec 32 := 256#32
  let v1035 : BitVec 32 := Scalar.muli arg17 c256_i32
  v1035
def k0_off78 (k0_t9 : Fin k0_t9_loop.trips) : Fin 4 → Nat :=
  let c0_474 : Index := 0#32
  let c0_475 : Index := 0#32
  let c0_i32_449 : BitVec 32 := 0#32
  let c1_i32_451 : BitVec 32 := 1#32
  let arg17 : BitVec 32 := Scf.iv c0_i32_449 c1_i32_451 k0_t9
  let c256_i32 : BitVec 32 := 256#32
  let v1035 : BitVec 32 := Scalar.muli arg17 c256_i32
  let v1036 : BitVec 32 := v1035
  let v1037 : Index := Scalar.indexCast v1036
  let c0_476 : Index := 0#32
  ![0, 0, v1037.toNat, 0]
def k0_off79 (k0_t9 : Fin k0_t9_loop.trips) : Fin 3 → Nat :=
  let c0_481 : Index := 0#32
  let c0_i32_449 : BitVec 32 := 0#32
  let c1_i32_451 : BitVec 32 := 1#32
  let arg17 : BitVec 32 := Scf.iv c0_i32_449 c1_i32_451 k0_t9
  let c256_i32 : BitVec 32 := 256#32
  let v1035 : BitVec 32 := Scalar.muli arg17 c256_i32
  let v1036 : BitVec 32 := v1035
  let v1043 : Index := Scalar.indexCast v1036
  let c0_482 : Index := 0#32
  ![0, v1043.toNat, 0]
def k0_off80 (k0_t9 : Fin k0_t9_loop.trips) : Fin 2 → Nat :=
  let c0_i32_449 : BitVec 32 := 0#32
  let c1_i32_451 : BitVec 32 := 1#32
  let arg17 : BitVec 32 := Scf.iv c0_i32_449 c1_i32_451 k0_t9
  let c256_i32 : BitVec 32 := 256#32
  let v1035 : BitVec 32 := Scalar.muli arg17 c256_i32
  let v1036 : BitVec 32 := v1035
  let v1048 : Index := Scalar.indexCast v1036
  let c0_483 : Index := 0#32
  ![v1048.toNat, 0]
@[reducible] def k0_t10_loop : Scf.Loop 32 :=
  let c0_i32_471 : BitVec 32 := 0#32
  let c32_i32 : BitVec 32 := 32#32
  let v1034 : BitVec 32 := Scalar.addi c0_i32_471 c32_i32
  let c1_i32_472 : BitVec 32 := 1#32
  ⟨c0_i32_471, v1034, c1_i32_472⟩
def k0_off81 (k0_t10 : Fin k0_t10_loop.trips) : Fin 2 → Nat :=
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let v1039 : Index := Scalar.indexCast v1036
  let c0_478 : Index := 0#32
  ![v1039.toNat, 0]
def k0_off82 (k0_t10 : Fin k0_t10_loop.trips) : Fin 4 → Nat :=
  let c0_494 : Index := 0#32
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1073 : Index := Scalar.indexCast v1061
  let c0_495 : Index := 0#32
  let c0_496 : Index := 0#32
  ![0, v1073.toNat, 0, 0]
def k0_off83 (k0_t10 : Fin k0_t10_loop.trips) : Fin 4 → Nat :=
  let c0_507 : Index := 0#32
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1100 : Index := Scalar.indexCast v1099
  let c0_508 : Index := 0#32
  let c0_509 : Index := 0#32
  ![0, v1100.toNat, 0, 0]
def k0_off84 (k0_t10 : Fin k0_t10_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let v1103 : Index := Scalar.indexCast v1038
  let c0_510 : Index := 0#32
  let c0_511 : Index := 0#32
  ![v1103.toNat, 0, 0]
def k0_off85 (k0_t10 : Fin k0_t10_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1107 : Index := Scalar.indexCast v1099
  let c0_513 : Index := 0#32
  let c0_514 : Index := 0#32
  ![v1107.toNat, 0, 0]
def k0_off86 (k0_t10 : Fin k0_t10_loop.trips) : Fin 4 → Nat :=
  let c0_521 : Index := 0#32
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1127 : Index := Scalar.indexCast v1061
  let c0_522 : Index := 0#32
  let c256_523 : Index := 256#32
  ![0, v1127.toNat, 0, 256]
def k0_off87 (k0_t10 : Fin k0_t10_loop.trips) : Fin 4 → Nat :=
  let c0_534 : Index := 0#32
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1154 : Index := Scalar.indexCast v1153
  let c256_535 : Index := 256#32
  let c0_536 : Index := 0#32
  ![0, v1154.toNat, 256, 0]
def k0_off88 (k0_t10 : Fin k0_t10_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1161 : Index := Scalar.indexCast v1153
  let c256_540 : Index := 256#32
  let c0_541 : Index := 0#32
  ![v1161.toNat, 256, 0]
def k0_off89 (k0_t10 : Fin k0_t10_loop.trips) : Fin 4 → Nat :=
  let c0_548 : Index := 0#32
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1181 : Index := Scalar.indexCast v1061
  let c0_549 : Index := 0#32
  let c512_550 : Index := 512#32
  ![0, v1181.toNat, 0, 512]
def k0_off90 (k0_t10 : Fin k0_t10_loop.trips) : Fin 4 → Nat :=
  let c0_561 : Index := 0#32
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1208 : Index := Scalar.indexCast v1207
  let c512_562 : Index := 512#32
  let c0_563 : Index := 0#32
  ![0, v1208.toNat, 512, 0]
def k0_off91 (k0_t10 : Fin k0_t10_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1215 : Index := Scalar.indexCast v1207
  let c512_567 : Index := 512#32
  let c0_568 : Index := 0#32
  ![v1215.toNat, 512, 0]
def k0_off92 (k0_t10 : Fin k0_t10_loop.trips) : Fin 4 → Nat :=
  let c0_575 : Index := 0#32
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1235 : Index := Scalar.indexCast v1061
  let c0_576 : Index := 0#32
  let c768_577 : Index := 768#32
  ![0, v1235.toNat, 0, 768]
def k0_off93 (k0_t10 : Fin k0_t10_loop.trips) : Fin 4 → Nat :=
  let c0_588 : Index := 0#32
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1262 : Index := Scalar.indexCast v1261
  let c768_589 : Index := 768#32
  let c0_590 : Index := 0#32
  ![0, v1262.toNat, 768, 0]
def k0_off94 (k0_t10 : Fin k0_t10_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1269 : Index := Scalar.indexCast v1261
  let c768_594 : Index := 768#32
  let c0_595 : Index := 0#32
  ![v1269.toNat, 768, 0]
def k0_off95 (k0_t10 : Fin k0_t10_loop.trips) : Fin 4 → Nat :=
  let c0_602 : Index := 0#32
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1289 : Index := Scalar.indexCast v1061
  let c0_603 : Index := 0#32
  let c1024_604 : Index := 1024#32
  ![0, v1289.toNat, 0, 1024]
def k0_off96 (k0_t10 : Fin k0_t10_loop.trips) : Fin 4 → Nat :=
  let c0_615 : Index := 0#32
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1316 : Index := Scalar.indexCast v1315
  let c1024_616 : Index := 1024#32
  let c0_617 : Index := 0#32
  ![0, v1316.toNat, 1024, 0]
def k0_off97 (k0_t10 : Fin k0_t10_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1323 : Index := Scalar.indexCast v1315
  let c1024_621 : Index := 1024#32
  let c0_622 : Index := 0#32
  ![v1323.toNat, 1024, 0]
def k0_off98 (k0_t10 : Fin k0_t10_loop.trips) : Fin 4 → Nat :=
  let c0_629 : Index := 0#32
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1343 : Index := Scalar.indexCast v1061
  let c0_630 : Index := 0#32
  let c1280_631 : Index := 1280#32
  ![0, v1343.toNat, 0, 1280]
def k0_off99 (k0_t10 : Fin k0_t10_loop.trips) : Fin 4 → Nat :=
  let c0_642 : Index := 0#32
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1370 : Index := Scalar.indexCast v1369
  let c1280_643 : Index := 1280#32
  let c0_644 : Index := 0#32
  ![0, v1370.toNat, 1280, 0]
def k0_off100 (k0_t10 : Fin k0_t10_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1377 : Index := Scalar.indexCast v1369
  let c1280_648 : Index := 1280#32
  let c0_649 : Index := 0#32
  ![v1377.toNat, 1280, 0]
def k0_off101 (k0_t10 : Fin k0_t10_loop.trips) : Fin 3 → Nat :=
  let c0_659 : Index := 0#32
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1407 : Index := Scalar.indexCast v1061
  let c0_660 : Index := 0#32
  ![0, v1407.toNat, 0]
def k0_mult11 (k0_t10 : Fin k0_t10_loop.trips) : BitVec 32 :=
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c128_i32 : BitVec 32 := 128#32
  let v1413 : BitVec 32 := Scalar.muli v1036 c128_i32
  v1413
def k0_off102 (k0_t10 : Fin k0_t10_loop.trips) : Fin 3 → Nat :=
  let c0_661 : Index := 0#32
  let c0_662 : Index := 0#32
  let c0_i32_475 : BitVec 32 := 0#32
  let c0_i32_471 : BitVec 32 := 0#32
  let c1_i32_472 : BitVec 32 := 1#32
  let arg17 : BitVec 32 := Scf.iv c0_i32_471 c1_i32_472 k0_t10
  let c1_i32_474 : BitVec 32 := 1#32
  let v1035 : BitVec 32 := Scalar.muli arg17 c1_i32_474
  let v1036 : BitVec 32 := Scalar.addi c0_i32_475 v1035
  let c128_i32 : BitVec 32 := 128#32
  let v1413 : BitVec 32 := Scalar.muli v1036 c128_i32
  let v1414 : BitVec 32 := v1413
  let v1415 : Index := Scalar.indexCast v1414
  ![0, 0, v1415.toNat]
def k0_cond8 (i : grid0.Coords) : BitVec 1 :=
  let arg1 : BitVec 32 := BitVec.ofNat 32 (i 1).val
  let c6_i32_429 : BitVec 32 := 6#32
  let v975 : BitVec 1 := Scalar.cmpi .eq arg1 c6_i32_429
  let v976 : BitVec 32 := Scalar.extui v975
  let c0_i32_430 : BitVec 32 := 0#32
  let v977 : BitVec 1 := Scalar.cmpi .ne v976 c0_i32_430
  v977

@[reducible] def k0_t11_loop : Scf.Loop 32 :=
  let c0_i32_449 : BitVec 32 := 0#32
  let c6_i32_450 : BitVec 32 := 6#32
  let v1005 : BitVec 32 := Scalar.addi c0_i32_449 c6_i32_450
  let c1_i32_451 : BitVec 32 := 1#32
  ⟨c0_i32_449, v1005, c1_i32_451⟩
def k0_mult12 (k0_t11 : Fin k0_t11_loop.trips) : BitVec 32 :=
  let c0_i32_449 : BitVec 32 := 0#32
  let c1_i32_451 : BitVec 32 := 1#32
  let arg17 : BitVec 32 := Scf.iv c0_i32_449 c1_i32_451 k0_t11
  let c256_i32 : BitVec 32 := 256#32
  let v1035 : BitVec 32 := Scalar.muli arg17 c256_i32
  v1035
def k0_off103 (k0_t11 : Fin k0_t11_loop.trips) : Fin 4 → Nat :=
  let c0_474 : Index := 0#32
  let c0_475 : Index := 0#32
  let c0_i32_449 : BitVec 32 := 0#32
  let c1_i32_451 : BitVec 32 := 1#32
  let arg17 : BitVec 32 := Scf.iv c0_i32_449 c1_i32_451 k0_t11
  let c256_i32 : BitVec 32 := 256#32
  let v1035 : BitVec 32 := Scalar.muli arg17 c256_i32
  let v1036 : BitVec 32 := v1035
  let v1037 : Index := Scalar.indexCast v1036
  let c0_476 : Index := 0#32
  ![0, 0, v1037.toNat, 0]
def k0_off104 (k0_t11 : Fin k0_t11_loop.trips) : Fin 3 → Nat :=
  let c0_481 : Index := 0#32
  let c0_i32_449 : BitVec 32 := 0#32
  let c1_i32_451 : BitVec 32 := 1#32
  let arg17 : BitVec 32 := Scf.iv c0_i32_449 c1_i32_451 k0_t11
  let c256_i32 : BitVec 32 := 256#32
  let v1035 : BitVec 32 := Scalar.muli arg17 c256_i32
  let v1036 : BitVec 32 := v1035
  let v1043 : Index := Scalar.indexCast v1036
  let c0_482 : Index := 0#32
  ![0, v1043.toNat, 0]
def k0_off105 (k0_t11 : Fin k0_t11_loop.trips) : Fin 2 → Nat :=
  let c0_i32_449 : BitVec 32 := 0#32
  let c1_i32_451 : BitVec 32 := 1#32
  let arg17 : BitVec 32 := Scf.iv c0_i32_449 c1_i32_451 k0_t11
  let c256_i32 : BitVec 32 := 256#32
  let v1035 : BitVec 32 := Scalar.muli arg17 c256_i32
  let v1036 : BitVec 32 := v1035
  let v1048 : Index := Scalar.indexCast v1036
  let c0_483 : Index := 0#32
  ![v1048.toNat, 0]
@[reducible] def k0_t12_loop : Scf.Loop 32 :=
  let c0_i32_471 : BitVec 32 := 0#32
  let c32_i32 : BitVec 32 := 32#32
  let v1034 : BitVec 32 := Scalar.addi c0_i32_471 c32_i32
  let c1_i32_472 : BitVec 32 := 1#32
  ⟨c0_i32_471, v1034, c1_i32_472⟩
def k0_off106 (k0_t12 : Fin k0_t12_loop.trips) : Fin 2 → Nat :=
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let v1039 : Index := Scalar.indexCast v1036
  let c0_478 : Index := 0#32
  ![v1039.toNat, 0]
def k0_off107 (k0_t12 : Fin k0_t12_loop.trips) : Fin 4 → Nat :=
  let c0_494 : Index := 0#32
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1073 : Index := Scalar.indexCast v1061
  let c0_495 : Index := 0#32
  let c0_496 : Index := 0#32
  ![0, v1073.toNat, 0, 0]
def k0_off108 (k0_t12 : Fin k0_t12_loop.trips) : Fin 4 → Nat :=
  let c0_507 : Index := 0#32
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1100 : Index := Scalar.indexCast v1099
  let c0_508 : Index := 0#32
  let c0_509 : Index := 0#32
  ![0, v1100.toNat, 0, 0]
def k0_off109 (k0_t12 : Fin k0_t12_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let v1103 : Index := Scalar.indexCast v1038
  let c0_510 : Index := 0#32
  let c0_511 : Index := 0#32
  ![v1103.toNat, 0, 0]
def k0_off110 (k0_t12 : Fin k0_t12_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1107 : Index := Scalar.indexCast v1099
  let c0_513 : Index := 0#32
  let c0_514 : Index := 0#32
  ![v1107.toNat, 0, 0]
def k0_off111 (k0_t12 : Fin k0_t12_loop.trips) : Fin 4 → Nat :=
  let c0_521 : Index := 0#32
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1127 : Index := Scalar.indexCast v1061
  let c0_522 : Index := 0#32
  let c256_523 : Index := 256#32
  ![0, v1127.toNat, 0, 256]
def k0_off112 (k0_t12 : Fin k0_t12_loop.trips) : Fin 4 → Nat :=
  let c0_534 : Index := 0#32
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1154 : Index := Scalar.indexCast v1153
  let c256_535 : Index := 256#32
  let c0_536 : Index := 0#32
  ![0, v1154.toNat, 256, 0]
def k0_off113 (k0_t12 : Fin k0_t12_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1161 : Index := Scalar.indexCast v1153
  let c256_540 : Index := 256#32
  let c0_541 : Index := 0#32
  ![v1161.toNat, 256, 0]
def k0_off114 (k0_t12 : Fin k0_t12_loop.trips) : Fin 4 → Nat :=
  let c0_548 : Index := 0#32
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1181 : Index := Scalar.indexCast v1061
  let c0_549 : Index := 0#32
  let c512_550 : Index := 512#32
  ![0, v1181.toNat, 0, 512]
def k0_off115 (k0_t12 : Fin k0_t12_loop.trips) : Fin 4 → Nat :=
  let c0_561 : Index := 0#32
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1208 : Index := Scalar.indexCast v1207
  let c512_562 : Index := 512#32
  let c0_563 : Index := 0#32
  ![0, v1208.toNat, 512, 0]
def k0_off116 (k0_t12 : Fin k0_t12_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1215 : Index := Scalar.indexCast v1207
  let c512_567 : Index := 512#32
  let c0_568 : Index := 0#32
  ![v1215.toNat, 512, 0]
def k0_off117 (k0_t12 : Fin k0_t12_loop.trips) : Fin 4 → Nat :=
  let c0_575 : Index := 0#32
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1235 : Index := Scalar.indexCast v1061
  let c0_576 : Index := 0#32
  let c768_577 : Index := 768#32
  ![0, v1235.toNat, 0, 768]
def k0_off118 (k0_t12 : Fin k0_t12_loop.trips) : Fin 4 → Nat :=
  let c0_588 : Index := 0#32
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1262 : Index := Scalar.indexCast v1261
  let c768_589 : Index := 768#32
  let c0_590 : Index := 0#32
  ![0, v1262.toNat, 768, 0]
def k0_off119 (k0_t12 : Fin k0_t12_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1269 : Index := Scalar.indexCast v1261
  let c768_594 : Index := 768#32
  let c0_595 : Index := 0#32
  ![v1269.toNat, 768, 0]
def k0_off120 (k0_t12 : Fin k0_t12_loop.trips) : Fin 4 → Nat :=
  let c0_602 : Index := 0#32
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1289 : Index := Scalar.indexCast v1061
  let c0_603 : Index := 0#32
  let c1024_604 : Index := 1024#32
  ![0, v1289.toNat, 0, 1024]
def k0_off121 (k0_t12 : Fin k0_t12_loop.trips) : Fin 4 → Nat :=
  let c0_615 : Index := 0#32
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1316 : Index := Scalar.indexCast v1315
  let c1024_616 : Index := 1024#32
  let c0_617 : Index := 0#32
  ![0, v1316.toNat, 1024, 0]
def k0_off122 (k0_t12 : Fin k0_t12_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1323 : Index := Scalar.indexCast v1315
  let c1024_621 : Index := 1024#32
  let c0_622 : Index := 0#32
  ![v1323.toNat, 1024, 0]
def k0_off123 (k0_t12 : Fin k0_t12_loop.trips) : Fin 4 → Nat :=
  let c0_629 : Index := 0#32
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1343 : Index := Scalar.indexCast v1061
  let c0_630 : Index := 0#32
  let c1280_631 : Index := 1280#32
  ![0, v1343.toNat, 0, 1280]
def k0_off124 (k0_t12 : Fin k0_t12_loop.trips) : Fin 4 → Nat :=
  let c0_642 : Index := 0#32
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1370 : Index := Scalar.indexCast v1369
  let c1280_643 : Index := 1280#32
  let c0_644 : Index := 0#32
  ![0, v1370.toNat, 1280, 0]
def k0_off125 (k0_t12 : Fin k0_t12_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1377 : Index := Scalar.indexCast v1369
  let c1280_648 : Index := 1280#32
  let c0_649 : Index := 0#32
  ![v1377.toNat, 1280, 0]
def k0_off126 (k0_t12 : Fin k0_t12_loop.trips) : Fin 4 → Nat :=
  let c0_656 : Index := 0#32
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1397 : Index := Scalar.indexCast v1061
  let c0_657 : Index := 0#32
  let c1536_658 : Index := 1536#32
  ![0, v1397.toNat, 0, 1536]
def k0_off127 (k0_t12 : Fin k0_t12_loop.trips) : Fin 4 → Nat :=
  let c0_669 : Index := 0#32
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_663 : BitVec 32 := 0#32
  let v1408 : BitVec 1 := Scalar.cmpi .sgt v1038 c0_i32_663
  let v1409 : BitVec 32 := Scalar.extui v1408
  let c0_i32_664 : BitVec 32 := 0#32
  let v1410 : BitVec 1 := Scalar.cmpi .slt v1038 c0_i32_664
  let v1411 : BitVec 32 := Scalar.extui v1410
  let v1412 : BitVec 32 := Scalar.subi v1409 v1411
  let c4_i32_662 : BitVec 32 := 4#32
  let c0_i32_665 : BitVec 32 := 0#32
  let v1413 : BitVec 1 := Scalar.cmpi .sgt c4_i32_662 c0_i32_665
  let v1414 : BitVec 32 := Scalar.extui v1413
  let c0_i32_666 : BitVec 32 := 0#32
  let v1415 : BitVec 1 := Scalar.cmpi .slt c4_i32_662 c0_i32_666
  let v1416 : BitVec 32 := Scalar.extui v1415
  let v1417 : BitVec 32 := Scalar.subi v1414 v1416
  let v1418 : BitVec 1 := Scalar.cmpi .ne v1412 v1417
  let v1419 : BitVec 32 := Scalar.remsi v1038 c4_i32_662
  let c0_i32_667 : BitVec 32 := 0#32
  let v1420 : BitVec 1 := Scalar.cmpi .ne v1419 c0_i32_667
  let v1421 : BitVec 1 := Scalar.andi v1418 v1420
  let v1407 : BitVec 32 := Scalar.divsi v1038 c4_i32_662
  let c1_i32_668 : BitVec 32 := 1#32
  let v1422 : BitVec 32 := Scalar.subi v1407 c1_i32_668
  let v1423 : BitVec 32 := Scalar.select v1421 v1422 v1407
  let v1424 : Index := Scalar.indexCast v1423
  let c1536_670 : Index := 1536#32
  let c0_671 : Index := 0#32
  ![0, v1424.toNat, 1536, 0]
def k0_off128 (k0_t12 : Fin k0_t12_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_663 : BitVec 32 := 0#32
  let v1408 : BitVec 1 := Scalar.cmpi .sgt v1038 c0_i32_663
  let v1409 : BitVec 32 := Scalar.extui v1408
  let c0_i32_664 : BitVec 32 := 0#32
  let v1410 : BitVec 1 := Scalar.cmpi .slt v1038 c0_i32_664
  let v1411 : BitVec 32 := Scalar.extui v1410
  let v1412 : BitVec 32 := Scalar.subi v1409 v1411
  let c4_i32_662 : BitVec 32 := 4#32
  let c0_i32_665 : BitVec 32 := 0#32
  let v1413 : BitVec 1 := Scalar.cmpi .sgt c4_i32_662 c0_i32_665
  let v1414 : BitVec 32 := Scalar.extui v1413
  let c0_i32_666 : BitVec 32 := 0#32
  let v1415 : BitVec 1 := Scalar.cmpi .slt c4_i32_662 c0_i32_666
  let v1416 : BitVec 32 := Scalar.extui v1415
  let v1417 : BitVec 32 := Scalar.subi v1414 v1416
  let v1418 : BitVec 1 := Scalar.cmpi .ne v1412 v1417
  let v1419 : BitVec 32 := Scalar.remsi v1038 c4_i32_662
  let c0_i32_667 : BitVec 32 := 0#32
  let v1420 : BitVec 1 := Scalar.cmpi .ne v1419 c0_i32_667
  let v1421 : BitVec 1 := Scalar.andi v1418 v1420
  let v1407 : BitVec 32 := Scalar.divsi v1038 c4_i32_662
  let c1_i32_668 : BitVec 32 := 1#32
  let v1422 : BitVec 32 := Scalar.subi v1407 c1_i32_668
  let v1423 : BitVec 32 := Scalar.select v1421 v1422 v1407
  let v1431 : Index := Scalar.indexCast v1423
  let c1536_675 : Index := 1536#32
  let c0_676 : Index := 0#32
  ![v1431.toNat, 1536, 0]
def k0_off129 (k0_t12 : Fin k0_t12_loop.trips) : Fin 3 → Nat :=
  let c0_686 : Index := 0#32
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1461 : Index := Scalar.indexCast v1061
  let c0_687 : Index := 0#32
  ![0, v1461.toNat, 0]
def k0_mult13 (k0_t12 : Fin k0_t12_loop.trips) : BitVec 32 :=
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c128_i32 : BitVec 32 := 128#32
  let v1467 : BitVec 32 := Scalar.muli v1036 c128_i32
  v1467
def k0_off130 (k0_t12 : Fin k0_t12_loop.trips) : Fin 3 → Nat :=
  let c0_688 : Index := 0#32
  let c0_689 : Index := 0#32
  let c0_i32_475 : BitVec 32 := 0#32
  let c0_i32_471 : BitVec 32 := 0#32
  let c1_i32_472 : BitVec 32 := 1#32
  let arg17 : BitVec 32 := Scf.iv c0_i32_471 c1_i32_472 k0_t12
  let c1_i32_474 : BitVec 32 := 1#32
  let v1035 : BitVec 32 := Scalar.muli arg17 c1_i32_474
  let v1036 : BitVec 32 := Scalar.addi c0_i32_475 v1035
  let c128_i32 : BitVec 32 := 128#32
  let v1467 : BitVec 32 := Scalar.muli v1036 c128_i32
  let v1468 : BitVec 32 := v1467
  let v1469 : Index := Scalar.indexCast v1468
  ![0, 0, v1469.toNat]
def k0_cond9 (i : grid0.Coords) : BitVec 1 :=
  let arg1 : BitVec 32 := BitVec.ofNat 32 (i 1).val
  let c7_i32_431 : BitVec 32 := 7#32
  let v978 : BitVec 1 := Scalar.cmpi .eq arg1 c7_i32_431
  let v979 : BitVec 32 := Scalar.extui v978
  let c0_i32_432 : BitVec 32 := 0#32
  let v980 : BitVec 1 := Scalar.cmpi .ne v979 c0_i32_432
  v980

@[reducible] def k0_t13_loop : Scf.Loop 32 :=
  let c0_i32_449 : BitVec 32 := 0#32
  let c7_i32_450 : BitVec 32 := 7#32
  let v1005 : BitVec 32 := Scalar.addi c0_i32_449 c7_i32_450
  let c1_i32_451 : BitVec 32 := 1#32
  ⟨c0_i32_449, v1005, c1_i32_451⟩
def k0_mult14 (k0_t13 : Fin k0_t13_loop.trips) : BitVec 32 :=
  let c0_i32_449 : BitVec 32 := 0#32
  let c1_i32_451 : BitVec 32 := 1#32
  let arg17 : BitVec 32 := Scf.iv c0_i32_449 c1_i32_451 k0_t13
  let c256_i32 : BitVec 32 := 256#32
  let v1035 : BitVec 32 := Scalar.muli arg17 c256_i32
  v1035
def k0_off131 (k0_t13 : Fin k0_t13_loop.trips) : Fin 4 → Nat :=
  let c0_474 : Index := 0#32
  let c0_475 : Index := 0#32
  let c0_i32_449 : BitVec 32 := 0#32
  let c1_i32_451 : BitVec 32 := 1#32
  let arg17 : BitVec 32 := Scf.iv c0_i32_449 c1_i32_451 k0_t13
  let c256_i32 : BitVec 32 := 256#32
  let v1035 : BitVec 32 := Scalar.muli arg17 c256_i32
  let v1036 : BitVec 32 := v1035
  let v1037 : Index := Scalar.indexCast v1036
  let c0_476 : Index := 0#32
  ![0, 0, v1037.toNat, 0]
def k0_off132 (k0_t13 : Fin k0_t13_loop.trips) : Fin 3 → Nat :=
  let c0_481 : Index := 0#32
  let c0_i32_449 : BitVec 32 := 0#32
  let c1_i32_451 : BitVec 32 := 1#32
  let arg17 : BitVec 32 := Scf.iv c0_i32_449 c1_i32_451 k0_t13
  let c256_i32 : BitVec 32 := 256#32
  let v1035 : BitVec 32 := Scalar.muli arg17 c256_i32
  let v1036 : BitVec 32 := v1035
  let v1043 : Index := Scalar.indexCast v1036
  let c0_482 : Index := 0#32
  ![0, v1043.toNat, 0]
def k0_off133 (k0_t13 : Fin k0_t13_loop.trips) : Fin 2 → Nat :=
  let c0_i32_449 : BitVec 32 := 0#32
  let c1_i32_451 : BitVec 32 := 1#32
  let arg17 : BitVec 32 := Scf.iv c0_i32_449 c1_i32_451 k0_t13
  let c256_i32 : BitVec 32 := 256#32
  let v1035 : BitVec 32 := Scalar.muli arg17 c256_i32
  let v1036 : BitVec 32 := v1035
  let v1048 : Index := Scalar.indexCast v1036
  let c0_483 : Index := 0#32
  ![v1048.toNat, 0]
@[reducible] def k0_t14_loop : Scf.Loop 32 :=
  let c0_i32_471 : BitVec 32 := 0#32
  let c32_i32 : BitVec 32 := 32#32
  let v1034 : BitVec 32 := Scalar.addi c0_i32_471 c32_i32
  let c1_i32_472 : BitVec 32 := 1#32
  ⟨c0_i32_471, v1034, c1_i32_472⟩
def k0_off134 (k0_t14 : Fin k0_t14_loop.trips) : Fin 2 → Nat :=
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let v1039 : Index := Scalar.indexCast v1036
  let c0_478 : Index := 0#32
  ![v1039.toNat, 0]
def k0_off135 (k0_t14 : Fin k0_t14_loop.trips) : Fin 4 → Nat :=
  let c0_494 : Index := 0#32
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1073 : Index := Scalar.indexCast v1061
  let c0_495 : Index := 0#32
  let c0_496 : Index := 0#32
  ![0, v1073.toNat, 0, 0]
def k0_off136 (k0_t14 : Fin k0_t14_loop.trips) : Fin 4 → Nat :=
  let c0_507 : Index := 0#32
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1100 : Index := Scalar.indexCast v1099
  let c0_508 : Index := 0#32
  let c0_509 : Index := 0#32
  ![0, v1100.toNat, 0, 0]
def k0_off137 (k0_t14 : Fin k0_t14_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let v1103 : Index := Scalar.indexCast v1038
  let c0_510 : Index := 0#32
  let c0_511 : Index := 0#32
  ![v1103.toNat, 0, 0]
def k0_off138 (k0_t14 : Fin k0_t14_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1107 : Index := Scalar.indexCast v1099
  let c0_513 : Index := 0#32
  let c0_514 : Index := 0#32
  ![v1107.toNat, 0, 0]
def k0_off139 (k0_t14 : Fin k0_t14_loop.trips) : Fin 4 → Nat :=
  let c0_521 : Index := 0#32
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1127 : Index := Scalar.indexCast v1061
  let c0_522 : Index := 0#32
  let c256_523 : Index := 256#32
  ![0, v1127.toNat, 0, 256]
def k0_off140 (k0_t14 : Fin k0_t14_loop.trips) : Fin 4 → Nat :=
  let c0_534 : Index := 0#32
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1154 : Index := Scalar.indexCast v1153
  let c256_535 : Index := 256#32
  let c0_536 : Index := 0#32
  ![0, v1154.toNat, 256, 0]
def k0_off141 (k0_t14 : Fin k0_t14_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1161 : Index := Scalar.indexCast v1153
  let c256_540 : Index := 256#32
  let c0_541 : Index := 0#32
  ![v1161.toNat, 256, 0]
def k0_off142 (k0_t14 : Fin k0_t14_loop.trips) : Fin 4 → Nat :=
  let c0_548 : Index := 0#32
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1181 : Index := Scalar.indexCast v1061
  let c0_549 : Index := 0#32
  let c512_550 : Index := 512#32
  ![0, v1181.toNat, 0, 512]
def k0_off143 (k0_t14 : Fin k0_t14_loop.trips) : Fin 4 → Nat :=
  let c0_561 : Index := 0#32
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1208 : Index := Scalar.indexCast v1207
  let c512_562 : Index := 512#32
  let c0_563 : Index := 0#32
  ![0, v1208.toNat, 512, 0]
def k0_off144 (k0_t14 : Fin k0_t14_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1215 : Index := Scalar.indexCast v1207
  let c512_567 : Index := 512#32
  let c0_568 : Index := 0#32
  ![v1215.toNat, 512, 0]
def k0_off145 (k0_t14 : Fin k0_t14_loop.trips) : Fin 4 → Nat :=
  let c0_575 : Index := 0#32
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1235 : Index := Scalar.indexCast v1061
  let c0_576 : Index := 0#32
  let c768_577 : Index := 768#32
  ![0, v1235.toNat, 0, 768]
def k0_off146 (k0_t14 : Fin k0_t14_loop.trips) : Fin 4 → Nat :=
  let c0_588 : Index := 0#32
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1262 : Index := Scalar.indexCast v1261
  let c768_589 : Index := 768#32
  let c0_590 : Index := 0#32
  ![0, v1262.toNat, 768, 0]
def k0_off147 (k0_t14 : Fin k0_t14_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1269 : Index := Scalar.indexCast v1261
  let c768_594 : Index := 768#32
  let c0_595 : Index := 0#32
  ![v1269.toNat, 768, 0]
def k0_off148 (k0_t14 : Fin k0_t14_loop.trips) : Fin 4 → Nat :=
  let c0_602 : Index := 0#32
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1289 : Index := Scalar.indexCast v1061
  let c0_603 : Index := 0#32
  let c1024_604 : Index := 1024#32
  ![0, v1289.toNat, 0, 1024]
def k0_off149 (k0_t14 : Fin k0_t14_loop.trips) : Fin 4 → Nat :=
  let c0_615 : Index := 0#32
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1316 : Index := Scalar.indexCast v1315
  let c1024_616 : Index := 1024#32
  let c0_617 : Index := 0#32
  ![0, v1316.toNat, 1024, 0]
def k0_off150 (k0_t14 : Fin k0_t14_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1323 : Index := Scalar.indexCast v1315
  let c1024_621 : Index := 1024#32
  let c0_622 : Index := 0#32
  ![v1323.toNat, 1024, 0]
def k0_off151 (k0_t14 : Fin k0_t14_loop.trips) : Fin 4 → Nat :=
  let c0_629 : Index := 0#32
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1343 : Index := Scalar.indexCast v1061
  let c0_630 : Index := 0#32
  let c1280_631 : Index := 1280#32
  ![0, v1343.toNat, 0, 1280]
def k0_off152 (k0_t14 : Fin k0_t14_loop.trips) : Fin 4 → Nat :=
  let c0_642 : Index := 0#32
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1370 : Index := Scalar.indexCast v1369
  let c1280_643 : Index := 1280#32
  let c0_644 : Index := 0#32
  ![0, v1370.toNat, 1280, 0]
def k0_off153 (k0_t14 : Fin k0_t14_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1377 : Index := Scalar.indexCast v1369
  let c1280_648 : Index := 1280#32
  let c0_649 : Index := 0#32
  ![v1377.toNat, 1280, 0]
def k0_off154 (k0_t14 : Fin k0_t14_loop.trips) : Fin 4 → Nat :=
  let c0_656 : Index := 0#32
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1397 : Index := Scalar.indexCast v1061
  let c0_657 : Index := 0#32
  let c1536_658 : Index := 1536#32
  ![0, v1397.toNat, 0, 1536]
def k0_off155 (k0_t14 : Fin k0_t14_loop.trips) : Fin 4 → Nat :=
  let c0_669 : Index := 0#32
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_663 : BitVec 32 := 0#32
  let v1408 : BitVec 1 := Scalar.cmpi .sgt v1038 c0_i32_663
  let v1409 : BitVec 32 := Scalar.extui v1408
  let c0_i32_664 : BitVec 32 := 0#32
  let v1410 : BitVec 1 := Scalar.cmpi .slt v1038 c0_i32_664
  let v1411 : BitVec 32 := Scalar.extui v1410
  let v1412 : BitVec 32 := Scalar.subi v1409 v1411
  let c4_i32_662 : BitVec 32 := 4#32
  let c0_i32_665 : BitVec 32 := 0#32
  let v1413 : BitVec 1 := Scalar.cmpi .sgt c4_i32_662 c0_i32_665
  let v1414 : BitVec 32 := Scalar.extui v1413
  let c0_i32_666 : BitVec 32 := 0#32
  let v1415 : BitVec 1 := Scalar.cmpi .slt c4_i32_662 c0_i32_666
  let v1416 : BitVec 32 := Scalar.extui v1415
  let v1417 : BitVec 32 := Scalar.subi v1414 v1416
  let v1418 : BitVec 1 := Scalar.cmpi .ne v1412 v1417
  let v1419 : BitVec 32 := Scalar.remsi v1038 c4_i32_662
  let c0_i32_667 : BitVec 32 := 0#32
  let v1420 : BitVec 1 := Scalar.cmpi .ne v1419 c0_i32_667
  let v1421 : BitVec 1 := Scalar.andi v1418 v1420
  let v1407 : BitVec 32 := Scalar.divsi v1038 c4_i32_662
  let c1_i32_668 : BitVec 32 := 1#32
  let v1422 : BitVec 32 := Scalar.subi v1407 c1_i32_668
  let v1423 : BitVec 32 := Scalar.select v1421 v1422 v1407
  let v1424 : Index := Scalar.indexCast v1423
  let c1536_670 : Index := 1536#32
  let c0_671 : Index := 0#32
  ![0, v1424.toNat, 1536, 0]
def k0_off156 (k0_t14 : Fin k0_t14_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_663 : BitVec 32 := 0#32
  let v1408 : BitVec 1 := Scalar.cmpi .sgt v1038 c0_i32_663
  let v1409 : BitVec 32 := Scalar.extui v1408
  let c0_i32_664 : BitVec 32 := 0#32
  let v1410 : BitVec 1 := Scalar.cmpi .slt v1038 c0_i32_664
  let v1411 : BitVec 32 := Scalar.extui v1410
  let v1412 : BitVec 32 := Scalar.subi v1409 v1411
  let c4_i32_662 : BitVec 32 := 4#32
  let c0_i32_665 : BitVec 32 := 0#32
  let v1413 : BitVec 1 := Scalar.cmpi .sgt c4_i32_662 c0_i32_665
  let v1414 : BitVec 32 := Scalar.extui v1413
  let c0_i32_666 : BitVec 32 := 0#32
  let v1415 : BitVec 1 := Scalar.cmpi .slt c4_i32_662 c0_i32_666
  let v1416 : BitVec 32 := Scalar.extui v1415
  let v1417 : BitVec 32 := Scalar.subi v1414 v1416
  let v1418 : BitVec 1 := Scalar.cmpi .ne v1412 v1417
  let v1419 : BitVec 32 := Scalar.remsi v1038 c4_i32_662
  let c0_i32_667 : BitVec 32 := 0#32
  let v1420 : BitVec 1 := Scalar.cmpi .ne v1419 c0_i32_667
  let v1421 : BitVec 1 := Scalar.andi v1418 v1420
  let v1407 : BitVec 32 := Scalar.divsi v1038 c4_i32_662
  let c1_i32_668 : BitVec 32 := 1#32
  let v1422 : BitVec 32 := Scalar.subi v1407 c1_i32_668
  let v1423 : BitVec 32 := Scalar.select v1421 v1422 v1407
  let v1431 : Index := Scalar.indexCast v1423
  let c1536_675 : Index := 1536#32
  let c0_676 : Index := 0#32
  ![v1431.toNat, 1536, 0]
def k0_off157 (k0_t14 : Fin k0_t14_loop.trips) : Fin 4 → Nat :=
  let c0_683 : Index := 0#32
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1451 : Index := Scalar.indexCast v1061
  let c0_684 : Index := 0#32
  let c1792_685 : Index := 1792#32
  ![0, v1451.toNat, 0, 1792]
def k0_off158 (k0_t14 : Fin k0_t14_loop.trips) : Fin 4 → Nat :=
  let c0_696 : Index := 0#32
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_690 : BitVec 32 := 0#32
  let v1462 : BitVec 1 := Scalar.cmpi .sgt v1038 c0_i32_690
  let v1463 : BitVec 32 := Scalar.extui v1462
  let c0_i32_691 : BitVec 32 := 0#32
  let v1464 : BitVec 1 := Scalar.cmpi .slt v1038 c0_i32_691
  let v1465 : BitVec 32 := Scalar.extui v1464
  let v1466 : BitVec 32 := Scalar.subi v1463 v1465
  let c4_i32_689 : BitVec 32 := 4#32
  let c0_i32_692 : BitVec 32 := 0#32
  let v1467 : BitVec 1 := Scalar.cmpi .sgt c4_i32_689 c0_i32_692
  let v1468 : BitVec 32 := Scalar.extui v1467
  let c0_i32_693 : BitVec 32 := 0#32
  let v1469 : BitVec 1 := Scalar.cmpi .slt c4_i32_689 c0_i32_693
  let v1470 : BitVec 32 := Scalar.extui v1469
  let v1471 : BitVec 32 := Scalar.subi v1468 v1470
  let v1472 : BitVec 1 := Scalar.cmpi .ne v1466 v1471
  let v1473 : BitVec 32 := Scalar.remsi v1038 c4_i32_689
  let c0_i32_694 : BitVec 32 := 0#32
  let v1474 : BitVec 1 := Scalar.cmpi .ne v1473 c0_i32_694
  let v1475 : BitVec 1 := Scalar.andi v1472 v1474
  let v1461 : BitVec 32 := Scalar.divsi v1038 c4_i32_689
  let c1_i32_695 : BitVec 32 := 1#32
  let v1476 : BitVec 32 := Scalar.subi v1461 c1_i32_695
  let v1477 : BitVec 32 := Scalar.select v1475 v1476 v1461
  let v1478 : Index := Scalar.indexCast v1477
  let c1792_697 : Index := 1792#32
  let c0_698 : Index := 0#32
  ![0, v1478.toNat, 1792, 0]
def k0_off159 (k0_t14 : Fin k0_t14_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_690 : BitVec 32 := 0#32
  let v1462 : BitVec 1 := Scalar.cmpi .sgt v1038 c0_i32_690
  let v1463 : BitVec 32 := Scalar.extui v1462
  let c0_i32_691 : BitVec 32 := 0#32
  let v1464 : BitVec 1 := Scalar.cmpi .slt v1038 c0_i32_691
  let v1465 : BitVec 32 := Scalar.extui v1464
  let v1466 : BitVec 32 := Scalar.subi v1463 v1465
  let c4_i32_689 : BitVec 32 := 4#32
  let c0_i32_692 : BitVec 32 := 0#32
  let v1467 : BitVec 1 := Scalar.cmpi .sgt c4_i32_689 c0_i32_692
  let v1468 : BitVec 32 := Scalar.extui v1467
  let c0_i32_693 : BitVec 32 := 0#32
  let v1469 : BitVec 1 := Scalar.cmpi .slt c4_i32_689 c0_i32_693
  let v1470 : BitVec 32 := Scalar.extui v1469
  let v1471 : BitVec 32 := Scalar.subi v1468 v1470
  let v1472 : BitVec 1 := Scalar.cmpi .ne v1466 v1471
  let v1473 : BitVec 32 := Scalar.remsi v1038 c4_i32_689
  let c0_i32_694 : BitVec 32 := 0#32
  let v1474 : BitVec 1 := Scalar.cmpi .ne v1473 c0_i32_694
  let v1475 : BitVec 1 := Scalar.andi v1472 v1474
  let v1461 : BitVec 32 := Scalar.divsi v1038 c4_i32_689
  let c1_i32_695 : BitVec 32 := 1#32
  let v1476 : BitVec 32 := Scalar.subi v1461 c1_i32_695
  let v1477 : BitVec 32 := Scalar.select v1475 v1476 v1461
  let v1485 : Index := Scalar.indexCast v1477
  let c1792_702 : Index := 1792#32
  let c0_703 : Index := 0#32
  ![v1485.toNat, 1792, 0]
def k0_off160 (k0_t14 : Fin k0_t14_loop.trips) : Fin 3 → Nat :=
  let c0_713 : Index := 0#32
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1515 : Index := Scalar.indexCast v1061
  let c0_714 : Index := 0#32
  ![0, v1515.toNat, 0]
def k0_mult15 (k0_t14 : Fin k0_t14_loop.trips) : BitVec 32 :=
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c128_i32 : BitVec 32 := 128#32
  let v1521 : BitVec 32 := Scalar.muli v1036 c128_i32
  v1521
def k0_off161 (k0_t14 : Fin k0_t14_loop.trips) : Fin 3 → Nat :=
  let c0_715 : Index := 0#32
  let c0_716 : Index := 0#32
  let c0_i32_475 : BitVec 32 := 0#32
  let c0_i32_471 : BitVec 32 := 0#32
  let c1_i32_472 : BitVec 32 := 1#32
  let arg17 : BitVec 32 := Scf.iv c0_i32_471 c1_i32_472 k0_t14
  let c1_i32_474 : BitVec 32 := 1#32
  let v1035 : BitVec 32 := Scalar.muli arg17 c1_i32_474
  let v1036 : BitVec 32 := Scalar.addi c0_i32_475 v1035
  let c128_i32 : BitVec 32 := 128#32
  let v1521 : BitVec 32 := Scalar.muli v1036 c128_i32
  let v1522 : BitVec 32 := v1521
  let v1523 : Index := Scalar.indexCast v1522
  ![0, 0, v1523.toNat]
def k0_cond10 (i : grid0.Coords) : BitVec 1 :=
  let arg1 : BitVec 32 := BitVec.ofNat 32 (i 1).val
  let c8_i32_433 : BitVec 32 := 8#32
  let v981 : BitVec 1 := Scalar.cmpi .eq arg1 c8_i32_433
  let v982 : BitVec 32 := Scalar.extui v981
  let c0_i32_434 : BitVec 32 := 0#32
  let v983 : BitVec 1 := Scalar.cmpi .ne v982 c0_i32_434
  v983

@[reducible] def k0_t15_loop : Scf.Loop 32 :=
  let c0_i32_449 : BitVec 32 := 0#32
  let c8_i32_450 : BitVec 32 := 8#32
  let v1005 : BitVec 32 := Scalar.addi c0_i32_449 c8_i32_450
  let c1_i32_451 : BitVec 32 := 1#32
  ⟨c0_i32_449, v1005, c1_i32_451⟩
def k0_mult16 (k0_t15 : Fin k0_t15_loop.trips) : BitVec 32 :=
  let c0_i32_449 : BitVec 32 := 0#32
  let c1_i32_451 : BitVec 32 := 1#32
  let arg17 : BitVec 32 := Scf.iv c0_i32_449 c1_i32_451 k0_t15
  let c256_i32 : BitVec 32 := 256#32
  let v1035 : BitVec 32 := Scalar.muli arg17 c256_i32
  v1035
def k0_off162 (k0_t15 : Fin k0_t15_loop.trips) : Fin 4 → Nat :=
  let c0_474 : Index := 0#32
  let c0_475 : Index := 0#32
  let c0_i32_449 : BitVec 32 := 0#32
  let c1_i32_451 : BitVec 32 := 1#32
  let arg17 : BitVec 32 := Scf.iv c0_i32_449 c1_i32_451 k0_t15
  let c256_i32 : BitVec 32 := 256#32
  let v1035 : BitVec 32 := Scalar.muli arg17 c256_i32
  let v1036 : BitVec 32 := v1035
  let v1037 : Index := Scalar.indexCast v1036
  let c0_476 : Index := 0#32
  ![0, 0, v1037.toNat, 0]
def k0_off163 (k0_t15 : Fin k0_t15_loop.trips) : Fin 3 → Nat :=
  let c0_481 : Index := 0#32
  let c0_i32_449 : BitVec 32 := 0#32
  let c1_i32_451 : BitVec 32 := 1#32
  let arg17 : BitVec 32 := Scf.iv c0_i32_449 c1_i32_451 k0_t15
  let c256_i32 : BitVec 32 := 256#32
  let v1035 : BitVec 32 := Scalar.muli arg17 c256_i32
  let v1036 : BitVec 32 := v1035
  let v1043 : Index := Scalar.indexCast v1036
  let c0_482 : Index := 0#32
  ![0, v1043.toNat, 0]
def k0_off164 (k0_t15 : Fin k0_t15_loop.trips) : Fin 2 → Nat :=
  let c0_i32_449 : BitVec 32 := 0#32
  let c1_i32_451 : BitVec 32 := 1#32
  let arg17 : BitVec 32 := Scf.iv c0_i32_449 c1_i32_451 k0_t15
  let c256_i32 : BitVec 32 := 256#32
  let v1035 : BitVec 32 := Scalar.muli arg17 c256_i32
  let v1036 : BitVec 32 := v1035
  let v1048 : Index := Scalar.indexCast v1036
  let c0_483 : Index := 0#32
  ![v1048.toNat, 0]
@[reducible] def k0_t16_loop : Scf.Loop 32 :=
  let c0_i32_471 : BitVec 32 := 0#32
  let c32_i32 : BitVec 32 := 32#32
  let v1034 : BitVec 32 := Scalar.addi c0_i32_471 c32_i32
  let c1_i32_472 : BitVec 32 := 1#32
  ⟨c0_i32_471, v1034, c1_i32_472⟩
def k0_off165 (k0_t16 : Fin k0_t16_loop.trips) : Fin 2 → Nat :=
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let v1039 : Index := Scalar.indexCast v1036
  let c0_478 : Index := 0#32
  ![v1039.toNat, 0]
def k0_off166 (k0_t16 : Fin k0_t16_loop.trips) : Fin 4 → Nat :=
  let c0_494 : Index := 0#32
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1073 : Index := Scalar.indexCast v1061
  let c0_495 : Index := 0#32
  let c0_496 : Index := 0#32
  ![0, v1073.toNat, 0, 0]
def k0_off167 (k0_t16 : Fin k0_t16_loop.trips) : Fin 4 → Nat :=
  let c0_507 : Index := 0#32
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1100 : Index := Scalar.indexCast v1099
  let c0_508 : Index := 0#32
  let c0_509 : Index := 0#32
  ![0, v1100.toNat, 0, 0]
def k0_off168 (k0_t16 : Fin k0_t16_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let v1103 : Index := Scalar.indexCast v1038
  let c0_510 : Index := 0#32
  let c0_511 : Index := 0#32
  ![v1103.toNat, 0, 0]
def k0_off169 (k0_t16 : Fin k0_t16_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1107 : Index := Scalar.indexCast v1099
  let c0_513 : Index := 0#32
  let c0_514 : Index := 0#32
  ![v1107.toNat, 0, 0]
def k0_off170 (k0_t16 : Fin k0_t16_loop.trips) : Fin 4 → Nat :=
  let c0_521 : Index := 0#32
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1127 : Index := Scalar.indexCast v1061
  let c0_522 : Index := 0#32
  let c256_523 : Index := 256#32
  ![0, v1127.toNat, 0, 256]
def k0_off171 (k0_t16 : Fin k0_t16_loop.trips) : Fin 4 → Nat :=
  let c0_534 : Index := 0#32
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1154 : Index := Scalar.indexCast v1153
  let c256_535 : Index := 256#32
  let c0_536 : Index := 0#32
  ![0, v1154.toNat, 256, 0]
def k0_off172 (k0_t16 : Fin k0_t16_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1161 : Index := Scalar.indexCast v1153
  let c256_540 : Index := 256#32
  let c0_541 : Index := 0#32
  ![v1161.toNat, 256, 0]
def k0_off173 (k0_t16 : Fin k0_t16_loop.trips) : Fin 4 → Nat :=
  let c0_548 : Index := 0#32
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1181 : Index := Scalar.indexCast v1061
  let c0_549 : Index := 0#32
  let c512_550 : Index := 512#32
  ![0, v1181.toNat, 0, 512]
def k0_off174 (k0_t16 : Fin k0_t16_loop.trips) : Fin 4 → Nat :=
  let c0_561 : Index := 0#32
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1208 : Index := Scalar.indexCast v1207
  let c512_562 : Index := 512#32
  let c0_563 : Index := 0#32
  ![0, v1208.toNat, 512, 0]
def k0_off175 (k0_t16 : Fin k0_t16_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1215 : Index := Scalar.indexCast v1207
  let c512_567 : Index := 512#32
  let c0_568 : Index := 0#32
  ![v1215.toNat, 512, 0]
def k0_off176 (k0_t16 : Fin k0_t16_loop.trips) : Fin 4 → Nat :=
  let c0_575 : Index := 0#32
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1235 : Index := Scalar.indexCast v1061
  let c0_576 : Index := 0#32
  let c768_577 : Index := 768#32
  ![0, v1235.toNat, 0, 768]
def k0_off177 (k0_t16 : Fin k0_t16_loop.trips) : Fin 4 → Nat :=
  let c0_588 : Index := 0#32
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1262 : Index := Scalar.indexCast v1261
  let c768_589 : Index := 768#32
  let c0_590 : Index := 0#32
  ![0, v1262.toNat, 768, 0]
def k0_off178 (k0_t16 : Fin k0_t16_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1269 : Index := Scalar.indexCast v1261
  let c768_594 : Index := 768#32
  let c0_595 : Index := 0#32
  ![v1269.toNat, 768, 0]
def k0_off179 (k0_t16 : Fin k0_t16_loop.trips) : Fin 4 → Nat :=
  let c0_602 : Index := 0#32
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1289 : Index := Scalar.indexCast v1061
  let c0_603 : Index := 0#32
  let c1024_604 : Index := 1024#32
  ![0, v1289.toNat, 0, 1024]
def k0_off180 (k0_t16 : Fin k0_t16_loop.trips) : Fin 4 → Nat :=
  let c0_615 : Index := 0#32
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1316 : Index := Scalar.indexCast v1315
  let c1024_616 : Index := 1024#32
  let c0_617 : Index := 0#32
  ![0, v1316.toNat, 1024, 0]
def k0_off181 (k0_t16 : Fin k0_t16_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1323 : Index := Scalar.indexCast v1315
  let c1024_621 : Index := 1024#32
  let c0_622 : Index := 0#32
  ![v1323.toNat, 1024, 0]
def k0_off182 (k0_t16 : Fin k0_t16_loop.trips) : Fin 4 → Nat :=
  let c0_629 : Index := 0#32
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1343 : Index := Scalar.indexCast v1061
  let c0_630 : Index := 0#32
  let c1280_631 : Index := 1280#32
  ![0, v1343.toNat, 0, 1280]
def k0_off183 (k0_t16 : Fin k0_t16_loop.trips) : Fin 4 → Nat :=
  let c0_642 : Index := 0#32
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1370 : Index := Scalar.indexCast v1369
  let c1280_643 : Index := 1280#32
  let c0_644 : Index := 0#32
  ![0, v1370.toNat, 1280, 0]
def k0_off184 (k0_t16 : Fin k0_t16_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1377 : Index := Scalar.indexCast v1369
  let c1280_648 : Index := 1280#32
  let c0_649 : Index := 0#32
  ![v1377.toNat, 1280, 0]
def k0_off185 (k0_t16 : Fin k0_t16_loop.trips) : Fin 4 → Nat :=
  let c0_656 : Index := 0#32
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1397 : Index := Scalar.indexCast v1061
  let c0_657 : Index := 0#32
  let c1536_658 : Index := 1536#32
  ![0, v1397.toNat, 0, 1536]
def k0_off186 (k0_t16 : Fin k0_t16_loop.trips) : Fin 4 → Nat :=
  let c0_669 : Index := 0#32
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_663 : BitVec 32 := 0#32
  let v1408 : BitVec 1 := Scalar.cmpi .sgt v1038 c0_i32_663
  let v1409 : BitVec 32 := Scalar.extui v1408
  let c0_i32_664 : BitVec 32 := 0#32
  let v1410 : BitVec 1 := Scalar.cmpi .slt v1038 c0_i32_664
  let v1411 : BitVec 32 := Scalar.extui v1410
  let v1412 : BitVec 32 := Scalar.subi v1409 v1411
  let c4_i32_662 : BitVec 32 := 4#32
  let c0_i32_665 : BitVec 32 := 0#32
  let v1413 : BitVec 1 := Scalar.cmpi .sgt c4_i32_662 c0_i32_665
  let v1414 : BitVec 32 := Scalar.extui v1413
  let c0_i32_666 : BitVec 32 := 0#32
  let v1415 : BitVec 1 := Scalar.cmpi .slt c4_i32_662 c0_i32_666
  let v1416 : BitVec 32 := Scalar.extui v1415
  let v1417 : BitVec 32 := Scalar.subi v1414 v1416
  let v1418 : BitVec 1 := Scalar.cmpi .ne v1412 v1417
  let v1419 : BitVec 32 := Scalar.remsi v1038 c4_i32_662
  let c0_i32_667 : BitVec 32 := 0#32
  let v1420 : BitVec 1 := Scalar.cmpi .ne v1419 c0_i32_667
  let v1421 : BitVec 1 := Scalar.andi v1418 v1420
  let v1407 : BitVec 32 := Scalar.divsi v1038 c4_i32_662
  let c1_i32_668 : BitVec 32 := 1#32
  let v1422 : BitVec 32 := Scalar.subi v1407 c1_i32_668
  let v1423 : BitVec 32 := Scalar.select v1421 v1422 v1407
  let v1424 : Index := Scalar.indexCast v1423
  let c1536_670 : Index := 1536#32
  let c0_671 : Index := 0#32
  ![0, v1424.toNat, 1536, 0]
def k0_off187 (k0_t16 : Fin k0_t16_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_663 : BitVec 32 := 0#32
  let v1408 : BitVec 1 := Scalar.cmpi .sgt v1038 c0_i32_663
  let v1409 : BitVec 32 := Scalar.extui v1408
  let c0_i32_664 : BitVec 32 := 0#32
  let v1410 : BitVec 1 := Scalar.cmpi .slt v1038 c0_i32_664
  let v1411 : BitVec 32 := Scalar.extui v1410
  let v1412 : BitVec 32 := Scalar.subi v1409 v1411
  let c4_i32_662 : BitVec 32 := 4#32
  let c0_i32_665 : BitVec 32 := 0#32
  let v1413 : BitVec 1 := Scalar.cmpi .sgt c4_i32_662 c0_i32_665
  let v1414 : BitVec 32 := Scalar.extui v1413
  let c0_i32_666 : BitVec 32 := 0#32
  let v1415 : BitVec 1 := Scalar.cmpi .slt c4_i32_662 c0_i32_666
  let v1416 : BitVec 32 := Scalar.extui v1415
  let v1417 : BitVec 32 := Scalar.subi v1414 v1416
  let v1418 : BitVec 1 := Scalar.cmpi .ne v1412 v1417
  let v1419 : BitVec 32 := Scalar.remsi v1038 c4_i32_662
  let c0_i32_667 : BitVec 32 := 0#32
  let v1420 : BitVec 1 := Scalar.cmpi .ne v1419 c0_i32_667
  let v1421 : BitVec 1 := Scalar.andi v1418 v1420
  let v1407 : BitVec 32 := Scalar.divsi v1038 c4_i32_662
  let c1_i32_668 : BitVec 32 := 1#32
  let v1422 : BitVec 32 := Scalar.subi v1407 c1_i32_668
  let v1423 : BitVec 32 := Scalar.select v1421 v1422 v1407
  let v1431 : Index := Scalar.indexCast v1423
  let c1536_675 : Index := 1536#32
  let c0_676 : Index := 0#32
  ![v1431.toNat, 1536, 0]
def k0_off188 (k0_t16 : Fin k0_t16_loop.trips) : Fin 4 → Nat :=
  let c0_683 : Index := 0#32
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1451 : Index := Scalar.indexCast v1061
  let c0_684 : Index := 0#32
  let c1792_685 : Index := 1792#32
  ![0, v1451.toNat, 0, 1792]
def k0_off189 (k0_t16 : Fin k0_t16_loop.trips) : Fin 4 → Nat :=
  let c0_696 : Index := 0#32
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_690 : BitVec 32 := 0#32
  let v1462 : BitVec 1 := Scalar.cmpi .sgt v1038 c0_i32_690
  let v1463 : BitVec 32 := Scalar.extui v1462
  let c0_i32_691 : BitVec 32 := 0#32
  let v1464 : BitVec 1 := Scalar.cmpi .slt v1038 c0_i32_691
  let v1465 : BitVec 32 := Scalar.extui v1464
  let v1466 : BitVec 32 := Scalar.subi v1463 v1465
  let c4_i32_689 : BitVec 32 := 4#32
  let c0_i32_692 : BitVec 32 := 0#32
  let v1467 : BitVec 1 := Scalar.cmpi .sgt c4_i32_689 c0_i32_692
  let v1468 : BitVec 32 := Scalar.extui v1467
  let c0_i32_693 : BitVec 32 := 0#32
  let v1469 : BitVec 1 := Scalar.cmpi .slt c4_i32_689 c0_i32_693
  let v1470 : BitVec 32 := Scalar.extui v1469
  let v1471 : BitVec 32 := Scalar.subi v1468 v1470
  let v1472 : BitVec 1 := Scalar.cmpi .ne v1466 v1471
  let v1473 : BitVec 32 := Scalar.remsi v1038 c4_i32_689
  let c0_i32_694 : BitVec 32 := 0#32
  let v1474 : BitVec 1 := Scalar.cmpi .ne v1473 c0_i32_694
  let v1475 : BitVec 1 := Scalar.andi v1472 v1474
  let v1461 : BitVec 32 := Scalar.divsi v1038 c4_i32_689
  let c1_i32_695 : BitVec 32 := 1#32
  let v1476 : BitVec 32 := Scalar.subi v1461 c1_i32_695
  let v1477 : BitVec 32 := Scalar.select v1475 v1476 v1461
  let v1478 : Index := Scalar.indexCast v1477
  let c1792_697 : Index := 1792#32
  let c0_698 : Index := 0#32
  ![0, v1478.toNat, 1792, 0]
def k0_off190 (k0_t16 : Fin k0_t16_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_690 : BitVec 32 := 0#32
  let v1462 : BitVec 1 := Scalar.cmpi .sgt v1038 c0_i32_690
  let v1463 : BitVec 32 := Scalar.extui v1462
  let c0_i32_691 : BitVec 32 := 0#32
  let v1464 : BitVec 1 := Scalar.cmpi .slt v1038 c0_i32_691
  let v1465 : BitVec 32 := Scalar.extui v1464
  let v1466 : BitVec 32 := Scalar.subi v1463 v1465
  let c4_i32_689 : BitVec 32 := 4#32
  let c0_i32_692 : BitVec 32 := 0#32
  let v1467 : BitVec 1 := Scalar.cmpi .sgt c4_i32_689 c0_i32_692
  let v1468 : BitVec 32 := Scalar.extui v1467
  let c0_i32_693 : BitVec 32 := 0#32
  let v1469 : BitVec 1 := Scalar.cmpi .slt c4_i32_689 c0_i32_693
  let v1470 : BitVec 32 := Scalar.extui v1469
  let v1471 : BitVec 32 := Scalar.subi v1468 v1470
  let v1472 : BitVec 1 := Scalar.cmpi .ne v1466 v1471
  let v1473 : BitVec 32 := Scalar.remsi v1038 c4_i32_689
  let c0_i32_694 : BitVec 32 := 0#32
  let v1474 : BitVec 1 := Scalar.cmpi .ne v1473 c0_i32_694
  let v1475 : BitVec 1 := Scalar.andi v1472 v1474
  let v1461 : BitVec 32 := Scalar.divsi v1038 c4_i32_689
  let c1_i32_695 : BitVec 32 := 1#32
  let v1476 : BitVec 32 := Scalar.subi v1461 c1_i32_695
  let v1477 : BitVec 32 := Scalar.select v1475 v1476 v1461
  let v1485 : Index := Scalar.indexCast v1477
  let c1792_702 : Index := 1792#32
  let c0_703 : Index := 0#32
  ![v1485.toNat, 1792, 0]
def k0_off191 (k0_t16 : Fin k0_t16_loop.trips) : Fin 4 → Nat :=
  let c0_710 : Index := 0#32
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1505 : Index := Scalar.indexCast v1061
  let c0_711 : Index := 0#32
  let c2048_712 : Index := 2048#32
  ![0, v1505.toNat, 0, 2048]
def k0_off192 (k0_t16 : Fin k0_t16_loop.trips) : Fin 4 → Nat :=
  let c0_723 : Index := 0#32
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_717 : BitVec 32 := 0#32
  let v1516 : BitVec 1 := Scalar.cmpi .sgt v1038 c0_i32_717
  let v1517 : BitVec 32 := Scalar.extui v1516
  let c0_i32_718 : BitVec 32 := 0#32
  let v1518 : BitVec 1 := Scalar.cmpi .slt v1038 c0_i32_718
  let v1519 : BitVec 32 := Scalar.extui v1518
  let v1520 : BitVec 32 := Scalar.subi v1517 v1519
  let c4_i32_716 : BitVec 32 := 4#32
  let c0_i32_719 : BitVec 32 := 0#32
  let v1521 : BitVec 1 := Scalar.cmpi .sgt c4_i32_716 c0_i32_719
  let v1522 : BitVec 32 := Scalar.extui v1521
  let c0_i32_720 : BitVec 32 := 0#32
  let v1523 : BitVec 1 := Scalar.cmpi .slt c4_i32_716 c0_i32_720
  let v1524 : BitVec 32 := Scalar.extui v1523
  let v1525 : BitVec 32 := Scalar.subi v1522 v1524
  let v1526 : BitVec 1 := Scalar.cmpi .ne v1520 v1525
  let v1527 : BitVec 32 := Scalar.remsi v1038 c4_i32_716
  let c0_i32_721 : BitVec 32 := 0#32
  let v1528 : BitVec 1 := Scalar.cmpi .ne v1527 c0_i32_721
  let v1529 : BitVec 1 := Scalar.andi v1526 v1528
  let v1515 : BitVec 32 := Scalar.divsi v1038 c4_i32_716
  let c1_i32_722 : BitVec 32 := 1#32
  let v1530 : BitVec 32 := Scalar.subi v1515 c1_i32_722
  let v1531 : BitVec 32 := Scalar.select v1529 v1530 v1515
  let v1532 : Index := Scalar.indexCast v1531
  let c2048_724 : Index := 2048#32
  let c0_725 : Index := 0#32
  ![0, v1532.toNat, 2048, 0]
def k0_off193 (k0_t16 : Fin k0_t16_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_717 : BitVec 32 := 0#32
  let v1516 : BitVec 1 := Scalar.cmpi .sgt v1038 c0_i32_717
  let v1517 : BitVec 32 := Scalar.extui v1516
  let c0_i32_718 : BitVec 32 := 0#32
  let v1518 : BitVec 1 := Scalar.cmpi .slt v1038 c0_i32_718
  let v1519 : BitVec 32 := Scalar.extui v1518
  let v1520 : BitVec 32 := Scalar.subi v1517 v1519
  let c4_i32_716 : BitVec 32 := 4#32
  let c0_i32_719 : BitVec 32 := 0#32
  let v1521 : BitVec 1 := Scalar.cmpi .sgt c4_i32_716 c0_i32_719
  let v1522 : BitVec 32 := Scalar.extui v1521
  let c0_i32_720 : BitVec 32 := 0#32
  let v1523 : BitVec 1 := Scalar.cmpi .slt c4_i32_716 c0_i32_720
  let v1524 : BitVec 32 := Scalar.extui v1523
  let v1525 : BitVec 32 := Scalar.subi v1522 v1524
  let v1526 : BitVec 1 := Scalar.cmpi .ne v1520 v1525
  let v1527 : BitVec 32 := Scalar.remsi v1038 c4_i32_716
  let c0_i32_721 : BitVec 32 := 0#32
  let v1528 : BitVec 1 := Scalar.cmpi .ne v1527 c0_i32_721
  let v1529 : BitVec 1 := Scalar.andi v1526 v1528
  let v1515 : BitVec 32 := Scalar.divsi v1038 c4_i32_716
  let c1_i32_722 : BitVec 32 := 1#32
  let v1530 : BitVec 32 := Scalar.subi v1515 c1_i32_722
  let v1531 : BitVec 32 := Scalar.select v1529 v1530 v1515
  let v1539 : Index := Scalar.indexCast v1531
  let c2048_729 : Index := 2048#32
  let c0_730 : Index := 0#32
  ![v1539.toNat, 2048, 0]
def k0_off194 (k0_t16 : Fin k0_t16_loop.trips) : Fin 3 → Nat :=
  let c0_740 : Index := 0#32
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1569 : Index := Scalar.indexCast v1061
  let c0_741 : Index := 0#32
  ![0, v1569.toNat, 0]
def k0_mult17 (k0_t16 : Fin k0_t16_loop.trips) : BitVec 32 :=
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c128_i32 : BitVec 32 := 128#32
  let v1575 : BitVec 32 := Scalar.muli v1036 c128_i32
  v1575
def k0_off195 (k0_t16 : Fin k0_t16_loop.trips) : Fin 3 → Nat :=
  let c0_742 : Index := 0#32
  let c0_743 : Index := 0#32
  let c0_i32_475 : BitVec 32 := 0#32
  let c0_i32_471 : BitVec 32 := 0#32
  let c1_i32_472 : BitVec 32 := 1#32
  let arg17 : BitVec 32 := Scf.iv c0_i32_471 c1_i32_472 k0_t16
  let c1_i32_474 : BitVec 32 := 1#32
  let v1035 : BitVec 32 := Scalar.muli arg17 c1_i32_474
  let v1036 : BitVec 32 := Scalar.addi c0_i32_475 v1035
  let c128_i32 : BitVec 32 := 128#32
  let v1575 : BitVec 32 := Scalar.muli v1036 c128_i32
  let v1576 : BitVec 32 := v1575
  let v1577 : Index := Scalar.indexCast v1576
  ![0, 0, v1577.toNat]
def k0_cond11 (i : grid0.Coords) : BitVec 1 :=
  let arg1 : BitVec 32 := BitVec.ofNat 32 (i 1).val
  let c9_i32_435 : BitVec 32 := 9#32
  let v984 : BitVec 1 := Scalar.cmpi .eq arg1 c9_i32_435
  let v985 : BitVec 32 := Scalar.extui v984
  let c0_i32_436 : BitVec 32 := 0#32
  let v986 : BitVec 1 := Scalar.cmpi .ne v985 c0_i32_436
  v986

@[reducible] def k0_t17_loop : Scf.Loop 32 :=
  let c0_i32_449 : BitVec 32 := 0#32
  let c9_i32_450 : BitVec 32 := 9#32
  let v1005 : BitVec 32 := Scalar.addi c0_i32_449 c9_i32_450
  let c1_i32_451 : BitVec 32 := 1#32
  ⟨c0_i32_449, v1005, c1_i32_451⟩
def k0_mult18 (k0_t17 : Fin k0_t17_loop.trips) : BitVec 32 :=
  let c0_i32_449 : BitVec 32 := 0#32
  let c1_i32_451 : BitVec 32 := 1#32
  let arg17 : BitVec 32 := Scf.iv c0_i32_449 c1_i32_451 k0_t17
  let c256_i32 : BitVec 32 := 256#32
  let v1035 : BitVec 32 := Scalar.muli arg17 c256_i32
  v1035
def k0_off196 (k0_t17 : Fin k0_t17_loop.trips) : Fin 4 → Nat :=
  let c0_474 : Index := 0#32
  let c0_475 : Index := 0#32
  let c0_i32_449 : BitVec 32 := 0#32
  let c1_i32_451 : BitVec 32 := 1#32
  let arg17 : BitVec 32 := Scf.iv c0_i32_449 c1_i32_451 k0_t17
  let c256_i32 : BitVec 32 := 256#32
  let v1035 : BitVec 32 := Scalar.muli arg17 c256_i32
  let v1036 : BitVec 32 := v1035
  let v1037 : Index := Scalar.indexCast v1036
  let c0_476 : Index := 0#32
  ![0, 0, v1037.toNat, 0]
def k0_off197 (k0_t17 : Fin k0_t17_loop.trips) : Fin 3 → Nat :=
  let c0_481 : Index := 0#32
  let c0_i32_449 : BitVec 32 := 0#32
  let c1_i32_451 : BitVec 32 := 1#32
  let arg17 : BitVec 32 := Scf.iv c0_i32_449 c1_i32_451 k0_t17
  let c256_i32 : BitVec 32 := 256#32
  let v1035 : BitVec 32 := Scalar.muli arg17 c256_i32
  let v1036 : BitVec 32 := v1035
  let v1043 : Index := Scalar.indexCast v1036
  let c0_482 : Index := 0#32
  ![0, v1043.toNat, 0]
def k0_off198 (k0_t17 : Fin k0_t17_loop.trips) : Fin 2 → Nat :=
  let c0_i32_449 : BitVec 32 := 0#32
  let c1_i32_451 : BitVec 32 := 1#32
  let arg17 : BitVec 32 := Scf.iv c0_i32_449 c1_i32_451 k0_t17
  let c256_i32 : BitVec 32 := 256#32
  let v1035 : BitVec 32 := Scalar.muli arg17 c256_i32
  let v1036 : BitVec 32 := v1035
  let v1048 : Index := Scalar.indexCast v1036
  let c0_483 : Index := 0#32
  ![v1048.toNat, 0]
@[reducible] def k0_t18_loop : Scf.Loop 32 :=
  let c0_i32_471 : BitVec 32 := 0#32
  let c32_i32 : BitVec 32 := 32#32
  let v1034 : BitVec 32 := Scalar.addi c0_i32_471 c32_i32
  let c1_i32_472 : BitVec 32 := 1#32
  ⟨c0_i32_471, v1034, c1_i32_472⟩
def k0_off199 (k0_t18 : Fin k0_t18_loop.trips) : Fin 2 → Nat :=
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let v1039 : Index := Scalar.indexCast v1036
  let c0_478 : Index := 0#32
  ![v1039.toNat, 0]
def k0_off200 (k0_t18 : Fin k0_t18_loop.trips) : Fin 4 → Nat :=
  let c0_494 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1073 : Index := Scalar.indexCast v1061
  let c0_495 : Index := 0#32
  let c0_496 : Index := 0#32
  ![0, v1073.toNat, 0, 0]
def k0_off201 (k0_t18 : Fin k0_t18_loop.trips) : Fin 4 → Nat :=
  let c0_507 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1100 : Index := Scalar.indexCast v1099
  let c0_508 : Index := 0#32
  let c0_509 : Index := 0#32
  ![0, v1100.toNat, 0, 0]
def k0_off202 (k0_t18 : Fin k0_t18_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let v1103 : Index := Scalar.indexCast v1038
  let c0_510 : Index := 0#32
  let c0_511 : Index := 0#32
  ![v1103.toNat, 0, 0]
def k0_off203 (k0_t18 : Fin k0_t18_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1107 : Index := Scalar.indexCast v1099
  let c0_513 : Index := 0#32
  let c0_514 : Index := 0#32
  ![v1107.toNat, 0, 0]
def k0_off204 (k0_t18 : Fin k0_t18_loop.trips) : Fin 4 → Nat :=
  let c0_521 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1127 : Index := Scalar.indexCast v1061
  let c0_522 : Index := 0#32
  let c256_523 : Index := 256#32
  ![0, v1127.toNat, 0, 256]
def k0_off205 (k0_t18 : Fin k0_t18_loop.trips) : Fin 4 → Nat :=
  let c0_534 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1154 : Index := Scalar.indexCast v1153
  let c256_535 : Index := 256#32
  let c0_536 : Index := 0#32
  ![0, v1154.toNat, 256, 0]
def k0_off206 (k0_t18 : Fin k0_t18_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1161 : Index := Scalar.indexCast v1153
  let c256_540 : Index := 256#32
  let c0_541 : Index := 0#32
  ![v1161.toNat, 256, 0]
def k0_off207 (k0_t18 : Fin k0_t18_loop.trips) : Fin 4 → Nat :=
  let c0_548 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1181 : Index := Scalar.indexCast v1061
  let c0_549 : Index := 0#32
  let c512_550 : Index := 512#32
  ![0, v1181.toNat, 0, 512]
def k0_off208 (k0_t18 : Fin k0_t18_loop.trips) : Fin 4 → Nat :=
  let c0_561 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1208 : Index := Scalar.indexCast v1207
  let c512_562 : Index := 512#32
  let c0_563 : Index := 0#32
  ![0, v1208.toNat, 512, 0]
def k0_off209 (k0_t18 : Fin k0_t18_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1215 : Index := Scalar.indexCast v1207
  let c512_567 : Index := 512#32
  let c0_568 : Index := 0#32
  ![v1215.toNat, 512, 0]
def k0_off210 (k0_t18 : Fin k0_t18_loop.trips) : Fin 4 → Nat :=
  let c0_575 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1235 : Index := Scalar.indexCast v1061
  let c0_576 : Index := 0#32
  let c768_577 : Index := 768#32
  ![0, v1235.toNat, 0, 768]
def k0_off211 (k0_t18 : Fin k0_t18_loop.trips) : Fin 4 → Nat :=
  let c0_588 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1262 : Index := Scalar.indexCast v1261
  let c768_589 : Index := 768#32
  let c0_590 : Index := 0#32
  ![0, v1262.toNat, 768, 0]
def k0_off212 (k0_t18 : Fin k0_t18_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1269 : Index := Scalar.indexCast v1261
  let c768_594 : Index := 768#32
  let c0_595 : Index := 0#32
  ![v1269.toNat, 768, 0]
def k0_off213 (k0_t18 : Fin k0_t18_loop.trips) : Fin 4 → Nat :=
  let c0_602 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1289 : Index := Scalar.indexCast v1061
  let c0_603 : Index := 0#32
  let c1024_604 : Index := 1024#32
  ![0, v1289.toNat, 0, 1024]
def k0_off214 (k0_t18 : Fin k0_t18_loop.trips) : Fin 4 → Nat :=
  let c0_615 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1316 : Index := Scalar.indexCast v1315
  let c1024_616 : Index := 1024#32
  let c0_617 : Index := 0#32
  ![0, v1316.toNat, 1024, 0]
def k0_off215 (k0_t18 : Fin k0_t18_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1323 : Index := Scalar.indexCast v1315
  let c1024_621 : Index := 1024#32
  let c0_622 : Index := 0#32
  ![v1323.toNat, 1024, 0]
def k0_off216 (k0_t18 : Fin k0_t18_loop.trips) : Fin 4 → Nat :=
  let c0_629 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1343 : Index := Scalar.indexCast v1061
  let c0_630 : Index := 0#32
  let c1280_631 : Index := 1280#32
  ![0, v1343.toNat, 0, 1280]
def k0_off217 (k0_t18 : Fin k0_t18_loop.trips) : Fin 4 → Nat :=
  let c0_642 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1370 : Index := Scalar.indexCast v1369
  let c1280_643 : Index := 1280#32
  let c0_644 : Index := 0#32
  ![0, v1370.toNat, 1280, 0]
def k0_off218 (k0_t18 : Fin k0_t18_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1377 : Index := Scalar.indexCast v1369
  let c1280_648 : Index := 1280#32
  let c0_649 : Index := 0#32
  ![v1377.toNat, 1280, 0]
def k0_off219 (k0_t18 : Fin k0_t18_loop.trips) : Fin 4 → Nat :=
  let c0_656 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1397 : Index := Scalar.indexCast v1061
  let c0_657 : Index := 0#32
  let c1536_658 : Index := 1536#32
  ![0, v1397.toNat, 0, 1536]
def k0_off220 (k0_t18 : Fin k0_t18_loop.trips) : Fin 4 → Nat :=
  let c0_669 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_663 : BitVec 32 := 0#32
  let v1408 : BitVec 1 := Scalar.cmpi .sgt v1038 c0_i32_663
  let v1409 : BitVec 32 := Scalar.extui v1408
  let c0_i32_664 : BitVec 32 := 0#32
  let v1410 : BitVec 1 := Scalar.cmpi .slt v1038 c0_i32_664
  let v1411 : BitVec 32 := Scalar.extui v1410
  let v1412 : BitVec 32 := Scalar.subi v1409 v1411
  let c4_i32_662 : BitVec 32 := 4#32
  let c0_i32_665 : BitVec 32 := 0#32
  let v1413 : BitVec 1 := Scalar.cmpi .sgt c4_i32_662 c0_i32_665
  let v1414 : BitVec 32 := Scalar.extui v1413
  let c0_i32_666 : BitVec 32 := 0#32
  let v1415 : BitVec 1 := Scalar.cmpi .slt c4_i32_662 c0_i32_666
  let v1416 : BitVec 32 := Scalar.extui v1415
  let v1417 : BitVec 32 := Scalar.subi v1414 v1416
  let v1418 : BitVec 1 := Scalar.cmpi .ne v1412 v1417
  let v1419 : BitVec 32 := Scalar.remsi v1038 c4_i32_662
  let c0_i32_667 : BitVec 32 := 0#32
  let v1420 : BitVec 1 := Scalar.cmpi .ne v1419 c0_i32_667
  let v1421 : BitVec 1 := Scalar.andi v1418 v1420
  let v1407 : BitVec 32 := Scalar.divsi v1038 c4_i32_662
  let c1_i32_668 : BitVec 32 := 1#32
  let v1422 : BitVec 32 := Scalar.subi v1407 c1_i32_668
  let v1423 : BitVec 32 := Scalar.select v1421 v1422 v1407
  let v1424 : Index := Scalar.indexCast v1423
  let c1536_670 : Index := 1536#32
  let c0_671 : Index := 0#32
  ![0, v1424.toNat, 1536, 0]
def k0_off221 (k0_t18 : Fin k0_t18_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_663 : BitVec 32 := 0#32
  let v1408 : BitVec 1 := Scalar.cmpi .sgt v1038 c0_i32_663
  let v1409 : BitVec 32 := Scalar.extui v1408
  let c0_i32_664 : BitVec 32 := 0#32
  let v1410 : BitVec 1 := Scalar.cmpi .slt v1038 c0_i32_664
  let v1411 : BitVec 32 := Scalar.extui v1410
  let v1412 : BitVec 32 := Scalar.subi v1409 v1411
  let c4_i32_662 : BitVec 32 := 4#32
  let c0_i32_665 : BitVec 32 := 0#32
  let v1413 : BitVec 1 := Scalar.cmpi .sgt c4_i32_662 c0_i32_665
  let v1414 : BitVec 32 := Scalar.extui v1413
  let c0_i32_666 : BitVec 32 := 0#32
  let v1415 : BitVec 1 := Scalar.cmpi .slt c4_i32_662 c0_i32_666
  let v1416 : BitVec 32 := Scalar.extui v1415
  let v1417 : BitVec 32 := Scalar.subi v1414 v1416
  let v1418 : BitVec 1 := Scalar.cmpi .ne v1412 v1417
  let v1419 : BitVec 32 := Scalar.remsi v1038 c4_i32_662
  let c0_i32_667 : BitVec 32 := 0#32
  let v1420 : BitVec 1 := Scalar.cmpi .ne v1419 c0_i32_667
  let v1421 : BitVec 1 := Scalar.andi v1418 v1420
  let v1407 : BitVec 32 := Scalar.divsi v1038 c4_i32_662
  let c1_i32_668 : BitVec 32 := 1#32
  let v1422 : BitVec 32 := Scalar.subi v1407 c1_i32_668
  let v1423 : BitVec 32 := Scalar.select v1421 v1422 v1407
  let v1431 : Index := Scalar.indexCast v1423
  let c1536_675 : Index := 1536#32
  let c0_676 : Index := 0#32
  ![v1431.toNat, 1536, 0]
def k0_off222 (k0_t18 : Fin k0_t18_loop.trips) : Fin 4 → Nat :=
  let c0_683 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1451 : Index := Scalar.indexCast v1061
  let c0_684 : Index := 0#32
  let c1792_685 : Index := 1792#32
  ![0, v1451.toNat, 0, 1792]
def k0_off223 (k0_t18 : Fin k0_t18_loop.trips) : Fin 4 → Nat :=
  let c0_696 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_690 : BitVec 32 := 0#32
  let v1462 : BitVec 1 := Scalar.cmpi .sgt v1038 c0_i32_690
  let v1463 : BitVec 32 := Scalar.extui v1462
  let c0_i32_691 : BitVec 32 := 0#32
  let v1464 : BitVec 1 := Scalar.cmpi .slt v1038 c0_i32_691
  let v1465 : BitVec 32 := Scalar.extui v1464
  let v1466 : BitVec 32 := Scalar.subi v1463 v1465
  let c4_i32_689 : BitVec 32 := 4#32
  let c0_i32_692 : BitVec 32 := 0#32
  let v1467 : BitVec 1 := Scalar.cmpi .sgt c4_i32_689 c0_i32_692
  let v1468 : BitVec 32 := Scalar.extui v1467
  let c0_i32_693 : BitVec 32 := 0#32
  let v1469 : BitVec 1 := Scalar.cmpi .slt c4_i32_689 c0_i32_693
  let v1470 : BitVec 32 := Scalar.extui v1469
  let v1471 : BitVec 32 := Scalar.subi v1468 v1470
  let v1472 : BitVec 1 := Scalar.cmpi .ne v1466 v1471
  let v1473 : BitVec 32 := Scalar.remsi v1038 c4_i32_689
  let c0_i32_694 : BitVec 32 := 0#32
  let v1474 : BitVec 1 := Scalar.cmpi .ne v1473 c0_i32_694
  let v1475 : BitVec 1 := Scalar.andi v1472 v1474
  let v1461 : BitVec 32 := Scalar.divsi v1038 c4_i32_689
  let c1_i32_695 : BitVec 32 := 1#32
  let v1476 : BitVec 32 := Scalar.subi v1461 c1_i32_695
  let v1477 : BitVec 32 := Scalar.select v1475 v1476 v1461
  let v1478 : Index := Scalar.indexCast v1477
  let c1792_697 : Index := 1792#32
  let c0_698 : Index := 0#32
  ![0, v1478.toNat, 1792, 0]
def k0_off224 (k0_t18 : Fin k0_t18_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_690 : BitVec 32 := 0#32
  let v1462 : BitVec 1 := Scalar.cmpi .sgt v1038 c0_i32_690
  let v1463 : BitVec 32 := Scalar.extui v1462
  let c0_i32_691 : BitVec 32 := 0#32
  let v1464 : BitVec 1 := Scalar.cmpi .slt v1038 c0_i32_691
  let v1465 : BitVec 32 := Scalar.extui v1464
  let v1466 : BitVec 32 := Scalar.subi v1463 v1465
  let c4_i32_689 : BitVec 32 := 4#32
  let c0_i32_692 : BitVec 32 := 0#32
  let v1467 : BitVec 1 := Scalar.cmpi .sgt c4_i32_689 c0_i32_692
  let v1468 : BitVec 32 := Scalar.extui v1467
  let c0_i32_693 : BitVec 32 := 0#32
  let v1469 : BitVec 1 := Scalar.cmpi .slt c4_i32_689 c0_i32_693
  let v1470 : BitVec 32 := Scalar.extui v1469
  let v1471 : BitVec 32 := Scalar.subi v1468 v1470
  let v1472 : BitVec 1 := Scalar.cmpi .ne v1466 v1471
  let v1473 : BitVec 32 := Scalar.remsi v1038 c4_i32_689
  let c0_i32_694 : BitVec 32 := 0#32
  let v1474 : BitVec 1 := Scalar.cmpi .ne v1473 c0_i32_694
  let v1475 : BitVec 1 := Scalar.andi v1472 v1474
  let v1461 : BitVec 32 := Scalar.divsi v1038 c4_i32_689
  let c1_i32_695 : BitVec 32 := 1#32
  let v1476 : BitVec 32 := Scalar.subi v1461 c1_i32_695
  let v1477 : BitVec 32 := Scalar.select v1475 v1476 v1461
  let v1485 : Index := Scalar.indexCast v1477
  let c1792_702 : Index := 1792#32
  let c0_703 : Index := 0#32
  ![v1485.toNat, 1792, 0]
def k0_off225 (k0_t18 : Fin k0_t18_loop.trips) : Fin 4 → Nat :=
  let c0_710 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1505 : Index := Scalar.indexCast v1061
  let c0_711 : Index := 0#32
  let c2048_712 : Index := 2048#32
  ![0, v1505.toNat, 0, 2048]
def k0_off226 (k0_t18 : Fin k0_t18_loop.trips) : Fin 4 → Nat :=
  let c0_723 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_717 : BitVec 32 := 0#32
  let v1516 : BitVec 1 := Scalar.cmpi .sgt v1038 c0_i32_717
  let v1517 : BitVec 32 := Scalar.extui v1516
  let c0_i32_718 : BitVec 32 := 0#32
  let v1518 : BitVec 1 := Scalar.cmpi .slt v1038 c0_i32_718
  let v1519 : BitVec 32 := Scalar.extui v1518
  let v1520 : BitVec 32 := Scalar.subi v1517 v1519
  let c4_i32_716 : BitVec 32 := 4#32
  let c0_i32_719 : BitVec 32 := 0#32
  let v1521 : BitVec 1 := Scalar.cmpi .sgt c4_i32_716 c0_i32_719
  let v1522 : BitVec 32 := Scalar.extui v1521
  let c0_i32_720 : BitVec 32 := 0#32
  let v1523 : BitVec 1 := Scalar.cmpi .slt c4_i32_716 c0_i32_720
  let v1524 : BitVec 32 := Scalar.extui v1523
  let v1525 : BitVec 32 := Scalar.subi v1522 v1524
  let v1526 : BitVec 1 := Scalar.cmpi .ne v1520 v1525
  let v1527 : BitVec 32 := Scalar.remsi v1038 c4_i32_716
  let c0_i32_721 : BitVec 32 := 0#32
  let v1528 : BitVec 1 := Scalar.cmpi .ne v1527 c0_i32_721
  let v1529 : BitVec 1 := Scalar.andi v1526 v1528
  let v1515 : BitVec 32 := Scalar.divsi v1038 c4_i32_716
  let c1_i32_722 : BitVec 32 := 1#32
  let v1530 : BitVec 32 := Scalar.subi v1515 c1_i32_722
  let v1531 : BitVec 32 := Scalar.select v1529 v1530 v1515
  let v1532 : Index := Scalar.indexCast v1531
  let c2048_724 : Index := 2048#32
  let c0_725 : Index := 0#32
  ![0, v1532.toNat, 2048, 0]
def k0_off227 (k0_t18 : Fin k0_t18_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_717 : BitVec 32 := 0#32
  let v1516 : BitVec 1 := Scalar.cmpi .sgt v1038 c0_i32_717
  let v1517 : BitVec 32 := Scalar.extui v1516
  let c0_i32_718 : BitVec 32 := 0#32
  let v1518 : BitVec 1 := Scalar.cmpi .slt v1038 c0_i32_718
  let v1519 : BitVec 32 := Scalar.extui v1518
  let v1520 : BitVec 32 := Scalar.subi v1517 v1519
  let c4_i32_716 : BitVec 32 := 4#32
  let c0_i32_719 : BitVec 32 := 0#32
  let v1521 : BitVec 1 := Scalar.cmpi .sgt c4_i32_716 c0_i32_719
  let v1522 : BitVec 32 := Scalar.extui v1521
  let c0_i32_720 : BitVec 32 := 0#32
  let v1523 : BitVec 1 := Scalar.cmpi .slt c4_i32_716 c0_i32_720
  let v1524 : BitVec 32 := Scalar.extui v1523
  let v1525 : BitVec 32 := Scalar.subi v1522 v1524
  let v1526 : BitVec 1 := Scalar.cmpi .ne v1520 v1525
  let v1527 : BitVec 32 := Scalar.remsi v1038 c4_i32_716
  let c0_i32_721 : BitVec 32 := 0#32
  let v1528 : BitVec 1 := Scalar.cmpi .ne v1527 c0_i32_721
  let v1529 : BitVec 1 := Scalar.andi v1526 v1528
  let v1515 : BitVec 32 := Scalar.divsi v1038 c4_i32_716
  let c1_i32_722 : BitVec 32 := 1#32
  let v1530 : BitVec 32 := Scalar.subi v1515 c1_i32_722
  let v1531 : BitVec 32 := Scalar.select v1529 v1530 v1515
  let v1539 : Index := Scalar.indexCast v1531
  let c2048_729 : Index := 2048#32
  let c0_730 : Index := 0#32
  ![v1539.toNat, 2048, 0]
def k0_off228 (k0_t18 : Fin k0_t18_loop.trips) : Fin 4 → Nat :=
  let c0_737 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1559 : Index := Scalar.indexCast v1061
  let c0_738 : Index := 0#32
  let c2304_739 : Index := 2304#32
  ![0, v1559.toNat, 0, 2304]
def k0_off229 (k0_t18 : Fin k0_t18_loop.trips) : Fin 4 → Nat :=
  let c0_750 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_744 : BitVec 32 := 0#32
  let v1570 : BitVec 1 := Scalar.cmpi .sgt v1038 c0_i32_744
  let v1571 : BitVec 32 := Scalar.extui v1570
  let c0_i32_745 : BitVec 32 := 0#32
  let v1572 : BitVec 1 := Scalar.cmpi .slt v1038 c0_i32_745
  let v1573 : BitVec 32 := Scalar.extui v1572
  let v1574 : BitVec 32 := Scalar.subi v1571 v1573
  let c4_i32_743 : BitVec 32 := 4#32
  let c0_i32_746 : BitVec 32 := 0#32
  let v1575 : BitVec 1 := Scalar.cmpi .sgt c4_i32_743 c0_i32_746
  let v1576 : BitVec 32 := Scalar.extui v1575
  let c0_i32_747 : BitVec 32 := 0#32
  let v1577 : BitVec 1 := Scalar.cmpi .slt c4_i32_743 c0_i32_747
  let v1578 : BitVec 32 := Scalar.extui v1577
  let v1579 : BitVec 32 := Scalar.subi v1576 v1578
  let v1580 : BitVec 1 := Scalar.cmpi .ne v1574 v1579
  let v1581 : BitVec 32 := Scalar.remsi v1038 c4_i32_743
  let c0_i32_748 : BitVec 32 := 0#32
  let v1582 : BitVec 1 := Scalar.cmpi .ne v1581 c0_i32_748
  let v1583 : BitVec 1 := Scalar.andi v1580 v1582
  let v1569 : BitVec 32 := Scalar.divsi v1038 c4_i32_743
  let c1_i32_749 : BitVec 32 := 1#32
  let v1584 : BitVec 32 := Scalar.subi v1569 c1_i32_749
  let v1585 : BitVec 32 := Scalar.select v1583 v1584 v1569
  let v1586 : Index := Scalar.indexCast v1585
  let c2304_751 : Index := 2304#32
  let c0_752 : Index := 0#32
  ![0, v1586.toNat, 2304, 0]
def k0_off230 (k0_t18 : Fin k0_t18_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_744 : BitVec 32 := 0#32
  let v1570 : BitVec 1 := Scalar.cmpi .sgt v1038 c0_i32_744
  let v1571 : BitVec 32 := Scalar.extui v1570
  let c0_i32_745 : BitVec 32 := 0#32
  let v1572 : BitVec 1 := Scalar.cmpi .slt v1038 c0_i32_745
  let v1573 : BitVec 32 := Scalar.extui v1572
  let v1574 : BitVec 32 := Scalar.subi v1571 v1573
  let c4_i32_743 : BitVec 32 := 4#32
  let c0_i32_746 : BitVec 32 := 0#32
  let v1575 : BitVec 1 := Scalar.cmpi .sgt c4_i32_743 c0_i32_746
  let v1576 : BitVec 32 := Scalar.extui v1575
  let c0_i32_747 : BitVec 32 := 0#32
  let v1577 : BitVec 1 := Scalar.cmpi .slt c4_i32_743 c0_i32_747
  let v1578 : BitVec 32 := Scalar.extui v1577
  let v1579 : BitVec 32 := Scalar.subi v1576 v1578
  let v1580 : BitVec 1 := Scalar.cmpi .ne v1574 v1579
  let v1581 : BitVec 32 := Scalar.remsi v1038 c4_i32_743
  let c0_i32_748 : BitVec 32 := 0#32
  let v1582 : BitVec 1 := Scalar.cmpi .ne v1581 c0_i32_748
  let v1583 : BitVec 1 := Scalar.andi v1580 v1582
  let v1569 : BitVec 32 := Scalar.divsi v1038 c4_i32_743
  let c1_i32_749 : BitVec 32 := 1#32
  let v1584 : BitVec 32 := Scalar.subi v1569 c1_i32_749
  let v1585 : BitVec 32 := Scalar.select v1583 v1584 v1569
  let v1593 : Index := Scalar.indexCast v1585
  let c2304_756 : Index := 2304#32
  let c0_757 : Index := 0#32
  ![v1593.toNat, 2304, 0]
def k0_off231 (k0_t18 : Fin k0_t18_loop.trips) : Fin 3 → Nat :=
  let c0_767 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1623 : Index := Scalar.indexCast v1061
  let c0_768 : Index := 0#32
  ![0, v1623.toNat, 0]
def k0_mult19 (k0_t18 : Fin k0_t18_loop.trips) : BitVec 32 :=
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c128_i32 : BitVec 32 := 128#32
  let v1629 : BitVec 32 := Scalar.muli v1036 c128_i32
  v1629
def k0_off232 (k0_t18 : Fin k0_t18_loop.trips) : Fin 3 → Nat :=
  let c0_769 : Index := 0#32
  let c0_770 : Index := 0#32
  let c0_i32_475 : BitVec 32 := 0#32
  let c0_i32_471 : BitVec 32 := 0#32
  let c1_i32_472 : BitVec 32 := 1#32
  let arg17 : BitVec 32 := Scf.iv c0_i32_471 c1_i32_472 k0_t18
  let c1_i32_474 : BitVec 32 := 1#32
  let v1035 : BitVec 32 := Scalar.muli arg17 c1_i32_474
  let v1036 : BitVec 32 := Scalar.addi c0_i32_475 v1035
  let c128_i32 : BitVec 32 := 128#32
  let v1629 : BitVec 32 := Scalar.muli v1036 c128_i32
  let v1630 : BitVec 32 := v1629
  let v1631 : Index := Scalar.indexCast v1630
  ![0, 0, v1631.toNat]
def k0_cond12 (i : grid0.Coords) : BitVec 1 :=
  let arg1 : BitVec 32 := BitVec.ofNat 32 (i 1).val
  let c10_i32_437 : BitVec 32 := 10#32
  let v987 : BitVec 1 := Scalar.cmpi .eq arg1 c10_i32_437
  let v988 : BitVec 32 := Scalar.extui v987
  let c0_i32_438 : BitVec 32 := 0#32
  let v989 : BitVec 1 := Scalar.cmpi .ne v988 c0_i32_438
  v989

@[reducible] def k0_t19_loop : Scf.Loop 32 :=
  let c0_i32_449 : BitVec 32 := 0#32
  let c10_i32_450 : BitVec 32 := 10#32
  let v1005 : BitVec 32 := Scalar.addi c0_i32_449 c10_i32_450
  let c1_i32_451 : BitVec 32 := 1#32
  ⟨c0_i32_449, v1005, c1_i32_451⟩
def k0_mult20 (k0_t19 : Fin k0_t19_loop.trips) : BitVec 32 :=
  let c0_i32_449 : BitVec 32 := 0#32
  let c1_i32_451 : BitVec 32 := 1#32
  let arg17 : BitVec 32 := Scf.iv c0_i32_449 c1_i32_451 k0_t19
  let c256_i32 : BitVec 32 := 256#32
  let v1035 : BitVec 32 := Scalar.muli arg17 c256_i32
  v1035
def k0_off233 (k0_t19 : Fin k0_t19_loop.trips) : Fin 4 → Nat :=
  let c0_474 : Index := 0#32
  let c0_475 : Index := 0#32
  let c0_i32_449 : BitVec 32 := 0#32
  let c1_i32_451 : BitVec 32 := 1#32
  let arg17 : BitVec 32 := Scf.iv c0_i32_449 c1_i32_451 k0_t19
  let c256_i32 : BitVec 32 := 256#32
  let v1035 : BitVec 32 := Scalar.muli arg17 c256_i32
  let v1036 : BitVec 32 := v1035
  let v1037 : Index := Scalar.indexCast v1036
  let c0_476 : Index := 0#32
  ![0, 0, v1037.toNat, 0]
def k0_off234 (k0_t19 : Fin k0_t19_loop.trips) : Fin 3 → Nat :=
  let c0_481 : Index := 0#32
  let c0_i32_449 : BitVec 32 := 0#32
  let c1_i32_451 : BitVec 32 := 1#32
  let arg17 : BitVec 32 := Scf.iv c0_i32_449 c1_i32_451 k0_t19
  let c256_i32 : BitVec 32 := 256#32
  let v1035 : BitVec 32 := Scalar.muli arg17 c256_i32
  let v1036 : BitVec 32 := v1035
  let v1043 : Index := Scalar.indexCast v1036
  let c0_482 : Index := 0#32
  ![0, v1043.toNat, 0]
def k0_off235 (k0_t19 : Fin k0_t19_loop.trips) : Fin 2 → Nat :=
  let c0_i32_449 : BitVec 32 := 0#32
  let c1_i32_451 : BitVec 32 := 1#32
  let arg17 : BitVec 32 := Scf.iv c0_i32_449 c1_i32_451 k0_t19
  let c256_i32 : BitVec 32 := 256#32
  let v1035 : BitVec 32 := Scalar.muli arg17 c256_i32
  let v1036 : BitVec 32 := v1035
  let v1048 : Index := Scalar.indexCast v1036
  let c0_483 : Index := 0#32
  ![v1048.toNat, 0]
@[reducible] def k0_t20_loop : Scf.Loop 32 :=
  let c0_i32_471 : BitVec 32 := 0#32
  let c32_i32 : BitVec 32 := 32#32
  let v1034 : BitVec 32 := Scalar.addi c0_i32_471 c32_i32
  let c1_i32_472 : BitVec 32 := 1#32
  ⟨c0_i32_471, v1034, c1_i32_472⟩
def k0_off236 (k0_t20 : Fin k0_t20_loop.trips) : Fin 2 → Nat :=
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let v1039 : Index := Scalar.indexCast v1036
  let c0_478 : Index := 0#32
  ![v1039.toNat, 0]
def k0_off237 (k0_t20 : Fin k0_t20_loop.trips) : Fin 4 → Nat :=
  let c0_494 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1073 : Index := Scalar.indexCast v1061
  let c0_495 : Index := 0#32
  let c0_496 : Index := 0#32
  ![0, v1073.toNat, 0, 0]
def k0_off238 (k0_t20 : Fin k0_t20_loop.trips) : Fin 4 → Nat :=
  let c0_507 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1100 : Index := Scalar.indexCast v1099
  let c0_508 : Index := 0#32
  let c0_509 : Index := 0#32
  ![0, v1100.toNat, 0, 0]
def k0_off239 (k0_t20 : Fin k0_t20_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let v1103 : Index := Scalar.indexCast v1038
  let c0_510 : Index := 0#32
  let c0_511 : Index := 0#32
  ![v1103.toNat, 0, 0]
def k0_off240 (k0_t20 : Fin k0_t20_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1107 : Index := Scalar.indexCast v1099
  let c0_513 : Index := 0#32
  let c0_514 : Index := 0#32
  ![v1107.toNat, 0, 0]
def k0_off241 (k0_t20 : Fin k0_t20_loop.trips) : Fin 4 → Nat :=
  let c0_521 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1127 : Index := Scalar.indexCast v1061
  let c0_522 : Index := 0#32
  let c256_523 : Index := 256#32
  ![0, v1127.toNat, 0, 256]
def k0_off242 (k0_t20 : Fin k0_t20_loop.trips) : Fin 4 → Nat :=
  let c0_534 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1154 : Index := Scalar.indexCast v1153
  let c256_535 : Index := 256#32
  let c0_536 : Index := 0#32
  ![0, v1154.toNat, 256, 0]
def k0_off243 (k0_t20 : Fin k0_t20_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1161 : Index := Scalar.indexCast v1153
  let c256_540 : Index := 256#32
  let c0_541 : Index := 0#32
  ![v1161.toNat, 256, 0]
def k0_off244 (k0_t20 : Fin k0_t20_loop.trips) : Fin 4 → Nat :=
  let c0_548 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1181 : Index := Scalar.indexCast v1061
  let c0_549 : Index := 0#32
  let c512_550 : Index := 512#32
  ![0, v1181.toNat, 0, 512]
def k0_off245 (k0_t20 : Fin k0_t20_loop.trips) : Fin 4 → Nat :=
  let c0_561 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1208 : Index := Scalar.indexCast v1207
  let c512_562 : Index := 512#32
  let c0_563 : Index := 0#32
  ![0, v1208.toNat, 512, 0]
def k0_off246 (k0_t20 : Fin k0_t20_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1215 : Index := Scalar.indexCast v1207
  let c512_567 : Index := 512#32
  let c0_568 : Index := 0#32
  ![v1215.toNat, 512, 0]
def k0_off247 (k0_t20 : Fin k0_t20_loop.trips) : Fin 4 → Nat :=
  let c0_575 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1235 : Index := Scalar.indexCast v1061
  let c0_576 : Index := 0#32
  let c768_577 : Index := 768#32
  ![0, v1235.toNat, 0, 768]
def k0_off248 (k0_t20 : Fin k0_t20_loop.trips) : Fin 4 → Nat :=
  let c0_588 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1262 : Index := Scalar.indexCast v1261
  let c768_589 : Index := 768#32
  let c0_590 : Index := 0#32
  ![0, v1262.toNat, 768, 0]
def k0_off249 (k0_t20 : Fin k0_t20_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1269 : Index := Scalar.indexCast v1261
  let c768_594 : Index := 768#32
  let c0_595 : Index := 0#32
  ![v1269.toNat, 768, 0]
def k0_off250 (k0_t20 : Fin k0_t20_loop.trips) : Fin 4 → Nat :=
  let c0_602 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1289 : Index := Scalar.indexCast v1061
  let c0_603 : Index := 0#32
  let c1024_604 : Index := 1024#32
  ![0, v1289.toNat, 0, 1024]
def k0_off251 (k0_t20 : Fin k0_t20_loop.trips) : Fin 4 → Nat :=
  let c0_615 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1316 : Index := Scalar.indexCast v1315
  let c1024_616 : Index := 1024#32
  let c0_617 : Index := 0#32
  ![0, v1316.toNat, 1024, 0]
def k0_off252 (k0_t20 : Fin k0_t20_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1323 : Index := Scalar.indexCast v1315
  let c1024_621 : Index := 1024#32
  let c0_622 : Index := 0#32
  ![v1323.toNat, 1024, 0]
def k0_off253 (k0_t20 : Fin k0_t20_loop.trips) : Fin 4 → Nat :=
  let c0_629 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1343 : Index := Scalar.indexCast v1061
  let c0_630 : Index := 0#32
  let c1280_631 : Index := 1280#32
  ![0, v1343.toNat, 0, 1280]
def k0_off254 (k0_t20 : Fin k0_t20_loop.trips) : Fin 4 → Nat :=
  let c0_642 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1370 : Index := Scalar.indexCast v1369
  let c1280_643 : Index := 1280#32
  let c0_644 : Index := 0#32
  ![0, v1370.toNat, 1280, 0]
def k0_off255 (k0_t20 : Fin k0_t20_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1377 : Index := Scalar.indexCast v1369
  let c1280_648 : Index := 1280#32
  let c0_649 : Index := 0#32
  ![v1377.toNat, 1280, 0]
def k0_off256 (k0_t20 : Fin k0_t20_loop.trips) : Fin 4 → Nat :=
  let c0_656 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1397 : Index := Scalar.indexCast v1061
  let c0_657 : Index := 0#32
  let c1536_658 : Index := 1536#32
  ![0, v1397.toNat, 0, 1536]
def k0_off257 (k0_t20 : Fin k0_t20_loop.trips) : Fin 4 → Nat :=
  let c0_669 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_663 : BitVec 32 := 0#32
  let v1408 : BitVec 1 := Scalar.cmpi .sgt v1038 c0_i32_663
  let v1409 : BitVec 32 := Scalar.extui v1408
  let c0_i32_664 : BitVec 32 := 0#32
  let v1410 : BitVec 1 := Scalar.cmpi .slt v1038 c0_i32_664
  let v1411 : BitVec 32 := Scalar.extui v1410
  let v1412 : BitVec 32 := Scalar.subi v1409 v1411
  let c4_i32_662 : BitVec 32 := 4#32
  let c0_i32_665 : BitVec 32 := 0#32
  let v1413 : BitVec 1 := Scalar.cmpi .sgt c4_i32_662 c0_i32_665
  let v1414 : BitVec 32 := Scalar.extui v1413
  let c0_i32_666 : BitVec 32 := 0#32
  let v1415 : BitVec 1 := Scalar.cmpi .slt c4_i32_662 c0_i32_666
  let v1416 : BitVec 32 := Scalar.extui v1415
  let v1417 : BitVec 32 := Scalar.subi v1414 v1416
  let v1418 : BitVec 1 := Scalar.cmpi .ne v1412 v1417
  let v1419 : BitVec 32 := Scalar.remsi v1038 c4_i32_662
  let c0_i32_667 : BitVec 32 := 0#32
  let v1420 : BitVec 1 := Scalar.cmpi .ne v1419 c0_i32_667
  let v1421 : BitVec 1 := Scalar.andi v1418 v1420
  let v1407 : BitVec 32 := Scalar.divsi v1038 c4_i32_662
  let c1_i32_668 : BitVec 32 := 1#32
  let v1422 : BitVec 32 := Scalar.subi v1407 c1_i32_668
  let v1423 : BitVec 32 := Scalar.select v1421 v1422 v1407
  let v1424 : Index := Scalar.indexCast v1423
  let c1536_670 : Index := 1536#32
  let c0_671 : Index := 0#32
  ![0, v1424.toNat, 1536, 0]
def k0_off258 (k0_t20 : Fin k0_t20_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_663 : BitVec 32 := 0#32
  let v1408 : BitVec 1 := Scalar.cmpi .sgt v1038 c0_i32_663
  let v1409 : BitVec 32 := Scalar.extui v1408
  let c0_i32_664 : BitVec 32 := 0#32
  let v1410 : BitVec 1 := Scalar.cmpi .slt v1038 c0_i32_664
  let v1411 : BitVec 32 := Scalar.extui v1410
  let v1412 : BitVec 32 := Scalar.subi v1409 v1411
  let c4_i32_662 : BitVec 32 := 4#32
  let c0_i32_665 : BitVec 32 := 0#32
  let v1413 : BitVec 1 := Scalar.cmpi .sgt c4_i32_662 c0_i32_665
  let v1414 : BitVec 32 := Scalar.extui v1413
  let c0_i32_666 : BitVec 32 := 0#32
  let v1415 : BitVec 1 := Scalar.cmpi .slt c4_i32_662 c0_i32_666
  let v1416 : BitVec 32 := Scalar.extui v1415
  let v1417 : BitVec 32 := Scalar.subi v1414 v1416
  let v1418 : BitVec 1 := Scalar.cmpi .ne v1412 v1417
  let v1419 : BitVec 32 := Scalar.remsi v1038 c4_i32_662
  let c0_i32_667 : BitVec 32 := 0#32
  let v1420 : BitVec 1 := Scalar.cmpi .ne v1419 c0_i32_667
  let v1421 : BitVec 1 := Scalar.andi v1418 v1420
  let v1407 : BitVec 32 := Scalar.divsi v1038 c4_i32_662
  let c1_i32_668 : BitVec 32 := 1#32
  let v1422 : BitVec 32 := Scalar.subi v1407 c1_i32_668
  let v1423 : BitVec 32 := Scalar.select v1421 v1422 v1407
  let v1431 : Index := Scalar.indexCast v1423
  let c1536_675 : Index := 1536#32
  let c0_676 : Index := 0#32
  ![v1431.toNat, 1536, 0]
def k0_off259 (k0_t20 : Fin k0_t20_loop.trips) : Fin 4 → Nat :=
  let c0_683 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1451 : Index := Scalar.indexCast v1061
  let c0_684 : Index := 0#32
  let c1792_685 : Index := 1792#32
  ![0, v1451.toNat, 0, 1792]
def k0_off260 (k0_t20 : Fin k0_t20_loop.trips) : Fin 4 → Nat :=
  let c0_696 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_690 : BitVec 32 := 0#32
  let v1462 : BitVec 1 := Scalar.cmpi .sgt v1038 c0_i32_690
  let v1463 : BitVec 32 := Scalar.extui v1462
  let c0_i32_691 : BitVec 32 := 0#32
  let v1464 : BitVec 1 := Scalar.cmpi .slt v1038 c0_i32_691
  let v1465 : BitVec 32 := Scalar.extui v1464
  let v1466 : BitVec 32 := Scalar.subi v1463 v1465
  let c4_i32_689 : BitVec 32 := 4#32
  let c0_i32_692 : BitVec 32 := 0#32
  let v1467 : BitVec 1 := Scalar.cmpi .sgt c4_i32_689 c0_i32_692
  let v1468 : BitVec 32 := Scalar.extui v1467
  let c0_i32_693 : BitVec 32 := 0#32
  let v1469 : BitVec 1 := Scalar.cmpi .slt c4_i32_689 c0_i32_693
  let v1470 : BitVec 32 := Scalar.extui v1469
  let v1471 : BitVec 32 := Scalar.subi v1468 v1470
  let v1472 : BitVec 1 := Scalar.cmpi .ne v1466 v1471
  let v1473 : BitVec 32 := Scalar.remsi v1038 c4_i32_689
  let c0_i32_694 : BitVec 32 := 0#32
  let v1474 : BitVec 1 := Scalar.cmpi .ne v1473 c0_i32_694
  let v1475 : BitVec 1 := Scalar.andi v1472 v1474
  let v1461 : BitVec 32 := Scalar.divsi v1038 c4_i32_689
  let c1_i32_695 : BitVec 32 := 1#32
  let v1476 : BitVec 32 := Scalar.subi v1461 c1_i32_695
  let v1477 : BitVec 32 := Scalar.select v1475 v1476 v1461
  let v1478 : Index := Scalar.indexCast v1477
  let c1792_697 : Index := 1792#32
  let c0_698 : Index := 0#32
  ![0, v1478.toNat, 1792, 0]
def k0_off261 (k0_t20 : Fin k0_t20_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_690 : BitVec 32 := 0#32
  let v1462 : BitVec 1 := Scalar.cmpi .sgt v1038 c0_i32_690
  let v1463 : BitVec 32 := Scalar.extui v1462
  let c0_i32_691 : BitVec 32 := 0#32
  let v1464 : BitVec 1 := Scalar.cmpi .slt v1038 c0_i32_691
  let v1465 : BitVec 32 := Scalar.extui v1464
  let v1466 : BitVec 32 := Scalar.subi v1463 v1465
  let c4_i32_689 : BitVec 32 := 4#32
  let c0_i32_692 : BitVec 32 := 0#32
  let v1467 : BitVec 1 := Scalar.cmpi .sgt c4_i32_689 c0_i32_692
  let v1468 : BitVec 32 := Scalar.extui v1467
  let c0_i32_693 : BitVec 32 := 0#32
  let v1469 : BitVec 1 := Scalar.cmpi .slt c4_i32_689 c0_i32_693
  let v1470 : BitVec 32 := Scalar.extui v1469
  let v1471 : BitVec 32 := Scalar.subi v1468 v1470
  let v1472 : BitVec 1 := Scalar.cmpi .ne v1466 v1471
  let v1473 : BitVec 32 := Scalar.remsi v1038 c4_i32_689
  let c0_i32_694 : BitVec 32 := 0#32
  let v1474 : BitVec 1 := Scalar.cmpi .ne v1473 c0_i32_694
  let v1475 : BitVec 1 := Scalar.andi v1472 v1474
  let v1461 : BitVec 32 := Scalar.divsi v1038 c4_i32_689
  let c1_i32_695 : BitVec 32 := 1#32
  let v1476 : BitVec 32 := Scalar.subi v1461 c1_i32_695
  let v1477 : BitVec 32 := Scalar.select v1475 v1476 v1461
  let v1485 : Index := Scalar.indexCast v1477
  let c1792_702 : Index := 1792#32
  let c0_703 : Index := 0#32
  ![v1485.toNat, 1792, 0]
def k0_off262 (k0_t20 : Fin k0_t20_loop.trips) : Fin 4 → Nat :=
  let c0_710 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1505 : Index := Scalar.indexCast v1061
  let c0_711 : Index := 0#32
  let c2048_712 : Index := 2048#32
  ![0, v1505.toNat, 0, 2048]
def k0_off263 (k0_t20 : Fin k0_t20_loop.trips) : Fin 4 → Nat :=
  let c0_723 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_717 : BitVec 32 := 0#32
  let v1516 : BitVec 1 := Scalar.cmpi .sgt v1038 c0_i32_717
  let v1517 : BitVec 32 := Scalar.extui v1516
  let c0_i32_718 : BitVec 32 := 0#32
  let v1518 : BitVec 1 := Scalar.cmpi .slt v1038 c0_i32_718
  let v1519 : BitVec 32 := Scalar.extui v1518
  let v1520 : BitVec 32 := Scalar.subi v1517 v1519
  let c4_i32_716 : BitVec 32 := 4#32
  let c0_i32_719 : BitVec 32 := 0#32
  let v1521 : BitVec 1 := Scalar.cmpi .sgt c4_i32_716 c0_i32_719
  let v1522 : BitVec 32 := Scalar.extui v1521
  let c0_i32_720 : BitVec 32 := 0#32
  let v1523 : BitVec 1 := Scalar.cmpi .slt c4_i32_716 c0_i32_720
  let v1524 : BitVec 32 := Scalar.extui v1523
  let v1525 : BitVec 32 := Scalar.subi v1522 v1524
  let v1526 : BitVec 1 := Scalar.cmpi .ne v1520 v1525
  let v1527 : BitVec 32 := Scalar.remsi v1038 c4_i32_716
  let c0_i32_721 : BitVec 32 := 0#32
  let v1528 : BitVec 1 := Scalar.cmpi .ne v1527 c0_i32_721
  let v1529 : BitVec 1 := Scalar.andi v1526 v1528
  let v1515 : BitVec 32 := Scalar.divsi v1038 c4_i32_716
  let c1_i32_722 : BitVec 32 := 1#32
  let v1530 : BitVec 32 := Scalar.subi v1515 c1_i32_722
  let v1531 : BitVec 32 := Scalar.select v1529 v1530 v1515
  let v1532 : Index := Scalar.indexCast v1531
  let c2048_724 : Index := 2048#32
  let c0_725 : Index := 0#32
  ![0, v1532.toNat, 2048, 0]
def k0_off264 (k0_t20 : Fin k0_t20_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_717 : BitVec 32 := 0#32
  let v1516 : BitVec 1 := Scalar.cmpi .sgt v1038 c0_i32_717
  let v1517 : BitVec 32 := Scalar.extui v1516
  let c0_i32_718 : BitVec 32 := 0#32
  let v1518 : BitVec 1 := Scalar.cmpi .slt v1038 c0_i32_718
  let v1519 : BitVec 32 := Scalar.extui v1518
  let v1520 : BitVec 32 := Scalar.subi v1517 v1519
  let c4_i32_716 : BitVec 32 := 4#32
  let c0_i32_719 : BitVec 32 := 0#32
  let v1521 : BitVec 1 := Scalar.cmpi .sgt c4_i32_716 c0_i32_719
  let v1522 : BitVec 32 := Scalar.extui v1521
  let c0_i32_720 : BitVec 32 := 0#32
  let v1523 : BitVec 1 := Scalar.cmpi .slt c4_i32_716 c0_i32_720
  let v1524 : BitVec 32 := Scalar.extui v1523
  let v1525 : BitVec 32 := Scalar.subi v1522 v1524
  let v1526 : BitVec 1 := Scalar.cmpi .ne v1520 v1525
  let v1527 : BitVec 32 := Scalar.remsi v1038 c4_i32_716
  let c0_i32_721 : BitVec 32 := 0#32
  let v1528 : BitVec 1 := Scalar.cmpi .ne v1527 c0_i32_721
  let v1529 : BitVec 1 := Scalar.andi v1526 v1528
  let v1515 : BitVec 32 := Scalar.divsi v1038 c4_i32_716
  let c1_i32_722 : BitVec 32 := 1#32
  let v1530 : BitVec 32 := Scalar.subi v1515 c1_i32_722
  let v1531 : BitVec 32 := Scalar.select v1529 v1530 v1515
  let v1539 : Index := Scalar.indexCast v1531
  let c2048_729 : Index := 2048#32
  let c0_730 : Index := 0#32
  ![v1539.toNat, 2048, 0]
def k0_off265 (k0_t20 : Fin k0_t20_loop.trips) : Fin 4 → Nat :=
  let c0_737 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1559 : Index := Scalar.indexCast v1061
  let c0_738 : Index := 0#32
  let c2304_739 : Index := 2304#32
  ![0, v1559.toNat, 0, 2304]
def k0_off266 (k0_t20 : Fin k0_t20_loop.trips) : Fin 4 → Nat :=
  let c0_750 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_744 : BitVec 32 := 0#32
  let v1570 : BitVec 1 := Scalar.cmpi .sgt v1038 c0_i32_744
  let v1571 : BitVec 32 := Scalar.extui v1570
  let c0_i32_745 : BitVec 32 := 0#32
  let v1572 : BitVec 1 := Scalar.cmpi .slt v1038 c0_i32_745
  let v1573 : BitVec 32 := Scalar.extui v1572
  let v1574 : BitVec 32 := Scalar.subi v1571 v1573
  let c4_i32_743 : BitVec 32 := 4#32
  let c0_i32_746 : BitVec 32 := 0#32
  let v1575 : BitVec 1 := Scalar.cmpi .sgt c4_i32_743 c0_i32_746
  let v1576 : BitVec 32 := Scalar.extui v1575
  let c0_i32_747 : BitVec 32 := 0#32
  let v1577 : BitVec 1 := Scalar.cmpi .slt c4_i32_743 c0_i32_747
  let v1578 : BitVec 32 := Scalar.extui v1577
  let v1579 : BitVec 32 := Scalar.subi v1576 v1578
  let v1580 : BitVec 1 := Scalar.cmpi .ne v1574 v1579
  let v1581 : BitVec 32 := Scalar.remsi v1038 c4_i32_743
  let c0_i32_748 : BitVec 32 := 0#32
  let v1582 : BitVec 1 := Scalar.cmpi .ne v1581 c0_i32_748
  let v1583 : BitVec 1 := Scalar.andi v1580 v1582
  let v1569 : BitVec 32 := Scalar.divsi v1038 c4_i32_743
  let c1_i32_749 : BitVec 32 := 1#32
  let v1584 : BitVec 32 := Scalar.subi v1569 c1_i32_749
  let v1585 : BitVec 32 := Scalar.select v1583 v1584 v1569
  let v1586 : Index := Scalar.indexCast v1585
  let c2304_751 : Index := 2304#32
  let c0_752 : Index := 0#32
  ![0, v1586.toNat, 2304, 0]
def k0_off267 (k0_t20 : Fin k0_t20_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_744 : BitVec 32 := 0#32
  let v1570 : BitVec 1 := Scalar.cmpi .sgt v1038 c0_i32_744
  let v1571 : BitVec 32 := Scalar.extui v1570
  let c0_i32_745 : BitVec 32 := 0#32
  let v1572 : BitVec 1 := Scalar.cmpi .slt v1038 c0_i32_745
  let v1573 : BitVec 32 := Scalar.extui v1572
  let v1574 : BitVec 32 := Scalar.subi v1571 v1573
  let c4_i32_743 : BitVec 32 := 4#32
  let c0_i32_746 : BitVec 32 := 0#32
  let v1575 : BitVec 1 := Scalar.cmpi .sgt c4_i32_743 c0_i32_746
  let v1576 : BitVec 32 := Scalar.extui v1575
  let c0_i32_747 : BitVec 32 := 0#32
  let v1577 : BitVec 1 := Scalar.cmpi .slt c4_i32_743 c0_i32_747
  let v1578 : BitVec 32 := Scalar.extui v1577
  let v1579 : BitVec 32 := Scalar.subi v1576 v1578
  let v1580 : BitVec 1 := Scalar.cmpi .ne v1574 v1579
  let v1581 : BitVec 32 := Scalar.remsi v1038 c4_i32_743
  let c0_i32_748 : BitVec 32 := 0#32
  let v1582 : BitVec 1 := Scalar.cmpi .ne v1581 c0_i32_748
  let v1583 : BitVec 1 := Scalar.andi v1580 v1582
  let v1569 : BitVec 32 := Scalar.divsi v1038 c4_i32_743
  let c1_i32_749 : BitVec 32 := 1#32
  let v1584 : BitVec 32 := Scalar.subi v1569 c1_i32_749
  let v1585 : BitVec 32 := Scalar.select v1583 v1584 v1569
  let v1593 : Index := Scalar.indexCast v1585
  let c2304_756 : Index := 2304#32
  let c0_757 : Index := 0#32
  ![v1593.toNat, 2304, 0]
def k0_off268 (k0_t20 : Fin k0_t20_loop.trips) : Fin 4 → Nat :=
  let c0_764 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1613 : Index := Scalar.indexCast v1061
  let c0_765 : Index := 0#32
  let c2560_766 : Index := 2560#32
  ![0, v1613.toNat, 0, 2560]
def k0_off269 (k0_t20 : Fin k0_t20_loop.trips) : Fin 4 → Nat :=
  let c0_777 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_771 : BitVec 32 := 0#32
  let v1624 : BitVec 1 := Scalar.cmpi .sgt v1038 c0_i32_771
  let v1625 : BitVec 32 := Scalar.extui v1624
  let c0_i32_772 : BitVec 32 := 0#32
  let v1626 : BitVec 1 := Scalar.cmpi .slt v1038 c0_i32_772
  let v1627 : BitVec 32 := Scalar.extui v1626
  let v1628 : BitVec 32 := Scalar.subi v1625 v1627
  let c4_i32_770 : BitVec 32 := 4#32
  let c0_i32_773 : BitVec 32 := 0#32
  let v1629 : BitVec 1 := Scalar.cmpi .sgt c4_i32_770 c0_i32_773
  let v1630 : BitVec 32 := Scalar.extui v1629
  let c0_i32_774 : BitVec 32 := 0#32
  let v1631 : BitVec 1 := Scalar.cmpi .slt c4_i32_770 c0_i32_774
  let v1632 : BitVec 32 := Scalar.extui v1631
  let v1633 : BitVec 32 := Scalar.subi v1630 v1632
  let v1634 : BitVec 1 := Scalar.cmpi .ne v1628 v1633
  let v1635 : BitVec 32 := Scalar.remsi v1038 c4_i32_770
  let c0_i32_775 : BitVec 32 := 0#32
  let v1636 : BitVec 1 := Scalar.cmpi .ne v1635 c0_i32_775
  let v1637 : BitVec 1 := Scalar.andi v1634 v1636
  let v1623 : BitVec 32 := Scalar.divsi v1038 c4_i32_770
  let c1_i32_776 : BitVec 32 := 1#32
  let v1638 : BitVec 32 := Scalar.subi v1623 c1_i32_776
  let v1639 : BitVec 32 := Scalar.select v1637 v1638 v1623
  let v1640 : Index := Scalar.indexCast v1639
  let c2560_778 : Index := 2560#32
  let c0_779 : Index := 0#32
  ![0, v1640.toNat, 2560, 0]
def k0_off270 (k0_t20 : Fin k0_t20_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_771 : BitVec 32 := 0#32
  let v1624 : BitVec 1 := Scalar.cmpi .sgt v1038 c0_i32_771
  let v1625 : BitVec 32 := Scalar.extui v1624
  let c0_i32_772 : BitVec 32 := 0#32
  let v1626 : BitVec 1 := Scalar.cmpi .slt v1038 c0_i32_772
  let v1627 : BitVec 32 := Scalar.extui v1626
  let v1628 : BitVec 32 := Scalar.subi v1625 v1627
  let c4_i32_770 : BitVec 32 := 4#32
  let c0_i32_773 : BitVec 32 := 0#32
  let v1629 : BitVec 1 := Scalar.cmpi .sgt c4_i32_770 c0_i32_773
  let v1630 : BitVec 32 := Scalar.extui v1629
  let c0_i32_774 : BitVec 32 := 0#32
  let v1631 : BitVec 1 := Scalar.cmpi .slt c4_i32_770 c0_i32_774
  let v1632 : BitVec 32 := Scalar.extui v1631
  let v1633 : BitVec 32 := Scalar.subi v1630 v1632
  let v1634 : BitVec 1 := Scalar.cmpi .ne v1628 v1633
  let v1635 : BitVec 32 := Scalar.remsi v1038 c4_i32_770
  let c0_i32_775 : BitVec 32 := 0#32
  let v1636 : BitVec 1 := Scalar.cmpi .ne v1635 c0_i32_775
  let v1637 : BitVec 1 := Scalar.andi v1634 v1636
  let v1623 : BitVec 32 := Scalar.divsi v1038 c4_i32_770
  let c1_i32_776 : BitVec 32 := 1#32
  let v1638 : BitVec 32 := Scalar.subi v1623 c1_i32_776
  let v1639 : BitVec 32 := Scalar.select v1637 v1638 v1623
  let v1647 : Index := Scalar.indexCast v1639
  let c2560_783 : Index := 2560#32
  let c0_784 : Index := 0#32
  ![v1647.toNat, 2560, 0]
def k0_off271 (k0_t20 : Fin k0_t20_loop.trips) : Fin 3 → Nat :=
  let c0_794 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1677 : Index := Scalar.indexCast v1061
  let c0_795 : Index := 0#32
  ![0, v1677.toNat, 0]
def k0_mult21 (k0_t20 : Fin k0_t20_loop.trips) : BitVec 32 :=
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c128_i32 : BitVec 32 := 128#32
  let v1683 : BitVec 32 := Scalar.muli v1036 c128_i32
  v1683
def k0_off272 (k0_t20 : Fin k0_t20_loop.trips) : Fin 3 → Nat :=
  let c0_796 : Index := 0#32
  let c0_797 : Index := 0#32
  let c0_i32_475 : BitVec 32 := 0#32
  let c0_i32_471 : BitVec 32 := 0#32
  let c1_i32_472 : BitVec 32 := 1#32
  let arg17 : BitVec 32 := Scf.iv c0_i32_471 c1_i32_472 k0_t20
  let c1_i32_474 : BitVec 32 := 1#32
  let v1035 : BitVec 32 := Scalar.muli arg17 c1_i32_474
  let v1036 : BitVec 32 := Scalar.addi c0_i32_475 v1035
  let c128_i32 : BitVec 32 := 128#32
  let v1683 : BitVec 32 := Scalar.muli v1036 c128_i32
  let v1684 : BitVec 32 := v1683
  let v1685 : Index := Scalar.indexCast v1684
  ![0, 0, v1685.toNat]
def k0_cond13 (i : grid0.Coords) : BitVec 1 :=
  let arg1 : BitVec 32 := BitVec.ofNat 32 (i 1).val
  let c11_i32_439 : BitVec 32 := 11#32
  let v990 : BitVec 1 := Scalar.cmpi .eq arg1 c11_i32_439
  let v991 : BitVec 32 := Scalar.extui v990
  let c0_i32_440 : BitVec 32 := 0#32
  let v992 : BitVec 1 := Scalar.cmpi .ne v991 c0_i32_440
  v992

@[reducible] def k0_t21_loop : Scf.Loop 32 :=
  let c0_i32_449 : BitVec 32 := 0#32
  let c11_i32_450 : BitVec 32 := 11#32
  let v1005 : BitVec 32 := Scalar.addi c0_i32_449 c11_i32_450
  let c1_i32_451 : BitVec 32 := 1#32
  ⟨c0_i32_449, v1005, c1_i32_451⟩
def k0_mult22 (k0_t21 : Fin k0_t21_loop.trips) : BitVec 32 :=
  let c0_i32_449 : BitVec 32 := 0#32
  let c1_i32_451 : BitVec 32 := 1#32
  let arg17 : BitVec 32 := Scf.iv c0_i32_449 c1_i32_451 k0_t21
  let c256_i32 : BitVec 32 := 256#32
  let v1035 : BitVec 32 := Scalar.muli arg17 c256_i32
  v1035
def k0_off273 (k0_t21 : Fin k0_t21_loop.trips) : Fin 4 → Nat :=
  let c0_474 : Index := 0#32
  let c0_475 : Index := 0#32
  let c0_i32_449 : BitVec 32 := 0#32
  let c1_i32_451 : BitVec 32 := 1#32
  let arg17 : BitVec 32 := Scf.iv c0_i32_449 c1_i32_451 k0_t21
  let c256_i32 : BitVec 32 := 256#32
  let v1035 : BitVec 32 := Scalar.muli arg17 c256_i32
  let v1036 : BitVec 32 := v1035
  let v1037 : Index := Scalar.indexCast v1036
  let c0_476 : Index := 0#32
  ![0, 0, v1037.toNat, 0]
def k0_off274 (k0_t21 : Fin k0_t21_loop.trips) : Fin 3 → Nat :=
  let c0_481 : Index := 0#32
  let c0_i32_449 : BitVec 32 := 0#32
  let c1_i32_451 : BitVec 32 := 1#32
  let arg17 : BitVec 32 := Scf.iv c0_i32_449 c1_i32_451 k0_t21
  let c256_i32 : BitVec 32 := 256#32
  let v1035 : BitVec 32 := Scalar.muli arg17 c256_i32
  let v1036 : BitVec 32 := v1035
  let v1043 : Index := Scalar.indexCast v1036
  let c0_482 : Index := 0#32
  ![0, v1043.toNat, 0]
def k0_off275 (k0_t21 : Fin k0_t21_loop.trips) : Fin 2 → Nat :=
  let c0_i32_449 : BitVec 32 := 0#32
  let c1_i32_451 : BitVec 32 := 1#32
  let arg17 : BitVec 32 := Scf.iv c0_i32_449 c1_i32_451 k0_t21
  let c256_i32 : BitVec 32 := 256#32
  let v1035 : BitVec 32 := Scalar.muli arg17 c256_i32
  let v1036 : BitVec 32 := v1035
  let v1048 : Index := Scalar.indexCast v1036
  let c0_483 : Index := 0#32
  ![v1048.toNat, 0]
@[reducible] def k0_t22_loop : Scf.Loop 32 :=
  let c0_i32_471 : BitVec 32 := 0#32
  let c32_i32 : BitVec 32 := 32#32
  let v1034 : BitVec 32 := Scalar.addi c0_i32_471 c32_i32
  let c1_i32_472 : BitVec 32 := 1#32
  ⟨c0_i32_471, v1034, c1_i32_472⟩
def k0_off276 (k0_t22 : Fin k0_t22_loop.trips) : Fin 2 → Nat :=
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let v1039 : Index := Scalar.indexCast v1036
  let c0_478 : Index := 0#32
  ![v1039.toNat, 0]
def k0_off277 (k0_t22 : Fin k0_t22_loop.trips) : Fin 4 → Nat :=
  let c0_494 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1073 : Index := Scalar.indexCast v1061
  let c0_495 : Index := 0#32
  let c0_496 : Index := 0#32
  ![0, v1073.toNat, 0, 0]
def k0_off278 (k0_t22 : Fin k0_t22_loop.trips) : Fin 4 → Nat :=
  let c0_507 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1100 : Index := Scalar.indexCast v1099
  let c0_508 : Index := 0#32
  let c0_509 : Index := 0#32
  ![0, v1100.toNat, 0, 0]
def k0_off279 (k0_t22 : Fin k0_t22_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let v1103 : Index := Scalar.indexCast v1038
  let c0_510 : Index := 0#32
  let c0_511 : Index := 0#32
  ![v1103.toNat, 0, 0]
def k0_off280 (k0_t22 : Fin k0_t22_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1107 : Index := Scalar.indexCast v1099
  let c0_513 : Index := 0#32
  let c0_514 : Index := 0#32
  ![v1107.toNat, 0, 0]
def k0_off281 (k0_t22 : Fin k0_t22_loop.trips) : Fin 4 → Nat :=
  let c0_521 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1127 : Index := Scalar.indexCast v1061
  let c0_522 : Index := 0#32
  let c256_523 : Index := 256#32
  ![0, v1127.toNat, 0, 256]
def k0_off282 (k0_t22 : Fin k0_t22_loop.trips) : Fin 4 → Nat :=
  let c0_534 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1154 : Index := Scalar.indexCast v1153
  let c256_535 : Index := 256#32
  let c0_536 : Index := 0#32
  ![0, v1154.toNat, 256, 0]
def k0_off283 (k0_t22 : Fin k0_t22_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1161 : Index := Scalar.indexCast v1153
  let c256_540 : Index := 256#32
  let c0_541 : Index := 0#32
  ![v1161.toNat, 256, 0]
def k0_off284 (k0_t22 : Fin k0_t22_loop.trips) : Fin 4 → Nat :=
  let c0_548 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1181 : Index := Scalar.indexCast v1061
  let c0_549 : Index := 0#32
  let c512_550 : Index := 512#32
  ![0, v1181.toNat, 0, 512]
def k0_off285 (k0_t22 : Fin k0_t22_loop.trips) : Fin 4 → Nat :=
  let c0_561 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1208 : Index := Scalar.indexCast v1207
  let c512_562 : Index := 512#32
  let c0_563 : Index := 0#32
  ![0, v1208.toNat, 512, 0]
def k0_off286 (k0_t22 : Fin k0_t22_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1215 : Index := Scalar.indexCast v1207
  let c512_567 : Index := 512#32
  let c0_568 : Index := 0#32
  ![v1215.toNat, 512, 0]
def k0_off287 (k0_t22 : Fin k0_t22_loop.trips) : Fin 4 → Nat :=
  let c0_575 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1235 : Index := Scalar.indexCast v1061
  let c0_576 : Index := 0#32
  let c768_577 : Index := 768#32
  ![0, v1235.toNat, 0, 768]
def k0_off288 (k0_t22 : Fin k0_t22_loop.trips) : Fin 4 → Nat :=
  let c0_588 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1262 : Index := Scalar.indexCast v1261
  let c768_589 : Index := 768#32
  let c0_590 : Index := 0#32
  ![0, v1262.toNat, 768, 0]
def k0_off289 (k0_t22 : Fin k0_t22_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1269 : Index := Scalar.indexCast v1261
  let c768_594 : Index := 768#32
  let c0_595 : Index := 0#32
  ![v1269.toNat, 768, 0]
def k0_off290 (k0_t22 : Fin k0_t22_loop.trips) : Fin 4 → Nat :=
  let c0_602 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1289 : Index := Scalar.indexCast v1061
  let c0_603 : Index := 0#32
  let c1024_604 : Index := 1024#32
  ![0, v1289.toNat, 0, 1024]
def k0_off291 (k0_t22 : Fin k0_t22_loop.trips) : Fin 4 → Nat :=
  let c0_615 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1316 : Index := Scalar.indexCast v1315
  let c1024_616 : Index := 1024#32
  let c0_617 : Index := 0#32
  ![0, v1316.toNat, 1024, 0]
def k0_off292 (k0_t22 : Fin k0_t22_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1323 : Index := Scalar.indexCast v1315
  let c1024_621 : Index := 1024#32
  let c0_622 : Index := 0#32
  ![v1323.toNat, 1024, 0]
def k0_off293 (k0_t22 : Fin k0_t22_loop.trips) : Fin 4 → Nat :=
  let c0_629 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1343 : Index := Scalar.indexCast v1061
  let c0_630 : Index := 0#32
  let c1280_631 : Index := 1280#32
  ![0, v1343.toNat, 0, 1280]
def k0_off294 (k0_t22 : Fin k0_t22_loop.trips) : Fin 4 → Nat :=
  let c0_642 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1370 : Index := Scalar.indexCast v1369
  let c1280_643 : Index := 1280#32
  let c0_644 : Index := 0#32
  ![0, v1370.toNat, 1280, 0]
def k0_off295 (k0_t22 : Fin k0_t22_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1377 : Index := Scalar.indexCast v1369
  let c1280_648 : Index := 1280#32
  let c0_649 : Index := 0#32
  ![v1377.toNat, 1280, 0]
def k0_off296 (k0_t22 : Fin k0_t22_loop.trips) : Fin 4 → Nat :=
  let c0_656 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1397 : Index := Scalar.indexCast v1061
  let c0_657 : Index := 0#32
  let c1536_658 : Index := 1536#32
  ![0, v1397.toNat, 0, 1536]
def k0_off297 (k0_t22 : Fin k0_t22_loop.trips) : Fin 4 → Nat :=
  let c0_669 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_663 : BitVec 32 := 0#32
  let v1408 : BitVec 1 := Scalar.cmpi .sgt v1038 c0_i32_663
  let v1409 : BitVec 32 := Scalar.extui v1408
  let c0_i32_664 : BitVec 32 := 0#32
  let v1410 : BitVec 1 := Scalar.cmpi .slt v1038 c0_i32_664
  let v1411 : BitVec 32 := Scalar.extui v1410
  let v1412 : BitVec 32 := Scalar.subi v1409 v1411
  let c4_i32_662 : BitVec 32 := 4#32
  let c0_i32_665 : BitVec 32 := 0#32
  let v1413 : BitVec 1 := Scalar.cmpi .sgt c4_i32_662 c0_i32_665
  let v1414 : BitVec 32 := Scalar.extui v1413
  let c0_i32_666 : BitVec 32 := 0#32
  let v1415 : BitVec 1 := Scalar.cmpi .slt c4_i32_662 c0_i32_666
  let v1416 : BitVec 32 := Scalar.extui v1415
  let v1417 : BitVec 32 := Scalar.subi v1414 v1416
  let v1418 : BitVec 1 := Scalar.cmpi .ne v1412 v1417
  let v1419 : BitVec 32 := Scalar.remsi v1038 c4_i32_662
  let c0_i32_667 : BitVec 32 := 0#32
  let v1420 : BitVec 1 := Scalar.cmpi .ne v1419 c0_i32_667
  let v1421 : BitVec 1 := Scalar.andi v1418 v1420
  let v1407 : BitVec 32 := Scalar.divsi v1038 c4_i32_662
  let c1_i32_668 : BitVec 32 := 1#32
  let v1422 : BitVec 32 := Scalar.subi v1407 c1_i32_668
  let v1423 : BitVec 32 := Scalar.select v1421 v1422 v1407
  let v1424 : Index := Scalar.indexCast v1423
  let c1536_670 : Index := 1536#32
  let c0_671 : Index := 0#32
  ![0, v1424.toNat, 1536, 0]
def k0_off298 (k0_t22 : Fin k0_t22_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_663 : BitVec 32 := 0#32
  let v1408 : BitVec 1 := Scalar.cmpi .sgt v1038 c0_i32_663
  let v1409 : BitVec 32 := Scalar.extui v1408
  let c0_i32_664 : BitVec 32 := 0#32
  let v1410 : BitVec 1 := Scalar.cmpi .slt v1038 c0_i32_664
  let v1411 : BitVec 32 := Scalar.extui v1410
  let v1412 : BitVec 32 := Scalar.subi v1409 v1411
  let c4_i32_662 : BitVec 32 := 4#32
  let c0_i32_665 : BitVec 32 := 0#32
  let v1413 : BitVec 1 := Scalar.cmpi .sgt c4_i32_662 c0_i32_665
  let v1414 : BitVec 32 := Scalar.extui v1413
  let c0_i32_666 : BitVec 32 := 0#32
  let v1415 : BitVec 1 := Scalar.cmpi .slt c4_i32_662 c0_i32_666
  let v1416 : BitVec 32 := Scalar.extui v1415
  let v1417 : BitVec 32 := Scalar.subi v1414 v1416
  let v1418 : BitVec 1 := Scalar.cmpi .ne v1412 v1417
  let v1419 : BitVec 32 := Scalar.remsi v1038 c4_i32_662
  let c0_i32_667 : BitVec 32 := 0#32
  let v1420 : BitVec 1 := Scalar.cmpi .ne v1419 c0_i32_667
  let v1421 : BitVec 1 := Scalar.andi v1418 v1420
  let v1407 : BitVec 32 := Scalar.divsi v1038 c4_i32_662
  let c1_i32_668 : BitVec 32 := 1#32
  let v1422 : BitVec 32 := Scalar.subi v1407 c1_i32_668
  let v1423 : BitVec 32 := Scalar.select v1421 v1422 v1407
  let v1431 : Index := Scalar.indexCast v1423
  let c1536_675 : Index := 1536#32
  let c0_676 : Index := 0#32
  ![v1431.toNat, 1536, 0]
def k0_off299 (k0_t22 : Fin k0_t22_loop.trips) : Fin 4 → Nat :=
  let c0_683 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1451 : Index := Scalar.indexCast v1061
  let c0_684 : Index := 0#32
  let c1792_685 : Index := 1792#32
  ![0, v1451.toNat, 0, 1792]
def k0_off300 (k0_t22 : Fin k0_t22_loop.trips) : Fin 4 → Nat :=
  let c0_696 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_690 : BitVec 32 := 0#32
  let v1462 : BitVec 1 := Scalar.cmpi .sgt v1038 c0_i32_690
  let v1463 : BitVec 32 := Scalar.extui v1462
  let c0_i32_691 : BitVec 32 := 0#32
  let v1464 : BitVec 1 := Scalar.cmpi .slt v1038 c0_i32_691
  let v1465 : BitVec 32 := Scalar.extui v1464
  let v1466 : BitVec 32 := Scalar.subi v1463 v1465
  let c4_i32_689 : BitVec 32 := 4#32
  let c0_i32_692 : BitVec 32 := 0#32
  let v1467 : BitVec 1 := Scalar.cmpi .sgt c4_i32_689 c0_i32_692
  let v1468 : BitVec 32 := Scalar.extui v1467
  let c0_i32_693 : BitVec 32 := 0#32
  let v1469 : BitVec 1 := Scalar.cmpi .slt c4_i32_689 c0_i32_693
  let v1470 : BitVec 32 := Scalar.extui v1469
  let v1471 : BitVec 32 := Scalar.subi v1468 v1470
  let v1472 : BitVec 1 := Scalar.cmpi .ne v1466 v1471
  let v1473 : BitVec 32 := Scalar.remsi v1038 c4_i32_689
  let c0_i32_694 : BitVec 32 := 0#32
  let v1474 : BitVec 1 := Scalar.cmpi .ne v1473 c0_i32_694
  let v1475 : BitVec 1 := Scalar.andi v1472 v1474
  let v1461 : BitVec 32 := Scalar.divsi v1038 c4_i32_689
  let c1_i32_695 : BitVec 32 := 1#32
  let v1476 : BitVec 32 := Scalar.subi v1461 c1_i32_695
  let v1477 : BitVec 32 := Scalar.select v1475 v1476 v1461
  let v1478 : Index := Scalar.indexCast v1477
  let c1792_697 : Index := 1792#32
  let c0_698 : Index := 0#32
  ![0, v1478.toNat, 1792, 0]
def k0_off301 (k0_t22 : Fin k0_t22_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_690 : BitVec 32 := 0#32
  let v1462 : BitVec 1 := Scalar.cmpi .sgt v1038 c0_i32_690
  let v1463 : BitVec 32 := Scalar.extui v1462
  let c0_i32_691 : BitVec 32 := 0#32
  let v1464 : BitVec 1 := Scalar.cmpi .slt v1038 c0_i32_691
  let v1465 : BitVec 32 := Scalar.extui v1464
  let v1466 : BitVec 32 := Scalar.subi v1463 v1465
  let c4_i32_689 : BitVec 32 := 4#32
  let c0_i32_692 : BitVec 32 := 0#32
  let v1467 : BitVec 1 := Scalar.cmpi .sgt c4_i32_689 c0_i32_692
  let v1468 : BitVec 32 := Scalar.extui v1467
  let c0_i32_693 : BitVec 32 := 0#32
  let v1469 : BitVec 1 := Scalar.cmpi .slt c4_i32_689 c0_i32_693
  let v1470 : BitVec 32 := Scalar.extui v1469
  let v1471 : BitVec 32 := Scalar.subi v1468 v1470
  let v1472 : BitVec 1 := Scalar.cmpi .ne v1466 v1471
  let v1473 : BitVec 32 := Scalar.remsi v1038 c4_i32_689
  let c0_i32_694 : BitVec 32 := 0#32
  let v1474 : BitVec 1 := Scalar.cmpi .ne v1473 c0_i32_694
  let v1475 : BitVec 1 := Scalar.andi v1472 v1474
  let v1461 : BitVec 32 := Scalar.divsi v1038 c4_i32_689
  let c1_i32_695 : BitVec 32 := 1#32
  let v1476 : BitVec 32 := Scalar.subi v1461 c1_i32_695
  let v1477 : BitVec 32 := Scalar.select v1475 v1476 v1461
  let v1485 : Index := Scalar.indexCast v1477
  let c1792_702 : Index := 1792#32
  let c0_703 : Index := 0#32
  ![v1485.toNat, 1792, 0]
def k0_off302 (k0_t22 : Fin k0_t22_loop.trips) : Fin 4 → Nat :=
  let c0_710 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1505 : Index := Scalar.indexCast v1061
  let c0_711 : Index := 0#32
  let c2048_712 : Index := 2048#32
  ![0, v1505.toNat, 0, 2048]
def k0_off303 (k0_t22 : Fin k0_t22_loop.trips) : Fin 4 → Nat :=
  let c0_723 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_717 : BitVec 32 := 0#32
  let v1516 : BitVec 1 := Scalar.cmpi .sgt v1038 c0_i32_717
  let v1517 : BitVec 32 := Scalar.extui v1516
  let c0_i32_718 : BitVec 32 := 0#32
  let v1518 : BitVec 1 := Scalar.cmpi .slt v1038 c0_i32_718
  let v1519 : BitVec 32 := Scalar.extui v1518
  let v1520 : BitVec 32 := Scalar.subi v1517 v1519
  let c4_i32_716 : BitVec 32 := 4#32
  let c0_i32_719 : BitVec 32 := 0#32
  let v1521 : BitVec 1 := Scalar.cmpi .sgt c4_i32_716 c0_i32_719
  let v1522 : BitVec 32 := Scalar.extui v1521
  let c0_i32_720 : BitVec 32 := 0#32
  let v1523 : BitVec 1 := Scalar.cmpi .slt c4_i32_716 c0_i32_720
  let v1524 : BitVec 32 := Scalar.extui v1523
  let v1525 : BitVec 32 := Scalar.subi v1522 v1524
  let v1526 : BitVec 1 := Scalar.cmpi .ne v1520 v1525
  let v1527 : BitVec 32 := Scalar.remsi v1038 c4_i32_716
  let c0_i32_721 : BitVec 32 := 0#32
  let v1528 : BitVec 1 := Scalar.cmpi .ne v1527 c0_i32_721
  let v1529 : BitVec 1 := Scalar.andi v1526 v1528
  let v1515 : BitVec 32 := Scalar.divsi v1038 c4_i32_716
  let c1_i32_722 : BitVec 32 := 1#32
  let v1530 : BitVec 32 := Scalar.subi v1515 c1_i32_722
  let v1531 : BitVec 32 := Scalar.select v1529 v1530 v1515
  let v1532 : Index := Scalar.indexCast v1531
  let c2048_724 : Index := 2048#32
  let c0_725 : Index := 0#32
  ![0, v1532.toNat, 2048, 0]
def k0_off304 (k0_t22 : Fin k0_t22_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_717 : BitVec 32 := 0#32
  let v1516 : BitVec 1 := Scalar.cmpi .sgt v1038 c0_i32_717
  let v1517 : BitVec 32 := Scalar.extui v1516
  let c0_i32_718 : BitVec 32 := 0#32
  let v1518 : BitVec 1 := Scalar.cmpi .slt v1038 c0_i32_718
  let v1519 : BitVec 32 := Scalar.extui v1518
  let v1520 : BitVec 32 := Scalar.subi v1517 v1519
  let c4_i32_716 : BitVec 32 := 4#32
  let c0_i32_719 : BitVec 32 := 0#32
  let v1521 : BitVec 1 := Scalar.cmpi .sgt c4_i32_716 c0_i32_719
  let v1522 : BitVec 32 := Scalar.extui v1521
  let c0_i32_720 : BitVec 32 := 0#32
  let v1523 : BitVec 1 := Scalar.cmpi .slt c4_i32_716 c0_i32_720
  let v1524 : BitVec 32 := Scalar.extui v1523
  let v1525 : BitVec 32 := Scalar.subi v1522 v1524
  let v1526 : BitVec 1 := Scalar.cmpi .ne v1520 v1525
  let v1527 : BitVec 32 := Scalar.remsi v1038 c4_i32_716
  let c0_i32_721 : BitVec 32 := 0#32
  let v1528 : BitVec 1 := Scalar.cmpi .ne v1527 c0_i32_721
  let v1529 : BitVec 1 := Scalar.andi v1526 v1528
  let v1515 : BitVec 32 := Scalar.divsi v1038 c4_i32_716
  let c1_i32_722 : BitVec 32 := 1#32
  let v1530 : BitVec 32 := Scalar.subi v1515 c1_i32_722
  let v1531 : BitVec 32 := Scalar.select v1529 v1530 v1515
  let v1539 : Index := Scalar.indexCast v1531
  let c2048_729 : Index := 2048#32
  let c0_730 : Index := 0#32
  ![v1539.toNat, 2048, 0]
def k0_off305 (k0_t22 : Fin k0_t22_loop.trips) : Fin 4 → Nat :=
  let c0_737 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1559 : Index := Scalar.indexCast v1061
  let c0_738 : Index := 0#32
  let c2304_739 : Index := 2304#32
  ![0, v1559.toNat, 0, 2304]
def k0_off306 (k0_t22 : Fin k0_t22_loop.trips) : Fin 4 → Nat :=
  let c0_750 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_744 : BitVec 32 := 0#32
  let v1570 : BitVec 1 := Scalar.cmpi .sgt v1038 c0_i32_744
  let v1571 : BitVec 32 := Scalar.extui v1570
  let c0_i32_745 : BitVec 32 := 0#32
  let v1572 : BitVec 1 := Scalar.cmpi .slt v1038 c0_i32_745
  let v1573 : BitVec 32 := Scalar.extui v1572
  let v1574 : BitVec 32 := Scalar.subi v1571 v1573
  let c4_i32_743 : BitVec 32 := 4#32
  let c0_i32_746 : BitVec 32 := 0#32
  let v1575 : BitVec 1 := Scalar.cmpi .sgt c4_i32_743 c0_i32_746
  let v1576 : BitVec 32 := Scalar.extui v1575
  let c0_i32_747 : BitVec 32 := 0#32
  let v1577 : BitVec 1 := Scalar.cmpi .slt c4_i32_743 c0_i32_747
  let v1578 : BitVec 32 := Scalar.extui v1577
  let v1579 : BitVec 32 := Scalar.subi v1576 v1578
  let v1580 : BitVec 1 := Scalar.cmpi .ne v1574 v1579
  let v1581 : BitVec 32 := Scalar.remsi v1038 c4_i32_743
  let c0_i32_748 : BitVec 32 := 0#32
  let v1582 : BitVec 1 := Scalar.cmpi .ne v1581 c0_i32_748
  let v1583 : BitVec 1 := Scalar.andi v1580 v1582
  let v1569 : BitVec 32 := Scalar.divsi v1038 c4_i32_743
  let c1_i32_749 : BitVec 32 := 1#32
  let v1584 : BitVec 32 := Scalar.subi v1569 c1_i32_749
  let v1585 : BitVec 32 := Scalar.select v1583 v1584 v1569
  let v1586 : Index := Scalar.indexCast v1585
  let c2304_751 : Index := 2304#32
  let c0_752 : Index := 0#32
  ![0, v1586.toNat, 2304, 0]
def k0_off307 (k0_t22 : Fin k0_t22_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_744 : BitVec 32 := 0#32
  let v1570 : BitVec 1 := Scalar.cmpi .sgt v1038 c0_i32_744
  let v1571 : BitVec 32 := Scalar.extui v1570
  let c0_i32_745 : BitVec 32 := 0#32
  let v1572 : BitVec 1 := Scalar.cmpi .slt v1038 c0_i32_745
  let v1573 : BitVec 32 := Scalar.extui v1572
  let v1574 : BitVec 32 := Scalar.subi v1571 v1573
  let c4_i32_743 : BitVec 32 := 4#32
  let c0_i32_746 : BitVec 32 := 0#32
  let v1575 : BitVec 1 := Scalar.cmpi .sgt c4_i32_743 c0_i32_746
  let v1576 : BitVec 32 := Scalar.extui v1575
  let c0_i32_747 : BitVec 32 := 0#32
  let v1577 : BitVec 1 := Scalar.cmpi .slt c4_i32_743 c0_i32_747
  let v1578 : BitVec 32 := Scalar.extui v1577
  let v1579 : BitVec 32 := Scalar.subi v1576 v1578
  let v1580 : BitVec 1 := Scalar.cmpi .ne v1574 v1579
  let v1581 : BitVec 32 := Scalar.remsi v1038 c4_i32_743
  let c0_i32_748 : BitVec 32 := 0#32
  let v1582 : BitVec 1 := Scalar.cmpi .ne v1581 c0_i32_748
  let v1583 : BitVec 1 := Scalar.andi v1580 v1582
  let v1569 : BitVec 32 := Scalar.divsi v1038 c4_i32_743
  let c1_i32_749 : BitVec 32 := 1#32
  let v1584 : BitVec 32 := Scalar.subi v1569 c1_i32_749
  let v1585 : BitVec 32 := Scalar.select v1583 v1584 v1569
  let v1593 : Index := Scalar.indexCast v1585
  let c2304_756 : Index := 2304#32
  let c0_757 : Index := 0#32
  ![v1593.toNat, 2304, 0]
def k0_off308 (k0_t22 : Fin k0_t22_loop.trips) : Fin 4 → Nat :=
  let c0_764 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1613 : Index := Scalar.indexCast v1061
  let c0_765 : Index := 0#32
  let c2560_766 : Index := 2560#32
  ![0, v1613.toNat, 0, 2560]
def k0_off309 (k0_t22 : Fin k0_t22_loop.trips) : Fin 4 → Nat :=
  let c0_777 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_771 : BitVec 32 := 0#32
  let v1624 : BitVec 1 := Scalar.cmpi .sgt v1038 c0_i32_771
  let v1625 : BitVec 32 := Scalar.extui v1624
  let c0_i32_772 : BitVec 32 := 0#32
  let v1626 : BitVec 1 := Scalar.cmpi .slt v1038 c0_i32_772
  let v1627 : BitVec 32 := Scalar.extui v1626
  let v1628 : BitVec 32 := Scalar.subi v1625 v1627
  let c4_i32_770 : BitVec 32 := 4#32
  let c0_i32_773 : BitVec 32 := 0#32
  let v1629 : BitVec 1 := Scalar.cmpi .sgt c4_i32_770 c0_i32_773
  let v1630 : BitVec 32 := Scalar.extui v1629
  let c0_i32_774 : BitVec 32 := 0#32
  let v1631 : BitVec 1 := Scalar.cmpi .slt c4_i32_770 c0_i32_774
  let v1632 : BitVec 32 := Scalar.extui v1631
  let v1633 : BitVec 32 := Scalar.subi v1630 v1632
  let v1634 : BitVec 1 := Scalar.cmpi .ne v1628 v1633
  let v1635 : BitVec 32 := Scalar.remsi v1038 c4_i32_770
  let c0_i32_775 : BitVec 32 := 0#32
  let v1636 : BitVec 1 := Scalar.cmpi .ne v1635 c0_i32_775
  let v1637 : BitVec 1 := Scalar.andi v1634 v1636
  let v1623 : BitVec 32 := Scalar.divsi v1038 c4_i32_770
  let c1_i32_776 : BitVec 32 := 1#32
  let v1638 : BitVec 32 := Scalar.subi v1623 c1_i32_776
  let v1639 : BitVec 32 := Scalar.select v1637 v1638 v1623
  let v1640 : Index := Scalar.indexCast v1639
  let c2560_778 : Index := 2560#32
  let c0_779 : Index := 0#32
  ![0, v1640.toNat, 2560, 0]
def k0_off310 (k0_t22 : Fin k0_t22_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_771 : BitVec 32 := 0#32
  let v1624 : BitVec 1 := Scalar.cmpi .sgt v1038 c0_i32_771
  let v1625 : BitVec 32 := Scalar.extui v1624
  let c0_i32_772 : BitVec 32 := 0#32
  let v1626 : BitVec 1 := Scalar.cmpi .slt v1038 c0_i32_772
  let v1627 : BitVec 32 := Scalar.extui v1626
  let v1628 : BitVec 32 := Scalar.subi v1625 v1627
  let c4_i32_770 : BitVec 32 := 4#32
  let c0_i32_773 : BitVec 32 := 0#32
  let v1629 : BitVec 1 := Scalar.cmpi .sgt c4_i32_770 c0_i32_773
  let v1630 : BitVec 32 := Scalar.extui v1629
  let c0_i32_774 : BitVec 32 := 0#32
  let v1631 : BitVec 1 := Scalar.cmpi .slt c4_i32_770 c0_i32_774
  let v1632 : BitVec 32 := Scalar.extui v1631
  let v1633 : BitVec 32 := Scalar.subi v1630 v1632
  let v1634 : BitVec 1 := Scalar.cmpi .ne v1628 v1633
  let v1635 : BitVec 32 := Scalar.remsi v1038 c4_i32_770
  let c0_i32_775 : BitVec 32 := 0#32
  let v1636 : BitVec 1 := Scalar.cmpi .ne v1635 c0_i32_775
  let v1637 : BitVec 1 := Scalar.andi v1634 v1636
  let v1623 : BitVec 32 := Scalar.divsi v1038 c4_i32_770
  let c1_i32_776 : BitVec 32 := 1#32
  let v1638 : BitVec 32 := Scalar.subi v1623 c1_i32_776
  let v1639 : BitVec 32 := Scalar.select v1637 v1638 v1623
  let v1647 : Index := Scalar.indexCast v1639
  let c2560_783 : Index := 2560#32
  let c0_784 : Index := 0#32
  ![v1647.toNat, 2560, 0]
def k0_off311 (k0_t22 : Fin k0_t22_loop.trips) : Fin 4 → Nat :=
  let c0_791 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1667 : Index := Scalar.indexCast v1061
  let c0_792 : Index := 0#32
  let c2816_793 : Index := 2816#32
  ![0, v1667.toNat, 0, 2816]
def k0_off312 (k0_t22 : Fin k0_t22_loop.trips) : Fin 4 → Nat :=
  let c0_804 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_798 : BitVec 32 := 0#32
  let v1678 : BitVec 1 := Scalar.cmpi .sgt v1038 c0_i32_798
  let v1679 : BitVec 32 := Scalar.extui v1678
  let c0_i32_799 : BitVec 32 := 0#32
  let v1680 : BitVec 1 := Scalar.cmpi .slt v1038 c0_i32_799
  let v1681 : BitVec 32 := Scalar.extui v1680
  let v1682 : BitVec 32 := Scalar.subi v1679 v1681
  let c4_i32_797 : BitVec 32 := 4#32
  let c0_i32_800 : BitVec 32 := 0#32
  let v1683 : BitVec 1 := Scalar.cmpi .sgt c4_i32_797 c0_i32_800
  let v1684 : BitVec 32 := Scalar.extui v1683
  let c0_i32_801 : BitVec 32 := 0#32
  let v1685 : BitVec 1 := Scalar.cmpi .slt c4_i32_797 c0_i32_801
  let v1686 : BitVec 32 := Scalar.extui v1685
  let v1687 : BitVec 32 := Scalar.subi v1684 v1686
  let v1688 : BitVec 1 := Scalar.cmpi .ne v1682 v1687
  let v1689 : BitVec 32 := Scalar.remsi v1038 c4_i32_797
  let c0_i32_802 : BitVec 32 := 0#32
  let v1690 : BitVec 1 := Scalar.cmpi .ne v1689 c0_i32_802
  let v1691 : BitVec 1 := Scalar.andi v1688 v1690
  let v1677 : BitVec 32 := Scalar.divsi v1038 c4_i32_797
  let c1_i32_803 : BitVec 32 := 1#32
  let v1692 : BitVec 32 := Scalar.subi v1677 c1_i32_803
  let v1693 : BitVec 32 := Scalar.select v1691 v1692 v1677
  let v1694 : Index := Scalar.indexCast v1693
  let c2816_805 : Index := 2816#32
  let c0_806 : Index := 0#32
  ![0, v1694.toNat, 2816, 0]
def k0_off313 (k0_t22 : Fin k0_t22_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_798 : BitVec 32 := 0#32
  let v1678 : BitVec 1 := Scalar.cmpi .sgt v1038 c0_i32_798
  let v1679 : BitVec 32 := Scalar.extui v1678
  let c0_i32_799 : BitVec 32 := 0#32
  let v1680 : BitVec 1 := Scalar.cmpi .slt v1038 c0_i32_799
  let v1681 : BitVec 32 := Scalar.extui v1680
  let v1682 : BitVec 32 := Scalar.subi v1679 v1681
  let c4_i32_797 : BitVec 32 := 4#32
  let c0_i32_800 : BitVec 32 := 0#32
  let v1683 : BitVec 1 := Scalar.cmpi .sgt c4_i32_797 c0_i32_800
  let v1684 : BitVec 32 := Scalar.extui v1683
  let c0_i32_801 : BitVec 32 := 0#32
  let v1685 : BitVec 1 := Scalar.cmpi .slt c4_i32_797 c0_i32_801
  let v1686 : BitVec 32 := Scalar.extui v1685
  let v1687 : BitVec 32 := Scalar.subi v1684 v1686
  let v1688 : BitVec 1 := Scalar.cmpi .ne v1682 v1687
  let v1689 : BitVec 32 := Scalar.remsi v1038 c4_i32_797
  let c0_i32_802 : BitVec 32 := 0#32
  let v1690 : BitVec 1 := Scalar.cmpi .ne v1689 c0_i32_802
  let v1691 : BitVec 1 := Scalar.andi v1688 v1690
  let v1677 : BitVec 32 := Scalar.divsi v1038 c4_i32_797
  let c1_i32_803 : BitVec 32 := 1#32
  let v1692 : BitVec 32 := Scalar.subi v1677 c1_i32_803
  let v1693 : BitVec 32 := Scalar.select v1691 v1692 v1677
  let v1701 : Index := Scalar.indexCast v1693
  let c2816_810 : Index := 2816#32
  let c0_811 : Index := 0#32
  ![v1701.toNat, 2816, 0]
def k0_off314 (k0_t22 : Fin k0_t22_loop.trips) : Fin 3 → Nat :=
  let c0_821 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1731 : Index := Scalar.indexCast v1061
  let c0_822 : Index := 0#32
  ![0, v1731.toNat, 0]
def k0_mult23 (k0_t22 : Fin k0_t22_loop.trips) : BitVec 32 :=
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c128_i32 : BitVec 32 := 128#32
  let v1737 : BitVec 32 := Scalar.muli v1036 c128_i32
  v1737
def k0_off315 (k0_t22 : Fin k0_t22_loop.trips) : Fin 3 → Nat :=
  let c0_823 : Index := 0#32
  let c0_824 : Index := 0#32
  let c0_i32_475 : BitVec 32 := 0#32
  let c0_i32_471 : BitVec 32 := 0#32
  let c1_i32_472 : BitVec 32 := 1#32
  let arg17 : BitVec 32 := Scf.iv c0_i32_471 c1_i32_472 k0_t22
  let c1_i32_474 : BitVec 32 := 1#32
  let v1035 : BitVec 32 := Scalar.muli arg17 c1_i32_474
  let v1036 : BitVec 32 := Scalar.addi c0_i32_475 v1035
  let c128_i32 : BitVec 32 := 128#32
  let v1737 : BitVec 32 := Scalar.muli v1036 c128_i32
  let v1738 : BitVec 32 := v1737
  let v1739 : Index := Scalar.indexCast v1738
  ![0, 0, v1739.toNat]
def k0_cond14 (i : grid0.Coords) : BitVec 1 :=
  let arg1 : BitVec 32 := BitVec.ofNat 32 (i 1).val
  let c12_i32_441 : BitVec 32 := 12#32
  let v993 : BitVec 1 := Scalar.cmpi .eq arg1 c12_i32_441
  let v994 : BitVec 32 := Scalar.extui v993
  let c0_i32_442 : BitVec 32 := 0#32
  let v995 : BitVec 1 := Scalar.cmpi .ne v994 c0_i32_442
  v995

@[reducible] def k0_t23_loop : Scf.Loop 32 :=
  let c0_i32_449 : BitVec 32 := 0#32
  let c12_i32_450 : BitVec 32 := 12#32
  let v1005 : BitVec 32 := Scalar.addi c0_i32_449 c12_i32_450
  let c1_i32_451 : BitVec 32 := 1#32
  ⟨c0_i32_449, v1005, c1_i32_451⟩
def k0_mult24 (k0_t23 : Fin k0_t23_loop.trips) : BitVec 32 :=
  let c0_i32_449 : BitVec 32 := 0#32
  let c1_i32_451 : BitVec 32 := 1#32
  let arg17 : BitVec 32 := Scf.iv c0_i32_449 c1_i32_451 k0_t23
  let c256_i32 : BitVec 32 := 256#32
  let v1035 : BitVec 32 := Scalar.muli arg17 c256_i32
  v1035
def k0_off316 (k0_t23 : Fin k0_t23_loop.trips) : Fin 4 → Nat :=
  let c0_474 : Index := 0#32
  let c0_475 : Index := 0#32
  let c0_i32_449 : BitVec 32 := 0#32
  let c1_i32_451 : BitVec 32 := 1#32
  let arg17 : BitVec 32 := Scf.iv c0_i32_449 c1_i32_451 k0_t23
  let c256_i32 : BitVec 32 := 256#32
  let v1035 : BitVec 32 := Scalar.muli arg17 c256_i32
  let v1036 : BitVec 32 := v1035
  let v1037 : Index := Scalar.indexCast v1036
  let c0_476 : Index := 0#32
  ![0, 0, v1037.toNat, 0]
def k0_off317 (k0_t23 : Fin k0_t23_loop.trips) : Fin 3 → Nat :=
  let c0_481 : Index := 0#32
  let c0_i32_449 : BitVec 32 := 0#32
  let c1_i32_451 : BitVec 32 := 1#32
  let arg17 : BitVec 32 := Scf.iv c0_i32_449 c1_i32_451 k0_t23
  let c256_i32 : BitVec 32 := 256#32
  let v1035 : BitVec 32 := Scalar.muli arg17 c256_i32
  let v1036 : BitVec 32 := v1035
  let v1043 : Index := Scalar.indexCast v1036
  let c0_482 : Index := 0#32
  ![0, v1043.toNat, 0]
def k0_off318 (k0_t23 : Fin k0_t23_loop.trips) : Fin 2 → Nat :=
  let c0_i32_449 : BitVec 32 := 0#32
  let c1_i32_451 : BitVec 32 := 1#32
  let arg17 : BitVec 32 := Scf.iv c0_i32_449 c1_i32_451 k0_t23
  let c256_i32 : BitVec 32 := 256#32
  let v1035 : BitVec 32 := Scalar.muli arg17 c256_i32
  let v1036 : BitVec 32 := v1035
  let v1048 : Index := Scalar.indexCast v1036
  let c0_483 : Index := 0#32
  ![v1048.toNat, 0]
@[reducible] def k0_t24_loop : Scf.Loop 32 :=
  let c0_i32_471 : BitVec 32 := 0#32
  let c32_i32 : BitVec 32 := 32#32
  let v1034 : BitVec 32 := Scalar.addi c0_i32_471 c32_i32
  let c1_i32_472 : BitVec 32 := 1#32
  ⟨c0_i32_471, v1034, c1_i32_472⟩
def k0_off319 (k0_t24 : Fin k0_t24_loop.trips) : Fin 2 → Nat :=
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let v1039 : Index := Scalar.indexCast v1036
  let c0_478 : Index := 0#32
  ![v1039.toNat, 0]
def k0_off320 (k0_t24 : Fin k0_t24_loop.trips) : Fin 4 → Nat :=
  let c0_494 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1073 : Index := Scalar.indexCast v1061
  let c0_495 : Index := 0#32
  let c0_496 : Index := 0#32
  ![0, v1073.toNat, 0, 0]
def k0_off321 (k0_t24 : Fin k0_t24_loop.trips) : Fin 4 → Nat :=
  let c0_507 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1100 : Index := Scalar.indexCast v1099
  let c0_508 : Index := 0#32
  let c0_509 : Index := 0#32
  ![0, v1100.toNat, 0, 0]
def k0_off322 (k0_t24 : Fin k0_t24_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let v1103 : Index := Scalar.indexCast v1038
  let c0_510 : Index := 0#32
  let c0_511 : Index := 0#32
  ![v1103.toNat, 0, 0]
def k0_off323 (k0_t24 : Fin k0_t24_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1107 : Index := Scalar.indexCast v1099
  let c0_513 : Index := 0#32
  let c0_514 : Index := 0#32
  ![v1107.toNat, 0, 0]
def k0_off324 (k0_t24 : Fin k0_t24_loop.trips) : Fin 4 → Nat :=
  let c0_521 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1127 : Index := Scalar.indexCast v1061
  let c0_522 : Index := 0#32
  let c256_523 : Index := 256#32
  ![0, v1127.toNat, 0, 256]
def k0_off325 (k0_t24 : Fin k0_t24_loop.trips) : Fin 4 → Nat :=
  let c0_534 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1154 : Index := Scalar.indexCast v1153
  let c256_535 : Index := 256#32
  let c0_536 : Index := 0#32
  ![0, v1154.toNat, 256, 0]
def k0_off326 (k0_t24 : Fin k0_t24_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1161 : Index := Scalar.indexCast v1153
  let c256_540 : Index := 256#32
  let c0_541 : Index := 0#32
  ![v1161.toNat, 256, 0]
def k0_off327 (k0_t24 : Fin k0_t24_loop.trips) : Fin 4 → Nat :=
  let c0_548 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1181 : Index := Scalar.indexCast v1061
  let c0_549 : Index := 0#32
  let c512_550 : Index := 512#32
  ![0, v1181.toNat, 0, 512]
def k0_off328 (k0_t24 : Fin k0_t24_loop.trips) : Fin 4 → Nat :=
  let c0_561 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1208 : Index := Scalar.indexCast v1207
  let c512_562 : Index := 512#32
  let c0_563 : Index := 0#32
  ![0, v1208.toNat, 512, 0]
def k0_off329 (k0_t24 : Fin k0_t24_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1215 : Index := Scalar.indexCast v1207
  let c512_567 : Index := 512#32
  let c0_568 : Index := 0#32
  ![v1215.toNat, 512, 0]
def k0_off330 (k0_t24 : Fin k0_t24_loop.trips) : Fin 4 → Nat :=
  let c0_575 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1235 : Index := Scalar.indexCast v1061
  let c0_576 : Index := 0#32
  let c768_577 : Index := 768#32
  ![0, v1235.toNat, 0, 768]
def k0_off331 (k0_t24 : Fin k0_t24_loop.trips) : Fin 4 → Nat :=
  let c0_588 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1262 : Index := Scalar.indexCast v1261
  let c768_589 : Index := 768#32
  let c0_590 : Index := 0#32
  ![0, v1262.toNat, 768, 0]
def k0_off332 (k0_t24 : Fin k0_t24_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1269 : Index := Scalar.indexCast v1261
  let c768_594 : Index := 768#32
  let c0_595 : Index := 0#32
  ![v1269.toNat, 768, 0]
def k0_off333 (k0_t24 : Fin k0_t24_loop.trips) : Fin 4 → Nat :=
  let c0_602 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1289 : Index := Scalar.indexCast v1061
  let c0_603 : Index := 0#32
  let c1024_604 : Index := 1024#32
  ![0, v1289.toNat, 0, 1024]
def k0_off334 (k0_t24 : Fin k0_t24_loop.trips) : Fin 4 → Nat :=
  let c0_615 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1316 : Index := Scalar.indexCast v1315
  let c1024_616 : Index := 1024#32
  let c0_617 : Index := 0#32
  ![0, v1316.toNat, 1024, 0]
def k0_off335 (k0_t24 : Fin k0_t24_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1323 : Index := Scalar.indexCast v1315
  let c1024_621 : Index := 1024#32
  let c0_622 : Index := 0#32
  ![v1323.toNat, 1024, 0]
def k0_off336 (k0_t24 : Fin k0_t24_loop.trips) : Fin 4 → Nat :=
  let c0_629 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1343 : Index := Scalar.indexCast v1061
  let c0_630 : Index := 0#32
  let c1280_631 : Index := 1280#32
  ![0, v1343.toNat, 0, 1280]
def k0_off337 (k0_t24 : Fin k0_t24_loop.trips) : Fin 4 → Nat :=
  let c0_642 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1370 : Index := Scalar.indexCast v1369
  let c1280_643 : Index := 1280#32
  let c0_644 : Index := 0#32
  ![0, v1370.toNat, 1280, 0]
def k0_off338 (k0_t24 : Fin k0_t24_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1377 : Index := Scalar.indexCast v1369
  let c1280_648 : Index := 1280#32
  let c0_649 : Index := 0#32
  ![v1377.toNat, 1280, 0]
def k0_off339 (k0_t24 : Fin k0_t24_loop.trips) : Fin 4 → Nat :=
  let c0_656 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1397 : Index := Scalar.indexCast v1061
  let c0_657 : Index := 0#32
  let c1536_658 : Index := 1536#32
  ![0, v1397.toNat, 0, 1536]
def k0_off340 (k0_t24 : Fin k0_t24_loop.trips) : Fin 4 → Nat :=
  let c0_669 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_663 : BitVec 32 := 0#32
  let v1408 : BitVec 1 := Scalar.cmpi .sgt v1038 c0_i32_663
  let v1409 : BitVec 32 := Scalar.extui v1408
  let c0_i32_664 : BitVec 32 := 0#32
  let v1410 : BitVec 1 := Scalar.cmpi .slt v1038 c0_i32_664
  let v1411 : BitVec 32 := Scalar.extui v1410
  let v1412 : BitVec 32 := Scalar.subi v1409 v1411
  let c4_i32_662 : BitVec 32 := 4#32
  let c0_i32_665 : BitVec 32 := 0#32
  let v1413 : BitVec 1 := Scalar.cmpi .sgt c4_i32_662 c0_i32_665
  let v1414 : BitVec 32 := Scalar.extui v1413
  let c0_i32_666 : BitVec 32 := 0#32
  let v1415 : BitVec 1 := Scalar.cmpi .slt c4_i32_662 c0_i32_666
  let v1416 : BitVec 32 := Scalar.extui v1415
  let v1417 : BitVec 32 := Scalar.subi v1414 v1416
  let v1418 : BitVec 1 := Scalar.cmpi .ne v1412 v1417
  let v1419 : BitVec 32 := Scalar.remsi v1038 c4_i32_662
  let c0_i32_667 : BitVec 32 := 0#32
  let v1420 : BitVec 1 := Scalar.cmpi .ne v1419 c0_i32_667
  let v1421 : BitVec 1 := Scalar.andi v1418 v1420
  let v1407 : BitVec 32 := Scalar.divsi v1038 c4_i32_662
  let c1_i32_668 : BitVec 32 := 1#32
  let v1422 : BitVec 32 := Scalar.subi v1407 c1_i32_668
  let v1423 : BitVec 32 := Scalar.select v1421 v1422 v1407
  let v1424 : Index := Scalar.indexCast v1423
  let c1536_670 : Index := 1536#32
  let c0_671 : Index := 0#32
  ![0, v1424.toNat, 1536, 0]
def k0_off341 (k0_t24 : Fin k0_t24_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_663 : BitVec 32 := 0#32
  let v1408 : BitVec 1 := Scalar.cmpi .sgt v1038 c0_i32_663
  let v1409 : BitVec 32 := Scalar.extui v1408
  let c0_i32_664 : BitVec 32 := 0#32
  let v1410 : BitVec 1 := Scalar.cmpi .slt v1038 c0_i32_664
  let v1411 : BitVec 32 := Scalar.extui v1410
  let v1412 : BitVec 32 := Scalar.subi v1409 v1411
  let c4_i32_662 : BitVec 32 := 4#32
  let c0_i32_665 : BitVec 32 := 0#32
  let v1413 : BitVec 1 := Scalar.cmpi .sgt c4_i32_662 c0_i32_665
  let v1414 : BitVec 32 := Scalar.extui v1413
  let c0_i32_666 : BitVec 32 := 0#32
  let v1415 : BitVec 1 := Scalar.cmpi .slt c4_i32_662 c0_i32_666
  let v1416 : BitVec 32 := Scalar.extui v1415
  let v1417 : BitVec 32 := Scalar.subi v1414 v1416
  let v1418 : BitVec 1 := Scalar.cmpi .ne v1412 v1417
  let v1419 : BitVec 32 := Scalar.remsi v1038 c4_i32_662
  let c0_i32_667 : BitVec 32 := 0#32
  let v1420 : BitVec 1 := Scalar.cmpi .ne v1419 c0_i32_667
  let v1421 : BitVec 1 := Scalar.andi v1418 v1420
  let v1407 : BitVec 32 := Scalar.divsi v1038 c4_i32_662
  let c1_i32_668 : BitVec 32 := 1#32
  let v1422 : BitVec 32 := Scalar.subi v1407 c1_i32_668
  let v1423 : BitVec 32 := Scalar.select v1421 v1422 v1407
  let v1431 : Index := Scalar.indexCast v1423
  let c1536_675 : Index := 1536#32
  let c0_676 : Index := 0#32
  ![v1431.toNat, 1536, 0]
def k0_off342 (k0_t24 : Fin k0_t24_loop.trips) : Fin 4 → Nat :=
  let c0_683 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1451 : Index := Scalar.indexCast v1061
  let c0_684 : Index := 0#32
  let c1792_685 : Index := 1792#32
  ![0, v1451.toNat, 0, 1792]
def k0_off343 (k0_t24 : Fin k0_t24_loop.trips) : Fin 4 → Nat :=
  let c0_696 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_690 : BitVec 32 := 0#32
  let v1462 : BitVec 1 := Scalar.cmpi .sgt v1038 c0_i32_690
  let v1463 : BitVec 32 := Scalar.extui v1462
  let c0_i32_691 : BitVec 32 := 0#32
  let v1464 : BitVec 1 := Scalar.cmpi .slt v1038 c0_i32_691
  let v1465 : BitVec 32 := Scalar.extui v1464
  let v1466 : BitVec 32 := Scalar.subi v1463 v1465
  let c4_i32_689 : BitVec 32 := 4#32
  let c0_i32_692 : BitVec 32 := 0#32
  let v1467 : BitVec 1 := Scalar.cmpi .sgt c4_i32_689 c0_i32_692
  let v1468 : BitVec 32 := Scalar.extui v1467
  let c0_i32_693 : BitVec 32 := 0#32
  let v1469 : BitVec 1 := Scalar.cmpi .slt c4_i32_689 c0_i32_693
  let v1470 : BitVec 32 := Scalar.extui v1469
  let v1471 : BitVec 32 := Scalar.subi v1468 v1470
  let v1472 : BitVec 1 := Scalar.cmpi .ne v1466 v1471
  let v1473 : BitVec 32 := Scalar.remsi v1038 c4_i32_689
  let c0_i32_694 : BitVec 32 := 0#32
  let v1474 : BitVec 1 := Scalar.cmpi .ne v1473 c0_i32_694
  let v1475 : BitVec 1 := Scalar.andi v1472 v1474
  let v1461 : BitVec 32 := Scalar.divsi v1038 c4_i32_689
  let c1_i32_695 : BitVec 32 := 1#32
  let v1476 : BitVec 32 := Scalar.subi v1461 c1_i32_695
  let v1477 : BitVec 32 := Scalar.select v1475 v1476 v1461
  let v1478 : Index := Scalar.indexCast v1477
  let c1792_697 : Index := 1792#32
  let c0_698 : Index := 0#32
  ![0, v1478.toNat, 1792, 0]
def k0_off344 (k0_t24 : Fin k0_t24_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_690 : BitVec 32 := 0#32
  let v1462 : BitVec 1 := Scalar.cmpi .sgt v1038 c0_i32_690
  let v1463 : BitVec 32 := Scalar.extui v1462
  let c0_i32_691 : BitVec 32 := 0#32
  let v1464 : BitVec 1 := Scalar.cmpi .slt v1038 c0_i32_691
  let v1465 : BitVec 32 := Scalar.extui v1464
  let v1466 : BitVec 32 := Scalar.subi v1463 v1465
  let c4_i32_689 : BitVec 32 := 4#32
  let c0_i32_692 : BitVec 32 := 0#32
  let v1467 : BitVec 1 := Scalar.cmpi .sgt c4_i32_689 c0_i32_692
  let v1468 : BitVec 32 := Scalar.extui v1467
  let c0_i32_693 : BitVec 32 := 0#32
  let v1469 : BitVec 1 := Scalar.cmpi .slt c4_i32_689 c0_i32_693
  let v1470 : BitVec 32 := Scalar.extui v1469
  let v1471 : BitVec 32 := Scalar.subi v1468 v1470
  let v1472 : BitVec 1 := Scalar.cmpi .ne v1466 v1471
  let v1473 : BitVec 32 := Scalar.remsi v1038 c4_i32_689
  let c0_i32_694 : BitVec 32 := 0#32
  let v1474 : BitVec 1 := Scalar.cmpi .ne v1473 c0_i32_694
  let v1475 : BitVec 1 := Scalar.andi v1472 v1474
  let v1461 : BitVec 32 := Scalar.divsi v1038 c4_i32_689
  let c1_i32_695 : BitVec 32 := 1#32
  let v1476 : BitVec 32 := Scalar.subi v1461 c1_i32_695
  let v1477 : BitVec 32 := Scalar.select v1475 v1476 v1461
  let v1485 : Index := Scalar.indexCast v1477
  let c1792_702 : Index := 1792#32
  let c0_703 : Index := 0#32
  ![v1485.toNat, 1792, 0]
def k0_off345 (k0_t24 : Fin k0_t24_loop.trips) : Fin 4 → Nat :=
  let c0_710 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1505 : Index := Scalar.indexCast v1061
  let c0_711 : Index := 0#32
  let c2048_712 : Index := 2048#32
  ![0, v1505.toNat, 0, 2048]
def k0_off346 (k0_t24 : Fin k0_t24_loop.trips) : Fin 4 → Nat :=
  let c0_723 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_717 : BitVec 32 := 0#32
  let v1516 : BitVec 1 := Scalar.cmpi .sgt v1038 c0_i32_717
  let v1517 : BitVec 32 := Scalar.extui v1516
  let c0_i32_718 : BitVec 32 := 0#32
  let v1518 : BitVec 1 := Scalar.cmpi .slt v1038 c0_i32_718
  let v1519 : BitVec 32 := Scalar.extui v1518
  let v1520 : BitVec 32 := Scalar.subi v1517 v1519
  let c4_i32_716 : BitVec 32 := 4#32
  let c0_i32_719 : BitVec 32 := 0#32
  let v1521 : BitVec 1 := Scalar.cmpi .sgt c4_i32_716 c0_i32_719
  let v1522 : BitVec 32 := Scalar.extui v1521
  let c0_i32_720 : BitVec 32 := 0#32
  let v1523 : BitVec 1 := Scalar.cmpi .slt c4_i32_716 c0_i32_720
  let v1524 : BitVec 32 := Scalar.extui v1523
  let v1525 : BitVec 32 := Scalar.subi v1522 v1524
  let v1526 : BitVec 1 := Scalar.cmpi .ne v1520 v1525
  let v1527 : BitVec 32 := Scalar.remsi v1038 c4_i32_716
  let c0_i32_721 : BitVec 32 := 0#32
  let v1528 : BitVec 1 := Scalar.cmpi .ne v1527 c0_i32_721
  let v1529 : BitVec 1 := Scalar.andi v1526 v1528
  let v1515 : BitVec 32 := Scalar.divsi v1038 c4_i32_716
  let c1_i32_722 : BitVec 32 := 1#32
  let v1530 : BitVec 32 := Scalar.subi v1515 c1_i32_722
  let v1531 : BitVec 32 := Scalar.select v1529 v1530 v1515
  let v1532 : Index := Scalar.indexCast v1531
  let c2048_724 : Index := 2048#32
  let c0_725 : Index := 0#32
  ![0, v1532.toNat, 2048, 0]
def k0_off347 (k0_t24 : Fin k0_t24_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_717 : BitVec 32 := 0#32
  let v1516 : BitVec 1 := Scalar.cmpi .sgt v1038 c0_i32_717
  let v1517 : BitVec 32 := Scalar.extui v1516
  let c0_i32_718 : BitVec 32 := 0#32
  let v1518 : BitVec 1 := Scalar.cmpi .slt v1038 c0_i32_718
  let v1519 : BitVec 32 := Scalar.extui v1518
  let v1520 : BitVec 32 := Scalar.subi v1517 v1519
  let c4_i32_716 : BitVec 32 := 4#32
  let c0_i32_719 : BitVec 32 := 0#32
  let v1521 : BitVec 1 := Scalar.cmpi .sgt c4_i32_716 c0_i32_719
  let v1522 : BitVec 32 := Scalar.extui v1521
  let c0_i32_720 : BitVec 32 := 0#32
  let v1523 : BitVec 1 := Scalar.cmpi .slt c4_i32_716 c0_i32_720
  let v1524 : BitVec 32 := Scalar.extui v1523
  let v1525 : BitVec 32 := Scalar.subi v1522 v1524
  let v1526 : BitVec 1 := Scalar.cmpi .ne v1520 v1525
  let v1527 : BitVec 32 := Scalar.remsi v1038 c4_i32_716
  let c0_i32_721 : BitVec 32 := 0#32
  let v1528 : BitVec 1 := Scalar.cmpi .ne v1527 c0_i32_721
  let v1529 : BitVec 1 := Scalar.andi v1526 v1528
  let v1515 : BitVec 32 := Scalar.divsi v1038 c4_i32_716
  let c1_i32_722 : BitVec 32 := 1#32
  let v1530 : BitVec 32 := Scalar.subi v1515 c1_i32_722
  let v1531 : BitVec 32 := Scalar.select v1529 v1530 v1515
  let v1539 : Index := Scalar.indexCast v1531
  let c2048_729 : Index := 2048#32
  let c0_730 : Index := 0#32
  ![v1539.toNat, 2048, 0]
def k0_off348 (k0_t24 : Fin k0_t24_loop.trips) : Fin 4 → Nat :=
  let c0_737 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1559 : Index := Scalar.indexCast v1061
  let c0_738 : Index := 0#32
  let c2304_739 : Index := 2304#32
  ![0, v1559.toNat, 0, 2304]
def k0_off349 (k0_t24 : Fin k0_t24_loop.trips) : Fin 4 → Nat :=
  let c0_750 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_744 : BitVec 32 := 0#32
  let v1570 : BitVec 1 := Scalar.cmpi .sgt v1038 c0_i32_744
  let v1571 : BitVec 32 := Scalar.extui v1570
  let c0_i32_745 : BitVec 32 := 0#32
  let v1572 : BitVec 1 := Scalar.cmpi .slt v1038 c0_i32_745
  let v1573 : BitVec 32 := Scalar.extui v1572
  let v1574 : BitVec 32 := Scalar.subi v1571 v1573
  let c4_i32_743 : BitVec 32 := 4#32
  let c0_i32_746 : BitVec 32 := 0#32
  let v1575 : BitVec 1 := Scalar.cmpi .sgt c4_i32_743 c0_i32_746
  let v1576 : BitVec 32 := Scalar.extui v1575
  let c0_i32_747 : BitVec 32 := 0#32
  let v1577 : BitVec 1 := Scalar.cmpi .slt c4_i32_743 c0_i32_747
  let v1578 : BitVec 32 := Scalar.extui v1577
  let v1579 : BitVec 32 := Scalar.subi v1576 v1578
  let v1580 : BitVec 1 := Scalar.cmpi .ne v1574 v1579
  let v1581 : BitVec 32 := Scalar.remsi v1038 c4_i32_743
  let c0_i32_748 : BitVec 32 := 0#32
  let v1582 : BitVec 1 := Scalar.cmpi .ne v1581 c0_i32_748
  let v1583 : BitVec 1 := Scalar.andi v1580 v1582
  let v1569 : BitVec 32 := Scalar.divsi v1038 c4_i32_743
  let c1_i32_749 : BitVec 32 := 1#32
  let v1584 : BitVec 32 := Scalar.subi v1569 c1_i32_749
  let v1585 : BitVec 32 := Scalar.select v1583 v1584 v1569
  let v1586 : Index := Scalar.indexCast v1585
  let c2304_751 : Index := 2304#32
  let c0_752 : Index := 0#32
  ![0, v1586.toNat, 2304, 0]
def k0_off350 (k0_t24 : Fin k0_t24_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_744 : BitVec 32 := 0#32
  let v1570 : BitVec 1 := Scalar.cmpi .sgt v1038 c0_i32_744
  let v1571 : BitVec 32 := Scalar.extui v1570
  let c0_i32_745 : BitVec 32 := 0#32
  let v1572 : BitVec 1 := Scalar.cmpi .slt v1038 c0_i32_745
  let v1573 : BitVec 32 := Scalar.extui v1572
  let v1574 : BitVec 32 := Scalar.subi v1571 v1573
  let c4_i32_743 : BitVec 32 := 4#32
  let c0_i32_746 : BitVec 32 := 0#32
  let v1575 : BitVec 1 := Scalar.cmpi .sgt c4_i32_743 c0_i32_746
  let v1576 : BitVec 32 := Scalar.extui v1575
  let c0_i32_747 : BitVec 32 := 0#32
  let v1577 : BitVec 1 := Scalar.cmpi .slt c4_i32_743 c0_i32_747
  let v1578 : BitVec 32 := Scalar.extui v1577
  let v1579 : BitVec 32 := Scalar.subi v1576 v1578
  let v1580 : BitVec 1 := Scalar.cmpi .ne v1574 v1579
  let v1581 : BitVec 32 := Scalar.remsi v1038 c4_i32_743
  let c0_i32_748 : BitVec 32 := 0#32
  let v1582 : BitVec 1 := Scalar.cmpi .ne v1581 c0_i32_748
  let v1583 : BitVec 1 := Scalar.andi v1580 v1582
  let v1569 : BitVec 32 := Scalar.divsi v1038 c4_i32_743
  let c1_i32_749 : BitVec 32 := 1#32
  let v1584 : BitVec 32 := Scalar.subi v1569 c1_i32_749
  let v1585 : BitVec 32 := Scalar.select v1583 v1584 v1569
  let v1593 : Index := Scalar.indexCast v1585
  let c2304_756 : Index := 2304#32
  let c0_757 : Index := 0#32
  ![v1593.toNat, 2304, 0]
def k0_off351 (k0_t24 : Fin k0_t24_loop.trips) : Fin 4 → Nat :=
  let c0_764 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1613 : Index := Scalar.indexCast v1061
  let c0_765 : Index := 0#32
  let c2560_766 : Index := 2560#32
  ![0, v1613.toNat, 0, 2560]
def k0_off352 (k0_t24 : Fin k0_t24_loop.trips) : Fin 4 → Nat :=
  let c0_777 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_771 : BitVec 32 := 0#32
  let v1624 : BitVec 1 := Scalar.cmpi .sgt v1038 c0_i32_771
  let v1625 : BitVec 32 := Scalar.extui v1624
  let c0_i32_772 : BitVec 32 := 0#32
  let v1626 : BitVec 1 := Scalar.cmpi .slt v1038 c0_i32_772
  let v1627 : BitVec 32 := Scalar.extui v1626
  let v1628 : BitVec 32 := Scalar.subi v1625 v1627
  let c4_i32_770 : BitVec 32 := 4#32
  let c0_i32_773 : BitVec 32 := 0#32
  let v1629 : BitVec 1 := Scalar.cmpi .sgt c4_i32_770 c0_i32_773
  let v1630 : BitVec 32 := Scalar.extui v1629
  let c0_i32_774 : BitVec 32 := 0#32
  let v1631 : BitVec 1 := Scalar.cmpi .slt c4_i32_770 c0_i32_774
  let v1632 : BitVec 32 := Scalar.extui v1631
  let v1633 : BitVec 32 := Scalar.subi v1630 v1632
  let v1634 : BitVec 1 := Scalar.cmpi .ne v1628 v1633
  let v1635 : BitVec 32 := Scalar.remsi v1038 c4_i32_770
  let c0_i32_775 : BitVec 32 := 0#32
  let v1636 : BitVec 1 := Scalar.cmpi .ne v1635 c0_i32_775
  let v1637 : BitVec 1 := Scalar.andi v1634 v1636
  let v1623 : BitVec 32 := Scalar.divsi v1038 c4_i32_770
  let c1_i32_776 : BitVec 32 := 1#32
  let v1638 : BitVec 32 := Scalar.subi v1623 c1_i32_776
  let v1639 : BitVec 32 := Scalar.select v1637 v1638 v1623
  let v1640 : Index := Scalar.indexCast v1639
  let c2560_778 : Index := 2560#32
  let c0_779 : Index := 0#32
  ![0, v1640.toNat, 2560, 0]
def k0_off353 (k0_t24 : Fin k0_t24_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_771 : BitVec 32 := 0#32
  let v1624 : BitVec 1 := Scalar.cmpi .sgt v1038 c0_i32_771
  let v1625 : BitVec 32 := Scalar.extui v1624
  let c0_i32_772 : BitVec 32 := 0#32
  let v1626 : BitVec 1 := Scalar.cmpi .slt v1038 c0_i32_772
  let v1627 : BitVec 32 := Scalar.extui v1626
  let v1628 : BitVec 32 := Scalar.subi v1625 v1627
  let c4_i32_770 : BitVec 32 := 4#32
  let c0_i32_773 : BitVec 32 := 0#32
  let v1629 : BitVec 1 := Scalar.cmpi .sgt c4_i32_770 c0_i32_773
  let v1630 : BitVec 32 := Scalar.extui v1629
  let c0_i32_774 : BitVec 32 := 0#32
  let v1631 : BitVec 1 := Scalar.cmpi .slt c4_i32_770 c0_i32_774
  let v1632 : BitVec 32 := Scalar.extui v1631
  let v1633 : BitVec 32 := Scalar.subi v1630 v1632
  let v1634 : BitVec 1 := Scalar.cmpi .ne v1628 v1633
  let v1635 : BitVec 32 := Scalar.remsi v1038 c4_i32_770
  let c0_i32_775 : BitVec 32 := 0#32
  let v1636 : BitVec 1 := Scalar.cmpi .ne v1635 c0_i32_775
  let v1637 : BitVec 1 := Scalar.andi v1634 v1636
  let v1623 : BitVec 32 := Scalar.divsi v1038 c4_i32_770
  let c1_i32_776 : BitVec 32 := 1#32
  let v1638 : BitVec 32 := Scalar.subi v1623 c1_i32_776
  let v1639 : BitVec 32 := Scalar.select v1637 v1638 v1623
  let v1647 : Index := Scalar.indexCast v1639
  let c2560_783 : Index := 2560#32
  let c0_784 : Index := 0#32
  ![v1647.toNat, 2560, 0]
def k0_off354 (k0_t24 : Fin k0_t24_loop.trips) : Fin 4 → Nat :=
  let c0_791 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1667 : Index := Scalar.indexCast v1061
  let c0_792 : Index := 0#32
  let c2816_793 : Index := 2816#32
  ![0, v1667.toNat, 0, 2816]
def k0_off355 (k0_t24 : Fin k0_t24_loop.trips) : Fin 4 → Nat :=
  let c0_804 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_798 : BitVec 32 := 0#32
  let v1678 : BitVec 1 := Scalar.cmpi .sgt v1038 c0_i32_798
  let v1679 : BitVec 32 := Scalar.extui v1678
  let c0_i32_799 : BitVec 32 := 0#32
  let v1680 : BitVec 1 := Scalar.cmpi .slt v1038 c0_i32_799
  let v1681 : BitVec 32 := Scalar.extui v1680
  let v1682 : BitVec 32 := Scalar.subi v1679 v1681
  let c4_i32_797 : BitVec 32 := 4#32
  let c0_i32_800 : BitVec 32 := 0#32
  let v1683 : BitVec 1 := Scalar.cmpi .sgt c4_i32_797 c0_i32_800
  let v1684 : BitVec 32 := Scalar.extui v1683
  let c0_i32_801 : BitVec 32 := 0#32
  let v1685 : BitVec 1 := Scalar.cmpi .slt c4_i32_797 c0_i32_801
  let v1686 : BitVec 32 := Scalar.extui v1685
  let v1687 : BitVec 32 := Scalar.subi v1684 v1686
  let v1688 : BitVec 1 := Scalar.cmpi .ne v1682 v1687
  let v1689 : BitVec 32 := Scalar.remsi v1038 c4_i32_797
  let c0_i32_802 : BitVec 32 := 0#32
  let v1690 : BitVec 1 := Scalar.cmpi .ne v1689 c0_i32_802
  let v1691 : BitVec 1 := Scalar.andi v1688 v1690
  let v1677 : BitVec 32 := Scalar.divsi v1038 c4_i32_797
  let c1_i32_803 : BitVec 32 := 1#32
  let v1692 : BitVec 32 := Scalar.subi v1677 c1_i32_803
  let v1693 : BitVec 32 := Scalar.select v1691 v1692 v1677
  let v1694 : Index := Scalar.indexCast v1693
  let c2816_805 : Index := 2816#32
  let c0_806 : Index := 0#32
  ![0, v1694.toNat, 2816, 0]
def k0_off356 (k0_t24 : Fin k0_t24_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_798 : BitVec 32 := 0#32
  let v1678 : BitVec 1 := Scalar.cmpi .sgt v1038 c0_i32_798
  let v1679 : BitVec 32 := Scalar.extui v1678
  let c0_i32_799 : BitVec 32 := 0#32
  let v1680 : BitVec 1 := Scalar.cmpi .slt v1038 c0_i32_799
  let v1681 : BitVec 32 := Scalar.extui v1680
  let v1682 : BitVec 32 := Scalar.subi v1679 v1681
  let c4_i32_797 : BitVec 32 := 4#32
  let c0_i32_800 : BitVec 32 := 0#32
  let v1683 : BitVec 1 := Scalar.cmpi .sgt c4_i32_797 c0_i32_800
  let v1684 : BitVec 32 := Scalar.extui v1683
  let c0_i32_801 : BitVec 32 := 0#32
  let v1685 : BitVec 1 := Scalar.cmpi .slt c4_i32_797 c0_i32_801
  let v1686 : BitVec 32 := Scalar.extui v1685
  let v1687 : BitVec 32 := Scalar.subi v1684 v1686
  let v1688 : BitVec 1 := Scalar.cmpi .ne v1682 v1687
  let v1689 : BitVec 32 := Scalar.remsi v1038 c4_i32_797
  let c0_i32_802 : BitVec 32 := 0#32
  let v1690 : BitVec 1 := Scalar.cmpi .ne v1689 c0_i32_802
  let v1691 : BitVec 1 := Scalar.andi v1688 v1690
  let v1677 : BitVec 32 := Scalar.divsi v1038 c4_i32_797
  let c1_i32_803 : BitVec 32 := 1#32
  let v1692 : BitVec 32 := Scalar.subi v1677 c1_i32_803
  let v1693 : BitVec 32 := Scalar.select v1691 v1692 v1677
  let v1701 : Index := Scalar.indexCast v1693
  let c2816_810 : Index := 2816#32
  let c0_811 : Index := 0#32
  ![v1701.toNat, 2816, 0]
def k0_off357 (k0_t24 : Fin k0_t24_loop.trips) : Fin 4 → Nat :=
  let c0_818 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1721 : Index := Scalar.indexCast v1061
  let c0_819 : Index := 0#32
  let c3072_820 : Index := 3072#32
  ![0, v1721.toNat, 0, 3072]
def k0_off358 (k0_t24 : Fin k0_t24_loop.trips) : Fin 4 → Nat :=
  let c0_831 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_825 : BitVec 32 := 0#32
  let v1732 : BitVec 1 := Scalar.cmpi .sgt v1038 c0_i32_825
  let v1733 : BitVec 32 := Scalar.extui v1732
  let c0_i32_826 : BitVec 32 := 0#32
  let v1734 : BitVec 1 := Scalar.cmpi .slt v1038 c0_i32_826
  let v1735 : BitVec 32 := Scalar.extui v1734
  let v1736 : BitVec 32 := Scalar.subi v1733 v1735
  let c4_i32_824 : BitVec 32 := 4#32
  let c0_i32_827 : BitVec 32 := 0#32
  let v1737 : BitVec 1 := Scalar.cmpi .sgt c4_i32_824 c0_i32_827
  let v1738 : BitVec 32 := Scalar.extui v1737
  let c0_i32_828 : BitVec 32 := 0#32
  let v1739 : BitVec 1 := Scalar.cmpi .slt c4_i32_824 c0_i32_828
  let v1740 : BitVec 32 := Scalar.extui v1739
  let v1741 : BitVec 32 := Scalar.subi v1738 v1740
  let v1742 : BitVec 1 := Scalar.cmpi .ne v1736 v1741
  let v1743 : BitVec 32 := Scalar.remsi v1038 c4_i32_824
  let c0_i32_829 : BitVec 32 := 0#32
  let v1744 : BitVec 1 := Scalar.cmpi .ne v1743 c0_i32_829
  let v1745 : BitVec 1 := Scalar.andi v1742 v1744
  let v1731 : BitVec 32 := Scalar.divsi v1038 c4_i32_824
  let c1_i32_830 : BitVec 32 := 1#32
  let v1746 : BitVec 32 := Scalar.subi v1731 c1_i32_830
  let v1747 : BitVec 32 := Scalar.select v1745 v1746 v1731
  let v1748 : Index := Scalar.indexCast v1747
  let c3072_832 : Index := 3072#32
  let c0_833 : Index := 0#32
  ![0, v1748.toNat, 3072, 0]
def k0_off359 (k0_t24 : Fin k0_t24_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_825 : BitVec 32 := 0#32
  let v1732 : BitVec 1 := Scalar.cmpi .sgt v1038 c0_i32_825
  let v1733 : BitVec 32 := Scalar.extui v1732
  let c0_i32_826 : BitVec 32 := 0#32
  let v1734 : BitVec 1 := Scalar.cmpi .slt v1038 c0_i32_826
  let v1735 : BitVec 32 := Scalar.extui v1734
  let v1736 : BitVec 32 := Scalar.subi v1733 v1735
  let c4_i32_824 : BitVec 32 := 4#32
  let c0_i32_827 : BitVec 32 := 0#32
  let v1737 : BitVec 1 := Scalar.cmpi .sgt c4_i32_824 c0_i32_827
  let v1738 : BitVec 32 := Scalar.extui v1737
  let c0_i32_828 : BitVec 32 := 0#32
  let v1739 : BitVec 1 := Scalar.cmpi .slt c4_i32_824 c0_i32_828
  let v1740 : BitVec 32 := Scalar.extui v1739
  let v1741 : BitVec 32 := Scalar.subi v1738 v1740
  let v1742 : BitVec 1 := Scalar.cmpi .ne v1736 v1741
  let v1743 : BitVec 32 := Scalar.remsi v1038 c4_i32_824
  let c0_i32_829 : BitVec 32 := 0#32
  let v1744 : BitVec 1 := Scalar.cmpi .ne v1743 c0_i32_829
  let v1745 : BitVec 1 := Scalar.andi v1742 v1744
  let v1731 : BitVec 32 := Scalar.divsi v1038 c4_i32_824
  let c1_i32_830 : BitVec 32 := 1#32
  let v1746 : BitVec 32 := Scalar.subi v1731 c1_i32_830
  let v1747 : BitVec 32 := Scalar.select v1745 v1746 v1731
  let v1755 : Index := Scalar.indexCast v1747
  let c3072_837 : Index := 3072#32
  let c0_838 : Index := 0#32
  ![v1755.toNat, 3072, 0]
def k0_off360 (k0_t24 : Fin k0_t24_loop.trips) : Fin 3 → Nat :=
  let c0_848 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1785 : Index := Scalar.indexCast v1061
  let c0_849 : Index := 0#32
  ![0, v1785.toNat, 0]
def k0_mult25 (k0_t24 : Fin k0_t24_loop.trips) : BitVec 32 :=
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c128_i32 : BitVec 32 := 128#32
  let v1791 : BitVec 32 := Scalar.muli v1036 c128_i32
  v1791
def k0_off361 (k0_t24 : Fin k0_t24_loop.trips) : Fin 3 → Nat :=
  let c0_850 : Index := 0#32
  let c0_851 : Index := 0#32
  let c0_i32_475 : BitVec 32 := 0#32
  let c0_i32_471 : BitVec 32 := 0#32
  let c1_i32_472 : BitVec 32 := 1#32
  let arg17 : BitVec 32 := Scf.iv c0_i32_471 c1_i32_472 k0_t24
  let c1_i32_474 : BitVec 32 := 1#32
  let v1035 : BitVec 32 := Scalar.muli arg17 c1_i32_474
  let v1036 : BitVec 32 := Scalar.addi c0_i32_475 v1035
  let c128_i32 : BitVec 32 := 128#32
  let v1791 : BitVec 32 := Scalar.muli v1036 c128_i32
  let v1792 : BitVec 32 := v1791
  let v1793 : Index := Scalar.indexCast v1792
  ![0, 0, v1793.toNat]
def k0_cond15 (i : grid0.Coords) : BitVec 1 :=
  let arg1 : BitVec 32 := BitVec.ofNat 32 (i 1).val
  let c13_i32_443 : BitVec 32 := 13#32
  let v996 : BitVec 1 := Scalar.cmpi .eq arg1 c13_i32_443
  let v997 : BitVec 32 := Scalar.extui v996
  let c0_i32_444 : BitVec 32 := 0#32
  let v998 : BitVec 1 := Scalar.cmpi .ne v997 c0_i32_444
  v998

@[reducible] def k0_t25_loop : Scf.Loop 32 :=
  let c0_i32_449 : BitVec 32 := 0#32
  let c13_i32_450 : BitVec 32 := 13#32
  let v1005 : BitVec 32 := Scalar.addi c0_i32_449 c13_i32_450
  let c1_i32_451 : BitVec 32 := 1#32
  ⟨c0_i32_449, v1005, c1_i32_451⟩
def k0_mult26 (k0_t25 : Fin k0_t25_loop.trips) : BitVec 32 :=
  let c0_i32_449 : BitVec 32 := 0#32
  let c1_i32_451 : BitVec 32 := 1#32
  let arg17 : BitVec 32 := Scf.iv c0_i32_449 c1_i32_451 k0_t25
  let c256_i32 : BitVec 32 := 256#32
  let v1035 : BitVec 32 := Scalar.muli arg17 c256_i32
  v1035
def k0_off362 (k0_t25 : Fin k0_t25_loop.trips) : Fin 4 → Nat :=
  let c0_474 : Index := 0#32
  let c0_475 : Index := 0#32
  let c0_i32_449 : BitVec 32 := 0#32
  let c1_i32_451 : BitVec 32 := 1#32
  let arg17 : BitVec 32 := Scf.iv c0_i32_449 c1_i32_451 k0_t25
  let c256_i32 : BitVec 32 := 256#32
  let v1035 : BitVec 32 := Scalar.muli arg17 c256_i32
  let v1036 : BitVec 32 := v1035
  let v1037 : Index := Scalar.indexCast v1036
  let c0_476 : Index := 0#32
  ![0, 0, v1037.toNat, 0]
def k0_off363 (k0_t25 : Fin k0_t25_loop.trips) : Fin 3 → Nat :=
  let c0_481 : Index := 0#32
  let c0_i32_449 : BitVec 32 := 0#32
  let c1_i32_451 : BitVec 32 := 1#32
  let arg17 : BitVec 32 := Scf.iv c0_i32_449 c1_i32_451 k0_t25
  let c256_i32 : BitVec 32 := 256#32
  let v1035 : BitVec 32 := Scalar.muli arg17 c256_i32
  let v1036 : BitVec 32 := v1035
  let v1043 : Index := Scalar.indexCast v1036
  let c0_482 : Index := 0#32
  ![0, v1043.toNat, 0]
def k0_off364 (k0_t25 : Fin k0_t25_loop.trips) : Fin 2 → Nat :=
  let c0_i32_449 : BitVec 32 := 0#32
  let c1_i32_451 : BitVec 32 := 1#32
  let arg17 : BitVec 32 := Scf.iv c0_i32_449 c1_i32_451 k0_t25
  let c256_i32 : BitVec 32 := 256#32
  let v1035 : BitVec 32 := Scalar.muli arg17 c256_i32
  let v1036 : BitVec 32 := v1035
  let v1048 : Index := Scalar.indexCast v1036
  let c0_483 : Index := 0#32
  ![v1048.toNat, 0]
@[reducible] def k0_t26_loop : Scf.Loop 32 :=
  let c0_i32_471 : BitVec 32 := 0#32
  let c32_i32 : BitVec 32 := 32#32
  let v1034 : BitVec 32 := Scalar.addi c0_i32_471 c32_i32
  let c1_i32_472 : BitVec 32 := 1#32
  ⟨c0_i32_471, v1034, c1_i32_472⟩
def k0_off365 (k0_t26 : Fin k0_t26_loop.trips) : Fin 2 → Nat :=
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let v1039 : Index := Scalar.indexCast v1036
  let c0_478 : Index := 0#32
  ![v1039.toNat, 0]
def k0_off366 (k0_t26 : Fin k0_t26_loop.trips) : Fin 4 → Nat :=
  let c0_494 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1073 : Index := Scalar.indexCast v1061
  let c0_495 : Index := 0#32
  let c0_496 : Index := 0#32
  ![0, v1073.toNat, 0, 0]
def k0_off367 (k0_t26 : Fin k0_t26_loop.trips) : Fin 4 → Nat :=
  let c0_507 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1100 : Index := Scalar.indexCast v1099
  let c0_508 : Index := 0#32
  let c0_509 : Index := 0#32
  ![0, v1100.toNat, 0, 0]
def k0_off368 (k0_t26 : Fin k0_t26_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let v1103 : Index := Scalar.indexCast v1038
  let c0_510 : Index := 0#32
  let c0_511 : Index := 0#32
  ![v1103.toNat, 0, 0]
def k0_off369 (k0_t26 : Fin k0_t26_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1107 : Index := Scalar.indexCast v1099
  let c0_513 : Index := 0#32
  let c0_514 : Index := 0#32
  ![v1107.toNat, 0, 0]
def k0_off370 (k0_t26 : Fin k0_t26_loop.trips) : Fin 4 → Nat :=
  let c0_521 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1127 : Index := Scalar.indexCast v1061
  let c0_522 : Index := 0#32
  let c256_523 : Index := 256#32
  ![0, v1127.toNat, 0, 256]
def k0_off371 (k0_t26 : Fin k0_t26_loop.trips) : Fin 4 → Nat :=
  let c0_534 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1154 : Index := Scalar.indexCast v1153
  let c256_535 : Index := 256#32
  let c0_536 : Index := 0#32
  ![0, v1154.toNat, 256, 0]
def k0_off372 (k0_t26 : Fin k0_t26_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1161 : Index := Scalar.indexCast v1153
  let c256_540 : Index := 256#32
  let c0_541 : Index := 0#32
  ![v1161.toNat, 256, 0]
def k0_off373 (k0_t26 : Fin k0_t26_loop.trips) : Fin 4 → Nat :=
  let c0_548 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1181 : Index := Scalar.indexCast v1061
  let c0_549 : Index := 0#32
  let c512_550 : Index := 512#32
  ![0, v1181.toNat, 0, 512]
def k0_off374 (k0_t26 : Fin k0_t26_loop.trips) : Fin 4 → Nat :=
  let c0_561 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1208 : Index := Scalar.indexCast v1207
  let c512_562 : Index := 512#32
  let c0_563 : Index := 0#32
  ![0, v1208.toNat, 512, 0]
def k0_off375 (k0_t26 : Fin k0_t26_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1215 : Index := Scalar.indexCast v1207
  let c512_567 : Index := 512#32
  let c0_568 : Index := 0#32
  ![v1215.toNat, 512, 0]
def k0_off376 (k0_t26 : Fin k0_t26_loop.trips) : Fin 4 → Nat :=
  let c0_575 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1235 : Index := Scalar.indexCast v1061
  let c0_576 : Index := 0#32
  let c768_577 : Index := 768#32
  ![0, v1235.toNat, 0, 768]
def k0_off377 (k0_t26 : Fin k0_t26_loop.trips) : Fin 4 → Nat :=
  let c0_588 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1262 : Index := Scalar.indexCast v1261
  let c768_589 : Index := 768#32
  let c0_590 : Index := 0#32
  ![0, v1262.toNat, 768, 0]
def k0_off378 (k0_t26 : Fin k0_t26_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1269 : Index := Scalar.indexCast v1261
  let c768_594 : Index := 768#32
  let c0_595 : Index := 0#32
  ![v1269.toNat, 768, 0]
def k0_off379 (k0_t26 : Fin k0_t26_loop.trips) : Fin 4 → Nat :=
  let c0_602 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1289 : Index := Scalar.indexCast v1061
  let c0_603 : Index := 0#32
  let c1024_604 : Index := 1024#32
  ![0, v1289.toNat, 0, 1024]
def k0_off380 (k0_t26 : Fin k0_t26_loop.trips) : Fin 4 → Nat :=
  let c0_615 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1316 : Index := Scalar.indexCast v1315
  let c1024_616 : Index := 1024#32
  let c0_617 : Index := 0#32
  ![0, v1316.toNat, 1024, 0]
def k0_off381 (k0_t26 : Fin k0_t26_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1323 : Index := Scalar.indexCast v1315
  let c1024_621 : Index := 1024#32
  let c0_622 : Index := 0#32
  ![v1323.toNat, 1024, 0]
def k0_off382 (k0_t26 : Fin k0_t26_loop.trips) : Fin 4 → Nat :=
  let c0_629 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1343 : Index := Scalar.indexCast v1061
  let c0_630 : Index := 0#32
  let c1280_631 : Index := 1280#32
  ![0, v1343.toNat, 0, 1280]
def k0_off383 (k0_t26 : Fin k0_t26_loop.trips) : Fin 4 → Nat :=
  let c0_642 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1370 : Index := Scalar.indexCast v1369
  let c1280_643 : Index := 1280#32
  let c0_644 : Index := 0#32
  ![0, v1370.toNat, 1280, 0]
def k0_off384 (k0_t26 : Fin k0_t26_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1377 : Index := Scalar.indexCast v1369
  let c1280_648 : Index := 1280#32
  let c0_649 : Index := 0#32
  ![v1377.toNat, 1280, 0]
def k0_off385 (k0_t26 : Fin k0_t26_loop.trips) : Fin 4 → Nat :=
  let c0_656 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1397 : Index := Scalar.indexCast v1061
  let c0_657 : Index := 0#32
  let c1536_658 : Index := 1536#32
  ![0, v1397.toNat, 0, 1536]
def k0_off386 (k0_t26 : Fin k0_t26_loop.trips) : Fin 4 → Nat :=
  let c0_669 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_663 : BitVec 32 := 0#32
  let v1408 : BitVec 1 := Scalar.cmpi .sgt v1038 c0_i32_663
  let v1409 : BitVec 32 := Scalar.extui v1408
  let c0_i32_664 : BitVec 32 := 0#32
  let v1410 : BitVec 1 := Scalar.cmpi .slt v1038 c0_i32_664
  let v1411 : BitVec 32 := Scalar.extui v1410
  let v1412 : BitVec 32 := Scalar.subi v1409 v1411
  let c4_i32_662 : BitVec 32 := 4#32
  let c0_i32_665 : BitVec 32 := 0#32
  let v1413 : BitVec 1 := Scalar.cmpi .sgt c4_i32_662 c0_i32_665
  let v1414 : BitVec 32 := Scalar.extui v1413
  let c0_i32_666 : BitVec 32 := 0#32
  let v1415 : BitVec 1 := Scalar.cmpi .slt c4_i32_662 c0_i32_666
  let v1416 : BitVec 32 := Scalar.extui v1415
  let v1417 : BitVec 32 := Scalar.subi v1414 v1416
  let v1418 : BitVec 1 := Scalar.cmpi .ne v1412 v1417
  let v1419 : BitVec 32 := Scalar.remsi v1038 c4_i32_662
  let c0_i32_667 : BitVec 32 := 0#32
  let v1420 : BitVec 1 := Scalar.cmpi .ne v1419 c0_i32_667
  let v1421 : BitVec 1 := Scalar.andi v1418 v1420
  let v1407 : BitVec 32 := Scalar.divsi v1038 c4_i32_662
  let c1_i32_668 : BitVec 32 := 1#32
  let v1422 : BitVec 32 := Scalar.subi v1407 c1_i32_668
  let v1423 : BitVec 32 := Scalar.select v1421 v1422 v1407
  let v1424 : Index := Scalar.indexCast v1423
  let c1536_670 : Index := 1536#32
  let c0_671 : Index := 0#32
  ![0, v1424.toNat, 1536, 0]
def k0_off387 (k0_t26 : Fin k0_t26_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_663 : BitVec 32 := 0#32
  let v1408 : BitVec 1 := Scalar.cmpi .sgt v1038 c0_i32_663
  let v1409 : BitVec 32 := Scalar.extui v1408
  let c0_i32_664 : BitVec 32 := 0#32
  let v1410 : BitVec 1 := Scalar.cmpi .slt v1038 c0_i32_664
  let v1411 : BitVec 32 := Scalar.extui v1410
  let v1412 : BitVec 32 := Scalar.subi v1409 v1411
  let c4_i32_662 : BitVec 32 := 4#32
  let c0_i32_665 : BitVec 32 := 0#32
  let v1413 : BitVec 1 := Scalar.cmpi .sgt c4_i32_662 c0_i32_665
  let v1414 : BitVec 32 := Scalar.extui v1413
  let c0_i32_666 : BitVec 32 := 0#32
  let v1415 : BitVec 1 := Scalar.cmpi .slt c4_i32_662 c0_i32_666
  let v1416 : BitVec 32 := Scalar.extui v1415
  let v1417 : BitVec 32 := Scalar.subi v1414 v1416
  let v1418 : BitVec 1 := Scalar.cmpi .ne v1412 v1417
  let v1419 : BitVec 32 := Scalar.remsi v1038 c4_i32_662
  let c0_i32_667 : BitVec 32 := 0#32
  let v1420 : BitVec 1 := Scalar.cmpi .ne v1419 c0_i32_667
  let v1421 : BitVec 1 := Scalar.andi v1418 v1420
  let v1407 : BitVec 32 := Scalar.divsi v1038 c4_i32_662
  let c1_i32_668 : BitVec 32 := 1#32
  let v1422 : BitVec 32 := Scalar.subi v1407 c1_i32_668
  let v1423 : BitVec 32 := Scalar.select v1421 v1422 v1407
  let v1431 : Index := Scalar.indexCast v1423
  let c1536_675 : Index := 1536#32
  let c0_676 : Index := 0#32
  ![v1431.toNat, 1536, 0]
def k0_off388 (k0_t26 : Fin k0_t26_loop.trips) : Fin 4 → Nat :=
  let c0_683 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1451 : Index := Scalar.indexCast v1061
  let c0_684 : Index := 0#32
  let c1792_685 : Index := 1792#32
  ![0, v1451.toNat, 0, 1792]
def k0_off389 (k0_t26 : Fin k0_t26_loop.trips) : Fin 4 → Nat :=
  let c0_696 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_690 : BitVec 32 := 0#32
  let v1462 : BitVec 1 := Scalar.cmpi .sgt v1038 c0_i32_690
  let v1463 : BitVec 32 := Scalar.extui v1462
  let c0_i32_691 : BitVec 32 := 0#32
  let v1464 : BitVec 1 := Scalar.cmpi .slt v1038 c0_i32_691
  let v1465 : BitVec 32 := Scalar.extui v1464
  let v1466 : BitVec 32 := Scalar.subi v1463 v1465
  let c4_i32_689 : BitVec 32 := 4#32
  let c0_i32_692 : BitVec 32 := 0#32
  let v1467 : BitVec 1 := Scalar.cmpi .sgt c4_i32_689 c0_i32_692
  let v1468 : BitVec 32 := Scalar.extui v1467
  let c0_i32_693 : BitVec 32 := 0#32
  let v1469 : BitVec 1 := Scalar.cmpi .slt c4_i32_689 c0_i32_693
  let v1470 : BitVec 32 := Scalar.extui v1469
  let v1471 : BitVec 32 := Scalar.subi v1468 v1470
  let v1472 : BitVec 1 := Scalar.cmpi .ne v1466 v1471
  let v1473 : BitVec 32 := Scalar.remsi v1038 c4_i32_689
  let c0_i32_694 : BitVec 32 := 0#32
  let v1474 : BitVec 1 := Scalar.cmpi .ne v1473 c0_i32_694
  let v1475 : BitVec 1 := Scalar.andi v1472 v1474
  let v1461 : BitVec 32 := Scalar.divsi v1038 c4_i32_689
  let c1_i32_695 : BitVec 32 := 1#32
  let v1476 : BitVec 32 := Scalar.subi v1461 c1_i32_695
  let v1477 : BitVec 32 := Scalar.select v1475 v1476 v1461
  let v1478 : Index := Scalar.indexCast v1477
  let c1792_697 : Index := 1792#32
  let c0_698 : Index := 0#32
  ![0, v1478.toNat, 1792, 0]
def k0_off390 (k0_t26 : Fin k0_t26_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_690 : BitVec 32 := 0#32
  let v1462 : BitVec 1 := Scalar.cmpi .sgt v1038 c0_i32_690
  let v1463 : BitVec 32 := Scalar.extui v1462
  let c0_i32_691 : BitVec 32 := 0#32
  let v1464 : BitVec 1 := Scalar.cmpi .slt v1038 c0_i32_691
  let v1465 : BitVec 32 := Scalar.extui v1464
  let v1466 : BitVec 32 := Scalar.subi v1463 v1465
  let c4_i32_689 : BitVec 32 := 4#32
  let c0_i32_692 : BitVec 32 := 0#32
  let v1467 : BitVec 1 := Scalar.cmpi .sgt c4_i32_689 c0_i32_692
  let v1468 : BitVec 32 := Scalar.extui v1467
  let c0_i32_693 : BitVec 32 := 0#32
  let v1469 : BitVec 1 := Scalar.cmpi .slt c4_i32_689 c0_i32_693
  let v1470 : BitVec 32 := Scalar.extui v1469
  let v1471 : BitVec 32 := Scalar.subi v1468 v1470
  let v1472 : BitVec 1 := Scalar.cmpi .ne v1466 v1471
  let v1473 : BitVec 32 := Scalar.remsi v1038 c4_i32_689
  let c0_i32_694 : BitVec 32 := 0#32
  let v1474 : BitVec 1 := Scalar.cmpi .ne v1473 c0_i32_694
  let v1475 : BitVec 1 := Scalar.andi v1472 v1474
  let v1461 : BitVec 32 := Scalar.divsi v1038 c4_i32_689
  let c1_i32_695 : BitVec 32 := 1#32
  let v1476 : BitVec 32 := Scalar.subi v1461 c1_i32_695
  let v1477 : BitVec 32 := Scalar.select v1475 v1476 v1461
  let v1485 : Index := Scalar.indexCast v1477
  let c1792_702 : Index := 1792#32
  let c0_703 : Index := 0#32
  ![v1485.toNat, 1792, 0]
def k0_off391 (k0_t26 : Fin k0_t26_loop.trips) : Fin 4 → Nat :=
  let c0_710 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1505 : Index := Scalar.indexCast v1061
  let c0_711 : Index := 0#32
  let c2048_712 : Index := 2048#32
  ![0, v1505.toNat, 0, 2048]
def k0_off392 (k0_t26 : Fin k0_t26_loop.trips) : Fin 4 → Nat :=
  let c0_723 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_717 : BitVec 32 := 0#32
  let v1516 : BitVec 1 := Scalar.cmpi .sgt v1038 c0_i32_717
  let v1517 : BitVec 32 := Scalar.extui v1516
  let c0_i32_718 : BitVec 32 := 0#32
  let v1518 : BitVec 1 := Scalar.cmpi .slt v1038 c0_i32_718
  let v1519 : BitVec 32 := Scalar.extui v1518
  let v1520 : BitVec 32 := Scalar.subi v1517 v1519
  let c4_i32_716 : BitVec 32 := 4#32
  let c0_i32_719 : BitVec 32 := 0#32
  let v1521 : BitVec 1 := Scalar.cmpi .sgt c4_i32_716 c0_i32_719
  let v1522 : BitVec 32 := Scalar.extui v1521
  let c0_i32_720 : BitVec 32 := 0#32
  let v1523 : BitVec 1 := Scalar.cmpi .slt c4_i32_716 c0_i32_720
  let v1524 : BitVec 32 := Scalar.extui v1523
  let v1525 : BitVec 32 := Scalar.subi v1522 v1524
  let v1526 : BitVec 1 := Scalar.cmpi .ne v1520 v1525
  let v1527 : BitVec 32 := Scalar.remsi v1038 c4_i32_716
  let c0_i32_721 : BitVec 32 := 0#32
  let v1528 : BitVec 1 := Scalar.cmpi .ne v1527 c0_i32_721
  let v1529 : BitVec 1 := Scalar.andi v1526 v1528
  let v1515 : BitVec 32 := Scalar.divsi v1038 c4_i32_716
  let c1_i32_722 : BitVec 32 := 1#32
  let v1530 : BitVec 32 := Scalar.subi v1515 c1_i32_722
  let v1531 : BitVec 32 := Scalar.select v1529 v1530 v1515
  let v1532 : Index := Scalar.indexCast v1531
  let c2048_724 : Index := 2048#32
  let c0_725 : Index := 0#32
  ![0, v1532.toNat, 2048, 0]
def k0_off393 (k0_t26 : Fin k0_t26_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_717 : BitVec 32 := 0#32
  let v1516 : BitVec 1 := Scalar.cmpi .sgt v1038 c0_i32_717
  let v1517 : BitVec 32 := Scalar.extui v1516
  let c0_i32_718 : BitVec 32 := 0#32
  let v1518 : BitVec 1 := Scalar.cmpi .slt v1038 c0_i32_718
  let v1519 : BitVec 32 := Scalar.extui v1518
  let v1520 : BitVec 32 := Scalar.subi v1517 v1519
  let c4_i32_716 : BitVec 32 := 4#32
  let c0_i32_719 : BitVec 32 := 0#32
  let v1521 : BitVec 1 := Scalar.cmpi .sgt c4_i32_716 c0_i32_719
  let v1522 : BitVec 32 := Scalar.extui v1521
  let c0_i32_720 : BitVec 32 := 0#32
  let v1523 : BitVec 1 := Scalar.cmpi .slt c4_i32_716 c0_i32_720
  let v1524 : BitVec 32 := Scalar.extui v1523
  let v1525 : BitVec 32 := Scalar.subi v1522 v1524
  let v1526 : BitVec 1 := Scalar.cmpi .ne v1520 v1525
  let v1527 : BitVec 32 := Scalar.remsi v1038 c4_i32_716
  let c0_i32_721 : BitVec 32 := 0#32
  let v1528 : BitVec 1 := Scalar.cmpi .ne v1527 c0_i32_721
  let v1529 : BitVec 1 := Scalar.andi v1526 v1528
  let v1515 : BitVec 32 := Scalar.divsi v1038 c4_i32_716
  let c1_i32_722 : BitVec 32 := 1#32
  let v1530 : BitVec 32 := Scalar.subi v1515 c1_i32_722
  let v1531 : BitVec 32 := Scalar.select v1529 v1530 v1515
  let v1539 : Index := Scalar.indexCast v1531
  let c2048_729 : Index := 2048#32
  let c0_730 : Index := 0#32
  ![v1539.toNat, 2048, 0]
def k0_off394 (k0_t26 : Fin k0_t26_loop.trips) : Fin 4 → Nat :=
  let c0_737 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1559 : Index := Scalar.indexCast v1061
  let c0_738 : Index := 0#32
  let c2304_739 : Index := 2304#32
  ![0, v1559.toNat, 0, 2304]
def k0_off395 (k0_t26 : Fin k0_t26_loop.trips) : Fin 4 → Nat :=
  let c0_750 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_744 : BitVec 32 := 0#32
  let v1570 : BitVec 1 := Scalar.cmpi .sgt v1038 c0_i32_744
  let v1571 : BitVec 32 := Scalar.extui v1570
  let c0_i32_745 : BitVec 32 := 0#32
  let v1572 : BitVec 1 := Scalar.cmpi .slt v1038 c0_i32_745
  let v1573 : BitVec 32 := Scalar.extui v1572
  let v1574 : BitVec 32 := Scalar.subi v1571 v1573
  let c4_i32_743 : BitVec 32 := 4#32
  let c0_i32_746 : BitVec 32 := 0#32
  let v1575 : BitVec 1 := Scalar.cmpi .sgt c4_i32_743 c0_i32_746
  let v1576 : BitVec 32 := Scalar.extui v1575
  let c0_i32_747 : BitVec 32 := 0#32
  let v1577 : BitVec 1 := Scalar.cmpi .slt c4_i32_743 c0_i32_747
  let v1578 : BitVec 32 := Scalar.extui v1577
  let v1579 : BitVec 32 := Scalar.subi v1576 v1578
  let v1580 : BitVec 1 := Scalar.cmpi .ne v1574 v1579
  let v1581 : BitVec 32 := Scalar.remsi v1038 c4_i32_743
  let c0_i32_748 : BitVec 32 := 0#32
  let v1582 : BitVec 1 := Scalar.cmpi .ne v1581 c0_i32_748
  let v1583 : BitVec 1 := Scalar.andi v1580 v1582
  let v1569 : BitVec 32 := Scalar.divsi v1038 c4_i32_743
  let c1_i32_749 : BitVec 32 := 1#32
  let v1584 : BitVec 32 := Scalar.subi v1569 c1_i32_749
  let v1585 : BitVec 32 := Scalar.select v1583 v1584 v1569
  let v1586 : Index := Scalar.indexCast v1585
  let c2304_751 : Index := 2304#32
  let c0_752 : Index := 0#32
  ![0, v1586.toNat, 2304, 0]
def k0_off396 (k0_t26 : Fin k0_t26_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_744 : BitVec 32 := 0#32
  let v1570 : BitVec 1 := Scalar.cmpi .sgt v1038 c0_i32_744
  let v1571 : BitVec 32 := Scalar.extui v1570
  let c0_i32_745 : BitVec 32 := 0#32
  let v1572 : BitVec 1 := Scalar.cmpi .slt v1038 c0_i32_745
  let v1573 : BitVec 32 := Scalar.extui v1572
  let v1574 : BitVec 32 := Scalar.subi v1571 v1573
  let c4_i32_743 : BitVec 32 := 4#32
  let c0_i32_746 : BitVec 32 := 0#32
  let v1575 : BitVec 1 := Scalar.cmpi .sgt c4_i32_743 c0_i32_746
  let v1576 : BitVec 32 := Scalar.extui v1575
  let c0_i32_747 : BitVec 32 := 0#32
  let v1577 : BitVec 1 := Scalar.cmpi .slt c4_i32_743 c0_i32_747
  let v1578 : BitVec 32 := Scalar.extui v1577
  let v1579 : BitVec 32 := Scalar.subi v1576 v1578
  let v1580 : BitVec 1 := Scalar.cmpi .ne v1574 v1579
  let v1581 : BitVec 32 := Scalar.remsi v1038 c4_i32_743
  let c0_i32_748 : BitVec 32 := 0#32
  let v1582 : BitVec 1 := Scalar.cmpi .ne v1581 c0_i32_748
  let v1583 : BitVec 1 := Scalar.andi v1580 v1582
  let v1569 : BitVec 32 := Scalar.divsi v1038 c4_i32_743
  let c1_i32_749 : BitVec 32 := 1#32
  let v1584 : BitVec 32 := Scalar.subi v1569 c1_i32_749
  let v1585 : BitVec 32 := Scalar.select v1583 v1584 v1569
  let v1593 : Index := Scalar.indexCast v1585
  let c2304_756 : Index := 2304#32
  let c0_757 : Index := 0#32
  ![v1593.toNat, 2304, 0]
def k0_off397 (k0_t26 : Fin k0_t26_loop.trips) : Fin 4 → Nat :=
  let c0_764 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1613 : Index := Scalar.indexCast v1061
  let c0_765 : Index := 0#32
  let c2560_766 : Index := 2560#32
  ![0, v1613.toNat, 0, 2560]
def k0_off398 (k0_t26 : Fin k0_t26_loop.trips) : Fin 4 → Nat :=
  let c0_777 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_771 : BitVec 32 := 0#32
  let v1624 : BitVec 1 := Scalar.cmpi .sgt v1038 c0_i32_771
  let v1625 : BitVec 32 := Scalar.extui v1624
  let c0_i32_772 : BitVec 32 := 0#32
  let v1626 : BitVec 1 := Scalar.cmpi .slt v1038 c0_i32_772
  let v1627 : BitVec 32 := Scalar.extui v1626
  let v1628 : BitVec 32 := Scalar.subi v1625 v1627
  let c4_i32_770 : BitVec 32 := 4#32
  let c0_i32_773 : BitVec 32 := 0#32
  let v1629 : BitVec 1 := Scalar.cmpi .sgt c4_i32_770 c0_i32_773
  let v1630 : BitVec 32 := Scalar.extui v1629
  let c0_i32_774 : BitVec 32 := 0#32
  let v1631 : BitVec 1 := Scalar.cmpi .slt c4_i32_770 c0_i32_774
  let v1632 : BitVec 32 := Scalar.extui v1631
  let v1633 : BitVec 32 := Scalar.subi v1630 v1632
  let v1634 : BitVec 1 := Scalar.cmpi .ne v1628 v1633
  let v1635 : BitVec 32 := Scalar.remsi v1038 c4_i32_770
  let c0_i32_775 : BitVec 32 := 0#32
  let v1636 : BitVec 1 := Scalar.cmpi .ne v1635 c0_i32_775
  let v1637 : BitVec 1 := Scalar.andi v1634 v1636
  let v1623 : BitVec 32 := Scalar.divsi v1038 c4_i32_770
  let c1_i32_776 : BitVec 32 := 1#32
  let v1638 : BitVec 32 := Scalar.subi v1623 c1_i32_776
  let v1639 : BitVec 32 := Scalar.select v1637 v1638 v1623
  let v1640 : Index := Scalar.indexCast v1639
  let c2560_778 : Index := 2560#32
  let c0_779 : Index := 0#32
  ![0, v1640.toNat, 2560, 0]
def k0_off399 (k0_t26 : Fin k0_t26_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_771 : BitVec 32 := 0#32
  let v1624 : BitVec 1 := Scalar.cmpi .sgt v1038 c0_i32_771
  let v1625 : BitVec 32 := Scalar.extui v1624
  let c0_i32_772 : BitVec 32 := 0#32
  let v1626 : BitVec 1 := Scalar.cmpi .slt v1038 c0_i32_772
  let v1627 : BitVec 32 := Scalar.extui v1626
  let v1628 : BitVec 32 := Scalar.subi v1625 v1627
  let c4_i32_770 : BitVec 32 := 4#32
  let c0_i32_773 : BitVec 32 := 0#32
  let v1629 : BitVec 1 := Scalar.cmpi .sgt c4_i32_770 c0_i32_773
  let v1630 : BitVec 32 := Scalar.extui v1629
  let c0_i32_774 : BitVec 32 := 0#32
  let v1631 : BitVec 1 := Scalar.cmpi .slt c4_i32_770 c0_i32_774
  let v1632 : BitVec 32 := Scalar.extui v1631
  let v1633 : BitVec 32 := Scalar.subi v1630 v1632
  let v1634 : BitVec 1 := Scalar.cmpi .ne v1628 v1633
  let v1635 : BitVec 32 := Scalar.remsi v1038 c4_i32_770
  let c0_i32_775 : BitVec 32 := 0#32
  let v1636 : BitVec 1 := Scalar.cmpi .ne v1635 c0_i32_775
  let v1637 : BitVec 1 := Scalar.andi v1634 v1636
  let v1623 : BitVec 32 := Scalar.divsi v1038 c4_i32_770
  let c1_i32_776 : BitVec 32 := 1#32
  let v1638 : BitVec 32 := Scalar.subi v1623 c1_i32_776
  let v1639 : BitVec 32 := Scalar.select v1637 v1638 v1623
  let v1647 : Index := Scalar.indexCast v1639
  let c2560_783 : Index := 2560#32
  let c0_784 : Index := 0#32
  ![v1647.toNat, 2560, 0]
def k0_off400 (k0_t26 : Fin k0_t26_loop.trips) : Fin 4 → Nat :=
  let c0_791 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1667 : Index := Scalar.indexCast v1061
  let c0_792 : Index := 0#32
  let c2816_793 : Index := 2816#32
  ![0, v1667.toNat, 0, 2816]
def k0_off401 (k0_t26 : Fin k0_t26_loop.trips) : Fin 4 → Nat :=
  let c0_804 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_798 : BitVec 32 := 0#32
  let v1678 : BitVec 1 := Scalar.cmpi .sgt v1038 c0_i32_798
  let v1679 : BitVec 32 := Scalar.extui v1678
  let c0_i32_799 : BitVec 32 := 0#32
  let v1680 : BitVec 1 := Scalar.cmpi .slt v1038 c0_i32_799
  let v1681 : BitVec 32 := Scalar.extui v1680
  let v1682 : BitVec 32 := Scalar.subi v1679 v1681
  let c4_i32_797 : BitVec 32 := 4#32
  let c0_i32_800 : BitVec 32 := 0#32
  let v1683 : BitVec 1 := Scalar.cmpi .sgt c4_i32_797 c0_i32_800
  let v1684 : BitVec 32 := Scalar.extui v1683
  let c0_i32_801 : BitVec 32 := 0#32
  let v1685 : BitVec 1 := Scalar.cmpi .slt c4_i32_797 c0_i32_801
  let v1686 : BitVec 32 := Scalar.extui v1685
  let v1687 : BitVec 32 := Scalar.subi v1684 v1686
  let v1688 : BitVec 1 := Scalar.cmpi .ne v1682 v1687
  let v1689 : BitVec 32 := Scalar.remsi v1038 c4_i32_797
  let c0_i32_802 : BitVec 32 := 0#32
  let v1690 : BitVec 1 := Scalar.cmpi .ne v1689 c0_i32_802
  let v1691 : BitVec 1 := Scalar.andi v1688 v1690
  let v1677 : BitVec 32 := Scalar.divsi v1038 c4_i32_797
  let c1_i32_803 : BitVec 32 := 1#32
  let v1692 : BitVec 32 := Scalar.subi v1677 c1_i32_803
  let v1693 : BitVec 32 := Scalar.select v1691 v1692 v1677
  let v1694 : Index := Scalar.indexCast v1693
  let c2816_805 : Index := 2816#32
  let c0_806 : Index := 0#32
  ![0, v1694.toNat, 2816, 0]
def k0_off402 (k0_t26 : Fin k0_t26_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_798 : BitVec 32 := 0#32
  let v1678 : BitVec 1 := Scalar.cmpi .sgt v1038 c0_i32_798
  let v1679 : BitVec 32 := Scalar.extui v1678
  let c0_i32_799 : BitVec 32 := 0#32
  let v1680 : BitVec 1 := Scalar.cmpi .slt v1038 c0_i32_799
  let v1681 : BitVec 32 := Scalar.extui v1680
  let v1682 : BitVec 32 := Scalar.subi v1679 v1681
  let c4_i32_797 : BitVec 32 := 4#32
  let c0_i32_800 : BitVec 32 := 0#32
  let v1683 : BitVec 1 := Scalar.cmpi .sgt c4_i32_797 c0_i32_800
  let v1684 : BitVec 32 := Scalar.extui v1683
  let c0_i32_801 : BitVec 32 := 0#32
  let v1685 : BitVec 1 := Scalar.cmpi .slt c4_i32_797 c0_i32_801
  let v1686 : BitVec 32 := Scalar.extui v1685
  let v1687 : BitVec 32 := Scalar.subi v1684 v1686
  let v1688 : BitVec 1 := Scalar.cmpi .ne v1682 v1687
  let v1689 : BitVec 32 := Scalar.remsi v1038 c4_i32_797
  let c0_i32_802 : BitVec 32 := 0#32
  let v1690 : BitVec 1 := Scalar.cmpi .ne v1689 c0_i32_802
  let v1691 : BitVec 1 := Scalar.andi v1688 v1690
  let v1677 : BitVec 32 := Scalar.divsi v1038 c4_i32_797
  let c1_i32_803 : BitVec 32 := 1#32
  let v1692 : BitVec 32 := Scalar.subi v1677 c1_i32_803
  let v1693 : BitVec 32 := Scalar.select v1691 v1692 v1677
  let v1701 : Index := Scalar.indexCast v1693
  let c2816_810 : Index := 2816#32
  let c0_811 : Index := 0#32
  ![v1701.toNat, 2816, 0]
def k0_off403 (k0_t26 : Fin k0_t26_loop.trips) : Fin 4 → Nat :=
  let c0_818 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1721 : Index := Scalar.indexCast v1061
  let c0_819 : Index := 0#32
  let c3072_820 : Index := 3072#32
  ![0, v1721.toNat, 0, 3072]
def k0_off404 (k0_t26 : Fin k0_t26_loop.trips) : Fin 4 → Nat :=
  let c0_831 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_825 : BitVec 32 := 0#32
  let v1732 : BitVec 1 := Scalar.cmpi .sgt v1038 c0_i32_825
  let v1733 : BitVec 32 := Scalar.extui v1732
  let c0_i32_826 : BitVec 32 := 0#32
  let v1734 : BitVec 1 := Scalar.cmpi .slt v1038 c0_i32_826
  let v1735 : BitVec 32 := Scalar.extui v1734
  let v1736 : BitVec 32 := Scalar.subi v1733 v1735
  let c4_i32_824 : BitVec 32 := 4#32
  let c0_i32_827 : BitVec 32 := 0#32
  let v1737 : BitVec 1 := Scalar.cmpi .sgt c4_i32_824 c0_i32_827
  let v1738 : BitVec 32 := Scalar.extui v1737
  let c0_i32_828 : BitVec 32 := 0#32
  let v1739 : BitVec 1 := Scalar.cmpi .slt c4_i32_824 c0_i32_828
  let v1740 : BitVec 32 := Scalar.extui v1739
  let v1741 : BitVec 32 := Scalar.subi v1738 v1740
  let v1742 : BitVec 1 := Scalar.cmpi .ne v1736 v1741
  let v1743 : BitVec 32 := Scalar.remsi v1038 c4_i32_824
  let c0_i32_829 : BitVec 32 := 0#32
  let v1744 : BitVec 1 := Scalar.cmpi .ne v1743 c0_i32_829
  let v1745 : BitVec 1 := Scalar.andi v1742 v1744
  let v1731 : BitVec 32 := Scalar.divsi v1038 c4_i32_824
  let c1_i32_830 : BitVec 32 := 1#32
  let v1746 : BitVec 32 := Scalar.subi v1731 c1_i32_830
  let v1747 : BitVec 32 := Scalar.select v1745 v1746 v1731
  let v1748 : Index := Scalar.indexCast v1747
  let c3072_832 : Index := 3072#32
  let c0_833 : Index := 0#32
  ![0, v1748.toNat, 3072, 0]
def k0_off405 (k0_t26 : Fin k0_t26_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_825 : BitVec 32 := 0#32
  let v1732 : BitVec 1 := Scalar.cmpi .sgt v1038 c0_i32_825
  let v1733 : BitVec 32 := Scalar.extui v1732
  let c0_i32_826 : BitVec 32 := 0#32
  let v1734 : BitVec 1 := Scalar.cmpi .slt v1038 c0_i32_826
  let v1735 : BitVec 32 := Scalar.extui v1734
  let v1736 : BitVec 32 := Scalar.subi v1733 v1735
  let c4_i32_824 : BitVec 32 := 4#32
  let c0_i32_827 : BitVec 32 := 0#32
  let v1737 : BitVec 1 := Scalar.cmpi .sgt c4_i32_824 c0_i32_827
  let v1738 : BitVec 32 := Scalar.extui v1737
  let c0_i32_828 : BitVec 32 := 0#32
  let v1739 : BitVec 1 := Scalar.cmpi .slt c4_i32_824 c0_i32_828
  let v1740 : BitVec 32 := Scalar.extui v1739
  let v1741 : BitVec 32 := Scalar.subi v1738 v1740
  let v1742 : BitVec 1 := Scalar.cmpi .ne v1736 v1741
  let v1743 : BitVec 32 := Scalar.remsi v1038 c4_i32_824
  let c0_i32_829 : BitVec 32 := 0#32
  let v1744 : BitVec 1 := Scalar.cmpi .ne v1743 c0_i32_829
  let v1745 : BitVec 1 := Scalar.andi v1742 v1744
  let v1731 : BitVec 32 := Scalar.divsi v1038 c4_i32_824
  let c1_i32_830 : BitVec 32 := 1#32
  let v1746 : BitVec 32 := Scalar.subi v1731 c1_i32_830
  let v1747 : BitVec 32 := Scalar.select v1745 v1746 v1731
  let v1755 : Index := Scalar.indexCast v1747
  let c3072_837 : Index := 3072#32
  let c0_838 : Index := 0#32
  ![v1755.toNat, 3072, 0]
def k0_off406 (k0_t26 : Fin k0_t26_loop.trips) : Fin 4 → Nat :=
  let c0_845 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1775 : Index := Scalar.indexCast v1061
  let c0_846 : Index := 0#32
  let c3328_847 : Index := 3328#32
  ![0, v1775.toNat, 0, 3328]
def k0_off407 (k0_t26 : Fin k0_t26_loop.trips) : Fin 4 → Nat :=
  let c0_858 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_852 : BitVec 32 := 0#32
  let v1786 : BitVec 1 := Scalar.cmpi .sgt v1038 c0_i32_852
  let v1787 : BitVec 32 := Scalar.extui v1786
  let c0_i32_853 : BitVec 32 := 0#32
  let v1788 : BitVec 1 := Scalar.cmpi .slt v1038 c0_i32_853
  let v1789 : BitVec 32 := Scalar.extui v1788
  let v1790 : BitVec 32 := Scalar.subi v1787 v1789
  let c4_i32_851 : BitVec 32 := 4#32
  let c0_i32_854 : BitVec 32 := 0#32
  let v1791 : BitVec 1 := Scalar.cmpi .sgt c4_i32_851 c0_i32_854
  let v1792 : BitVec 32 := Scalar.extui v1791
  let c0_i32_855 : BitVec 32 := 0#32
  let v1793 : BitVec 1 := Scalar.cmpi .slt c4_i32_851 c0_i32_855
  let v1794 : BitVec 32 := Scalar.extui v1793
  let v1795 : BitVec 32 := Scalar.subi v1792 v1794
  let v1796 : BitVec 1 := Scalar.cmpi .ne v1790 v1795
  let v1797 : BitVec 32 := Scalar.remsi v1038 c4_i32_851
  let c0_i32_856 : BitVec 32 := 0#32
  let v1798 : BitVec 1 := Scalar.cmpi .ne v1797 c0_i32_856
  let v1799 : BitVec 1 := Scalar.andi v1796 v1798
  let v1785 : BitVec 32 := Scalar.divsi v1038 c4_i32_851
  let c1_i32_857 : BitVec 32 := 1#32
  let v1800 : BitVec 32 := Scalar.subi v1785 c1_i32_857
  let v1801 : BitVec 32 := Scalar.select v1799 v1800 v1785
  let v1802 : Index := Scalar.indexCast v1801
  let c3328_859 : Index := 3328#32
  let c0_860 : Index := 0#32
  ![0, v1802.toNat, 3328, 0]
def k0_off408 (k0_t26 : Fin k0_t26_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_852 : BitVec 32 := 0#32
  let v1786 : BitVec 1 := Scalar.cmpi .sgt v1038 c0_i32_852
  let v1787 : BitVec 32 := Scalar.extui v1786
  let c0_i32_853 : BitVec 32 := 0#32
  let v1788 : BitVec 1 := Scalar.cmpi .slt v1038 c0_i32_853
  let v1789 : BitVec 32 := Scalar.extui v1788
  let v1790 : BitVec 32 := Scalar.subi v1787 v1789
  let c4_i32_851 : BitVec 32 := 4#32
  let c0_i32_854 : BitVec 32 := 0#32
  let v1791 : BitVec 1 := Scalar.cmpi .sgt c4_i32_851 c0_i32_854
  let v1792 : BitVec 32 := Scalar.extui v1791
  let c0_i32_855 : BitVec 32 := 0#32
  let v1793 : BitVec 1 := Scalar.cmpi .slt c4_i32_851 c0_i32_855
  let v1794 : BitVec 32 := Scalar.extui v1793
  let v1795 : BitVec 32 := Scalar.subi v1792 v1794
  let v1796 : BitVec 1 := Scalar.cmpi .ne v1790 v1795
  let v1797 : BitVec 32 := Scalar.remsi v1038 c4_i32_851
  let c0_i32_856 : BitVec 32 := 0#32
  let v1798 : BitVec 1 := Scalar.cmpi .ne v1797 c0_i32_856
  let v1799 : BitVec 1 := Scalar.andi v1796 v1798
  let v1785 : BitVec 32 := Scalar.divsi v1038 c4_i32_851
  let c1_i32_857 : BitVec 32 := 1#32
  let v1800 : BitVec 32 := Scalar.subi v1785 c1_i32_857
  let v1801 : BitVec 32 := Scalar.select v1799 v1800 v1785
  let v1809 : Index := Scalar.indexCast v1801
  let c3328_864 : Index := 3328#32
  let c0_865 : Index := 0#32
  ![v1809.toNat, 3328, 0]
def k0_off409 (k0_t26 : Fin k0_t26_loop.trips) : Fin 3 → Nat :=
  let c0_875 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1839 : Index := Scalar.indexCast v1061
  let c0_876 : Index := 0#32
  ![0, v1839.toNat, 0]
def k0_mult27 (k0_t26 : Fin k0_t26_loop.trips) : BitVec 32 :=
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c128_i32 : BitVec 32 := 128#32
  let v1845 : BitVec 32 := Scalar.muli v1036 c128_i32
  v1845
def k0_off410 (k0_t26 : Fin k0_t26_loop.trips) : Fin 3 → Nat :=
  let c0_877 : Index := 0#32
  let c0_878 : Index := 0#32
  let c0_i32_475 : BitVec 32 := 0#32
  let c0_i32_471 : BitVec 32 := 0#32
  let c1_i32_472 : BitVec 32 := 1#32
  let arg17 : BitVec 32 := Scf.iv c0_i32_471 c1_i32_472 k0_t26
  let c1_i32_474 : BitVec 32 := 1#32
  let v1035 : BitVec 32 := Scalar.muli arg17 c1_i32_474
  let v1036 : BitVec 32 := Scalar.addi c0_i32_475 v1035
  let c128_i32 : BitVec 32 := 128#32
  let v1845 : BitVec 32 := Scalar.muli v1036 c128_i32
  let v1846 : BitVec 32 := v1845
  let v1847 : Index := Scalar.indexCast v1846
  ![0, 0, v1847.toNat]
def k0_cond16 (i : grid0.Coords) : BitVec 1 :=
  let arg1 : BitVec 32 := BitVec.ofNat 32 (i 1).val
  let c14_i32_445 : BitVec 32 := 14#32
  let v999 : BitVec 1 := Scalar.cmpi .eq arg1 c14_i32_445
  let v1000 : BitVec 32 := Scalar.extui v999
  let c0_i32_446 : BitVec 32 := 0#32
  let v1001 : BitVec 1 := Scalar.cmpi .ne v1000 c0_i32_446
  v1001

@[reducible] def k0_t27_loop : Scf.Loop 32 :=
  let c0_i32_449 : BitVec 32 := 0#32
  let c14_i32_450 : BitVec 32 := 14#32
  let v1005 : BitVec 32 := Scalar.addi c0_i32_449 c14_i32_450
  let c1_i32_451 : BitVec 32 := 1#32
  ⟨c0_i32_449, v1005, c1_i32_451⟩
def k0_mult28 (k0_t27 : Fin k0_t27_loop.trips) : BitVec 32 :=
  let c0_i32_449 : BitVec 32 := 0#32
  let c1_i32_451 : BitVec 32 := 1#32
  let arg17 : BitVec 32 := Scf.iv c0_i32_449 c1_i32_451 k0_t27
  let c256_i32 : BitVec 32 := 256#32
  let v1035 : BitVec 32 := Scalar.muli arg17 c256_i32
  v1035
def k0_off411 (k0_t27 : Fin k0_t27_loop.trips) : Fin 4 → Nat :=
  let c0_474 : Index := 0#32
  let c0_475 : Index := 0#32
  let c0_i32_449 : BitVec 32 := 0#32
  let c1_i32_451 : BitVec 32 := 1#32
  let arg17 : BitVec 32 := Scf.iv c0_i32_449 c1_i32_451 k0_t27
  let c256_i32 : BitVec 32 := 256#32
  let v1035 : BitVec 32 := Scalar.muli arg17 c256_i32
  let v1036 : BitVec 32 := v1035
  let v1037 : Index := Scalar.indexCast v1036
  let c0_476 : Index := 0#32
  ![0, 0, v1037.toNat, 0]
def k0_off412 (k0_t27 : Fin k0_t27_loop.trips) : Fin 3 → Nat :=
  let c0_481 : Index := 0#32
  let c0_i32_449 : BitVec 32 := 0#32
  let c1_i32_451 : BitVec 32 := 1#32
  let arg17 : BitVec 32 := Scf.iv c0_i32_449 c1_i32_451 k0_t27
  let c256_i32 : BitVec 32 := 256#32
  let v1035 : BitVec 32 := Scalar.muli arg17 c256_i32
  let v1036 : BitVec 32 := v1035
  let v1043 : Index := Scalar.indexCast v1036
  let c0_482 : Index := 0#32
  ![0, v1043.toNat, 0]
def k0_off413 (k0_t27 : Fin k0_t27_loop.trips) : Fin 2 → Nat :=
  let c0_i32_449 : BitVec 32 := 0#32
  let c1_i32_451 : BitVec 32 := 1#32
  let arg17 : BitVec 32 := Scf.iv c0_i32_449 c1_i32_451 k0_t27
  let c256_i32 : BitVec 32 := 256#32
  let v1035 : BitVec 32 := Scalar.muli arg17 c256_i32
  let v1036 : BitVec 32 := v1035
  let v1048 : Index := Scalar.indexCast v1036
  let c0_483 : Index := 0#32
  ![v1048.toNat, 0]
@[reducible] def k0_t28_loop : Scf.Loop 32 :=
  let c0_i32_471 : BitVec 32 := 0#32
  let c32_i32 : BitVec 32 := 32#32
  let v1034 : BitVec 32 := Scalar.addi c0_i32_471 c32_i32
  let c1_i32_472 : BitVec 32 := 1#32
  ⟨c0_i32_471, v1034, c1_i32_472⟩
def k0_off414 (k0_t28 : Fin k0_t28_loop.trips) : Fin 2 → Nat :=
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let v1039 : Index := Scalar.indexCast v1036
  let c0_478 : Index := 0#32
  ![v1039.toNat, 0]
def k0_off415 (k0_t28 : Fin k0_t28_loop.trips) : Fin 4 → Nat :=
  let c0_494 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1073 : Index := Scalar.indexCast v1061
  let c0_495 : Index := 0#32
  let c0_496 : Index := 0#32
  ![0, v1073.toNat, 0, 0]
def k0_off416 (k0_t28 : Fin k0_t28_loop.trips) : Fin 4 → Nat :=
  let c0_507 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1100 : Index := Scalar.indexCast v1099
  let c0_508 : Index := 0#32
  let c0_509 : Index := 0#32
  ![0, v1100.toNat, 0, 0]
def k0_off417 (k0_t28 : Fin k0_t28_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let v1103 : Index := Scalar.indexCast v1038
  let c0_510 : Index := 0#32
  let c0_511 : Index := 0#32
  ![v1103.toNat, 0, 0]
def k0_off418 (k0_t28 : Fin k0_t28_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1107 : Index := Scalar.indexCast v1099
  let c0_513 : Index := 0#32
  let c0_514 : Index := 0#32
  ![v1107.toNat, 0, 0]
def k0_off419 (k0_t28 : Fin k0_t28_loop.trips) : Fin 4 → Nat :=
  let c0_521 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1127 : Index := Scalar.indexCast v1061
  let c0_522 : Index := 0#32
  let c256_523 : Index := 256#32
  ![0, v1127.toNat, 0, 256]
def k0_off420 (k0_t28 : Fin k0_t28_loop.trips) : Fin 4 → Nat :=
  let c0_534 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1154 : Index := Scalar.indexCast v1153
  let c256_535 : Index := 256#32
  let c0_536 : Index := 0#32
  ![0, v1154.toNat, 256, 0]
def k0_off421 (k0_t28 : Fin k0_t28_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1161 : Index := Scalar.indexCast v1153
  let c256_540 : Index := 256#32
  let c0_541 : Index := 0#32
  ![v1161.toNat, 256, 0]
def k0_off422 (k0_t28 : Fin k0_t28_loop.trips) : Fin 4 → Nat :=
  let c0_548 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1181 : Index := Scalar.indexCast v1061
  let c0_549 : Index := 0#32
  let c512_550 : Index := 512#32
  ![0, v1181.toNat, 0, 512]
def k0_off423 (k0_t28 : Fin k0_t28_loop.trips) : Fin 4 → Nat :=
  let c0_561 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1208 : Index := Scalar.indexCast v1207
  let c512_562 : Index := 512#32
  let c0_563 : Index := 0#32
  ![0, v1208.toNat, 512, 0]
def k0_off424 (k0_t28 : Fin k0_t28_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1215 : Index := Scalar.indexCast v1207
  let c512_567 : Index := 512#32
  let c0_568 : Index := 0#32
  ![v1215.toNat, 512, 0]
def k0_off425 (k0_t28 : Fin k0_t28_loop.trips) : Fin 4 → Nat :=
  let c0_575 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1235 : Index := Scalar.indexCast v1061
  let c0_576 : Index := 0#32
  let c768_577 : Index := 768#32
  ![0, v1235.toNat, 0, 768]
def k0_off426 (k0_t28 : Fin k0_t28_loop.trips) : Fin 4 → Nat :=
  let c0_588 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1262 : Index := Scalar.indexCast v1261
  let c768_589 : Index := 768#32
  let c0_590 : Index := 0#32
  ![0, v1262.toNat, 768, 0]
def k0_off427 (k0_t28 : Fin k0_t28_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1269 : Index := Scalar.indexCast v1261
  let c768_594 : Index := 768#32
  let c0_595 : Index := 0#32
  ![v1269.toNat, 768, 0]
def k0_off428 (k0_t28 : Fin k0_t28_loop.trips) : Fin 4 → Nat :=
  let c0_602 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1289 : Index := Scalar.indexCast v1061
  let c0_603 : Index := 0#32
  let c1024_604 : Index := 1024#32
  ![0, v1289.toNat, 0, 1024]
def k0_off429 (k0_t28 : Fin k0_t28_loop.trips) : Fin 4 → Nat :=
  let c0_615 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1316 : Index := Scalar.indexCast v1315
  let c1024_616 : Index := 1024#32
  let c0_617 : Index := 0#32
  ![0, v1316.toNat, 1024, 0]
def k0_off430 (k0_t28 : Fin k0_t28_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1323 : Index := Scalar.indexCast v1315
  let c1024_621 : Index := 1024#32
  let c0_622 : Index := 0#32
  ![v1323.toNat, 1024, 0]
def k0_off431 (k0_t28 : Fin k0_t28_loop.trips) : Fin 4 → Nat :=
  let c0_629 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1343 : Index := Scalar.indexCast v1061
  let c0_630 : Index := 0#32
  let c1280_631 : Index := 1280#32
  ![0, v1343.toNat, 0, 1280]
def k0_off432 (k0_t28 : Fin k0_t28_loop.trips) : Fin 4 → Nat :=
  let c0_642 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1370 : Index := Scalar.indexCast v1369
  let c1280_643 : Index := 1280#32
  let c0_644 : Index := 0#32
  ![0, v1370.toNat, 1280, 0]
def k0_off433 (k0_t28 : Fin k0_t28_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1377 : Index := Scalar.indexCast v1369
  let c1280_648 : Index := 1280#32
  let c0_649 : Index := 0#32
  ![v1377.toNat, 1280, 0]
def k0_off434 (k0_t28 : Fin k0_t28_loop.trips) : Fin 4 → Nat :=
  let c0_656 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1397 : Index := Scalar.indexCast v1061
  let c0_657 : Index := 0#32
  let c1536_658 : Index := 1536#32
  ![0, v1397.toNat, 0, 1536]
def k0_off435 (k0_t28 : Fin k0_t28_loop.trips) : Fin 4 → Nat :=
  let c0_669 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_663 : BitVec 32 := 0#32
  let v1408 : BitVec 1 := Scalar.cmpi .sgt v1038 c0_i32_663
  let v1409 : BitVec 32 := Scalar.extui v1408
  let c0_i32_664 : BitVec 32 := 0#32
  let v1410 : BitVec 1 := Scalar.cmpi .slt v1038 c0_i32_664
  let v1411 : BitVec 32 := Scalar.extui v1410
  let v1412 : BitVec 32 := Scalar.subi v1409 v1411
  let c4_i32_662 : BitVec 32 := 4#32
  let c0_i32_665 : BitVec 32 := 0#32
  let v1413 : BitVec 1 := Scalar.cmpi .sgt c4_i32_662 c0_i32_665
  let v1414 : BitVec 32 := Scalar.extui v1413
  let c0_i32_666 : BitVec 32 := 0#32
  let v1415 : BitVec 1 := Scalar.cmpi .slt c4_i32_662 c0_i32_666
  let v1416 : BitVec 32 := Scalar.extui v1415
  let v1417 : BitVec 32 := Scalar.subi v1414 v1416
  let v1418 : BitVec 1 := Scalar.cmpi .ne v1412 v1417
  let v1419 : BitVec 32 := Scalar.remsi v1038 c4_i32_662
  let c0_i32_667 : BitVec 32 := 0#32
  let v1420 : BitVec 1 := Scalar.cmpi .ne v1419 c0_i32_667
  let v1421 : BitVec 1 := Scalar.andi v1418 v1420
  let v1407 : BitVec 32 := Scalar.divsi v1038 c4_i32_662
  let c1_i32_668 : BitVec 32 := 1#32
  let v1422 : BitVec 32 := Scalar.subi v1407 c1_i32_668
  let v1423 : BitVec 32 := Scalar.select v1421 v1422 v1407
  let v1424 : Index := Scalar.indexCast v1423
  let c1536_670 : Index := 1536#32
  let c0_671 : Index := 0#32
  ![0, v1424.toNat, 1536, 0]
def k0_off436 (k0_t28 : Fin k0_t28_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_663 : BitVec 32 := 0#32
  let v1408 : BitVec 1 := Scalar.cmpi .sgt v1038 c0_i32_663
  let v1409 : BitVec 32 := Scalar.extui v1408
  let c0_i32_664 : BitVec 32 := 0#32
  let v1410 : BitVec 1 := Scalar.cmpi .slt v1038 c0_i32_664
  let v1411 : BitVec 32 := Scalar.extui v1410
  let v1412 : BitVec 32 := Scalar.subi v1409 v1411
  let c4_i32_662 : BitVec 32 := 4#32
  let c0_i32_665 : BitVec 32 := 0#32
  let v1413 : BitVec 1 := Scalar.cmpi .sgt c4_i32_662 c0_i32_665
  let v1414 : BitVec 32 := Scalar.extui v1413
  let c0_i32_666 : BitVec 32 := 0#32
  let v1415 : BitVec 1 := Scalar.cmpi .slt c4_i32_662 c0_i32_666
  let v1416 : BitVec 32 := Scalar.extui v1415
  let v1417 : BitVec 32 := Scalar.subi v1414 v1416
  let v1418 : BitVec 1 := Scalar.cmpi .ne v1412 v1417
  let v1419 : BitVec 32 := Scalar.remsi v1038 c4_i32_662
  let c0_i32_667 : BitVec 32 := 0#32
  let v1420 : BitVec 1 := Scalar.cmpi .ne v1419 c0_i32_667
  let v1421 : BitVec 1 := Scalar.andi v1418 v1420
  let v1407 : BitVec 32 := Scalar.divsi v1038 c4_i32_662
  let c1_i32_668 : BitVec 32 := 1#32
  let v1422 : BitVec 32 := Scalar.subi v1407 c1_i32_668
  let v1423 : BitVec 32 := Scalar.select v1421 v1422 v1407
  let v1431 : Index := Scalar.indexCast v1423
  let c1536_675 : Index := 1536#32
  let c0_676 : Index := 0#32
  ![v1431.toNat, 1536, 0]
def k0_off437 (k0_t28 : Fin k0_t28_loop.trips) : Fin 4 → Nat :=
  let c0_683 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1451 : Index := Scalar.indexCast v1061
  let c0_684 : Index := 0#32
  let c1792_685 : Index := 1792#32
  ![0, v1451.toNat, 0, 1792]
def k0_off438 (k0_t28 : Fin k0_t28_loop.trips) : Fin 4 → Nat :=
  let c0_696 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_690 : BitVec 32 := 0#32
  let v1462 : BitVec 1 := Scalar.cmpi .sgt v1038 c0_i32_690
  let v1463 : BitVec 32 := Scalar.extui v1462
  let c0_i32_691 : BitVec 32 := 0#32
  let v1464 : BitVec 1 := Scalar.cmpi .slt v1038 c0_i32_691
  let v1465 : BitVec 32 := Scalar.extui v1464
  let v1466 : BitVec 32 := Scalar.subi v1463 v1465
  let c4_i32_689 : BitVec 32 := 4#32
  let c0_i32_692 : BitVec 32 := 0#32
  let v1467 : BitVec 1 := Scalar.cmpi .sgt c4_i32_689 c0_i32_692
  let v1468 : BitVec 32 := Scalar.extui v1467
  let c0_i32_693 : BitVec 32 := 0#32
  let v1469 : BitVec 1 := Scalar.cmpi .slt c4_i32_689 c0_i32_693
  let v1470 : BitVec 32 := Scalar.extui v1469
  let v1471 : BitVec 32 := Scalar.subi v1468 v1470
  let v1472 : BitVec 1 := Scalar.cmpi .ne v1466 v1471
  let v1473 : BitVec 32 := Scalar.remsi v1038 c4_i32_689
  let c0_i32_694 : BitVec 32 := 0#32
  let v1474 : BitVec 1 := Scalar.cmpi .ne v1473 c0_i32_694
  let v1475 : BitVec 1 := Scalar.andi v1472 v1474
  let v1461 : BitVec 32 := Scalar.divsi v1038 c4_i32_689
  let c1_i32_695 : BitVec 32 := 1#32
  let v1476 : BitVec 32 := Scalar.subi v1461 c1_i32_695
  let v1477 : BitVec 32 := Scalar.select v1475 v1476 v1461
  let v1478 : Index := Scalar.indexCast v1477
  let c1792_697 : Index := 1792#32
  let c0_698 : Index := 0#32
  ![0, v1478.toNat, 1792, 0]
def k0_off439 (k0_t28 : Fin k0_t28_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_690 : BitVec 32 := 0#32
  let v1462 : BitVec 1 := Scalar.cmpi .sgt v1038 c0_i32_690
  let v1463 : BitVec 32 := Scalar.extui v1462
  let c0_i32_691 : BitVec 32 := 0#32
  let v1464 : BitVec 1 := Scalar.cmpi .slt v1038 c0_i32_691
  let v1465 : BitVec 32 := Scalar.extui v1464
  let v1466 : BitVec 32 := Scalar.subi v1463 v1465
  let c4_i32_689 : BitVec 32 := 4#32
  let c0_i32_692 : BitVec 32 := 0#32
  let v1467 : BitVec 1 := Scalar.cmpi .sgt c4_i32_689 c0_i32_692
  let v1468 : BitVec 32 := Scalar.extui v1467
  let c0_i32_693 : BitVec 32 := 0#32
  let v1469 : BitVec 1 := Scalar.cmpi .slt c4_i32_689 c0_i32_693
  let v1470 : BitVec 32 := Scalar.extui v1469
  let v1471 : BitVec 32 := Scalar.subi v1468 v1470
  let v1472 : BitVec 1 := Scalar.cmpi .ne v1466 v1471
  let v1473 : BitVec 32 := Scalar.remsi v1038 c4_i32_689
  let c0_i32_694 : BitVec 32 := 0#32
  let v1474 : BitVec 1 := Scalar.cmpi .ne v1473 c0_i32_694
  let v1475 : BitVec 1 := Scalar.andi v1472 v1474
  let v1461 : BitVec 32 := Scalar.divsi v1038 c4_i32_689
  let c1_i32_695 : BitVec 32 := 1#32
  let v1476 : BitVec 32 := Scalar.subi v1461 c1_i32_695
  let v1477 : BitVec 32 := Scalar.select v1475 v1476 v1461
  let v1485 : Index := Scalar.indexCast v1477
  let c1792_702 : Index := 1792#32
  let c0_703 : Index := 0#32
  ![v1485.toNat, 1792, 0]
def k0_off440 (k0_t28 : Fin k0_t28_loop.trips) : Fin 4 → Nat :=
  let c0_710 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1505 : Index := Scalar.indexCast v1061
  let c0_711 : Index := 0#32
  let c2048_712 : Index := 2048#32
  ![0, v1505.toNat, 0, 2048]
def k0_off441 (k0_t28 : Fin k0_t28_loop.trips) : Fin 4 → Nat :=
  let c0_723 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_717 : BitVec 32 := 0#32
  let v1516 : BitVec 1 := Scalar.cmpi .sgt v1038 c0_i32_717
  let v1517 : BitVec 32 := Scalar.extui v1516
  let c0_i32_718 : BitVec 32 := 0#32
  let v1518 : BitVec 1 := Scalar.cmpi .slt v1038 c0_i32_718
  let v1519 : BitVec 32 := Scalar.extui v1518
  let v1520 : BitVec 32 := Scalar.subi v1517 v1519
  let c4_i32_716 : BitVec 32 := 4#32
  let c0_i32_719 : BitVec 32 := 0#32
  let v1521 : BitVec 1 := Scalar.cmpi .sgt c4_i32_716 c0_i32_719
  let v1522 : BitVec 32 := Scalar.extui v1521
  let c0_i32_720 : BitVec 32 := 0#32
  let v1523 : BitVec 1 := Scalar.cmpi .slt c4_i32_716 c0_i32_720
  let v1524 : BitVec 32 := Scalar.extui v1523
  let v1525 : BitVec 32 := Scalar.subi v1522 v1524
  let v1526 : BitVec 1 := Scalar.cmpi .ne v1520 v1525
  let v1527 : BitVec 32 := Scalar.remsi v1038 c4_i32_716
  let c0_i32_721 : BitVec 32 := 0#32
  let v1528 : BitVec 1 := Scalar.cmpi .ne v1527 c0_i32_721
  let v1529 : BitVec 1 := Scalar.andi v1526 v1528
  let v1515 : BitVec 32 := Scalar.divsi v1038 c4_i32_716
  let c1_i32_722 : BitVec 32 := 1#32
  let v1530 : BitVec 32 := Scalar.subi v1515 c1_i32_722
  let v1531 : BitVec 32 := Scalar.select v1529 v1530 v1515
  let v1532 : Index := Scalar.indexCast v1531
  let c2048_724 : Index := 2048#32
  let c0_725 : Index := 0#32
  ![0, v1532.toNat, 2048, 0]
def k0_off442 (k0_t28 : Fin k0_t28_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_717 : BitVec 32 := 0#32
  let v1516 : BitVec 1 := Scalar.cmpi .sgt v1038 c0_i32_717
  let v1517 : BitVec 32 := Scalar.extui v1516
  let c0_i32_718 : BitVec 32 := 0#32
  let v1518 : BitVec 1 := Scalar.cmpi .slt v1038 c0_i32_718
  let v1519 : BitVec 32 := Scalar.extui v1518
  let v1520 : BitVec 32 := Scalar.subi v1517 v1519
  let c4_i32_716 : BitVec 32 := 4#32
  let c0_i32_719 : BitVec 32 := 0#32
  let v1521 : BitVec 1 := Scalar.cmpi .sgt c4_i32_716 c0_i32_719
  let v1522 : BitVec 32 := Scalar.extui v1521
  let c0_i32_720 : BitVec 32 := 0#32
  let v1523 : BitVec 1 := Scalar.cmpi .slt c4_i32_716 c0_i32_720
  let v1524 : BitVec 32 := Scalar.extui v1523
  let v1525 : BitVec 32 := Scalar.subi v1522 v1524
  let v1526 : BitVec 1 := Scalar.cmpi .ne v1520 v1525
  let v1527 : BitVec 32 := Scalar.remsi v1038 c4_i32_716
  let c0_i32_721 : BitVec 32 := 0#32
  let v1528 : BitVec 1 := Scalar.cmpi .ne v1527 c0_i32_721
  let v1529 : BitVec 1 := Scalar.andi v1526 v1528
  let v1515 : BitVec 32 := Scalar.divsi v1038 c4_i32_716
  let c1_i32_722 : BitVec 32 := 1#32
  let v1530 : BitVec 32 := Scalar.subi v1515 c1_i32_722
  let v1531 : BitVec 32 := Scalar.select v1529 v1530 v1515
  let v1539 : Index := Scalar.indexCast v1531
  let c2048_729 : Index := 2048#32
  let c0_730 : Index := 0#32
  ![v1539.toNat, 2048, 0]
def k0_off443 (k0_t28 : Fin k0_t28_loop.trips) : Fin 4 → Nat :=
  let c0_737 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1559 : Index := Scalar.indexCast v1061
  let c0_738 : Index := 0#32
  let c2304_739 : Index := 2304#32
  ![0, v1559.toNat, 0, 2304]
def k0_off444 (k0_t28 : Fin k0_t28_loop.trips) : Fin 4 → Nat :=
  let c0_750 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_744 : BitVec 32 := 0#32
  let v1570 : BitVec 1 := Scalar.cmpi .sgt v1038 c0_i32_744
  let v1571 : BitVec 32 := Scalar.extui v1570
  let c0_i32_745 : BitVec 32 := 0#32
  let v1572 : BitVec 1 := Scalar.cmpi .slt v1038 c0_i32_745
  let v1573 : BitVec 32 := Scalar.extui v1572
  let v1574 : BitVec 32 := Scalar.subi v1571 v1573
  let c4_i32_743 : BitVec 32 := 4#32
  let c0_i32_746 : BitVec 32 := 0#32
  let v1575 : BitVec 1 := Scalar.cmpi .sgt c4_i32_743 c0_i32_746
  let v1576 : BitVec 32 := Scalar.extui v1575
  let c0_i32_747 : BitVec 32 := 0#32
  let v1577 : BitVec 1 := Scalar.cmpi .slt c4_i32_743 c0_i32_747
  let v1578 : BitVec 32 := Scalar.extui v1577
  let v1579 : BitVec 32 := Scalar.subi v1576 v1578
  let v1580 : BitVec 1 := Scalar.cmpi .ne v1574 v1579
  let v1581 : BitVec 32 := Scalar.remsi v1038 c4_i32_743
  let c0_i32_748 : BitVec 32 := 0#32
  let v1582 : BitVec 1 := Scalar.cmpi .ne v1581 c0_i32_748
  let v1583 : BitVec 1 := Scalar.andi v1580 v1582
  let v1569 : BitVec 32 := Scalar.divsi v1038 c4_i32_743
  let c1_i32_749 : BitVec 32 := 1#32
  let v1584 : BitVec 32 := Scalar.subi v1569 c1_i32_749
  let v1585 : BitVec 32 := Scalar.select v1583 v1584 v1569
  let v1586 : Index := Scalar.indexCast v1585
  let c2304_751 : Index := 2304#32
  let c0_752 : Index := 0#32
  ![0, v1586.toNat, 2304, 0]
def k0_off445 (k0_t28 : Fin k0_t28_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_744 : BitVec 32 := 0#32
  let v1570 : BitVec 1 := Scalar.cmpi .sgt v1038 c0_i32_744
  let v1571 : BitVec 32 := Scalar.extui v1570
  let c0_i32_745 : BitVec 32 := 0#32
  let v1572 : BitVec 1 := Scalar.cmpi .slt v1038 c0_i32_745
  let v1573 : BitVec 32 := Scalar.extui v1572
  let v1574 : BitVec 32 := Scalar.subi v1571 v1573
  let c4_i32_743 : BitVec 32 := 4#32
  let c0_i32_746 : BitVec 32 := 0#32
  let v1575 : BitVec 1 := Scalar.cmpi .sgt c4_i32_743 c0_i32_746
  let v1576 : BitVec 32 := Scalar.extui v1575
  let c0_i32_747 : BitVec 32 := 0#32
  let v1577 : BitVec 1 := Scalar.cmpi .slt c4_i32_743 c0_i32_747
  let v1578 : BitVec 32 := Scalar.extui v1577
  let v1579 : BitVec 32 := Scalar.subi v1576 v1578
  let v1580 : BitVec 1 := Scalar.cmpi .ne v1574 v1579
  let v1581 : BitVec 32 := Scalar.remsi v1038 c4_i32_743
  let c0_i32_748 : BitVec 32 := 0#32
  let v1582 : BitVec 1 := Scalar.cmpi .ne v1581 c0_i32_748
  let v1583 : BitVec 1 := Scalar.andi v1580 v1582
  let v1569 : BitVec 32 := Scalar.divsi v1038 c4_i32_743
  let c1_i32_749 : BitVec 32 := 1#32
  let v1584 : BitVec 32 := Scalar.subi v1569 c1_i32_749
  let v1585 : BitVec 32 := Scalar.select v1583 v1584 v1569
  let v1593 : Index := Scalar.indexCast v1585
  let c2304_756 : Index := 2304#32
  let c0_757 : Index := 0#32
  ![v1593.toNat, 2304, 0]
def k0_off446 (k0_t28 : Fin k0_t28_loop.trips) : Fin 4 → Nat :=
  let c0_764 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1613 : Index := Scalar.indexCast v1061
  let c0_765 : Index := 0#32
  let c2560_766 : Index := 2560#32
  ![0, v1613.toNat, 0, 2560]
def k0_off447 (k0_t28 : Fin k0_t28_loop.trips) : Fin 4 → Nat :=
  let c0_777 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_771 : BitVec 32 := 0#32
  let v1624 : BitVec 1 := Scalar.cmpi .sgt v1038 c0_i32_771
  let v1625 : BitVec 32 := Scalar.extui v1624
  let c0_i32_772 : BitVec 32 := 0#32
  let v1626 : BitVec 1 := Scalar.cmpi .slt v1038 c0_i32_772
  let v1627 : BitVec 32 := Scalar.extui v1626
  let v1628 : BitVec 32 := Scalar.subi v1625 v1627
  let c4_i32_770 : BitVec 32 := 4#32
  let c0_i32_773 : BitVec 32 := 0#32
  let v1629 : BitVec 1 := Scalar.cmpi .sgt c4_i32_770 c0_i32_773
  let v1630 : BitVec 32 := Scalar.extui v1629
  let c0_i32_774 : BitVec 32 := 0#32
  let v1631 : BitVec 1 := Scalar.cmpi .slt c4_i32_770 c0_i32_774
  let v1632 : BitVec 32 := Scalar.extui v1631
  let v1633 : BitVec 32 := Scalar.subi v1630 v1632
  let v1634 : BitVec 1 := Scalar.cmpi .ne v1628 v1633
  let v1635 : BitVec 32 := Scalar.remsi v1038 c4_i32_770
  let c0_i32_775 : BitVec 32 := 0#32
  let v1636 : BitVec 1 := Scalar.cmpi .ne v1635 c0_i32_775
  let v1637 : BitVec 1 := Scalar.andi v1634 v1636
  let v1623 : BitVec 32 := Scalar.divsi v1038 c4_i32_770
  let c1_i32_776 : BitVec 32 := 1#32
  let v1638 : BitVec 32 := Scalar.subi v1623 c1_i32_776
  let v1639 : BitVec 32 := Scalar.select v1637 v1638 v1623
  let v1640 : Index := Scalar.indexCast v1639
  let c2560_778 : Index := 2560#32
  let c0_779 : Index := 0#32
  ![0, v1640.toNat, 2560, 0]
def k0_off448 (k0_t28 : Fin k0_t28_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_771 : BitVec 32 := 0#32
  let v1624 : BitVec 1 := Scalar.cmpi .sgt v1038 c0_i32_771
  let v1625 : BitVec 32 := Scalar.extui v1624
  let c0_i32_772 : BitVec 32 := 0#32
  let v1626 : BitVec 1 := Scalar.cmpi .slt v1038 c0_i32_772
  let v1627 : BitVec 32 := Scalar.extui v1626
  let v1628 : BitVec 32 := Scalar.subi v1625 v1627
  let c4_i32_770 : BitVec 32 := 4#32
  let c0_i32_773 : BitVec 32 := 0#32
  let v1629 : BitVec 1 := Scalar.cmpi .sgt c4_i32_770 c0_i32_773
  let v1630 : BitVec 32 := Scalar.extui v1629
  let c0_i32_774 : BitVec 32 := 0#32
  let v1631 : BitVec 1 := Scalar.cmpi .slt c4_i32_770 c0_i32_774
  let v1632 : BitVec 32 := Scalar.extui v1631
  let v1633 : BitVec 32 := Scalar.subi v1630 v1632
  let v1634 : BitVec 1 := Scalar.cmpi .ne v1628 v1633
  let v1635 : BitVec 32 := Scalar.remsi v1038 c4_i32_770
  let c0_i32_775 : BitVec 32 := 0#32
  let v1636 : BitVec 1 := Scalar.cmpi .ne v1635 c0_i32_775
  let v1637 : BitVec 1 := Scalar.andi v1634 v1636
  let v1623 : BitVec 32 := Scalar.divsi v1038 c4_i32_770
  let c1_i32_776 : BitVec 32 := 1#32
  let v1638 : BitVec 32 := Scalar.subi v1623 c1_i32_776
  let v1639 : BitVec 32 := Scalar.select v1637 v1638 v1623
  let v1647 : Index := Scalar.indexCast v1639
  let c2560_783 : Index := 2560#32
  let c0_784 : Index := 0#32
  ![v1647.toNat, 2560, 0]
def k0_off449 (k0_t28 : Fin k0_t28_loop.trips) : Fin 4 → Nat :=
  let c0_791 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1667 : Index := Scalar.indexCast v1061
  let c0_792 : Index := 0#32
  let c2816_793 : Index := 2816#32
  ![0, v1667.toNat, 0, 2816]
def k0_off450 (k0_t28 : Fin k0_t28_loop.trips) : Fin 4 → Nat :=
  let c0_804 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_798 : BitVec 32 := 0#32
  let v1678 : BitVec 1 := Scalar.cmpi .sgt v1038 c0_i32_798
  let v1679 : BitVec 32 := Scalar.extui v1678
  let c0_i32_799 : BitVec 32 := 0#32
  let v1680 : BitVec 1 := Scalar.cmpi .slt v1038 c0_i32_799
  let v1681 : BitVec 32 := Scalar.extui v1680
  let v1682 : BitVec 32 := Scalar.subi v1679 v1681
  let c4_i32_797 : BitVec 32 := 4#32
  let c0_i32_800 : BitVec 32 := 0#32
  let v1683 : BitVec 1 := Scalar.cmpi .sgt c4_i32_797 c0_i32_800
  let v1684 : BitVec 32 := Scalar.extui v1683
  let c0_i32_801 : BitVec 32 := 0#32
  let v1685 : BitVec 1 := Scalar.cmpi .slt c4_i32_797 c0_i32_801
  let v1686 : BitVec 32 := Scalar.extui v1685
  let v1687 : BitVec 32 := Scalar.subi v1684 v1686
  let v1688 : BitVec 1 := Scalar.cmpi .ne v1682 v1687
  let v1689 : BitVec 32 := Scalar.remsi v1038 c4_i32_797
  let c0_i32_802 : BitVec 32 := 0#32
  let v1690 : BitVec 1 := Scalar.cmpi .ne v1689 c0_i32_802
  let v1691 : BitVec 1 := Scalar.andi v1688 v1690
  let v1677 : BitVec 32 := Scalar.divsi v1038 c4_i32_797
  let c1_i32_803 : BitVec 32 := 1#32
  let v1692 : BitVec 32 := Scalar.subi v1677 c1_i32_803
  let v1693 : BitVec 32 := Scalar.select v1691 v1692 v1677
  let v1694 : Index := Scalar.indexCast v1693
  let c2816_805 : Index := 2816#32
  let c0_806 : Index := 0#32
  ![0, v1694.toNat, 2816, 0]
def k0_off451 (k0_t28 : Fin k0_t28_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_798 : BitVec 32 := 0#32
  let v1678 : BitVec 1 := Scalar.cmpi .sgt v1038 c0_i32_798
  let v1679 : BitVec 32 := Scalar.extui v1678
  let c0_i32_799 : BitVec 32 := 0#32
  let v1680 : BitVec 1 := Scalar.cmpi .slt v1038 c0_i32_799
  let v1681 : BitVec 32 := Scalar.extui v1680
  let v1682 : BitVec 32 := Scalar.subi v1679 v1681
  let c4_i32_797 : BitVec 32 := 4#32
  let c0_i32_800 : BitVec 32 := 0#32
  let v1683 : BitVec 1 := Scalar.cmpi .sgt c4_i32_797 c0_i32_800
  let v1684 : BitVec 32 := Scalar.extui v1683
  let c0_i32_801 : BitVec 32 := 0#32
  let v1685 : BitVec 1 := Scalar.cmpi .slt c4_i32_797 c0_i32_801
  let v1686 : BitVec 32 := Scalar.extui v1685
  let v1687 : BitVec 32 := Scalar.subi v1684 v1686
  let v1688 : BitVec 1 := Scalar.cmpi .ne v1682 v1687
  let v1689 : BitVec 32 := Scalar.remsi v1038 c4_i32_797
  let c0_i32_802 : BitVec 32 := 0#32
  let v1690 : BitVec 1 := Scalar.cmpi .ne v1689 c0_i32_802
  let v1691 : BitVec 1 := Scalar.andi v1688 v1690
  let v1677 : BitVec 32 := Scalar.divsi v1038 c4_i32_797
  let c1_i32_803 : BitVec 32 := 1#32
  let v1692 : BitVec 32 := Scalar.subi v1677 c1_i32_803
  let v1693 : BitVec 32 := Scalar.select v1691 v1692 v1677
  let v1701 : Index := Scalar.indexCast v1693
  let c2816_810 : Index := 2816#32
  let c0_811 : Index := 0#32
  ![v1701.toNat, 2816, 0]
def k0_off452 (k0_t28 : Fin k0_t28_loop.trips) : Fin 4 → Nat :=
  let c0_818 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1721 : Index := Scalar.indexCast v1061
  let c0_819 : Index := 0#32
  let c3072_820 : Index := 3072#32
  ![0, v1721.toNat, 0, 3072]
def k0_off453 (k0_t28 : Fin k0_t28_loop.trips) : Fin 4 → Nat :=
  let c0_831 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_825 : BitVec 32 := 0#32
  let v1732 : BitVec 1 := Scalar.cmpi .sgt v1038 c0_i32_825
  let v1733 : BitVec 32 := Scalar.extui v1732
  let c0_i32_826 : BitVec 32 := 0#32
  let v1734 : BitVec 1 := Scalar.cmpi .slt v1038 c0_i32_826
  let v1735 : BitVec 32 := Scalar.extui v1734
  let v1736 : BitVec 32 := Scalar.subi v1733 v1735
  let c4_i32_824 : BitVec 32 := 4#32
  let c0_i32_827 : BitVec 32 := 0#32
  let v1737 : BitVec 1 := Scalar.cmpi .sgt c4_i32_824 c0_i32_827
  let v1738 : BitVec 32 := Scalar.extui v1737
  let c0_i32_828 : BitVec 32 := 0#32
  let v1739 : BitVec 1 := Scalar.cmpi .slt c4_i32_824 c0_i32_828
  let v1740 : BitVec 32 := Scalar.extui v1739
  let v1741 : BitVec 32 := Scalar.subi v1738 v1740
  let v1742 : BitVec 1 := Scalar.cmpi .ne v1736 v1741
  let v1743 : BitVec 32 := Scalar.remsi v1038 c4_i32_824
  let c0_i32_829 : BitVec 32 := 0#32
  let v1744 : BitVec 1 := Scalar.cmpi .ne v1743 c0_i32_829
  let v1745 : BitVec 1 := Scalar.andi v1742 v1744
  let v1731 : BitVec 32 := Scalar.divsi v1038 c4_i32_824
  let c1_i32_830 : BitVec 32 := 1#32
  let v1746 : BitVec 32 := Scalar.subi v1731 c1_i32_830
  let v1747 : BitVec 32 := Scalar.select v1745 v1746 v1731
  let v1748 : Index := Scalar.indexCast v1747
  let c3072_832 : Index := 3072#32
  let c0_833 : Index := 0#32
  ![0, v1748.toNat, 3072, 0]
def k0_off454 (k0_t28 : Fin k0_t28_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_825 : BitVec 32 := 0#32
  let v1732 : BitVec 1 := Scalar.cmpi .sgt v1038 c0_i32_825
  let v1733 : BitVec 32 := Scalar.extui v1732
  let c0_i32_826 : BitVec 32 := 0#32
  let v1734 : BitVec 1 := Scalar.cmpi .slt v1038 c0_i32_826
  let v1735 : BitVec 32 := Scalar.extui v1734
  let v1736 : BitVec 32 := Scalar.subi v1733 v1735
  let c4_i32_824 : BitVec 32 := 4#32
  let c0_i32_827 : BitVec 32 := 0#32
  let v1737 : BitVec 1 := Scalar.cmpi .sgt c4_i32_824 c0_i32_827
  let v1738 : BitVec 32 := Scalar.extui v1737
  let c0_i32_828 : BitVec 32 := 0#32
  let v1739 : BitVec 1 := Scalar.cmpi .slt c4_i32_824 c0_i32_828
  let v1740 : BitVec 32 := Scalar.extui v1739
  let v1741 : BitVec 32 := Scalar.subi v1738 v1740
  let v1742 : BitVec 1 := Scalar.cmpi .ne v1736 v1741
  let v1743 : BitVec 32 := Scalar.remsi v1038 c4_i32_824
  let c0_i32_829 : BitVec 32 := 0#32
  let v1744 : BitVec 1 := Scalar.cmpi .ne v1743 c0_i32_829
  let v1745 : BitVec 1 := Scalar.andi v1742 v1744
  let v1731 : BitVec 32 := Scalar.divsi v1038 c4_i32_824
  let c1_i32_830 : BitVec 32 := 1#32
  let v1746 : BitVec 32 := Scalar.subi v1731 c1_i32_830
  let v1747 : BitVec 32 := Scalar.select v1745 v1746 v1731
  let v1755 : Index := Scalar.indexCast v1747
  let c3072_837 : Index := 3072#32
  let c0_838 : Index := 0#32
  ![v1755.toNat, 3072, 0]
def k0_off455 (k0_t28 : Fin k0_t28_loop.trips) : Fin 4 → Nat :=
  let c0_845 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1775 : Index := Scalar.indexCast v1061
  let c0_846 : Index := 0#32
  let c3328_847 : Index := 3328#32
  ![0, v1775.toNat, 0, 3328]
def k0_off456 (k0_t28 : Fin k0_t28_loop.trips) : Fin 4 → Nat :=
  let c0_858 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_852 : BitVec 32 := 0#32
  let v1786 : BitVec 1 := Scalar.cmpi .sgt v1038 c0_i32_852
  let v1787 : BitVec 32 := Scalar.extui v1786
  let c0_i32_853 : BitVec 32 := 0#32
  let v1788 : BitVec 1 := Scalar.cmpi .slt v1038 c0_i32_853
  let v1789 : BitVec 32 := Scalar.extui v1788
  let v1790 : BitVec 32 := Scalar.subi v1787 v1789
  let c4_i32_851 : BitVec 32 := 4#32
  let c0_i32_854 : BitVec 32 := 0#32
  let v1791 : BitVec 1 := Scalar.cmpi .sgt c4_i32_851 c0_i32_854
  let v1792 : BitVec 32 := Scalar.extui v1791
  let c0_i32_855 : BitVec 32 := 0#32
  let v1793 : BitVec 1 := Scalar.cmpi .slt c4_i32_851 c0_i32_855
  let v1794 : BitVec 32 := Scalar.extui v1793
  let v1795 : BitVec 32 := Scalar.subi v1792 v1794
  let v1796 : BitVec 1 := Scalar.cmpi .ne v1790 v1795
  let v1797 : BitVec 32 := Scalar.remsi v1038 c4_i32_851
  let c0_i32_856 : BitVec 32 := 0#32
  let v1798 : BitVec 1 := Scalar.cmpi .ne v1797 c0_i32_856
  let v1799 : BitVec 1 := Scalar.andi v1796 v1798
  let v1785 : BitVec 32 := Scalar.divsi v1038 c4_i32_851
  let c1_i32_857 : BitVec 32 := 1#32
  let v1800 : BitVec 32 := Scalar.subi v1785 c1_i32_857
  let v1801 : BitVec 32 := Scalar.select v1799 v1800 v1785
  let v1802 : Index := Scalar.indexCast v1801
  let c3328_859 : Index := 3328#32
  let c0_860 : Index := 0#32
  ![0, v1802.toNat, 3328, 0]
def k0_off457 (k0_t28 : Fin k0_t28_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_852 : BitVec 32 := 0#32
  let v1786 : BitVec 1 := Scalar.cmpi .sgt v1038 c0_i32_852
  let v1787 : BitVec 32 := Scalar.extui v1786
  let c0_i32_853 : BitVec 32 := 0#32
  let v1788 : BitVec 1 := Scalar.cmpi .slt v1038 c0_i32_853
  let v1789 : BitVec 32 := Scalar.extui v1788
  let v1790 : BitVec 32 := Scalar.subi v1787 v1789
  let c4_i32_851 : BitVec 32 := 4#32
  let c0_i32_854 : BitVec 32 := 0#32
  let v1791 : BitVec 1 := Scalar.cmpi .sgt c4_i32_851 c0_i32_854
  let v1792 : BitVec 32 := Scalar.extui v1791
  let c0_i32_855 : BitVec 32 := 0#32
  let v1793 : BitVec 1 := Scalar.cmpi .slt c4_i32_851 c0_i32_855
  let v1794 : BitVec 32 := Scalar.extui v1793
  let v1795 : BitVec 32 := Scalar.subi v1792 v1794
  let v1796 : BitVec 1 := Scalar.cmpi .ne v1790 v1795
  let v1797 : BitVec 32 := Scalar.remsi v1038 c4_i32_851
  let c0_i32_856 : BitVec 32 := 0#32
  let v1798 : BitVec 1 := Scalar.cmpi .ne v1797 c0_i32_856
  let v1799 : BitVec 1 := Scalar.andi v1796 v1798
  let v1785 : BitVec 32 := Scalar.divsi v1038 c4_i32_851
  let c1_i32_857 : BitVec 32 := 1#32
  let v1800 : BitVec 32 := Scalar.subi v1785 c1_i32_857
  let v1801 : BitVec 32 := Scalar.select v1799 v1800 v1785
  let v1809 : Index := Scalar.indexCast v1801
  let c3328_864 : Index := 3328#32
  let c0_865 : Index := 0#32
  ![v1809.toNat, 3328, 0]
def k0_off458 (k0_t28 : Fin k0_t28_loop.trips) : Fin 4 → Nat :=
  let c0_872 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1829 : Index := Scalar.indexCast v1061
  let c0_873 : Index := 0#32
  let c3584_874 : Index := 3584#32
  ![0, v1829.toNat, 0, 3584]
def k0_off459 (k0_t28 : Fin k0_t28_loop.trips) : Fin 4 → Nat :=
  let c0_885 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_879 : BitVec 32 := 0#32
  let v1840 : BitVec 1 := Scalar.cmpi .sgt v1038 c0_i32_879
  let v1841 : BitVec 32 := Scalar.extui v1840
  let c0_i32_880 : BitVec 32 := 0#32
  let v1842 : BitVec 1 := Scalar.cmpi .slt v1038 c0_i32_880
  let v1843 : BitVec 32 := Scalar.extui v1842
  let v1844 : BitVec 32 := Scalar.subi v1841 v1843
  let c4_i32_878 : BitVec 32 := 4#32
  let c0_i32_881 : BitVec 32 := 0#32
  let v1845 : BitVec 1 := Scalar.cmpi .sgt c4_i32_878 c0_i32_881
  let v1846 : BitVec 32 := Scalar.extui v1845
  let c0_i32_882 : BitVec 32 := 0#32
  let v1847 : BitVec 1 := Scalar.cmpi .slt c4_i32_878 c0_i32_882
  let v1848 : BitVec 32 := Scalar.extui v1847
  let v1849 : BitVec 32 := Scalar.subi v1846 v1848
  let v1850 : BitVec 1 := Scalar.cmpi .ne v1844 v1849
  let v1851 : BitVec 32 := Scalar.remsi v1038 c4_i32_878
  let c0_i32_883 : BitVec 32 := 0#32
  let v1852 : BitVec 1 := Scalar.cmpi .ne v1851 c0_i32_883
  let v1853 : BitVec 1 := Scalar.andi v1850 v1852
  let v1839 : BitVec 32 := Scalar.divsi v1038 c4_i32_878
  let c1_i32_884 : BitVec 32 := 1#32
  let v1854 : BitVec 32 := Scalar.subi v1839 c1_i32_884
  let v1855 : BitVec 32 := Scalar.select v1853 v1854 v1839
  let v1856 : Index := Scalar.indexCast v1855
  let c3584_886 : Index := 3584#32
  let c0_887 : Index := 0#32
  ![0, v1856.toNat, 3584, 0]
def k0_off460 (k0_t28 : Fin k0_t28_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_879 : BitVec 32 := 0#32
  let v1840 : BitVec 1 := Scalar.cmpi .sgt v1038 c0_i32_879
  let v1841 : BitVec 32 := Scalar.extui v1840
  let c0_i32_880 : BitVec 32 := 0#32
  let v1842 : BitVec 1 := Scalar.cmpi .slt v1038 c0_i32_880
  let v1843 : BitVec 32 := Scalar.extui v1842
  let v1844 : BitVec 32 := Scalar.subi v1841 v1843
  let c4_i32_878 : BitVec 32 := 4#32
  let c0_i32_881 : BitVec 32 := 0#32
  let v1845 : BitVec 1 := Scalar.cmpi .sgt c4_i32_878 c0_i32_881
  let v1846 : BitVec 32 := Scalar.extui v1845
  let c0_i32_882 : BitVec 32 := 0#32
  let v1847 : BitVec 1 := Scalar.cmpi .slt c4_i32_878 c0_i32_882
  let v1848 : BitVec 32 := Scalar.extui v1847
  let v1849 : BitVec 32 := Scalar.subi v1846 v1848
  let v1850 : BitVec 1 := Scalar.cmpi .ne v1844 v1849
  let v1851 : BitVec 32 := Scalar.remsi v1038 c4_i32_878
  let c0_i32_883 : BitVec 32 := 0#32
  let v1852 : BitVec 1 := Scalar.cmpi .ne v1851 c0_i32_883
  let v1853 : BitVec 1 := Scalar.andi v1850 v1852
  let v1839 : BitVec 32 := Scalar.divsi v1038 c4_i32_878
  let c1_i32_884 : BitVec 32 := 1#32
  let v1854 : BitVec 32 := Scalar.subi v1839 c1_i32_884
  let v1855 : BitVec 32 := Scalar.select v1853 v1854 v1839
  let v1863 : Index := Scalar.indexCast v1855
  let c3584_891 : Index := 3584#32
  let c0_892 : Index := 0#32
  ![v1863.toNat, 3584, 0]
def k0_off461 (k0_t28 : Fin k0_t28_loop.trips) : Fin 3 → Nat :=
  let c0_902 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1893 : Index := Scalar.indexCast v1061
  let c0_903 : Index := 0#32
  ![0, v1893.toNat, 0]
def k0_mult29 (k0_t28 : Fin k0_t28_loop.trips) : BitVec 32 :=
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c128_i32 : BitVec 32 := 128#32
  let v1899 : BitVec 32 := Scalar.muli v1036 c128_i32
  v1899
def k0_off462 (k0_t28 : Fin k0_t28_loop.trips) : Fin 3 → Nat :=
  let c0_904 : Index := 0#32
  let c0_905 : Index := 0#32
  let c0_i32_475 : BitVec 32 := 0#32
  let c0_i32_471 : BitVec 32 := 0#32
  let c1_i32_472 : BitVec 32 := 1#32
  let arg17 : BitVec 32 := Scf.iv c0_i32_471 c1_i32_472 k0_t28
  let c1_i32_474 : BitVec 32 := 1#32
  let v1035 : BitVec 32 := Scalar.muli arg17 c1_i32_474
  let v1036 : BitVec 32 := Scalar.addi c0_i32_475 v1035
  let c128_i32 : BitVec 32 := 128#32
  let v1899 : BitVec 32 := Scalar.muli v1036 c128_i32
  let v1900 : BitVec 32 := v1899
  let v1901 : Index := Scalar.indexCast v1900
  ![0, 0, v1901.toNat]
def k0_cond17 (i : grid0.Coords) : BitVec 1 :=
  let arg1 : BitVec 32 := BitVec.ofNat 32 (i 1).val
  let c15_i32_447 : BitVec 32 := 15#32
  let v1002 : BitVec 1 := Scalar.cmpi .eq arg1 c15_i32_447
  let v1003 : BitVec 32 := Scalar.extui v1002
  let c0_i32_448 : BitVec 32 := 0#32
  let v1004 : BitVec 1 := Scalar.cmpi .ne v1003 c0_i32_448
  v1004

@[reducible] def k0_t29_loop : Scf.Loop 32 :=
  let c0_i32_449 : BitVec 32 := 0#32
  let c15_i32_450 : BitVec 32 := 15#32
  let v1005 : BitVec 32 := Scalar.addi c0_i32_449 c15_i32_450
  let c1_i32_451 : BitVec 32 := 1#32
  ⟨c0_i32_449, v1005, c1_i32_451⟩
def k0_mult30 (k0_t29 : Fin k0_t29_loop.trips) : BitVec 32 :=
  let c0_i32_449 : BitVec 32 := 0#32
  let c1_i32_451 : BitVec 32 := 1#32
  let arg17 : BitVec 32 := Scf.iv c0_i32_449 c1_i32_451 k0_t29
  let c256_i32 : BitVec 32 := 256#32
  let v1035 : BitVec 32 := Scalar.muli arg17 c256_i32
  v1035
def k0_off463 (k0_t29 : Fin k0_t29_loop.trips) : Fin 4 → Nat :=
  let c0_474 : Index := 0#32
  let c0_475 : Index := 0#32
  let c0_i32_449 : BitVec 32 := 0#32
  let c1_i32_451 : BitVec 32 := 1#32
  let arg17 : BitVec 32 := Scf.iv c0_i32_449 c1_i32_451 k0_t29
  let c256_i32 : BitVec 32 := 256#32
  let v1035 : BitVec 32 := Scalar.muli arg17 c256_i32
  let v1036 : BitVec 32 := v1035
  let v1037 : Index := Scalar.indexCast v1036
  let c0_476 : Index := 0#32
  ![0, 0, v1037.toNat, 0]
def k0_off464 (k0_t29 : Fin k0_t29_loop.trips) : Fin 3 → Nat :=
  let c0_481 : Index := 0#32
  let c0_i32_449 : BitVec 32 := 0#32
  let c1_i32_451 : BitVec 32 := 1#32
  let arg17 : BitVec 32 := Scf.iv c0_i32_449 c1_i32_451 k0_t29
  let c256_i32 : BitVec 32 := 256#32
  let v1035 : BitVec 32 := Scalar.muli arg17 c256_i32
  let v1036 : BitVec 32 := v1035
  let v1043 : Index := Scalar.indexCast v1036
  let c0_482 : Index := 0#32
  ![0, v1043.toNat, 0]
def k0_off465 (k0_t29 : Fin k0_t29_loop.trips) : Fin 2 → Nat :=
  let c0_i32_449 : BitVec 32 := 0#32
  let c1_i32_451 : BitVec 32 := 1#32
  let arg17 : BitVec 32 := Scf.iv c0_i32_449 c1_i32_451 k0_t29
  let c256_i32 : BitVec 32 := 256#32
  let v1035 : BitVec 32 := Scalar.muli arg17 c256_i32
  let v1036 : BitVec 32 := v1035
  let v1048 : Index := Scalar.indexCast v1036
  let c0_483 : Index := 0#32
  ![v1048.toNat, 0]
@[reducible] def k0_t30_loop : Scf.Loop 32 :=
  let c0_i32_471 : BitVec 32 := 0#32
  let c32_i32 : BitVec 32 := 32#32
  let v1034 : BitVec 32 := Scalar.addi c0_i32_471 c32_i32
  let c1_i32_472 : BitVec 32 := 1#32
  ⟨c0_i32_471, v1034, c1_i32_472⟩
def k0_off466 (k0_t30 : Fin k0_t30_loop.trips) : Fin 2 → Nat :=
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let v1039 : Index := Scalar.indexCast v1036
  let c0_478 : Index := 0#32
  ![v1039.toNat, 0]
def k0_off467 (k0_t30 : Fin k0_t30_loop.trips) : Fin 4 → Nat :=
  let c0_494 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1073 : Index := Scalar.indexCast v1061
  let c0_495 : Index := 0#32
  let c0_496 : Index := 0#32
  ![0, v1073.toNat, 0, 0]
def k0_off468 (k0_t30 : Fin k0_t30_loop.trips) : Fin 4 → Nat :=
  let c0_507 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1100 : Index := Scalar.indexCast v1099
  let c0_508 : Index := 0#32
  let c0_509 : Index := 0#32
  ![0, v1100.toNat, 0, 0]
def k0_off469 (k0_t30 : Fin k0_t30_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let v1103 : Index := Scalar.indexCast v1038
  let c0_510 : Index := 0#32
  let c0_511 : Index := 0#32
  ![v1103.toNat, 0, 0]
def k0_off470 (k0_t30 : Fin k0_t30_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_501 : BitVec 32 := 0#32
  let v1084 : BitVec 1 := Scalar.cmpi .sgt v1038 c0_i32_501
  let v1085 : BitVec 32 := Scalar.extui v1084
  let c0_i32_502 : BitVec 32 := 0#32
  let v1086 : BitVec 1 := Scalar.cmpi .slt v1038 c0_i32_502
  let v1087 : BitVec 32 := Scalar.extui v1086
  let v1088 : BitVec 32 := Scalar.subi v1085 v1087
  let c4_i32_500 : BitVec 32 := 4#32
  let c0_i32_503 : BitVec 32 := 0#32
  let v1089 : BitVec 1 := Scalar.cmpi .sgt c4_i32_500 c0_i32_503
  let v1090 : BitVec 32 := Scalar.extui v1089
  let c0_i32_504 : BitVec 32 := 0#32
  let v1091 : BitVec 1 := Scalar.cmpi .slt c4_i32_500 c0_i32_504
  let v1092 : BitVec 32 := Scalar.extui v1091
  let v1093 : BitVec 32 := Scalar.subi v1090 v1092
  let v1094 : BitVec 1 := Scalar.cmpi .ne v1088 v1093
  let v1095 : BitVec 32 := Scalar.remsi v1038 c4_i32_500
  let c0_i32_505 : BitVec 32 := 0#32
  let v1096 : BitVec 1 := Scalar.cmpi .ne v1095 c0_i32_505
  let v1097 : BitVec 1 := Scalar.andi v1094 v1096
  let v1083 : BitVec 32 := Scalar.divsi v1038 c4_i32_500
  let c1_i32_506 : BitVec 32 := 1#32
  let v1098 : BitVec 32 := Scalar.subi v1083 c1_i32_506
  let v1099 : BitVec 32 := Scalar.select v1097 v1098 v1083
  let v1107 : Index := Scalar.indexCast v1099
  let c0_513 : Index := 0#32
  let c0_514 : Index := 0#32
  ![v1107.toNat, 0, 0]
def k0_off471 (k0_t30 : Fin k0_t30_loop.trips) : Fin 4 → Nat :=
  let c0_521 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1127 : Index := Scalar.indexCast v1061
  let c0_522 : Index := 0#32
  let c256_523 : Index := 256#32
  ![0, v1127.toNat, 0, 256]
def k0_off472 (k0_t30 : Fin k0_t30_loop.trips) : Fin 4 → Nat :=
  let c0_534 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1154 : Index := Scalar.indexCast v1153
  let c256_535 : Index := 256#32
  let c0_536 : Index := 0#32
  ![0, v1154.toNat, 256, 0]
def k0_off473 (k0_t30 : Fin k0_t30_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_528 : BitVec 32 := 0#32
  let v1138 : BitVec 1 := Scalar.cmpi .sgt v1038 c0_i32_528
  let v1139 : BitVec 32 := Scalar.extui v1138
  let c0_i32_529 : BitVec 32 := 0#32
  let v1140 : BitVec 1 := Scalar.cmpi .slt v1038 c0_i32_529
  let v1141 : BitVec 32 := Scalar.extui v1140
  let v1142 : BitVec 32 := Scalar.subi v1139 v1141
  let c4_i32_527 : BitVec 32 := 4#32
  let c0_i32_530 : BitVec 32 := 0#32
  let v1143 : BitVec 1 := Scalar.cmpi .sgt c4_i32_527 c0_i32_530
  let v1144 : BitVec 32 := Scalar.extui v1143
  let c0_i32_531 : BitVec 32 := 0#32
  let v1145 : BitVec 1 := Scalar.cmpi .slt c4_i32_527 c0_i32_531
  let v1146 : BitVec 32 := Scalar.extui v1145
  let v1147 : BitVec 32 := Scalar.subi v1144 v1146
  let v1148 : BitVec 1 := Scalar.cmpi .ne v1142 v1147
  let v1149 : BitVec 32 := Scalar.remsi v1038 c4_i32_527
  let c0_i32_532 : BitVec 32 := 0#32
  let v1150 : BitVec 1 := Scalar.cmpi .ne v1149 c0_i32_532
  let v1151 : BitVec 1 := Scalar.andi v1148 v1150
  let v1137 : BitVec 32 := Scalar.divsi v1038 c4_i32_527
  let c1_i32_533 : BitVec 32 := 1#32
  let v1152 : BitVec 32 := Scalar.subi v1137 c1_i32_533
  let v1153 : BitVec 32 := Scalar.select v1151 v1152 v1137
  let v1161 : Index := Scalar.indexCast v1153
  let c256_540 : Index := 256#32
  let c0_541 : Index := 0#32
  ![v1161.toNat, 256, 0]
def k0_off474 (k0_t30 : Fin k0_t30_loop.trips) : Fin 4 → Nat :=
  let c0_548 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1181 : Index := Scalar.indexCast v1061
  let c0_549 : Index := 0#32
  let c512_550 : Index := 512#32
  ![0, v1181.toNat, 0, 512]
def k0_off475 (k0_t30 : Fin k0_t30_loop.trips) : Fin 4 → Nat :=
  let c0_561 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1208 : Index := Scalar.indexCast v1207
  let c512_562 : Index := 512#32
  let c0_563 : Index := 0#32
  ![0, v1208.toNat, 512, 0]
def k0_off476 (k0_t30 : Fin k0_t30_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_555 : BitVec 32 := 0#32
  let v1192 : BitVec 1 := Scalar.cmpi .sgt v1038 c0_i32_555
  let v1193 : BitVec 32 := Scalar.extui v1192
  let c0_i32_556 : BitVec 32 := 0#32
  let v1194 : BitVec 1 := Scalar.cmpi .slt v1038 c0_i32_556
  let v1195 : BitVec 32 := Scalar.extui v1194
  let v1196 : BitVec 32 := Scalar.subi v1193 v1195
  let c4_i32_554 : BitVec 32 := 4#32
  let c0_i32_557 : BitVec 32 := 0#32
  let v1197 : BitVec 1 := Scalar.cmpi .sgt c4_i32_554 c0_i32_557
  let v1198 : BitVec 32 := Scalar.extui v1197
  let c0_i32_558 : BitVec 32 := 0#32
  let v1199 : BitVec 1 := Scalar.cmpi .slt c4_i32_554 c0_i32_558
  let v1200 : BitVec 32 := Scalar.extui v1199
  let v1201 : BitVec 32 := Scalar.subi v1198 v1200
  let v1202 : BitVec 1 := Scalar.cmpi .ne v1196 v1201
  let v1203 : BitVec 32 := Scalar.remsi v1038 c4_i32_554
  let c0_i32_559 : BitVec 32 := 0#32
  let v1204 : BitVec 1 := Scalar.cmpi .ne v1203 c0_i32_559
  let v1205 : BitVec 1 := Scalar.andi v1202 v1204
  let v1191 : BitVec 32 := Scalar.divsi v1038 c4_i32_554
  let c1_i32_560 : BitVec 32 := 1#32
  let v1206 : BitVec 32 := Scalar.subi v1191 c1_i32_560
  let v1207 : BitVec 32 := Scalar.select v1205 v1206 v1191
  let v1215 : Index := Scalar.indexCast v1207
  let c512_567 : Index := 512#32
  let c0_568 : Index := 0#32
  ![v1215.toNat, 512, 0]
def k0_off477 (k0_t30 : Fin k0_t30_loop.trips) : Fin 4 → Nat :=
  let c0_575 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1235 : Index := Scalar.indexCast v1061
  let c0_576 : Index := 0#32
  let c768_577 : Index := 768#32
  ![0, v1235.toNat, 0, 768]
def k0_off478 (k0_t30 : Fin k0_t30_loop.trips) : Fin 4 → Nat :=
  let c0_588 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1262 : Index := Scalar.indexCast v1261
  let c768_589 : Index := 768#32
  let c0_590 : Index := 0#32
  ![0, v1262.toNat, 768, 0]
def k0_off479 (k0_t30 : Fin k0_t30_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_582 : BitVec 32 := 0#32
  let v1246 : BitVec 1 := Scalar.cmpi .sgt v1038 c0_i32_582
  let v1247 : BitVec 32 := Scalar.extui v1246
  let c0_i32_583 : BitVec 32 := 0#32
  let v1248 : BitVec 1 := Scalar.cmpi .slt v1038 c0_i32_583
  let v1249 : BitVec 32 := Scalar.extui v1248
  let v1250 : BitVec 32 := Scalar.subi v1247 v1249
  let c4_i32_581 : BitVec 32 := 4#32
  let c0_i32_584 : BitVec 32 := 0#32
  let v1251 : BitVec 1 := Scalar.cmpi .sgt c4_i32_581 c0_i32_584
  let v1252 : BitVec 32 := Scalar.extui v1251
  let c0_i32_585 : BitVec 32 := 0#32
  let v1253 : BitVec 1 := Scalar.cmpi .slt c4_i32_581 c0_i32_585
  let v1254 : BitVec 32 := Scalar.extui v1253
  let v1255 : BitVec 32 := Scalar.subi v1252 v1254
  let v1256 : BitVec 1 := Scalar.cmpi .ne v1250 v1255
  let v1257 : BitVec 32 := Scalar.remsi v1038 c4_i32_581
  let c0_i32_586 : BitVec 32 := 0#32
  let v1258 : BitVec 1 := Scalar.cmpi .ne v1257 c0_i32_586
  let v1259 : BitVec 1 := Scalar.andi v1256 v1258
  let v1245 : BitVec 32 := Scalar.divsi v1038 c4_i32_581
  let c1_i32_587 : BitVec 32 := 1#32
  let v1260 : BitVec 32 := Scalar.subi v1245 c1_i32_587
  let v1261 : BitVec 32 := Scalar.select v1259 v1260 v1245
  let v1269 : Index := Scalar.indexCast v1261
  let c768_594 : Index := 768#32
  let c0_595 : Index := 0#32
  ![v1269.toNat, 768, 0]
def k0_off480 (k0_t30 : Fin k0_t30_loop.trips) : Fin 4 → Nat :=
  let c0_602 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1289 : Index := Scalar.indexCast v1061
  let c0_603 : Index := 0#32
  let c1024_604 : Index := 1024#32
  ![0, v1289.toNat, 0, 1024]
def k0_off481 (k0_t30 : Fin k0_t30_loop.trips) : Fin 4 → Nat :=
  let c0_615 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1316 : Index := Scalar.indexCast v1315
  let c1024_616 : Index := 1024#32
  let c0_617 : Index := 0#32
  ![0, v1316.toNat, 1024, 0]
def k0_off482 (k0_t30 : Fin k0_t30_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_609 : BitVec 32 := 0#32
  let v1300 : BitVec 1 := Scalar.cmpi .sgt v1038 c0_i32_609
  let v1301 : BitVec 32 := Scalar.extui v1300
  let c0_i32_610 : BitVec 32 := 0#32
  let v1302 : BitVec 1 := Scalar.cmpi .slt v1038 c0_i32_610
  let v1303 : BitVec 32 := Scalar.extui v1302
  let v1304 : BitVec 32 := Scalar.subi v1301 v1303
  let c4_i32_608 : BitVec 32 := 4#32
  let c0_i32_611 : BitVec 32 := 0#32
  let v1305 : BitVec 1 := Scalar.cmpi .sgt c4_i32_608 c0_i32_611
  let v1306 : BitVec 32 := Scalar.extui v1305
  let c0_i32_612 : BitVec 32 := 0#32
  let v1307 : BitVec 1 := Scalar.cmpi .slt c4_i32_608 c0_i32_612
  let v1308 : BitVec 32 := Scalar.extui v1307
  let v1309 : BitVec 32 := Scalar.subi v1306 v1308
  let v1310 : BitVec 1 := Scalar.cmpi .ne v1304 v1309
  let v1311 : BitVec 32 := Scalar.remsi v1038 c4_i32_608
  let c0_i32_613 : BitVec 32 := 0#32
  let v1312 : BitVec 1 := Scalar.cmpi .ne v1311 c0_i32_613
  let v1313 : BitVec 1 := Scalar.andi v1310 v1312
  let v1299 : BitVec 32 := Scalar.divsi v1038 c4_i32_608
  let c1_i32_614 : BitVec 32 := 1#32
  let v1314 : BitVec 32 := Scalar.subi v1299 c1_i32_614
  let v1315 : BitVec 32 := Scalar.select v1313 v1314 v1299
  let v1323 : Index := Scalar.indexCast v1315
  let c1024_621 : Index := 1024#32
  let c0_622 : Index := 0#32
  ![v1323.toNat, 1024, 0]
def k0_off483 (k0_t30 : Fin k0_t30_loop.trips) : Fin 4 → Nat :=
  let c0_629 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1343 : Index := Scalar.indexCast v1061
  let c0_630 : Index := 0#32
  let c1280_631 : Index := 1280#32
  ![0, v1343.toNat, 0, 1280]
def k0_off484 (k0_t30 : Fin k0_t30_loop.trips) : Fin 4 → Nat :=
  let c0_642 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1370 : Index := Scalar.indexCast v1369
  let c1280_643 : Index := 1280#32
  let c0_644 : Index := 0#32
  ![0, v1370.toNat, 1280, 0]
def k0_off485 (k0_t30 : Fin k0_t30_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_636 : BitVec 32 := 0#32
  let v1354 : BitVec 1 := Scalar.cmpi .sgt v1038 c0_i32_636
  let v1355 : BitVec 32 := Scalar.extui v1354
  let c0_i32_637 : BitVec 32 := 0#32
  let v1356 : BitVec 1 := Scalar.cmpi .slt v1038 c0_i32_637
  let v1357 : BitVec 32 := Scalar.extui v1356
  let v1358 : BitVec 32 := Scalar.subi v1355 v1357
  let c4_i32_635 : BitVec 32 := 4#32
  let c0_i32_638 : BitVec 32 := 0#32
  let v1359 : BitVec 1 := Scalar.cmpi .sgt c4_i32_635 c0_i32_638
  let v1360 : BitVec 32 := Scalar.extui v1359
  let c0_i32_639 : BitVec 32 := 0#32
  let v1361 : BitVec 1 := Scalar.cmpi .slt c4_i32_635 c0_i32_639
  let v1362 : BitVec 32 := Scalar.extui v1361
  let v1363 : BitVec 32 := Scalar.subi v1360 v1362
  let v1364 : BitVec 1 := Scalar.cmpi .ne v1358 v1363
  let v1365 : BitVec 32 := Scalar.remsi v1038 c4_i32_635
  let c0_i32_640 : BitVec 32 := 0#32
  let v1366 : BitVec 1 := Scalar.cmpi .ne v1365 c0_i32_640
  let v1367 : BitVec 1 := Scalar.andi v1364 v1366
  let v1353 : BitVec 32 := Scalar.divsi v1038 c4_i32_635
  let c1_i32_641 : BitVec 32 := 1#32
  let v1368 : BitVec 32 := Scalar.subi v1353 c1_i32_641
  let v1369 : BitVec 32 := Scalar.select v1367 v1368 v1353
  let v1377 : Index := Scalar.indexCast v1369
  let c1280_648 : Index := 1280#32
  let c0_649 : Index := 0#32
  ![v1377.toNat, 1280, 0]
def k0_off486 (k0_t30 : Fin k0_t30_loop.trips) : Fin 4 → Nat :=
  let c0_656 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1397 : Index := Scalar.indexCast v1061
  let c0_657 : Index := 0#32
  let c1536_658 : Index := 1536#32
  ![0, v1397.toNat, 0, 1536]
def k0_off487 (k0_t30 : Fin k0_t30_loop.trips) : Fin 4 → Nat :=
  let c0_669 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_663 : BitVec 32 := 0#32
  let v1408 : BitVec 1 := Scalar.cmpi .sgt v1038 c0_i32_663
  let v1409 : BitVec 32 := Scalar.extui v1408
  let c0_i32_664 : BitVec 32 := 0#32
  let v1410 : BitVec 1 := Scalar.cmpi .slt v1038 c0_i32_664
  let v1411 : BitVec 32 := Scalar.extui v1410
  let v1412 : BitVec 32 := Scalar.subi v1409 v1411
  let c4_i32_662 : BitVec 32 := 4#32
  let c0_i32_665 : BitVec 32 := 0#32
  let v1413 : BitVec 1 := Scalar.cmpi .sgt c4_i32_662 c0_i32_665
  let v1414 : BitVec 32 := Scalar.extui v1413
  let c0_i32_666 : BitVec 32 := 0#32
  let v1415 : BitVec 1 := Scalar.cmpi .slt c4_i32_662 c0_i32_666
  let v1416 : BitVec 32 := Scalar.extui v1415
  let v1417 : BitVec 32 := Scalar.subi v1414 v1416
  let v1418 : BitVec 1 := Scalar.cmpi .ne v1412 v1417
  let v1419 : BitVec 32 := Scalar.remsi v1038 c4_i32_662
  let c0_i32_667 : BitVec 32 := 0#32
  let v1420 : BitVec 1 := Scalar.cmpi .ne v1419 c0_i32_667
  let v1421 : BitVec 1 := Scalar.andi v1418 v1420
  let v1407 : BitVec 32 := Scalar.divsi v1038 c4_i32_662
  let c1_i32_668 : BitVec 32 := 1#32
  let v1422 : BitVec 32 := Scalar.subi v1407 c1_i32_668
  let v1423 : BitVec 32 := Scalar.select v1421 v1422 v1407
  let v1424 : Index := Scalar.indexCast v1423
  let c1536_670 : Index := 1536#32
  let c0_671 : Index := 0#32
  ![0, v1424.toNat, 1536, 0]
def k0_off488 (k0_t30 : Fin k0_t30_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_663 : BitVec 32 := 0#32
  let v1408 : BitVec 1 := Scalar.cmpi .sgt v1038 c0_i32_663
  let v1409 : BitVec 32 := Scalar.extui v1408
  let c0_i32_664 : BitVec 32 := 0#32
  let v1410 : BitVec 1 := Scalar.cmpi .slt v1038 c0_i32_664
  let v1411 : BitVec 32 := Scalar.extui v1410
  let v1412 : BitVec 32 := Scalar.subi v1409 v1411
  let c4_i32_662 : BitVec 32 := 4#32
  let c0_i32_665 : BitVec 32 := 0#32
  let v1413 : BitVec 1 := Scalar.cmpi .sgt c4_i32_662 c0_i32_665
  let v1414 : BitVec 32 := Scalar.extui v1413
  let c0_i32_666 : BitVec 32 := 0#32
  let v1415 : BitVec 1 := Scalar.cmpi .slt c4_i32_662 c0_i32_666
  let v1416 : BitVec 32 := Scalar.extui v1415
  let v1417 : BitVec 32 := Scalar.subi v1414 v1416
  let v1418 : BitVec 1 := Scalar.cmpi .ne v1412 v1417
  let v1419 : BitVec 32 := Scalar.remsi v1038 c4_i32_662
  let c0_i32_667 : BitVec 32 := 0#32
  let v1420 : BitVec 1 := Scalar.cmpi .ne v1419 c0_i32_667
  let v1421 : BitVec 1 := Scalar.andi v1418 v1420
  let v1407 : BitVec 32 := Scalar.divsi v1038 c4_i32_662
  let c1_i32_668 : BitVec 32 := 1#32
  let v1422 : BitVec 32 := Scalar.subi v1407 c1_i32_668
  let v1423 : BitVec 32 := Scalar.select v1421 v1422 v1407
  let v1431 : Index := Scalar.indexCast v1423
  let c1536_675 : Index := 1536#32
  let c0_676 : Index := 0#32
  ![v1431.toNat, 1536, 0]
def k0_off489 (k0_t30 : Fin k0_t30_loop.trips) : Fin 4 → Nat :=
  let c0_683 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1451 : Index := Scalar.indexCast v1061
  let c0_684 : Index := 0#32
  let c1792_685 : Index := 1792#32
  ![0, v1451.toNat, 0, 1792]
def k0_off490 (k0_t30 : Fin k0_t30_loop.trips) : Fin 4 → Nat :=
  let c0_696 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_690 : BitVec 32 := 0#32
  let v1462 : BitVec 1 := Scalar.cmpi .sgt v1038 c0_i32_690
  let v1463 : BitVec 32 := Scalar.extui v1462
  let c0_i32_691 : BitVec 32 := 0#32
  let v1464 : BitVec 1 := Scalar.cmpi .slt v1038 c0_i32_691
  let v1465 : BitVec 32 := Scalar.extui v1464
  let v1466 : BitVec 32 := Scalar.subi v1463 v1465
  let c4_i32_689 : BitVec 32 := 4#32
  let c0_i32_692 : BitVec 32 := 0#32
  let v1467 : BitVec 1 := Scalar.cmpi .sgt c4_i32_689 c0_i32_692
  let v1468 : BitVec 32 := Scalar.extui v1467
  let c0_i32_693 : BitVec 32 := 0#32
  let v1469 : BitVec 1 := Scalar.cmpi .slt c4_i32_689 c0_i32_693
  let v1470 : BitVec 32 := Scalar.extui v1469
  let v1471 : BitVec 32 := Scalar.subi v1468 v1470
  let v1472 : BitVec 1 := Scalar.cmpi .ne v1466 v1471
  let v1473 : BitVec 32 := Scalar.remsi v1038 c4_i32_689
  let c0_i32_694 : BitVec 32 := 0#32
  let v1474 : BitVec 1 := Scalar.cmpi .ne v1473 c0_i32_694
  let v1475 : BitVec 1 := Scalar.andi v1472 v1474
  let v1461 : BitVec 32 := Scalar.divsi v1038 c4_i32_689
  let c1_i32_695 : BitVec 32 := 1#32
  let v1476 : BitVec 32 := Scalar.subi v1461 c1_i32_695
  let v1477 : BitVec 32 := Scalar.select v1475 v1476 v1461
  let v1478 : Index := Scalar.indexCast v1477
  let c1792_697 : Index := 1792#32
  let c0_698 : Index := 0#32
  ![0, v1478.toNat, 1792, 0]
def k0_off491 (k0_t30 : Fin k0_t30_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_690 : BitVec 32 := 0#32
  let v1462 : BitVec 1 := Scalar.cmpi .sgt v1038 c0_i32_690
  let v1463 : BitVec 32 := Scalar.extui v1462
  let c0_i32_691 : BitVec 32 := 0#32
  let v1464 : BitVec 1 := Scalar.cmpi .slt v1038 c0_i32_691
  let v1465 : BitVec 32 := Scalar.extui v1464
  let v1466 : BitVec 32 := Scalar.subi v1463 v1465
  let c4_i32_689 : BitVec 32 := 4#32
  let c0_i32_692 : BitVec 32 := 0#32
  let v1467 : BitVec 1 := Scalar.cmpi .sgt c4_i32_689 c0_i32_692
  let v1468 : BitVec 32 := Scalar.extui v1467
  let c0_i32_693 : BitVec 32 := 0#32
  let v1469 : BitVec 1 := Scalar.cmpi .slt c4_i32_689 c0_i32_693
  let v1470 : BitVec 32 := Scalar.extui v1469
  let v1471 : BitVec 32 := Scalar.subi v1468 v1470
  let v1472 : BitVec 1 := Scalar.cmpi .ne v1466 v1471
  let v1473 : BitVec 32 := Scalar.remsi v1038 c4_i32_689
  let c0_i32_694 : BitVec 32 := 0#32
  let v1474 : BitVec 1 := Scalar.cmpi .ne v1473 c0_i32_694
  let v1475 : BitVec 1 := Scalar.andi v1472 v1474
  let v1461 : BitVec 32 := Scalar.divsi v1038 c4_i32_689
  let c1_i32_695 : BitVec 32 := 1#32
  let v1476 : BitVec 32 := Scalar.subi v1461 c1_i32_695
  let v1477 : BitVec 32 := Scalar.select v1475 v1476 v1461
  let v1485 : Index := Scalar.indexCast v1477
  let c1792_702 : Index := 1792#32
  let c0_703 : Index := 0#32
  ![v1485.toNat, 1792, 0]
def k0_off492 (k0_t30 : Fin k0_t30_loop.trips) : Fin 4 → Nat :=
  let c0_710 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1505 : Index := Scalar.indexCast v1061
  let c0_711 : Index := 0#32
  let c2048_712 : Index := 2048#32
  ![0, v1505.toNat, 0, 2048]
def k0_off493 (k0_t30 : Fin k0_t30_loop.trips) : Fin 4 → Nat :=
  let c0_723 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_717 : BitVec 32 := 0#32
  let v1516 : BitVec 1 := Scalar.cmpi .sgt v1038 c0_i32_717
  let v1517 : BitVec 32 := Scalar.extui v1516
  let c0_i32_718 : BitVec 32 := 0#32
  let v1518 : BitVec 1 := Scalar.cmpi .slt v1038 c0_i32_718
  let v1519 : BitVec 32 := Scalar.extui v1518
  let v1520 : BitVec 32 := Scalar.subi v1517 v1519
  let c4_i32_716 : BitVec 32 := 4#32
  let c0_i32_719 : BitVec 32 := 0#32
  let v1521 : BitVec 1 := Scalar.cmpi .sgt c4_i32_716 c0_i32_719
  let v1522 : BitVec 32 := Scalar.extui v1521
  let c0_i32_720 : BitVec 32 := 0#32
  let v1523 : BitVec 1 := Scalar.cmpi .slt c4_i32_716 c0_i32_720
  let v1524 : BitVec 32 := Scalar.extui v1523
  let v1525 : BitVec 32 := Scalar.subi v1522 v1524
  let v1526 : BitVec 1 := Scalar.cmpi .ne v1520 v1525
  let v1527 : BitVec 32 := Scalar.remsi v1038 c4_i32_716
  let c0_i32_721 : BitVec 32 := 0#32
  let v1528 : BitVec 1 := Scalar.cmpi .ne v1527 c0_i32_721
  let v1529 : BitVec 1 := Scalar.andi v1526 v1528
  let v1515 : BitVec 32 := Scalar.divsi v1038 c4_i32_716
  let c1_i32_722 : BitVec 32 := 1#32
  let v1530 : BitVec 32 := Scalar.subi v1515 c1_i32_722
  let v1531 : BitVec 32 := Scalar.select v1529 v1530 v1515
  let v1532 : Index := Scalar.indexCast v1531
  let c2048_724 : Index := 2048#32
  let c0_725 : Index := 0#32
  ![0, v1532.toNat, 2048, 0]
def k0_off494 (k0_t30 : Fin k0_t30_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_717 : BitVec 32 := 0#32
  let v1516 : BitVec 1 := Scalar.cmpi .sgt v1038 c0_i32_717
  let v1517 : BitVec 32 := Scalar.extui v1516
  let c0_i32_718 : BitVec 32 := 0#32
  let v1518 : BitVec 1 := Scalar.cmpi .slt v1038 c0_i32_718
  let v1519 : BitVec 32 := Scalar.extui v1518
  let v1520 : BitVec 32 := Scalar.subi v1517 v1519
  let c4_i32_716 : BitVec 32 := 4#32
  let c0_i32_719 : BitVec 32 := 0#32
  let v1521 : BitVec 1 := Scalar.cmpi .sgt c4_i32_716 c0_i32_719
  let v1522 : BitVec 32 := Scalar.extui v1521
  let c0_i32_720 : BitVec 32 := 0#32
  let v1523 : BitVec 1 := Scalar.cmpi .slt c4_i32_716 c0_i32_720
  let v1524 : BitVec 32 := Scalar.extui v1523
  let v1525 : BitVec 32 := Scalar.subi v1522 v1524
  let v1526 : BitVec 1 := Scalar.cmpi .ne v1520 v1525
  let v1527 : BitVec 32 := Scalar.remsi v1038 c4_i32_716
  let c0_i32_721 : BitVec 32 := 0#32
  let v1528 : BitVec 1 := Scalar.cmpi .ne v1527 c0_i32_721
  let v1529 : BitVec 1 := Scalar.andi v1526 v1528
  let v1515 : BitVec 32 := Scalar.divsi v1038 c4_i32_716
  let c1_i32_722 : BitVec 32 := 1#32
  let v1530 : BitVec 32 := Scalar.subi v1515 c1_i32_722
  let v1531 : BitVec 32 := Scalar.select v1529 v1530 v1515
  let v1539 : Index := Scalar.indexCast v1531
  let c2048_729 : Index := 2048#32
  let c0_730 : Index := 0#32
  ![v1539.toNat, 2048, 0]
def k0_off495 (k0_t30 : Fin k0_t30_loop.trips) : Fin 4 → Nat :=
  let c0_737 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1559 : Index := Scalar.indexCast v1061
  let c0_738 : Index := 0#32
  let c2304_739 : Index := 2304#32
  ![0, v1559.toNat, 0, 2304]
def k0_off496 (k0_t30 : Fin k0_t30_loop.trips) : Fin 4 → Nat :=
  let c0_750 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_744 : BitVec 32 := 0#32
  let v1570 : BitVec 1 := Scalar.cmpi .sgt v1038 c0_i32_744
  let v1571 : BitVec 32 := Scalar.extui v1570
  let c0_i32_745 : BitVec 32 := 0#32
  let v1572 : BitVec 1 := Scalar.cmpi .slt v1038 c0_i32_745
  let v1573 : BitVec 32 := Scalar.extui v1572
  let v1574 : BitVec 32 := Scalar.subi v1571 v1573
  let c4_i32_743 : BitVec 32 := 4#32
  let c0_i32_746 : BitVec 32 := 0#32
  let v1575 : BitVec 1 := Scalar.cmpi .sgt c4_i32_743 c0_i32_746
  let v1576 : BitVec 32 := Scalar.extui v1575
  let c0_i32_747 : BitVec 32 := 0#32
  let v1577 : BitVec 1 := Scalar.cmpi .slt c4_i32_743 c0_i32_747
  let v1578 : BitVec 32 := Scalar.extui v1577
  let v1579 : BitVec 32 := Scalar.subi v1576 v1578
  let v1580 : BitVec 1 := Scalar.cmpi .ne v1574 v1579
  let v1581 : BitVec 32 := Scalar.remsi v1038 c4_i32_743
  let c0_i32_748 : BitVec 32 := 0#32
  let v1582 : BitVec 1 := Scalar.cmpi .ne v1581 c0_i32_748
  let v1583 : BitVec 1 := Scalar.andi v1580 v1582
  let v1569 : BitVec 32 := Scalar.divsi v1038 c4_i32_743
  let c1_i32_749 : BitVec 32 := 1#32
  let v1584 : BitVec 32 := Scalar.subi v1569 c1_i32_749
  let v1585 : BitVec 32 := Scalar.select v1583 v1584 v1569
  let v1586 : Index := Scalar.indexCast v1585
  let c2304_751 : Index := 2304#32
  let c0_752 : Index := 0#32
  ![0, v1586.toNat, 2304, 0]
def k0_off497 (k0_t30 : Fin k0_t30_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_744 : BitVec 32 := 0#32
  let v1570 : BitVec 1 := Scalar.cmpi .sgt v1038 c0_i32_744
  let v1571 : BitVec 32 := Scalar.extui v1570
  let c0_i32_745 : BitVec 32 := 0#32
  let v1572 : BitVec 1 := Scalar.cmpi .slt v1038 c0_i32_745
  let v1573 : BitVec 32 := Scalar.extui v1572
  let v1574 : BitVec 32 := Scalar.subi v1571 v1573
  let c4_i32_743 : BitVec 32 := 4#32
  let c0_i32_746 : BitVec 32 := 0#32
  let v1575 : BitVec 1 := Scalar.cmpi .sgt c4_i32_743 c0_i32_746
  let v1576 : BitVec 32 := Scalar.extui v1575
  let c0_i32_747 : BitVec 32 := 0#32
  let v1577 : BitVec 1 := Scalar.cmpi .slt c4_i32_743 c0_i32_747
  let v1578 : BitVec 32 := Scalar.extui v1577
  let v1579 : BitVec 32 := Scalar.subi v1576 v1578
  let v1580 : BitVec 1 := Scalar.cmpi .ne v1574 v1579
  let v1581 : BitVec 32 := Scalar.remsi v1038 c4_i32_743
  let c0_i32_748 : BitVec 32 := 0#32
  let v1582 : BitVec 1 := Scalar.cmpi .ne v1581 c0_i32_748
  let v1583 : BitVec 1 := Scalar.andi v1580 v1582
  let v1569 : BitVec 32 := Scalar.divsi v1038 c4_i32_743
  let c1_i32_749 : BitVec 32 := 1#32
  let v1584 : BitVec 32 := Scalar.subi v1569 c1_i32_749
  let v1585 : BitVec 32 := Scalar.select v1583 v1584 v1569
  let v1593 : Index := Scalar.indexCast v1585
  let c2304_756 : Index := 2304#32
  let c0_757 : Index := 0#32
  ![v1593.toNat, 2304, 0]
def k0_off498 (k0_t30 : Fin k0_t30_loop.trips) : Fin 4 → Nat :=
  let c0_764 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1613 : Index := Scalar.indexCast v1061
  let c0_765 : Index := 0#32
  let c2560_766 : Index := 2560#32
  ![0, v1613.toNat, 0, 2560]
def k0_off499 (k0_t30 : Fin k0_t30_loop.trips) : Fin 4 → Nat :=
  let c0_777 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_771 : BitVec 32 := 0#32
  let v1624 : BitVec 1 := Scalar.cmpi .sgt v1038 c0_i32_771
  let v1625 : BitVec 32 := Scalar.extui v1624
  let c0_i32_772 : BitVec 32 := 0#32
  let v1626 : BitVec 1 := Scalar.cmpi .slt v1038 c0_i32_772
  let v1627 : BitVec 32 := Scalar.extui v1626
  let v1628 : BitVec 32 := Scalar.subi v1625 v1627
  let c4_i32_770 : BitVec 32 := 4#32
  let c0_i32_773 : BitVec 32 := 0#32
  let v1629 : BitVec 1 := Scalar.cmpi .sgt c4_i32_770 c0_i32_773
  let v1630 : BitVec 32 := Scalar.extui v1629
  let c0_i32_774 : BitVec 32 := 0#32
  let v1631 : BitVec 1 := Scalar.cmpi .slt c4_i32_770 c0_i32_774
  let v1632 : BitVec 32 := Scalar.extui v1631
  let v1633 : BitVec 32 := Scalar.subi v1630 v1632
  let v1634 : BitVec 1 := Scalar.cmpi .ne v1628 v1633
  let v1635 : BitVec 32 := Scalar.remsi v1038 c4_i32_770
  let c0_i32_775 : BitVec 32 := 0#32
  let v1636 : BitVec 1 := Scalar.cmpi .ne v1635 c0_i32_775
  let v1637 : BitVec 1 := Scalar.andi v1634 v1636
  let v1623 : BitVec 32 := Scalar.divsi v1038 c4_i32_770
  let c1_i32_776 : BitVec 32 := 1#32
  let v1638 : BitVec 32 := Scalar.subi v1623 c1_i32_776
  let v1639 : BitVec 32 := Scalar.select v1637 v1638 v1623
  let v1640 : Index := Scalar.indexCast v1639
  let c2560_778 : Index := 2560#32
  let c0_779 : Index := 0#32
  ![0, v1640.toNat, 2560, 0]
def k0_off500 (k0_t30 : Fin k0_t30_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_771 : BitVec 32 := 0#32
  let v1624 : BitVec 1 := Scalar.cmpi .sgt v1038 c0_i32_771
  let v1625 : BitVec 32 := Scalar.extui v1624
  let c0_i32_772 : BitVec 32 := 0#32
  let v1626 : BitVec 1 := Scalar.cmpi .slt v1038 c0_i32_772
  let v1627 : BitVec 32 := Scalar.extui v1626
  let v1628 : BitVec 32 := Scalar.subi v1625 v1627
  let c4_i32_770 : BitVec 32 := 4#32
  let c0_i32_773 : BitVec 32 := 0#32
  let v1629 : BitVec 1 := Scalar.cmpi .sgt c4_i32_770 c0_i32_773
  let v1630 : BitVec 32 := Scalar.extui v1629
  let c0_i32_774 : BitVec 32 := 0#32
  let v1631 : BitVec 1 := Scalar.cmpi .slt c4_i32_770 c0_i32_774
  let v1632 : BitVec 32 := Scalar.extui v1631
  let v1633 : BitVec 32 := Scalar.subi v1630 v1632
  let v1634 : BitVec 1 := Scalar.cmpi .ne v1628 v1633
  let v1635 : BitVec 32 := Scalar.remsi v1038 c4_i32_770
  let c0_i32_775 : BitVec 32 := 0#32
  let v1636 : BitVec 1 := Scalar.cmpi .ne v1635 c0_i32_775
  let v1637 : BitVec 1 := Scalar.andi v1634 v1636
  let v1623 : BitVec 32 := Scalar.divsi v1038 c4_i32_770
  let c1_i32_776 : BitVec 32 := 1#32
  let v1638 : BitVec 32 := Scalar.subi v1623 c1_i32_776
  let v1639 : BitVec 32 := Scalar.select v1637 v1638 v1623
  let v1647 : Index := Scalar.indexCast v1639
  let c2560_783 : Index := 2560#32
  let c0_784 : Index := 0#32
  ![v1647.toNat, 2560, 0]
def k0_off501 (k0_t30 : Fin k0_t30_loop.trips) : Fin 4 → Nat :=
  let c0_791 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1667 : Index := Scalar.indexCast v1061
  let c0_792 : Index := 0#32
  let c2816_793 : Index := 2816#32
  ![0, v1667.toNat, 0, 2816]
def k0_off502 (k0_t30 : Fin k0_t30_loop.trips) : Fin 4 → Nat :=
  let c0_804 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_798 : BitVec 32 := 0#32
  let v1678 : BitVec 1 := Scalar.cmpi .sgt v1038 c0_i32_798
  let v1679 : BitVec 32 := Scalar.extui v1678
  let c0_i32_799 : BitVec 32 := 0#32
  let v1680 : BitVec 1 := Scalar.cmpi .slt v1038 c0_i32_799
  let v1681 : BitVec 32 := Scalar.extui v1680
  let v1682 : BitVec 32 := Scalar.subi v1679 v1681
  let c4_i32_797 : BitVec 32 := 4#32
  let c0_i32_800 : BitVec 32 := 0#32
  let v1683 : BitVec 1 := Scalar.cmpi .sgt c4_i32_797 c0_i32_800
  let v1684 : BitVec 32 := Scalar.extui v1683
  let c0_i32_801 : BitVec 32 := 0#32
  let v1685 : BitVec 1 := Scalar.cmpi .slt c4_i32_797 c0_i32_801
  let v1686 : BitVec 32 := Scalar.extui v1685
  let v1687 : BitVec 32 := Scalar.subi v1684 v1686
  let v1688 : BitVec 1 := Scalar.cmpi .ne v1682 v1687
  let v1689 : BitVec 32 := Scalar.remsi v1038 c4_i32_797
  let c0_i32_802 : BitVec 32 := 0#32
  let v1690 : BitVec 1 := Scalar.cmpi .ne v1689 c0_i32_802
  let v1691 : BitVec 1 := Scalar.andi v1688 v1690
  let v1677 : BitVec 32 := Scalar.divsi v1038 c4_i32_797
  let c1_i32_803 : BitVec 32 := 1#32
  let v1692 : BitVec 32 := Scalar.subi v1677 c1_i32_803
  let v1693 : BitVec 32 := Scalar.select v1691 v1692 v1677
  let v1694 : Index := Scalar.indexCast v1693
  let c2816_805 : Index := 2816#32
  let c0_806 : Index := 0#32
  ![0, v1694.toNat, 2816, 0]
def k0_off503 (k0_t30 : Fin k0_t30_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_798 : BitVec 32 := 0#32
  let v1678 : BitVec 1 := Scalar.cmpi .sgt v1038 c0_i32_798
  let v1679 : BitVec 32 := Scalar.extui v1678
  let c0_i32_799 : BitVec 32 := 0#32
  let v1680 : BitVec 1 := Scalar.cmpi .slt v1038 c0_i32_799
  let v1681 : BitVec 32 := Scalar.extui v1680
  let v1682 : BitVec 32 := Scalar.subi v1679 v1681
  let c4_i32_797 : BitVec 32 := 4#32
  let c0_i32_800 : BitVec 32 := 0#32
  let v1683 : BitVec 1 := Scalar.cmpi .sgt c4_i32_797 c0_i32_800
  let v1684 : BitVec 32 := Scalar.extui v1683
  let c0_i32_801 : BitVec 32 := 0#32
  let v1685 : BitVec 1 := Scalar.cmpi .slt c4_i32_797 c0_i32_801
  let v1686 : BitVec 32 := Scalar.extui v1685
  let v1687 : BitVec 32 := Scalar.subi v1684 v1686
  let v1688 : BitVec 1 := Scalar.cmpi .ne v1682 v1687
  let v1689 : BitVec 32 := Scalar.remsi v1038 c4_i32_797
  let c0_i32_802 : BitVec 32 := 0#32
  let v1690 : BitVec 1 := Scalar.cmpi .ne v1689 c0_i32_802
  let v1691 : BitVec 1 := Scalar.andi v1688 v1690
  let v1677 : BitVec 32 := Scalar.divsi v1038 c4_i32_797
  let c1_i32_803 : BitVec 32 := 1#32
  let v1692 : BitVec 32 := Scalar.subi v1677 c1_i32_803
  let v1693 : BitVec 32 := Scalar.select v1691 v1692 v1677
  let v1701 : Index := Scalar.indexCast v1693
  let c2816_810 : Index := 2816#32
  let c0_811 : Index := 0#32
  ![v1701.toNat, 2816, 0]
def k0_off504 (k0_t30 : Fin k0_t30_loop.trips) : Fin 4 → Nat :=
  let c0_818 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1721 : Index := Scalar.indexCast v1061
  let c0_819 : Index := 0#32
  let c3072_820 : Index := 3072#32
  ![0, v1721.toNat, 0, 3072]
def k0_off505 (k0_t30 : Fin k0_t30_loop.trips) : Fin 4 → Nat :=
  let c0_831 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_825 : BitVec 32 := 0#32
  let v1732 : BitVec 1 := Scalar.cmpi .sgt v1038 c0_i32_825
  let v1733 : BitVec 32 := Scalar.extui v1732
  let c0_i32_826 : BitVec 32 := 0#32
  let v1734 : BitVec 1 := Scalar.cmpi .slt v1038 c0_i32_826
  let v1735 : BitVec 32 := Scalar.extui v1734
  let v1736 : BitVec 32 := Scalar.subi v1733 v1735
  let c4_i32_824 : BitVec 32 := 4#32
  let c0_i32_827 : BitVec 32 := 0#32
  let v1737 : BitVec 1 := Scalar.cmpi .sgt c4_i32_824 c0_i32_827
  let v1738 : BitVec 32 := Scalar.extui v1737
  let c0_i32_828 : BitVec 32 := 0#32
  let v1739 : BitVec 1 := Scalar.cmpi .slt c4_i32_824 c0_i32_828
  let v1740 : BitVec 32 := Scalar.extui v1739
  let v1741 : BitVec 32 := Scalar.subi v1738 v1740
  let v1742 : BitVec 1 := Scalar.cmpi .ne v1736 v1741
  let v1743 : BitVec 32 := Scalar.remsi v1038 c4_i32_824
  let c0_i32_829 : BitVec 32 := 0#32
  let v1744 : BitVec 1 := Scalar.cmpi .ne v1743 c0_i32_829
  let v1745 : BitVec 1 := Scalar.andi v1742 v1744
  let v1731 : BitVec 32 := Scalar.divsi v1038 c4_i32_824
  let c1_i32_830 : BitVec 32 := 1#32
  let v1746 : BitVec 32 := Scalar.subi v1731 c1_i32_830
  let v1747 : BitVec 32 := Scalar.select v1745 v1746 v1731
  let v1748 : Index := Scalar.indexCast v1747
  let c3072_832 : Index := 3072#32
  let c0_833 : Index := 0#32
  ![0, v1748.toNat, 3072, 0]
def k0_off506 (k0_t30 : Fin k0_t30_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_825 : BitVec 32 := 0#32
  let v1732 : BitVec 1 := Scalar.cmpi .sgt v1038 c0_i32_825
  let v1733 : BitVec 32 := Scalar.extui v1732
  let c0_i32_826 : BitVec 32 := 0#32
  let v1734 : BitVec 1 := Scalar.cmpi .slt v1038 c0_i32_826
  let v1735 : BitVec 32 := Scalar.extui v1734
  let v1736 : BitVec 32 := Scalar.subi v1733 v1735
  let c4_i32_824 : BitVec 32 := 4#32
  let c0_i32_827 : BitVec 32 := 0#32
  let v1737 : BitVec 1 := Scalar.cmpi .sgt c4_i32_824 c0_i32_827
  let v1738 : BitVec 32 := Scalar.extui v1737
  let c0_i32_828 : BitVec 32 := 0#32
  let v1739 : BitVec 1 := Scalar.cmpi .slt c4_i32_824 c0_i32_828
  let v1740 : BitVec 32 := Scalar.extui v1739
  let v1741 : BitVec 32 := Scalar.subi v1738 v1740
  let v1742 : BitVec 1 := Scalar.cmpi .ne v1736 v1741
  let v1743 : BitVec 32 := Scalar.remsi v1038 c4_i32_824
  let c0_i32_829 : BitVec 32 := 0#32
  let v1744 : BitVec 1 := Scalar.cmpi .ne v1743 c0_i32_829
  let v1745 : BitVec 1 := Scalar.andi v1742 v1744
  let v1731 : BitVec 32 := Scalar.divsi v1038 c4_i32_824
  let c1_i32_830 : BitVec 32 := 1#32
  let v1746 : BitVec 32 := Scalar.subi v1731 c1_i32_830
  let v1747 : BitVec 32 := Scalar.select v1745 v1746 v1731
  let v1755 : Index := Scalar.indexCast v1747
  let c3072_837 : Index := 3072#32
  let c0_838 : Index := 0#32
  ![v1755.toNat, 3072, 0]
def k0_off507 (k0_t30 : Fin k0_t30_loop.trips) : Fin 4 → Nat :=
  let c0_845 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1775 : Index := Scalar.indexCast v1061
  let c0_846 : Index := 0#32
  let c3328_847 : Index := 3328#32
  ![0, v1775.toNat, 0, 3328]
def k0_off508 (k0_t30 : Fin k0_t30_loop.trips) : Fin 4 → Nat :=
  let c0_858 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_852 : BitVec 32 := 0#32
  let v1786 : BitVec 1 := Scalar.cmpi .sgt v1038 c0_i32_852
  let v1787 : BitVec 32 := Scalar.extui v1786
  let c0_i32_853 : BitVec 32 := 0#32
  let v1788 : BitVec 1 := Scalar.cmpi .slt v1038 c0_i32_853
  let v1789 : BitVec 32 := Scalar.extui v1788
  let v1790 : BitVec 32 := Scalar.subi v1787 v1789
  let c4_i32_851 : BitVec 32 := 4#32
  let c0_i32_854 : BitVec 32 := 0#32
  let v1791 : BitVec 1 := Scalar.cmpi .sgt c4_i32_851 c0_i32_854
  let v1792 : BitVec 32 := Scalar.extui v1791
  let c0_i32_855 : BitVec 32 := 0#32
  let v1793 : BitVec 1 := Scalar.cmpi .slt c4_i32_851 c0_i32_855
  let v1794 : BitVec 32 := Scalar.extui v1793
  let v1795 : BitVec 32 := Scalar.subi v1792 v1794
  let v1796 : BitVec 1 := Scalar.cmpi .ne v1790 v1795
  let v1797 : BitVec 32 := Scalar.remsi v1038 c4_i32_851
  let c0_i32_856 : BitVec 32 := 0#32
  let v1798 : BitVec 1 := Scalar.cmpi .ne v1797 c0_i32_856
  let v1799 : BitVec 1 := Scalar.andi v1796 v1798
  let v1785 : BitVec 32 := Scalar.divsi v1038 c4_i32_851
  let c1_i32_857 : BitVec 32 := 1#32
  let v1800 : BitVec 32 := Scalar.subi v1785 c1_i32_857
  let v1801 : BitVec 32 := Scalar.select v1799 v1800 v1785
  let v1802 : Index := Scalar.indexCast v1801
  let c3328_859 : Index := 3328#32
  let c0_860 : Index := 0#32
  ![0, v1802.toNat, 3328, 0]
def k0_off509 (k0_t30 : Fin k0_t30_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_852 : BitVec 32 := 0#32
  let v1786 : BitVec 1 := Scalar.cmpi .sgt v1038 c0_i32_852
  let v1787 : BitVec 32 := Scalar.extui v1786
  let c0_i32_853 : BitVec 32 := 0#32
  let v1788 : BitVec 1 := Scalar.cmpi .slt v1038 c0_i32_853
  let v1789 : BitVec 32 := Scalar.extui v1788
  let v1790 : BitVec 32 := Scalar.subi v1787 v1789
  let c4_i32_851 : BitVec 32 := 4#32
  let c0_i32_854 : BitVec 32 := 0#32
  let v1791 : BitVec 1 := Scalar.cmpi .sgt c4_i32_851 c0_i32_854
  let v1792 : BitVec 32 := Scalar.extui v1791
  let c0_i32_855 : BitVec 32 := 0#32
  let v1793 : BitVec 1 := Scalar.cmpi .slt c4_i32_851 c0_i32_855
  let v1794 : BitVec 32 := Scalar.extui v1793
  let v1795 : BitVec 32 := Scalar.subi v1792 v1794
  let v1796 : BitVec 1 := Scalar.cmpi .ne v1790 v1795
  let v1797 : BitVec 32 := Scalar.remsi v1038 c4_i32_851
  let c0_i32_856 : BitVec 32 := 0#32
  let v1798 : BitVec 1 := Scalar.cmpi .ne v1797 c0_i32_856
  let v1799 : BitVec 1 := Scalar.andi v1796 v1798
  let v1785 : BitVec 32 := Scalar.divsi v1038 c4_i32_851
  let c1_i32_857 : BitVec 32 := 1#32
  let v1800 : BitVec 32 := Scalar.subi v1785 c1_i32_857
  let v1801 : BitVec 32 := Scalar.select v1799 v1800 v1785
  let v1809 : Index := Scalar.indexCast v1801
  let c3328_864 : Index := 3328#32
  let c0_865 : Index := 0#32
  ![v1809.toNat, 3328, 0]
def k0_off510 (k0_t30 : Fin k0_t30_loop.trips) : Fin 4 → Nat :=
  let c0_872 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1829 : Index := Scalar.indexCast v1061
  let c0_873 : Index := 0#32
  let c3584_874 : Index := 3584#32
  ![0, v1829.toNat, 0, 3584]
def k0_off511 (k0_t30 : Fin k0_t30_loop.trips) : Fin 4 → Nat :=
  let c0_885 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_879 : BitVec 32 := 0#32
  let v1840 : BitVec 1 := Scalar.cmpi .sgt v1038 c0_i32_879
  let v1841 : BitVec 32 := Scalar.extui v1840
  let c0_i32_880 : BitVec 32 := 0#32
  let v1842 : BitVec 1 := Scalar.cmpi .slt v1038 c0_i32_880
  let v1843 : BitVec 32 := Scalar.extui v1842
  let v1844 : BitVec 32 := Scalar.subi v1841 v1843
  let c4_i32_878 : BitVec 32 := 4#32
  let c0_i32_881 : BitVec 32 := 0#32
  let v1845 : BitVec 1 := Scalar.cmpi .sgt c4_i32_878 c0_i32_881
  let v1846 : BitVec 32 := Scalar.extui v1845
  let c0_i32_882 : BitVec 32 := 0#32
  let v1847 : BitVec 1 := Scalar.cmpi .slt c4_i32_878 c0_i32_882
  let v1848 : BitVec 32 := Scalar.extui v1847
  let v1849 : BitVec 32 := Scalar.subi v1846 v1848
  let v1850 : BitVec 1 := Scalar.cmpi .ne v1844 v1849
  let v1851 : BitVec 32 := Scalar.remsi v1038 c4_i32_878
  let c0_i32_883 : BitVec 32 := 0#32
  let v1852 : BitVec 1 := Scalar.cmpi .ne v1851 c0_i32_883
  let v1853 : BitVec 1 := Scalar.andi v1850 v1852
  let v1839 : BitVec 32 := Scalar.divsi v1038 c4_i32_878
  let c1_i32_884 : BitVec 32 := 1#32
  let v1854 : BitVec 32 := Scalar.subi v1839 c1_i32_884
  let v1855 : BitVec 32 := Scalar.select v1853 v1854 v1839
  let v1856 : Index := Scalar.indexCast v1855
  let c3584_886 : Index := 3584#32
  let c0_887 : Index := 0#32
  ![0, v1856.toNat, 3584, 0]
def k0_off512 (k0_t30 : Fin k0_t30_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_879 : BitVec 32 := 0#32
  let v1840 : BitVec 1 := Scalar.cmpi .sgt v1038 c0_i32_879
  let v1841 : BitVec 32 := Scalar.extui v1840
  let c0_i32_880 : BitVec 32 := 0#32
  let v1842 : BitVec 1 := Scalar.cmpi .slt v1038 c0_i32_880
  let v1843 : BitVec 32 := Scalar.extui v1842
  let v1844 : BitVec 32 := Scalar.subi v1841 v1843
  let c4_i32_878 : BitVec 32 := 4#32
  let c0_i32_881 : BitVec 32 := 0#32
  let v1845 : BitVec 1 := Scalar.cmpi .sgt c4_i32_878 c0_i32_881
  let v1846 : BitVec 32 := Scalar.extui v1845
  let c0_i32_882 : BitVec 32 := 0#32
  let v1847 : BitVec 1 := Scalar.cmpi .slt c4_i32_878 c0_i32_882
  let v1848 : BitVec 32 := Scalar.extui v1847
  let v1849 : BitVec 32 := Scalar.subi v1846 v1848
  let v1850 : BitVec 1 := Scalar.cmpi .ne v1844 v1849
  let v1851 : BitVec 32 := Scalar.remsi v1038 c4_i32_878
  let c0_i32_883 : BitVec 32 := 0#32
  let v1852 : BitVec 1 := Scalar.cmpi .ne v1851 c0_i32_883
  let v1853 : BitVec 1 := Scalar.andi v1850 v1852
  let v1839 : BitVec 32 := Scalar.divsi v1038 c4_i32_878
  let c1_i32_884 : BitVec 32 := 1#32
  let v1854 : BitVec 32 := Scalar.subi v1839 c1_i32_884
  let v1855 : BitVec 32 := Scalar.select v1853 v1854 v1839
  let v1863 : Index := Scalar.indexCast v1855
  let c3584_891 : Index := 3584#32
  let c0_892 : Index := 0#32
  ![v1863.toNat, 3584, 0]
def k0_off513 (k0_t30 : Fin k0_t30_loop.trips) : Fin 4 → Nat :=
  let c0_899 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1883 : Index := Scalar.indexCast v1061
  let c0_900 : Index := 0#32
  let c3840_901 : Index := 3840#32
  ![0, v1883.toNat, 0, 3840]
def k0_off514 (k0_t30 : Fin k0_t30_loop.trips) : Fin 4 → Nat :=
  let c0_912 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_906 : BitVec 32 := 0#32
  let v1894 : BitVec 1 := Scalar.cmpi .sgt v1038 c0_i32_906
  let v1895 : BitVec 32 := Scalar.extui v1894
  let c0_i32_907 : BitVec 32 := 0#32
  let v1896 : BitVec 1 := Scalar.cmpi .slt v1038 c0_i32_907
  let v1897 : BitVec 32 := Scalar.extui v1896
  let v1898 : BitVec 32 := Scalar.subi v1895 v1897
  let c4_i32_905 : BitVec 32 := 4#32
  let c0_i32_908 : BitVec 32 := 0#32
  let v1899 : BitVec 1 := Scalar.cmpi .sgt c4_i32_905 c0_i32_908
  let v1900 : BitVec 32 := Scalar.extui v1899
  let c0_i32_909 : BitVec 32 := 0#32
  let v1901 : BitVec 1 := Scalar.cmpi .slt c4_i32_905 c0_i32_909
  let v1902 : BitVec 32 := Scalar.extui v1901
  let v1903 : BitVec 32 := Scalar.subi v1900 v1902
  let v1904 : BitVec 1 := Scalar.cmpi .ne v1898 v1903
  let v1905 : BitVec 32 := Scalar.remsi v1038 c4_i32_905
  let c0_i32_910 : BitVec 32 := 0#32
  let v1906 : BitVec 1 := Scalar.cmpi .ne v1905 c0_i32_910
  let v1907 : BitVec 1 := Scalar.andi v1904 v1906
  let v1893 : BitVec 32 := Scalar.divsi v1038 c4_i32_905
  let c1_i32_911 : BitVec 32 := 1#32
  let v1908 : BitVec 32 := Scalar.subi v1893 c1_i32_911
  let v1909 : BitVec 32 := Scalar.select v1907 v1908 v1893
  let v1910 : Index := Scalar.indexCast v1909
  let c3840_913 : Index := 3840#32
  let c0_914 : Index := 0#32
  ![0, v1910.toNat, 3840, 0]
def k0_off515 (k0_t30 : Fin k0_t30_loop.trips) : Fin 3 → Nat :=
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c1_i32_476 : BitVec 32 := 1#32
  let v1037 : BitVec 32 := Scalar.addi v1036 c1_i32_476
  let c31_i32_477 : BitVec 32 := 31#32
  let v1038 : BitVec 32 := Scalar.minsi v1037 c31_i32_477
  let c0_i32_906 : BitVec 32 := 0#32
  let v1894 : BitVec 1 := Scalar.cmpi .sgt v1038 c0_i32_906
  let v1895 : BitVec 32 := Scalar.extui v1894
  let c0_i32_907 : BitVec 32 := 0#32
  let v1896 : BitVec 1 := Scalar.cmpi .slt v1038 c0_i32_907
  let v1897 : BitVec 32 := Scalar.extui v1896
  let v1898 : BitVec 32 := Scalar.subi v1895 v1897
  let c4_i32_905 : BitVec 32 := 4#32
  let c0_i32_908 : BitVec 32 := 0#32
  let v1899 : BitVec 1 := Scalar.cmpi .sgt c4_i32_905 c0_i32_908
  let v1900 : BitVec 32 := Scalar.extui v1899
  let c0_i32_909 : BitVec 32 := 0#32
  let v1901 : BitVec 1 := Scalar.cmpi .slt c4_i32_905 c0_i32_909
  let v1902 : BitVec 32 := Scalar.extui v1901
  let v1903 : BitVec 32 := Scalar.subi v1900 v1902
  let v1904 : BitVec 1 := Scalar.cmpi .ne v1898 v1903
  let v1905 : BitVec 32 := Scalar.remsi v1038 c4_i32_905
  let c0_i32_910 : BitVec 32 := 0#32
  let v1906 : BitVec 1 := Scalar.cmpi .ne v1905 c0_i32_910
  let v1907 : BitVec 1 := Scalar.andi v1904 v1906
  let v1893 : BitVec 32 := Scalar.divsi v1038 c4_i32_905
  let c1_i32_911 : BitVec 32 := 1#32
  let v1908 : BitVec 32 := Scalar.subi v1893 c1_i32_911
  let v1909 : BitVec 32 := Scalar.select v1907 v1908 v1893
  let v1917 : Index := Scalar.indexCast v1909
  let c3840_918 : Index := 3840#32
  let c0_919 : Index := 0#32
  ![v1917.toNat, 3840, 0]
def k0_off516 (k0_t30 : Fin k0_t30_loop.trips) : Fin 3 → Nat :=
  let c0_929 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c0_i32_483 : BitVec 32 := 0#32
  let v1046 : BitVec 1 := Scalar.cmpi .sgt v1036 c0_i32_483
  let v1047 : BitVec 32 := Scalar.extui v1046
  let c0_i32_484 : BitVec 32 := 0#32
  let v1048 : BitVec 1 := Scalar.cmpi .slt v1036 c0_i32_484
  let v1049 : BitVec 32 := Scalar.extui v1048
  let v1050 : BitVec 32 := Scalar.subi v1047 v1049
  let c4_i32_482 : BitVec 32 := 4#32
  let c0_i32_485 : BitVec 32 := 0#32
  let v1051 : BitVec 1 := Scalar.cmpi .sgt c4_i32_482 c0_i32_485
  let v1052 : BitVec 32 := Scalar.extui v1051
  let c0_i32_486 : BitVec 32 := 0#32
  let v1053 : BitVec 1 := Scalar.cmpi .slt c4_i32_482 c0_i32_486
  let v1054 : BitVec 32 := Scalar.extui v1053
  let v1055 : BitVec 32 := Scalar.subi v1052 v1054
  let v1056 : BitVec 1 := Scalar.cmpi .ne v1050 v1055
  let v1057 : BitVec 32 := Scalar.remsi v1036 c4_i32_482
  let c0_i32_487 : BitVec 32 := 0#32
  let v1058 : BitVec 1 := Scalar.cmpi .ne v1057 c0_i32_487
  let v1059 : BitVec 1 := Scalar.andi v1056 v1058
  let v1045 : BitVec 32 := Scalar.divsi v1036 c4_i32_482
  let c1_i32_488 : BitVec 32 := 1#32
  let v1060 : BitVec 32 := Scalar.subi v1045 c1_i32_488
  let v1061 : BitVec 32 := Scalar.select v1059 v1060 v1045
  let v1947 : Index := Scalar.indexCast v1061
  let c0_930 : Index := 0#32
  ![0, v1947.toNat, 0]
def k0_mult31 (k0_t30 : Fin k0_t30_loop.trips) : BitVec 32 :=
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c128_i32 : BitVec 32 := 128#32
  let v1953 : BitVec 32 := Scalar.muli v1036 c128_i32
  v1953
def k0_off517 (k0_t30 : Fin k0_t30_loop.trips) : Fin 3 → Nat :=
  let c0_931 : Index := 0#32
  let c0_932 : Index := 0#32
  let c0_i32_475 : BitVec 32 := 0#32
  let c0_i32_471 : BitVec 32 := 0#32
  let c1_i32_472 : BitVec 32 := 1#32
  let arg17 : BitVec 32 := Scf.iv c0_i32_471 c1_i32_472 k0_t30
  let c1_i32_474 : BitVec 32 := 1#32
  let v1035 : BitVec 32 := Scalar.muli arg17 c1_i32_474
  let v1036 : BitVec 32 := Scalar.addi c0_i32_475 v1035
  let c128_i32 : BitVec 32 := 128#32
  let v1953 : BitVec 32 := Scalar.muli v1036 c128_i32
  let v1954 : BitVec 32 := v1953
  let v1955 : Index := Scalar.indexCast v1954
  ![0, 0, v1955.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x4096x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x32x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "inv_sqrt_d" => some (((Real.sqrt 128)⁻¹ : ℝ) : EReal)
  | "log2e_inv_sqrt_d" => some (((Real.sqrt 128)⁻¹ * (Real.log 2)⁻¹ : ℝ) : EReal)
  | _ => none
-- ==== ReferenceIdeal.lean ====
variable {F : FTy → Type} [FloatOps F] [Named F]
def κ : String → Option EReal := fun
  | "inv_sqrt_d" => some (((Real.sqrt 128)⁻¹ : ℝ) : EReal)
  | _ => none
-- ==== Reference.lean ====
abbrev S8x4096x4096 : Shape := ⟨3, ![8, 4096, 4096]⟩
abbrev S8x8x4096x128 : Shape := ⟨4, ![8, 8, 4096, 128]⟩
abbrev S8x4096x8 : Shape := ⟨3, ![8, 4096, 8]⟩
abbrev S8x8x128x4096 : Shape := ⟨4, ![8, 8, 128, 4096]⟩
abbrev S8x8x128 : Shape := ⟨3, ![8, 8, 128]⟩
abbrev S_ : Shape := ⟨0, ![]⟩
abbrev S1x1 : Shape := ⟨2, ![1, 1]⟩
abbrev S1x2 : Shape := ⟨2, ![1, 2]⟩
abbrev S2x2 : Shape := ⟨2, ![2, 2]⟩
abbrev S2x4 : Shape := ⟨2, ![2, 4]⟩
abbrev S4x4 : Shape := ⟨2, ![4, 4]⟩
abbrev S4x8 : Shape := ⟨2, ![4, 8]⟩
abbrev S8x8 : Shape := ⟨2, ![8, 8]⟩
abbrev S8x16 : Shape := ⟨2, ![8, 16]⟩
abbrev S16x16 : Shape := ⟨2, ![16, 16]⟩
abbrev S16x32 : Shape := ⟨2, ![16, 32]⟩
abbrev S32x32 : Shape := ⟨2, ![32, 32]⟩
abbrev S32x64 : Shape := ⟨2, ![32, 64]⟩
abbrev S64x64 : Shape := ⟨2, ![64, 64]⟩
abbrev S64x128 : Shape := ⟨2, ![64, 128]⟩
abbrev S128x128 : Shape := ⟨2, ![128, 128]⟩
abbrev S8x4096x32x128 : Shape := ⟨4, ![8, 4096, 32, 128]⟩
abbrev S8x32x4096x128 : Shape := ⟨4, ![8, 32, 4096, 128]⟩
abbrev S64x16384x128 : Shape := ⟨3, ![64, 16384, 128]⟩
abbrev S64x4096x128 : Shape := ⟨3, ![64, 4096, 128]⟩
abbrev S8x8x4096 : Shape := ⟨3, ![8, 8, 4096]⟩
abbrev S64x1x4096 : Shape := ⟨3, ![64, 1, 4096]⟩
abbrev S64x128x4096 : Shape := ⟨3, ![64, 128, 4096]⟩
abbrev S64x1x128 : Shape := ⟨3, ![64, 1, 128]⟩
abbrev S8x4096x32 : Shape := ⟨3, ![8, 4096, 32]⟩
abbrev S1048576x128 : Shape := ⟨2, ![1048576, 128]⟩
abbrev S1048576 : Shape := ⟨1, ![1048576]⟩
abbrev S1048576x1 : Shape := ⟨2, ![1048576, 1]⟩
abbrev S1x254 : Shape := ⟨2, ![1, 254]⟩
abbrev S1048576x254 : Shape := ⟨2, ![1048576, 254]⟩
abbrev S8x32x4096 : Shape := ⟨3, ![8, 32, 4096]⟩
abbrev S64x16384x4096 : Shape := ⟨3, ![64, 16384, 4096]⟩
abbrev S64x16384x1 : Shape := ⟨3, ![64, 16384, 1]⟩
abbrev S64x4x4096x4096 : Shape := ⟨4, ![64, 4, 4096, 4096]⟩
abbrev S64x16384 : Shape := ⟨2, ![64, 16384]⟩

abbrev nBuf : Space → Nat
  | .hbm => 46
  | .vmem => 9
  | .smem => 0
  | _ => 0

abbrev bufTy : (tb : Table) → Fin (tcTables nBuf tb) → BufTy
  | .hbm, ⟨0, _⟩ => ⟨S8x4096x4096, .bf16⟩
  | .hbm, ⟨1, _⟩ => ⟨S8x8x4096x128, .fp8e4m3⟩
  | .hbm, ⟨2, _⟩ => ⟨S8x4096x8, .f32⟩
  | .hbm, ⟨3, _⟩ => ⟨S8x8x128x4096, .fp8e4m3⟩
  | .hbm, ⟨4, _⟩ => ⟨S8x8x128, .f32⟩
  | .hbm, ⟨5, _⟩ => ⟨S_, .f32⟩
  | .hbm, ⟨6, _⟩ => ⟨S1x1, .f32⟩
  | .hbm, ⟨7, _⟩ => ⟨S1x2, .f32⟩
  | .hbm, ⟨8, _⟩ => ⟨S1x1, .f32⟩
  | .hbm, ⟨9, _⟩ => ⟨S1x2, .f32⟩
  | .hbm, ⟨10, _⟩ => ⟨S2x2, .f32⟩
  | .hbm, ⟨11, _⟩ => ⟨S2x4, .f32⟩
  | .hbm, ⟨12, _⟩ => ⟨S2x2, .f32⟩
  | .hbm, ⟨13, _⟩ => ⟨S2x4, .f32⟩
  | .hbm, ⟨14, _⟩ => ⟨S4x4, .f32⟩
  | .hbm, ⟨15, _⟩ => ⟨S4x8, .f32⟩
  | .hbm, ⟨16, _⟩ => ⟨S4x4, .f32⟩
  | .hbm, ⟨17, _⟩ => ⟨S4x8, .f32⟩
  | .hbm, ⟨18, _⟩ => ⟨S8x8, .f32⟩
  | .hbm, ⟨19, _⟩ => ⟨S8x16, .f32⟩
  | .hbm, ⟨20, _⟩ => ⟨S8x8, .f32⟩
  | .hbm, ⟨21, _⟩ => ⟨S8x16, .f32⟩
  | .hbm, ⟨22, _⟩ => ⟨S16x16, .f32⟩
  | .hbm, ⟨23, _⟩ => ⟨S16x32, .f32⟩
  | .hbm, ⟨24, _⟩ => ⟨S16x16, .f32⟩
  | .hbm, ⟨25, _⟩ => ⟨S16x32, .f32⟩
  | .hbm, ⟨26, _⟩ => ⟨S32x32, .f32⟩
  | .hbm, ⟨27, _⟩ => ⟨S32x64, .f32⟩
  | .hbm, ⟨28, _⟩ => ⟨S32x32, .f32⟩
  | .hbm, ⟨29, _⟩ => ⟨S32x64, .f32⟩
  | .hbm, ⟨30, _⟩ => ⟨S64x64, .f32⟩
  | .hbm, ⟨31, _⟩ => ⟨S64x128, .f32⟩
  | .hbm, ⟨32, _⟩ => ⟨S64x64, .f32⟩
  | .hbm, ⟨33, _⟩ => ⟨S64x128, .f32⟩
  | .hbm, ⟨34, _⟩ => ⟨S128x128, .f32⟩
  | .hbm, ⟨35, _⟩ => ⟨S8x4096x32x128, .bf16⟩
  | .hbm, ⟨36, _⟩ => ⟨S8x32x4096x128, .bf16⟩
  | .hbm, ⟨37, _⟩ => ⟨S64x16384x128, .bf16⟩
  | .hbm, ⟨38, _⟩ => ⟨S64x4096x128, .fp8e4m3⟩
  | .hbm, ⟨39, _⟩ => ⟨S8x8x4096, .f32⟩
  | .hbm, ⟨40, _⟩ => ⟨S64x1x4096, .f32⟩
  | .hbm, ⟨41, _⟩ => ⟨S64x128x4096, .fp8e4m3⟩
  | .hbm, ⟨42, _⟩ => ⟨S64x1x128, .f32⟩
  | .hbm, ⟨43, _⟩ => ⟨S8x4096x4096, .bf16⟩
  | .hbm, ⟨44, _⟩ => ⟨S8x4096x32x128, .fp8e4m3⟩
  | .hbm, ⟨45, _⟩ => ⟨S8x4096x32, .f32⟩
  | .local _ .vmem, ⟨0, _⟩ => ⟨S64x16384x128, .bf16⟩
  | .local _ .vmem, ⟨1, _⟩ => ⟨S128x128, .f32⟩
  | .local _ .vmem, ⟨2, _⟩ => ⟨S64x4096x128, .fp8e4m3⟩
  | .local _ .vmem, ⟨3, _⟩ => ⟨S64x1x4096, .f32⟩
  | .local _ .vmem, ⟨4, _⟩ => ⟨S64x128x4096, .fp8e4m3⟩
  | .local _ .vmem, ⟨5, _⟩ => ⟨S64x1x128, .f32⟩
  | .local _ .vmem, ⟨6, _⟩ => ⟨S8x4096x4096, .bf16⟩
  | .local _ .vmem, ⟨7, _⟩ => ⟨S8x4096x32x128, .fp8e4m3⟩
  | .local _ .vmem, ⟨8, _⟩ => ⟨S8x4096x32, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37_0 : Ref sig .tc := ⟨.hbm, 43, rfl⟩
abbrev main_v37_1 : Ref sig .tc := ⟨.hbm, 44, rfl⟩
abbrev main_v37_2 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S64x16384x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x4096x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x128x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x4096x32x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x4096x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Attn.lean ====
/-
  The attention kernel's body, written by its structure: the scale spread, the rotation of one pair of heads, the codes
  of one group, and for one tile of queries the two passes over the key blocks. The printed body unrolls these over
  heads, groups, tiles and blocks; here each is one definition over its index.
-/
module

public import Idealize.ShloMosaic.Lib.Pipeline
public import Idealize.ShloMosaic.Lib.Scf
public import Idealize.ShloMosaic.Lib.Sig
public import Idealize.ShloMosaic.PureOps

@[expose] public section

noncomputable section

namespace Attn

open Idealize.ShloMosaic Idealize.SL.Sem

abbrev S1x256x4096 : Shape := ⟨3, ![1, 256, 4096]⟩
abbrev S1x8x4096x128 : Shape := ⟨4, ![1, 8, 4096, 128]⟩
abbrev S1x4096x8 : Shape := ⟨3, ![1, 4096, 8]⟩
abbrev S1x8x128x4096 : Shape := ⟨4, ![1, 8, 128, 4096]⟩
abbrev S1x8x128 : Shape := ⟨3, ![1, 8, 128]⟩
abbrev S1x256x32x128 : Shape := ⟨4, ![1, 256, 32, 128]⟩
abbrev S1x256x32 : Shape := ⟨3, ![1, 256, 32]⟩
abbrev S256x4096 : Shape := ⟨2, ![256, 4096]⟩
abbrev S32x256x128 : Shape := ⟨3, ![32, 256, 128]⟩
abbrev S8x4096x128 : Shape := ⟨3, ![8, 4096, 128]⟩
abbrev S128x256 : Shape := ⟨2, ![128, 256]⟩
abbrev S4096x256 : Shape := ⟨2, ![4096, 256]⟩
abbrev S8x256 : Shape := ⟨2, ![8, 256]⟩
abbrev S256x256 : Shape := ⟨2, ![256, 256]⟩
abbrev S1x4096x1 : Shape := ⟨3, ![1, 4096, 1]⟩
abbrev S4096x1 : Shape := ⟨2, ![4096, 1]⟩
abbrev S4096x128 : Shape := ⟨2, ![4096, 128]⟩
abbrev S1x4096x128 : Shape := ⟨3, ![1, 4096, 128]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S256x1x128 : Shape := ⟨3, ![256, 1, 128]⟩
abbrev S256x4x128 : Shape := ⟨3, ![256, 4, 128]⟩
abbrev S1x256x4x128 : Shape := ⟨4, ![1, 256, 4, 128]⟩
abbrev S256x32 : Shape := ⟨2, ![256, 32]⟩
abbrev S1x1x256x128 : Shape := ⟨4, ![1, 1, 256, 128]⟩
abbrev S32x8x256 : Shape := ⟨3, ![32, 8, 256]⟩
abbrev S1x256 : Shape := ⟨2, ![1, 256]⟩
abbrev S1x1x128x256 : Shape := ⟨4, ![1, 1, 128, 256]⟩
abbrev S1x1x128 : Shape := ⟨3, ![1, 1, 128]⟩
abbrev S1x128 : Shape := ⟨2, ![1, 128]⟩

/-- Rows by columns. -/
def dotRot : DotDims S256x256 S256x256 S256x256 := ⟨[1], [0], [0], [1], [], [], by decide⟩
/-- Keys by queries, over the head's features. -/
def dotScore : DotDims S256x128 S256x128 S256x256 := ⟨[1], [1], [0], [0], [], [], by decide⟩
/-- Features by queries, over the block's keys. -/
def dotOut : DotDims S128x256 S256x256 S128x256 := ⟨[1], [0], [0], [1], [], [], by decide⟩

variable {nD : Nat} {τ : Topo} {sig : RefSig} {F : FTy → Type} [FloatOps F] {Λ : Labels}

/-- The memrefs of the body: the six operands, the three results, the six scratch buffers. -/
structure Refs (sig : RefSig) where
  x : Memref sig .tc .vmem S1x256x4096 .bf16
  kc : Memref sig .tc .vmem S1x8x4096x128 .fp8e4m3
  ks : Memref sig .tc .vmem S1x4096x8 .f32
  vt : Memref sig .tc .vmem S1x8x128x4096 .fp8e4m3
  vs : Memref sig .tc .vmem S1x8x128 .f32
  bd : Memref sig .tc .vmem S256x256 .bf16
  out : Memref sig .tc .vmem S1x256x4096 .bf16
  qout : Memref sig .tc .vmem S1x256x32x128 .fp8e4m3
  qs : Memref sig .tc .vmem S1x256x32 .f32
  xs : Memref sig .tc .vmem S256x4096 .f32
  qc : Memref sig .tc .vmem S32x256x128 .fp8e4m3
  ksr : Memref sig .tc .vmem S8x4096x128 .f32
  c : Memref sig .tc .vmem S128x256 .f32
  u : Memref sig .tc .vmem S4096x256 .f32
  m : Memref sig .tc .vmem S8x256 .f32
  hout : out.IsWhole
  hqout : qout.IsWhole
  hqc : qc.IsWhole

/-- The scalar constants that a program may name. -/
structure Consts (F : FTy → Type) where
  /-- The scale of the rotation. -/
  had : F .f32
  /-- The factor of the exponents. -/
  lg : F .f32

/-- The effects of the body. -/
abbrev Ev (nD : Nat) (τ : Topo) (sig : RefSig) (F : FTy → Type) (Λ : Labels) (α : Type) : Type 1 := Prog (TpuEff nD τ sig (Elt F) Λ .tc) α

/-- Steps `k, …, n - 1` in order, carrying a value. -/
def seqFrom {n : ℕ} {σ : Type} (body : Fin n → σ → Ev nD τ sig F Λ σ) : (f k : ℕ) → k + f = n → σ → Ev nD τ sig F Λ σ
  | 0, _, _, s => pure s
  | f + 1, k, h, s => body ⟨k, by omega⟩ s >>= seqFrom body f (k + 1) (by omega)

/-- Steps `0, …, n - 1` in order, carrying a value. -/
def seq (n : ℕ) {σ : Type} (s : σ) (body : Fin n → σ → Ev nD τ sig F Λ σ) : Ev nD τ sig F Λ σ := seqFrom body n 0 (by omega) s

/-- A load of the `size` elements at `off`. -/
abbrev ld {s : Shape} {e : EltTy} (m : Memref sig .tc .vmem s e) (off size : Fin s.rank → ℕ) (inb : ∀ a, off a + size a ≤ s.size a)
    (h : 0 < (Rect.unit off size inb).shape.numel) : Ev nD τ sig F Λ ((Rect.unit off size inb).shape.Idx → Elt F e) :=
  Prog.lift (.load m (Rect.unit off size inb).toLoadRect (View.loadsAt_vmem h))

/-- A store of the `size` elements at `off`. -/
abbrev st {s : Shape} {e : EltTy} (m : Memref sig .tc .vmem s e) (off size : Fin s.rank → ℕ) (inb : ∀ a, off a + size a ≤ s.size a)
    (w : (Rect.unit off size inb).shape.Idx → Elt F e) (hx : (m.access (Rect.unit off size inb)).Stores Finset.univ) : Ev nD τ sig F Λ PUnit :=
  Prog.lift (.store m (Rect.unit off size inb) w Finset.univ hx (.inl rfl))

/-! ## The key scales spread over lanes -/

/-- A key head's scales over 128 lanes. -/
def spread (v : Vec F S1x4096x1 .f32) : FVec F S1x4096x128 .f32 :=
  shapeCast S1x4096x128 (broadcastTo S4096x128 (shapeCast S4096x1 (shapeCast S4096x1 v (by decide)) (by decide)) (by decide)) (by decide)

theorem inb_ks (h : Fin 8) : ∀ a, (![0, 0, h.val] : Fin 3 → ℕ) a + S1x4096x1.size a ≤ S1x4096x8.size a := by
  revert h; decide
theorem inb_ksr8 (h : Fin 8) : ∀ a, (![h.val, 0, 0] : Fin 3 → ℕ) a + S1x4096x128.size a ≤ S8x4096x128.size a := by
  revert h; decide

/-- One key head's scales are spread. -/
def ksrStep (R : Refs sig) (h : Fin 8) (_ : PUnit) : Ev nD τ sig F Λ PUnit := do
  let v ← ld R.ks ![0, 0, h.val] S1x4096x1.size (inb_ks h) (by decide : 0 < S1x4096x1.numel)
  let _ ← ld R.ksr ![h.val, 0, 0] S1x4096x128.size (inb_ksr8 h) (by decide : 0 < S1x4096x128.numel)
  st R.ksr ![h.val, 0, 0] S1x4096x128.size (inb_ksr8 h) (spread v) (View.stores_vmem_bits_univ (by decide : 0 < S1x4096x128.numel) rfl)

/-! ## The rotation of a pair of heads, and the largest magnitudes -/

theorem inb_x : ∀ a, (![0, 0, 0] : Fin 3 → ℕ) a + S1x256x4096.size a ≤ S1x256x4096.size a := by decide
theorem inb_xp (p : Fin 16) : ∀ a, (![0, 256 * p.val] : Fin 2 → ℕ) a + S256x256.size a ≤ S256x4096.size a := by
  revert p; decide
theorem inb_bd : ∀ a, (![0, 0] : Fin 2 → ℕ) a + S256x256.size a ≤ S256x256.size a := by decide

/-- The product of a pair of heads with the table. -/
def rot (xv bdv : Vec F S256x256 .bf16) : FVec F S256x256 .f32 :=
  matmul dotRot none xv (shapeCast S256x256 bdv (by decide)) (constant S256x256 .f32 0x00000000#32)

/-- Lane `h` takes the largest magnitude of the 128 columns of `r` at `o`. -/
def amaxOf (o : Fin 2 → ℕ) (ho : S256x256.Slices o S256x128) (h : ℕ) (r : FVec F S256x256 .f32) (amax : FVec F S256x128 .f32) : FVec F S256x128 .f32 :=
  select (cmpi .eq (iota .tc S256x128 32 [1] (by decide)) (broadcast S256x128 (BitVec.ofNat 32 h)))
    (broadcastTo S256x128 (shapeCast S256x1 (shapeCast S256x1
      (multiReduction .maximumf [1] S256 (absf (extractStridedSlice S256x128 o r ho)) 0xFF800000#32 (by decide) (.inl rfl) rfl) (by decide)) (by decide)) (by decide))
    amax

/-- One pair of heads is rotated, and its magnitudes enter `amax`. -/
def rotStep (R : Refs sig) (p : Fin 16) (amax : FVec F S256x128 .f32) : Ev nD τ sig F Λ (FVec F S256x128 .f32) := do
  let xv ← ld ((R.x.slice (Rect.unit (s := S1x256x4096) ![0, 0, 0] S1x256x4096.size inb_x) (fun _ => rfl)).squeeze S256x4096 (by decide))
    ![0, 256 * p.val] S256x256.size (inb_xp p) (by decide : 0 < S256x256.numel)
  let bdv ← ld R.bd ![0, 0] S256x256.size inb_bd (by decide : 0 < S256x256.numel)
  let _ ← ld R.xs ![0, 256 * p.val] S256x256.size (inb_xp p) (by decide : 0 < S256x256.numel)
  st R.xs ![0, 256 * p.val] S256x256.size (inb_xp p) (shapeCast S256x256 (rot xv bdv) (by decide)) (View.stores_vmem_bits_univ (by decide : 0 < S256x256.numel) rfl)
  pure (amaxOf ![0, 128] (by decide) (2 * p.val + 1) (rot xv bdv) (amaxOf ![0, 0] (by decide) (2 * p.val) (rot xv bdv) amax))

/-! ## The scales and the codes -/

/-- One step of the search: `s` moves up to `s · b` where `t` is at least `s · a`. -/
def powStep (a b : BitVec 32) (t s : FVec F S256x128 .f32) : FVec F S256x128 .f32 :=
  select (cmpf .oge t (mulf s (broadcast S256x128 (Scalar.ofBits .f32 a)))) (mulf s (broadcast S256x128 (Scalar.ofBits .f32 b))) s

/-- The magnitudes over 448. -/
def tOf (K : Consts F) (amax : FVec F S256x128 .f32) : FVec F S256x128 .f32 :=
  mulf (mulf amax (broadcast S256x128 K.had)) (broadcast S256x128 (Scalar.ofBits .f32 0x3B124925#32))

/-- The scales of the largest magnitudes `amax`. -/
def scaleOf (K : Consts F) (amax : FVec F S256x128 .f32) : FVec F S256x128 .f32 :=
  select (cmpf .oeq (tOf K amax) (broadcast S256x128 (Scalar.ofBits .f32 0x00000000#32))) (broadcast S256x128 (Scalar.ofBits .f32 0x3F800000#32))
    (powStep 0x3F800000#32 0x40000000#32 (tOf K amax) (powStep 0x40000000#32 0x40800000#32 (tOf K amax)
      (powStep 0x41000000#32 0x41800000#32 (tOf K amax) (powStep 0x43000000#32 0x43800000#32 (tOf K amax)
        (powStep 0x47000000#32 0x47800000#32 (tOf K amax) (powStep 0x4F000000#32 0x4F800000#32 (tOf K amax)
          (powStep 0x5E800000#32 0x5F000000#32 (tOf K amax) (powStep 0x7E800000#32 0x7F000000#32 (tOf K amax)
            (broadcast S256x128 (Scalar.ofBits .f32 0x00800000#32))))))))))

/-- What the products are multiplied by before they become codes. -/
def invOf (K : Consts F) (scale : FVec F S256x128 .f32) : FVec F S256x128 .f32 :=
  mulf (divf (broadcast S256x128 (Scalar.ofBits .f32 0x3F800000#32)) scale) (broadcast S256x128 K.had)

/-- Values clipped to the codes' range, as codes. -/
def quant {s : Shape} (v : FVec F s .f32) : FVec F s .fp8e4m3 :=
  truncf .fp8e4m3 (minimumf (broadcast s (Scalar.ofBits .f32 0x43E00000#32)) (maximumf (broadcast s (Scalar.ofBits .f32 0xC3E00000#32)) v)) (by decide)

theorem slices_h (h : Fin 32) : S256x128.Slices ![0, h.val] S256x1 := by
  revert h; decide

/-- The codes of head `h` of its products `v`. -/
def codeOf (inv : FVec F S256x128 .f32) (h : Fin 32) (v : Vec F S256x128 .f32) : FVec F S256x128 .fp8e4m3 :=
  quant (mulf v (broadcastTo S256x128 (extractStridedSlice S256x1 ![0, h.val] inv (slices_h h)) (by decide)))

theorem inb_xh (h : Fin 32) : ∀ a, (![0, 128 * h.val] : Fin 2 → ℕ) a + S256x128.size a ≤ S256x4096.size a := by
  revert h; decide
theorem inb_qc (h : ℕ) (hh : h < 32) : ∀ a, (![h, 0, 0] : Fin 3 → ℕ) a + S1x256x128.size a ≤ S32x256x128.size a := by
  intro a; fin_cases a <;> simp <;> omega
theorem inb_qout (g : Fin 8) : ∀ a, (![0, 0, 4 * g.val, 0] : Fin 4 → ℕ) a + S1x256x4x128.size a ≤ S1x256x32x128.size a := by
  revert g; decide
theorem packed_qc (h : Fin 32) : (Rect.unit (s := S32x256x128) ![h.val, 0, 0] S1x256x128.size (inb_qc h.val h.isLt)).PackedRows (EltTy.packing .fp8e4m3) := by
  revert h; decide
theorem packed_qout (g : Fin 8) : (Rect.unit (s := S1x256x32x128) ![0, 0, 4 * g.val, 0] S1x256x4x128.size (inb_qout g)).PackedRows (EltTy.packing .fp8e4m3) := by
  revert g; decide

/-- Head `h`'s products become codes. -/
def ldCode (R : Refs sig) (inv : FVec F S256x128 .f32) (h : Fin 32) : Ev nD τ sig F Λ (FVec F S256x128 .fp8e4m3) := do
  let v ← ld R.xs ![0, 128 * h.val] S256x128.size (inb_xh h) (by decide : 0 < S256x128.numel)
  pure (codeOf inv h v)

/-- Head `h`'s codes are kept. -/
def stCode (R : Refs sig) (h : Fin 32) (w : FVec F S256x128 .fp8e4m3) : Ev nD τ sig F Λ PUnit := do
  let _ ← ld R.qc ![h.val, 0, 0] S1x256x128.size (inb_qc h.val h.isLt) (by decide : 0 < S1x256x128.numel)
  st R.qc ![h.val, 0, 0] S1x256x128.size (inb_qc h.val h.isLt) (shapeCast S1x256x128 w (by decide))
    (View.stores_vmem (by decide : 0 < S1x256x128.numel) (R.hqc.storeExact_slice rfl _ (packed_qc h)) (fun _ => rfl))

theorem cat4 : Shape.Concatenates [S256x1x128, S256x1x128, S256x1x128, S256x1x128] S256x4x128 1 := by decide
theorem cat2 : Shape.Concatenates [S256x128, S256x128] S256x256 1 := by decide

/-- Four heads' codes side by side. -/
def stack (w0 w1 w2 w3 : FVec F S256x128 .fp8e4m3) : FVec F S1x256x4x128 .fp8e4m3 :=
  shapeCast S1x256x4x128 (concatenate S256x4x128 1 [⟨S256x1x128, shapeCast S256x1x128 w0 (by decide)⟩, ⟨S256x1x128, shapeCast S256x1x128 w1 (by decide)⟩,
    ⟨S256x1x128, shapeCast S256x1x128 w2 (by decide)⟩, ⟨S256x1x128, shapeCast S256x1x128 w3 (by decide)⟩] cat4) (by decide)

/-- Head `i` of group `g`. -/
def hd (g : Fin 8) (i : Fin 4) : Fin 32 := ⟨4 * g.val + i.val, by omega⟩

/-- One group of heads is quantised. -/
def quantStep (R : Refs sig) (inv : FVec F S256x128 .f32) (g : Fin 8) (_ : PUnit) : Ev nD τ sig F Λ PUnit := do
  let w0 ← ldCode R inv (hd g 0)
  let w1 ← ldCode R inv (hd g 1)
  let w2 ← ldCode R inv (hd g 2)
  let w3 ← ldCode R inv (hd g 3)
  stCode R (hd g 0) w0
  stCode R (hd g 1) w1
  stCode R (hd g 2) w2
  stCode R (hd g 3) w3
  let _ ← ld R.qout ![0, 0, 4 * g.val, 0] S1x256x4x128.size (inb_qout g) (by decide : 0 < S1x256x4x128.numel)
  st R.qout ![0, 0, 4 * g.val, 0] S1x256x4x128.size (inb_qout g) (stack w0 w1 w2 w3)
    (View.stores_vmem (by decide : 0 < S1x256x4x128.numel) (R.hqout.storeExact_slice rfl _ (packed_qout g)) (fun _ => rfl))

/-- The first 32 lanes of the scales. -/
def qsOf (scale : FVec F S256x128 .f32) : FVec F S1x256x32 .f32 :=
  shapeCast S1x256x32 (extractStridedSlice S256x32 ![0, 0] scale (by decide)) (by decide)

/-- The scales turned over, times the exponents' factor. -/
def cOf (K : Consts F) (scale : FVec F S256x128 .f32) : FVec F S128x256 .f32 :=
  shapeCast S128x256 (mulf (transpose S128x256 [1, 0] scale (by decide)) (broadcast S128x256 K.lg)) (by decide)

theorem inb_qs : ∀ a, (![0, 0, 0] : Fin 3 → ℕ) a + S1x256x32.size a ≤ S1x256x32.size a := by decide
theorem inb_c : ∀ a, (![0, 0] : Fin 2 → ℕ) a + S128x256.size a ≤ S128x256.size a := by decide

/-- The queries of the tile are rotated and quantised. -/
def prep (R : Refs sig) (K : Consts F) : Ev nD τ sig F Λ PUnit := do
  let amax ← seq 16 (broadcast S256x128 (Scalar.ofBits .f32 0x00000000#32)) (rotStep R)
  seq 8 ⟨⟩ (quantStep R (invOf K (scaleOf K amax)))
  let _ ← ld R.qs ![0, 0, 0] S1x256x32.size inb_qs (by decide : 0 < S1x256x32.numel)
  st R.qs ![0, 0, 0] S1x256x32.size inb_qs (qsOf (scaleOf K amax)) (View.stores_vmem_bits_univ (by decide : 0 < S1x256x32.numel) rfl)
  let _ ← ld R.c ![0, 0] S128x256.size inb_c (by decide : 0 < S128x256.numel)
  st R.c ![0, 0] S128x256.size inb_c (cOf K (scaleOf K amax)) (View.stores_vmem_bits_univ (by decide : 0 < S128x256.numel) rfl)

/-! ## The first pass over a block of keys -/

/-- The block's scores `[keys, queries]`: products of codes times the keys' scales. -/
def scoreOf (k : Vec F S1x1x256x128 .fp8e4m3) (q : Vec F S1x256x128 .fp8e4m3) (s : Vec F S1x256x128 .f32) : FVec F S256x256 .f32 :=
  mulf (matmul dotScore none (shapeCast S256x128 k (by decide)) (shapeCast S256x128 q (by decide)) (constant S256x256 .f32 0x00000000#32))
    (concatenate S256x256 1 [⟨S256x128, shapeCast S256x128 s (by decide)⟩, ⟨S256x128, shapeCast S256x128 s (by decide)⟩] cat2)

/-- Scores of keys after the query are dropped. -/
def maskOf (u : FVec F S256x256 .f32) : FVec F S256x256 .f32 :=
  select (cmpi .sle (iota .tc S256x256 32 [0] (by decide)) (iota .tc S256x256 32 [1] (by decide))) u (broadcast S256x256 (Scalar.ofBits .f32 0xFF800000#32))

/-- The running maxima over eight sublanes, with a block's scores entered. -/
def mxOf (u : FVec F S256x256 .f32) (mx : FVec F S8x256 .f32) : FVec F S8x256 .f32 :=
  maximumf mx (multiReduction .maximumf [0] S8x256 (shapeCast S32x8x256 u (by decide)) 0xFF800000#32 (by decide) (.inl rfl) rfl)

theorem inb_kc (kv r : ℕ) (hkv : kv < 8) (hr : r + 256 ≤ 4096) : ∀ a, (![0, kv, r, 0] : Fin 4 → ℕ) a + S1x1x256x128.size a ≤ S1x8x4096x128.size a := by
  intro a; fin_cases a <;> simp <;> omega
theorem inb_ksr (kv r : ℕ) (hkv : kv < 8) (hr : r + 256 ≤ 4096) : ∀ a, (![kv, r, 0] : Fin 3 → ℕ) a + S1x256x128.size a ≤ S8x4096x128.size a := by
  intro a; fin_cases a <;> simp <;> omega
theorem inb_u (r : ℕ) (hr : r + 256 ≤ 4096) : ∀ a, (![r, 0] : Fin 2 → ℕ) a + S256x256.size a ≤ S4096x256.size a := by
  intro a; fin_cases a <;> simp <;> omega

/-- The scores of the block of keys at row `r` for head `h`, whose keys are those of head `kv`. -/
def score (R : Refs sig) (h kv r : ℕ) (hh : h < 32) (hkv : kv < 8) (hr : r + 256 ≤ 4096) : Ev nD τ sig F Λ (FVec F S256x256 .f32) := do
  let k ← ld R.kc ![0, kv, r, 0] S1x1x256x128.size (inb_kc kv r hkv hr) (by decide : 0 < S1x1x256x128.numel)
  let q ← ld R.qc ![h, 0, 0] S1x256x128.size (inb_qc h hh) (by decide : 0 < S1x256x128.numel)
  let s ← ld R.ksr ![kv, r, 0] S1x256x128.size (inb_ksr kv r hkv hr) (by decide : 0 < S1x256x128.numel)
  pure (scoreOf k q s)

/-- A block's scores are kept and enter the maxima. -/
def keep (R : Refs sig) (r : ℕ) (hr : r + 256 ≤ 4096) (u : FVec F S256x256 .f32) (mx : FVec F S8x256 .f32) : Ev nD τ sig F Λ (FVec F S8x256 .f32) := do
  let _ ← ld R.u ![r, 0] S256x256.size (inb_u r hr) (by decide : 0 < S256x256.numel)
  st R.u ![r, 0] S256x256.size (inb_u r hr) (shapeCast S256x256 u (by decide)) (View.stores_vmem_bits_univ (by decide : 0 < S256x256.numel) rfl)
  pure (mxOf u mx)

/-- The first pass over one block, masked on the diagonal. -/
def first (R : Refs sig) (h kv r : ℕ) (hh : h < 32) (hkv : kv < 8) (hr : r + 256 ≤ 4096) (diag : Bool) (mx : FVec F S8x256 .f32) : Ev nD τ sig F Λ (FVec F S8x256 .f32) := do
  let u ← score R h kv r hh hkv hr
  keep R r hr (if diag then maskOf u else u) mx

/-- The maxima over the sublanes, over all of them. -/
def mOf (mx : FVec F S8x256 .f32) : FVec F S8x256 .f32 :=
  shapeCast S8x256 (broadcastTo S8x256 (shapeCast S1x256 (shapeCast S1x256
    (multiReduction .maximumf [0] S256 mx 0xFF800000#32 (by decide) (.inl rfl) rfl) (by decide)) (by decide)) (by decide)) (by decide)

theorem inb_m : ∀ a, (![0, 0] : Fin 2 → ℕ) a + S8x256.size a ≤ S8x256.size a := by decide
theorem inb_m1 : ∀ a, (![0, 0] : Fin 2 → ℕ) a + S1x256.size a ≤ S8x256.size a := by decide

/-- The maxima are kept. -/
def stMax (R : Refs sig) (mx : FVec F S8x256 .f32) : Ev nD τ sig F Λ PUnit := do
  let _ ← ld R.m ![0, 0] S8x256.size inb_m (by decide : 0 < S8x256.numel)
  st R.m ![0, 0] S8x256.size inb_m (mOf mx) (View.stores_vmem_bits_univ (by decide : 0 < S8x256.numel) rfl)

/-! ## The second pass over a block of keys -/

/-- Where the exponents start: the maximum less eight over the factor. -/
def m2Of (m c : Vec F S1x256 .f32) : FVec F S1x256 .f32 := subf m (divf (broadcast S1x256 (Scalar.ofBits .f32 0x41000000#32)) c)

/-- The weights of a block. -/
def pOf (m2 : FVec F S1x256 .f32) (c : Vec F S1x256 .f32) (u : Vec F S256x256 .f32) : FVec F S256x256 .f32 :=
  exp2 (mulf (subf u (broadcastTo S256x256 m2 (by decide))) (broadcastTo S256x256 c (by decide)))

/-- The running sums over eight sublanes, with a block's weights entered. -/
def lOf (p : FVec F S256x256 .f32) (l : FVec F S8x256 .f32) : FVec F S8x256 .f32 :=
  addf l (multiReduction .add [0] S8x256 (shapeCast S32x8x256 p (by decide)) 0x00000000#32 (by decide) (.inl rfl) rfl)

/-- The running output, with a block's weights times its values entered. -/
def accOf (v : Vec F S1x1x128x256 .fp8e4m3) (p : FVec F S256x256 .f32) (acc : FVec F S128x256 .f32) : FVec F S128x256 .f32 :=
  addf acc (matmul dotOut none (shapeCast S128x256 v (by decide)) (quant p) (constant S128x256 .f32 0x00000000#32))

theorem inb_vt (kv r : ℕ) (hkv : kv < 8) (hr : r + 256 ≤ 4096) : ∀ a, (![0, kv, 0, r] : Fin 4 → ℕ) a + S1x1x128x256.size a ≤ S1x8x128x4096.size a := by
  intro a; fin_cases a <;> simp <;> omega

/-- What the second pass carries: the sums, the output, the next head's maxima. -/
structure Acc (F : FTy → Type) where
  l : FVec F S8x256 .f32
  o : FVec F S128x256 .f32
  mx : FVec F S8x256 .f32

/-- The second pass over the block at row `r` of a head with values of head `kv`, and the first pass over it of the next
    head `nh`, with keys of head `nkv`. -/
def block (R : Refs sig) (kv nh nkv r : ℕ) (hkv : kv < 8) (hnh : nh < 32) (hnkv : nkv < 8) (hr : r + 256 ≤ 4096) (diag : Bool)
    (m2 : FVec F S1x256 .f32) (c : Vec F S1x256 .f32) (a : Acc F) : Ev nD τ sig F Λ (Acc F) := do
  let u ← ld R.u ![r, 0] S256x256.size (inb_u r hr) (by decide : 0 < S256x256.numel)
  let v ← ld R.vt ![0, kv, 0, r] S1x1x128x256.size (inb_vt kv r hkv hr) (by decide : 0 < S1x1x128x256.numel)
  let mx ← first R nh nkv r hnh hnkv hr diag a.mx
  pure ⟨lOf (pOf m2 c u) a.l, accOf v (pOf m2 c u) a.o, mx⟩

/-- The head's output: the sums' inverse, the values' scale, rounded. -/
def outOf (l : FVec F S8x256 .f32) (acc : FVec F S128x256 .f32) (vs : Vec F S1x1x128 .f32) : FVec F S1x256x128 .bf16 :=
  shapeCast S1x256x128 (truncf .bf16 (mulf (transpose S256x128 [1, 0] (mulf acc (broadcastTo S128x256
    (divf (broadcast S1x256 (Scalar.ofBits .f32 0x3F800000#32)) (shapeCast S1x256 (multiReduction .add [0] S256 l 0x00000000#32 (by decide) (.inl rfl) rfl) (by decide))) (by decide))) (by decide))
    (broadcastTo S256x128 (shapeCast S1x128 vs (by decide)) (by decide))) (by decide)) (by decide)

/-! ## The loops -/

/-- Over the heads. -/
def headLoop : Scf.Loop 32 := ⟨0#32, Scalar.addi 0#32 32#32, 1#32⟩
theorem headLoop_ok : headLoop.OK := by decide
theorem headLoop_trips : headLoop.trips = 32 := by decide

/-- A head's number. -/
def hBV (t : Fin headLoop.trips) : BitVec 32 := Scalar.addi 0#32 (Scalar.muli (Scf.iv 0#32 1#32 t) 1#32)
/-- The next head's, or the last's. -/
def nhBV (t : Fin headLoop.trips) : BitVec 32 := Scalar.minsi (Scalar.addi (hBV t) 1#32) 31#32
/-- The key head of a head: its number over four, rounded down. -/
def kvBV (h : BitVec 32) : BitVec 32 :=
  Scalar.select (Scalar.andi
      (Scalar.cmpi .ne (Scalar.subi (Scalar.extui (Scalar.cmpi .sgt h 0#32)) (Scalar.extui (Scalar.cmpi .slt h 0#32)))
        (Scalar.subi (Scalar.extui (Scalar.cmpi .sgt 4#32 0#32)) (Scalar.extui (Scalar.cmpi .slt 4#32 0#32))))
      (Scalar.cmpi .ne (Scalar.remsi h 4#32) 0#32))
    (Scalar.subi (Scalar.divsi h 4#32) 1#32) (Scalar.divsi h 4#32)

/-- The index a number is. -/
abbrev ix (b : BitVec 32) : ℕ := (Scalar.indexCast b : Index).toNat

theorem ix_h : ∀ t : Fin headLoop.trips, ix (hBV t) = t.val := by decide +kernel
theorem ix_nh : ∀ t : Fin headLoop.trips, ix (nhBV t) = min (t.val + 1) 31 := by decide +kernel
theorem ix_kv : ∀ t : Fin headLoop.trips, ix (kvBV (hBV t)) = t.val / 4 := by decide +kernel
theorem ix_nkv : ∀ t : Fin headLoop.trips, ix (kvBV (nhBV t)) = min (t.val + 1) 31 / 4 := by decide +kernel

theorem trip_lt (t : Fin headLoop.trips) : t.val < 32 := lt_of_lt_of_eq t.isLt headLoop_trips
theorem lt_h (t : Fin headLoop.trips) : ix (hBV t) < 32 := by rw [ix_h]; exact trip_lt t
theorem lt_nh (t : Fin headLoop.trips) : ix (nhBV t) < 32 := by rw [ix_nh]; omega
theorem lt_kv (t : Fin headLoop.trips) : ix (kvBV (hBV t)) < 8 := by rw [ix_kv]; have := trip_lt t; omega
theorem lt_nkv (t : Fin headLoop.trips) : ix (kvBV (nhBV t)) < 8 := by rw [ix_nkv]; omega

theorem inb_c1 (h : ℕ) (hh : h < 32) : ∀ a, (![h, 0] : Fin 2 → ℕ) a + S1x256.size a ≤ S128x256.size a := by
  intro a; fin_cases a <;> simp <;> omega
theorem inb_vs (kv : ℕ) (hkv : kv < 8) : ∀ a, (![0, kv, 0] : Fin 3 → ℕ) a + S1x1x128.size a ≤ S1x8x128.size a := by
  intro a; fin_cases a <;> simp <;> omega

/-- Head `h`'s first column. -/
def colBV (t : Fin headLoop.trips) : BitVec 32 := Scalar.muli (hBV t) 128#32
theorem ix_col : ∀ t : Fin headLoop.trips, ix (colBV t) = 128 * t.val := by decide +kernel
theorem inb_out (t : Fin headLoop.trips) : ∀ a, (![0, 0, ix (colBV t)] : Fin 3 → ℕ) a + S1x256x128.size a ≤ S1x256x4096.size a := by
  have := trip_lt t
  rw [ix_col]; intro a; fin_cases a <;> simp <;> omega
theorem packed_out (t : Fin headLoop.trips) : (Rect.unit (s := S1x256x4096) ![0, 0, ix (colBV t)] S1x256x128.size (inb_out t)).PackedRows (EltTy.packing .bf16) := by
  refine .inr ⟨(by decide : 2 ≤ S1x256x4096.rank), rfl, .inl ⟨?_, ?_⟩⟩
  · exact dvd_zero _
  · exact (by decide : EltTy.packing .bf16 ∣ 256)

theorem row_le (jj : Fin 16) (b : ℕ) (hb : b ≤ jj.val) : 256 * b + 256 ≤ 4096 := by omega

/-- One head of a tile. -/
def head (R : Refs sig) (jj : Fin 16) (neg : FVec F S8x256 .f32) (t : Fin headLoop.trips) (_ : PUnit) : Ev nD τ sig F Λ PUnit := do
  let c ← ld R.c ![ix (hBV t), 0] S1x256.size (inb_c1 _ (lt_h t)) (by decide : 0 < S1x256.numel)
  let m ← ld R.m ![0, 0] S1x256.size inb_m1 (by decide : 0 < S1x256.numel)
  let a ← seq jj.val (⟨broadcast S8x256 (Scalar.ofBits .f32 0x00000000#32), broadcast S128x256 (Scalar.ofBits .f32 0x00000000#32), neg⟩ : Acc F)
    fun b a => block R (ix (kvBV (hBV t))) (ix (nhBV t)) (ix (kvBV (nhBV t))) (256 * b.val) (lt_kv t) (lt_nh t) (lt_nkv t) (row_le jj b.val b.isLt.le) false (m2Of m c) c a
  let a ← block R (ix (kvBV (hBV t))) (ix (nhBV t)) (ix (kvBV (nhBV t))) (256 * jj.val) (lt_kv t) (lt_nh t) (lt_nkv t) (row_le jj jj.val le_rfl) true (m2Of m c) c a
  stMax R a.mx
  let v ← ld R.vs ![0, ix (kvBV (hBV t)), 0] S1x1x128.size (inb_vs _ (lt_kv t)) (by decide : 0 < S1x1x128.numel)
  let _ ← ld R.out ![0, 0, ix (colBV t)] S1x256x128.size (inb_out t) (by decide : 0 < S1x256x128.numel)
  st R.out ![0, 0, ix (colBV t)] S1x256x128.size (inb_out t) (outOf a.l a.o v)
    (View.stores_vmem (by decide : 0 < S1x256x128.numel) (R.hout.storeExact_slice rfl _ (packed_out t)) (fun _ => rfl))

/-- Over the blocks before the diagonal, of the first head. -/
def blockLoop (jj : Fin 16) : Scf.Loop 32 := ⟨0#32, Scalar.addi 0#32 (BitVec.ofNat 32 jj.val), 1#32⟩
theorem blockLoop_ok : ∀ jj, (blockLoop jj).OK := by decide
theorem blockLoop_trips : ∀ jj, (blockLoop jj).trips = jj.val := by decide

/-- A block's first row. -/
def rowBV {n : ℕ} (b : Fin n) : BitVec 32 := Scalar.muli (Scf.iv 0#32 1#32 b) 256#32
theorem ix_row (jj : Fin 16) (b : Fin (blockLoop jj).trips) : ix (rowBV b) = 256 * b.val := by
  have h : ∀ n : Fin 16, ix (rowBV n) = 256 * n.val := by decide
  exact h ⟨b.val, (lt_of_lt_of_eq b.isLt (blockLoop_trips jj)).trans jj.isLt⟩
theorem row_lt (jj : Fin 16) (b : Fin (blockLoop jj).trips) : ix (rowBV b) + 256 ≤ 4096 := by
  rw [ix_row]
  have := lt_of_lt_of_eq b.isLt (blockLoop_trips jj)
  omega

/-- The blocks before the diagonal, of the first head: a loop where there is more than one. -/
def early (R : Refs sig) (jj : Fin 16) (mx : FVec F S8x256 .f32) : Ev nD τ sig F Λ (FVec F S8x256 .f32) :=
  if jj.val = 0 then pure mx
  else if jj.val = 1 then first R 0 0 0 (by decide) (by decide) (by decide) false mx
  else Scf.Loop.for (blockLoop jj) (blockLoop_ok jj) mx fun b mx => first R 0 0 (ix (rowBV b)) (by decide) (by decide) (row_lt jj b) false mx

/-- One tile of queries. -/
def tile (R : Refs sig) (jj : Fin 16) : Ev nD τ sig F Λ PUnit := do
  let mx ← early R jj (broadcast S8x256 (Scalar.ofBits .f32 0xFF800000#32))
  let mx ← first R 0 0 (256 * jj.val) (by decide) (by decide) (row_le jj jj.val le_rfl) true mx
  stMax R mx
  Scf.Loop.for headLoop headLoop_ok ⟨⟩ (head R jj (broadcast S8x256 (Scalar.ofBits .f32 0xFF800000#32)))

/-- Whether the tile number is `jj`. -/
def isTile (j : BitVec 32) (jj : ℕ) : BitVec 1 := Scalar.cmpi .ne (Scalar.extui (Scalar.cmpi .eq j (BitVec.ofNat 32 jj)) : BitVec 32) 0#32

/-- The body at tile `jj`. -/
def bodyAt (R : Refs sig) (K : Consts F) (jj : Fin 16) : Ev nD τ sig F Λ PUnit := do
  (if jj.val = 0 then seq 8 ⟨⟩ (ksrStep R) else pure ⟨⟩)
  prep R K
  tile R jj

end Attn

end
-- ==== Proof.Steps.lean ====
/-
  Rules by which two programs are compared step by step: the same effect first, the same loop first, a branch decided.
-/
module

public import Idealize.ShloMosaic.Lib.Pipeline
public import Idealize.ShloMosaic.Lib.Scf

@[expose] public section

namespace Attn

open Idealize.ShloMosaic Idealize.SL.Sem

variable {E : Type → Type} {α β γ σ : Type} {w : ℕ}

/-- The same effect first, and the same programs after it. -/
theorem opc {e e' : E β} {k k' : β → Prog E α} (he : e = e') (h : ∀ x, k x = k' x) : Prog.op e k = Prog.op e' k' := by
  subst he; exact congrArg _ (funext h)

/-- The same loop first, and the same programs after it. -/
theorem forc {lb ub st : BitVec w} {ok : Scf.OK lb ub st} {init init' : σ} {b b' : Fin (Scf.trips lb ub st) → σ → Prog E σ} {f f' : σ → Prog E β}
    (h0 : init = init') (hb : ∀ k s, b k s = b' k s) (hf : ∀ a, f a = f' a) :
    Prog.bind (Scf.for lb ub st ok init b) f = Prog.bind (Scf.for lb ub st ok init' b') f' := by
  have hb := funext fun k => funext (hb k)
  have hf := funext hf
  subst h0 hb hf; rfl

/-- The same loop last. -/
theorem forl {lb ub st : BitVec w} {ok : Scf.OK lb ub st} {init init' : σ} {b b' : Fin (Scf.trips lb ub st) → σ → Prog E σ} {f : σ → Prog E σ}
    (h0 : init = init') (hb : ∀ k s, b k s = b' k s) (hf : ∀ a, f a = Prog.ret a) :
    Prog.bind (Scf.for lb ub st ok init b) f = Scf.for lb ub st ok init' b' := by
  have hb := funext fun k => funext (hb k)
  have hf := funext hf
  subst h0 hb hf; exact bind_pure (m := Prog E) _

/-- A branch not taken. -/
theorem dnb {q : Prop} [Decidable q] {A : q → Prog E α} {B : ¬ q → Prog E α} {f : α → Prog E β} {r : Prog E β} (hq : ¬ q)
    (h : Prog.bind (B hq) f = r) : Prog.bind (dite q A B) f = r := by
  rw [dif_neg hq]; exact h

/-- A branch taken. -/
theorem dpb {q : Prop} [Decidable q] {A : q → Prog E α} {B : ¬ q → Prog E α} {f : α → Prog E β} {r : Prog E β} (hq : q)
    (h : Prog.bind (A hq) f = r) : Prog.bind (dite q A B) f = r := by
  rw [dif_pos hq]; exact h

/-- Binds nested on the left, to the right. -/
theorem asl {p : Prog E α} {f : α → Prog E β} {g : β → Prog E γ} {r : Prog E γ} (h : Prog.bind p (fun x => Prog.bind (f x) g) = r) :
    Prog.bind (Prog.bind p f) g = r := by
  rw [← h]; exact Prog.bind_assoc p f g

/-- Binds nested on the right-hand side, to the right. -/
theorem asr {p : Prog E α} {f : α → Prog E β} {g : β → Prog E γ} {r : Prog E γ} (h : r = Prog.bind p (fun x => Prog.bind (f x) g)) :
    r = Prog.bind (Prog.bind p f) g := by
  rw [h]; exact (Prog.bind_assoc p f g).symm

end Attn
-- ==== Proof.Kernel.Printed.lean ====
/-
  The printed body of the attention kernel is the body written by its structure, at every tile.
-/
module

public import proofs.«01_k».proof.Kernel
public import proofs.«01_k».proof.Proof.Attn
public import proofs.«01_k».proof.Proof.Steps

@[expose] public section

set_option maxRecDepth 100000

noncomputable section

namespace Cert.Kernel

open Idealize.ShloMosaic Idealize.SL.Sem

variable {F : FTy → Type} [FloatOps F] [Facts]

/-- Whether a tile number is `k`, as a bit. -/
theorem isTile_eq {n k : ℕ} (hn : n < 16) (hk : k < 16) :
    Scalar.cmpi .ne (Scalar.extui (Scalar.cmpi .eq (BitVec.ofNat 32 n) (BitVec.ofNat 32 k)) : BitVec 32) 0#32 = if n = k then 1#1 else 0#1 := by
  have h : ∀ a b : Fin 16, Scalar.cmpi .ne (Scalar.extui (Scalar.cmpi .eq (BitVec.ofNat 32 a.val) (BitVec.ofNat 32 b.val)) : BitVec 32) 0#32
      = if a.val = b.val then 1#1 else 0#1 := by decide
  exact h ⟨n, hn⟩ ⟨k, hk⟩

theorem cond2_eq (i : grid0.Coords) : k0_cond2 i = if (i 1).val = 0 then 1#1 else 0#1 := isTile_eq (i 1).isLt (by decide)
theorem cond3_eq (i : grid0.Coords) : k0_cond3 i = if (i 1).val = 1 then 1#1 else 0#1 := isTile_eq (i 1).isLt (by decide)
theorem cond4_eq (i : grid0.Coords) : k0_cond4 i = if (i 1).val = 2 then 1#1 else 0#1 := isTile_eq (i 1).isLt (by decide)
theorem cond5_eq (i : grid0.Coords) : k0_cond5 i = if (i 1).val = 3 then 1#1 else 0#1 := isTile_eq (i 1).isLt (by decide)
theorem cond6_eq (i : grid0.Coords) : k0_cond6 i = if (i 1).val = 4 then 1#1 else 0#1 := isTile_eq (i 1).isLt (by decide)
theorem cond7_eq (i : grid0.Coords) : k0_cond7 i = if (i 1).val = 5 then 1#1 else 0#1 := isTile_eq (i 1).isLt (by decide)
theorem cond8_eq (i : grid0.Coords) : k0_cond8 i = if (i 1).val = 6 then 1#1 else 0#1 := isTile_eq (i 1).isLt (by decide)
theorem cond9_eq (i : grid0.Coords) : k0_cond9 i = if (i 1).val = 7 then 1#1 else 0#1 := isTile_eq (i 1).isLt (by decide)
theorem cond10_eq (i : grid0.Coords) : k0_cond10 i = if (i 1).val = 8 then 1#1 else 0#1 := isTile_eq (i 1).isLt (by decide)
theorem cond11_eq (i : grid0.Coords) : k0_cond11 i = if (i 1).val = 9 then 1#1 else 0#1 := isTile_eq (i 1).isLt (by decide)
theorem cond12_eq (i : grid0.Coords) : k0_cond12 i = if (i 1).val = 10 then 1#1 else 0#1 := isTile_eq (i 1).isLt (by decide)
theorem cond13_eq (i : grid0.Coords) : k0_cond13 i = if (i 1).val = 11 then 1#1 else 0#1 := isTile_eq (i 1).isLt (by decide)
theorem cond14_eq (i : grid0.Coords) : k0_cond14 i = if (i 1).val = 12 then 1#1 else 0#1 := isTile_eq (i 1).isLt (by decide)
theorem cond15_eq (i : grid0.Coords) : k0_cond15 i = if (i 1).val = 13 then 1#1 else 0#1 := isTile_eq (i 1).isLt (by decide)
theorem cond16_eq (i : grid0.Coords) : k0_cond16 i = if (i 1).val = 14 then 1#1 else 0#1 := isTile_eq (i 1).isLt (by decide)
theorem cond17_eq (i : grid0.Coords) : k0_cond17 i = if (i 1).val = 15 then 1#1 else 0#1 := isTile_eq (i 1).isLt (by decide)

set_option maxHeartbeats 0 in
/-- The printed body at tile `jj` is `Attn.bodyAt`. -/
theorem cc0_eq (jj : Fin 16) (i : grid0.Coords) (hi : (i 1).val = jj.val) (arg2 : Memref sig .tc .vmem S1x256x4096 .bf16) (harg2 : arg2.IsWhole) (arg3 : Memref sig .tc .vmem S1x8x4096x128 .fp8e4m3) (harg3 : arg3.IsWhole) (arg4 : Memref sig .tc .vmem S1x4096x8 .f32) (harg4 : arg4.IsWhole) (arg5 : Memref sig .tc .vmem S1x8x128x4096 .fp8e4m3) (harg5 : arg5.IsWhole) (arg6 : Memref sig .tc .vmem S1x8x128 .f32) (harg6 : arg6.IsWhole) (arg7 : Memref sig .tc .vmem S256x256 .bf16) (harg7 : arg7.IsWhole) (arg8 : Memref sig .tc .vmem S1x256x4096 .bf16) (harg8 : arg8.IsWhole) (arg9 : Memref sig .tc .vmem S1x256x32x128 .fp8e4m3) (harg9 : arg9.IsWhole) (arg10 : Memref sig .tc .vmem S1x256x32 .f32) (harg10 : arg10.IsWhole) (arg11 : Memref sig .tc .vmem S256x4096 .f32) (harg11 : arg11.IsWhole) (arg12 : Memref sig .tc .vmem S32x256x128 .fp8e4m3) (harg12 : arg12.IsWhole) (arg13 : Memref sig .tc .vmem S8x4096x128 .f32) (harg13 : arg13.IsWhole) (arg14 : Memref sig .tc .vmem S128x256 .f32) (harg14 : arg14.IsWhole) (arg15 : Memref sig .tc .vmem S4096x256 .f32) (harg15 : arg15.IsWhole) (arg16 : Memref sig .tc .vmem S8x256 .f32) (harg16 : arg16.IsWhole) :
    (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 : Prog (TpuEff nD τ sig (Elt F) Λ₀ .tc) PUnit)
      = Attn.bodyAt ⟨arg2, arg3, arg4, arg5, arg6, arg7, arg8, arg9, arg10, arg11, arg12, arg13, arg14, arg15, arg16, harg8, harg9, harg12⟩ ⟨Scalar.ofBits .f32 0x3DB504F3#32, Scalar.ofBits .f32 0x3E0293EE#32⟩ jj := by
  fin_cases jj
  all_goals
    unfold cc0_attn k0_part208 k0_part233 k0_part234
    simp -zeta -zetaDelta only [↓reduceDIte, cond2_eq, cond3_eq, cond4_eq, cond5_eq, cond6_eq, cond7_eq, cond8_eq, cond9_eq, cond10_eq, cond11_eq, cond12_eq, cond13_eq, cond14_eq, cond15_eq, cond16_eq, cond17_eq, hi, Nat.reduceEqDiff, ↓reduceIte, zero_ne_one, one_ne_zero, BitVec.reduceEq, OfNat.ofNat_ne_zero, OfNat.zero_ne_ofNat, OfNat.ofNat_ne_one, OfNat.one_ne_ofNat]
    first
    | refine Attn.dnb (by decide) ?_
    | refine Attn.dpb (by decide) ?_
    repeat refine Attn.opc rfl fun x => ?_
    repeat refine Attn.asl ?_
    repeat refine Attn.asr ?_
    first
    | refine Attn.forl rfl (fun k s => ?_) (fun a => rfl)
      repeat refine Attn.opc rfl fun x => ?_
      exact rfl
    | refine Attn.forc rfl (fun k s => ?_) (fun a => ?_)
      · repeat refine Attn.opc rfl fun x => ?_
        exact rfl
      repeat refine Attn.opc rfl fun x => ?_
      repeat refine Attn.asl ?_
      refine Attn.forl rfl (fun k s => ?_) (fun a => rfl)
      repeat refine Attn.opc rfl fun x => ?_
      exact rfl

end Cert.Kernel

end
-- ==== Proof.Det.lean ====
/-
  Deterministic triples. `Det A p a B` says: owning `A`, the program `p` runs, returns the value `a` and leaves `B`.
  The rules here build such triples for loads and stores (by the plain functions `VecWindow.window` and `VecWindow.put`
  of what a memref holds), for binds, branches and counted loops.
-/
module

public import Idealize.ShloMosaic.Lib.VecWindow
public import Idealize.ShloMosaic.Lib.Scf
public import Idealize.ShloMosaic.Lib.Tactic

@[expose] public section

noncomputable section

namespace Idealize.ShloMosaic

open Idealize.SL
open Idealize.SL.BI (sProp)
open scoped Idealize.SL.BI
open Idealize.SL.BI.BIBase Idealize.SL.BI.Laws Idealize.SL.Sem Idealize.SL.ProofMode
open Idealize.SL.RA

namespace Det

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] (defs : Defs nD τ sig Val Λ) (𝒱 : Variants) (c : Thread nD τ) (bd : Option 𝒱.V) (E : Set Name)
variable {α β : Type}

local notation "𝕄" => MT nD τ sig Ix Val Name U Lvl

/-- Owning `A`, the program `p` returns `a` and leaves `B`. -/
def Det (A : sProp 𝕄) (p : Prog (TpuEff nD τ sig Val Λ c.2) α) (a : α) (B : sProp 𝕄) : Prop :=
  A ⊢ wp frame (wpE defs 𝒱 c bd) E p (fun r => iprop(⌜r = a⌝ ∗ B))

variable {defs 𝒱 c bd E}

/-- A pure program returns its value and leaves everything. -/
theorem ret {A : sProp 𝕄} (a : α) : Det defs 𝒱 c bd E A (pure a) a A := by
  unfold Det
  rw [show (pure a : Prog (TpuEff nD τ sig Val Λ c.2) α) = .ret a from rfl, wp_ret]
  iintro H
  imodintro
  isplitr [H]
  · ipureintro; rfl
  · iexact H

/-- Two programs one after the other. -/
theorem bind {A B C : sProp 𝕄} {p : Prog (TpuEff nD τ sig Val Λ c.2) α} {f : α → Prog (TpuEff nD τ sig Val Λ c.2) β} {a : α} {b : β}
    (hp : Det defs 𝒱 c bd E A p a B) (hf : Det defs 𝒱 c bd E B (f a) b C) : Det defs 𝒱 c bd E A (p >>= f) b C := by
  unfold Det at hp hf ⊢
  rw [wp_bind]
  refine hp.trans ((wp_mono _ _ _ fun r => ?_))
  iintro ⟨%h, H⟩
  subst h
  iapply hf
  iexact H

/-- The triple read with the value and the remaining ownership replaced by equal ones. -/
theorem cast {A A' B B' : sProp 𝕄} {p : Prog (TpuEff nD τ sig Val Λ c.2) α} {a a' : α}
    (h : Det defs 𝒱 c bd E A p a B) (hA : A' = A) (ha : a = a') (hB : B = B') : Det defs 𝒱 c bd E A' p a' B' := by
  subst hA ha hB; exact h

/-- A load at a unit-stride rectangle reads the window of what the memref holds. -/
theorem load {s : Shape} {e : EltTy} {cs : CoreSpace} {m : Memref sig c.2.kind cs s e} {X : s.Idx → Val e} {A R : sProp 𝕄}
    (hA : A ⊣⊢ iprop(owns c m fullShare X ∗ R)) {off size : Fin s.rank → ℕ} {inb : ∀ a, off a + size a ≤ s.size a}
    {hl : m.view.LoadsAt (Rect.unit off size inb).toLoadRect} :
    Det defs 𝒱 c bd E A (Prog.lift (.load m (Rect.unit off size inb).toLoadRect hl)) (VecWindow.window X off size inb) A := by
  unfold Det
  refine hA.1.trans ?_
  unfold owns
  iintro ⟨⟨%f, %hf, H⟩, HR⟩
  iapply (wp_load (Val := Val) (defs := defs) 𝒱 c bd E (m := m) (hl := hl) (S := m.view.set) (q := fullShare) (f := f) (by
    exact View.setOn_subset_set _ _)) $$ H
  iintro H
  rw [wp_ret]
  imodintro
  isplitr [H HR]
  · ipureintro
    rw [View.readAt_unit m.view f inb rfl inb, hf]
  · iapply hA.2
    isplitl [H]
    · unfold owns
      iexists f
      isplitr [H]
      · ipureintro; exact hf
      · iexact H
    · iexact HR

/-- An unmasked store at a unit-stride rectangle puts the payload over that window. -/
theorem store {s : Shape} {e : EltTy} {cs : CoreSpace} {m : Memref sig c.2.kind cs s e} {X : s.Idx → Val e} {A B R : sProp 𝕄}
    {off size : Fin s.rank → ℕ} {inb : ∀ a, off a + size a ≤ s.size a} {w : (Rect.unit off size inb).shape.Idx → Val e}
    (hA : A ⊢ iprop(owns c m fullShare X ∗ R)) (hB : iprop(owns c m fullShare (VecWindow.put X off size w) ∗ R) ⊢ B)
    {hx : (m.access (Rect.unit off size inb)).Stores Finset.univ} {hm : Finset.univ = Finset.univ ∨ ∀ a, (Rect.unit off size inb).stride a = 1} :
    Det defs 𝒱 c bd E A (Prog.lift (.store m (Rect.unit off size inb) w Finset.univ hx hm)) ⟨⟩ B := by
  unfold Det
  refine hA.trans ?_
  unfold owns
  iintro ⟨⟨%f, %hf, H⟩, HR⟩
  iapply (wp_store_writes₀ (Val := Val) (defs := defs) 𝒱 c bd E (m := m) (w := w) (hx := hx) (hm := hm) (S := m.view.set) (f := f) (by
    exact View.set_slice_subset _ _)) $$ H
  iintro H
  rw [wp_ret]
  imodintro
  isplitr [H HR]
  · ipureintro; rfl
  · iapply hB
    unfold owns
    isplitl [H]
    · iexists _
      isplitr [H]
      · ipureintro
        rw [← hf]
        exact View.read_writes_cons_put m.view f inb w [] rfl
      · iexact H
    · iexact HR

/-- A counted loop, by what is owned (`I`) and carried (`acc`) before each trip. -/
theorem loop {σ : Type} {w : ℕ} {lb ub st : BitVec w} {hok : Scf.OK lb ub st} {init : σ}
    {body : Fin (Scf.trips lb ub st) → σ → Prog (TpuEff nD τ sig Val Λ c.2) σ} (I : ℕ → sProp 𝕄) (acc : ℕ → σ)
    (h0 : init = acc 0)
    (hbody : ∀ k : Fin (Scf.trips lb ub st), Det defs 𝒱 c bd E (I k) (body k (acc k)) (acc (k.val + 1)) (I (k.val + 1))) :
    Det defs 𝒱 c bd E (I 0) (Scf.for lb ub st hok init body) (acc (Scf.trips lb ub st)) (I (Scf.trips lb ub st)) := by
  subst h0
  unfold Det at hbody ⊢
  iintro H
  iapply (Scf.wp_for _ _ _ lb ub st hok (acc 0) body (fun k a => iprop(⌜a = acc k⌝ ∗ I k)) (by
    intro k a
    iintro ⟨%h, H⟩
    subst h
    iapply (hbody k)
    iexact H))
  isplitl [H]
  · isplitr [H]
    · ipureintro; rfl
    · iexact H
  · iintro %a H
    iexact H

/-- A branch taken. -/
theorem ite_pos {A B : sProp 𝕄} {q : Prop} [Decidable q] {p : q → Prog (TpuEff nD τ sig Val Λ c.2) α} {r : ¬ q → Prog (TpuEff nD τ sig Val Λ c.2) α} {a : α} (h : q)
    (hp : Det defs 𝒱 c bd E A (p h) a B) : Det defs 𝒱 c bd E A (if h : q then p h else r h) a B := by
  rw [dif_pos h]; exact hp

/-- A branch not taken. -/
theorem ite_neg {A B : sProp 𝕄} {q : Prop} [Decidable q] {p : q → Prog (TpuEff nD τ sig Val Λ c.2) α} {r : ¬ q → Prog (TpuEff nD τ sig Val Λ c.2) α} {a : α} (h : ¬ q)
    (hp : Det defs 𝒱 c bd E A (r h) a B) : Det defs 𝒱 c bd E A (if h : q then p h else r h) a B := by
  rw [dif_neg h]; exact hp

end Det

end Idealize.ShloMosaic

end
-- ==== Proof.Exec.lean ====
/-
  What the body does to the memory. `Mem` is what its fifteen memrefs hold; `Own c R S` owns them at `S`. Each part of the
  body is a deterministic triple from `Own c R S` to `Own c R S'`, `S'` written with plain functions: `iter` for steps in
  order, `puts` for stores of one piece after another.
-/
module

public import proofs.«01_k».proof.Proof.Det
public import proofs.«01_k».proof.Proof.Attn

@[expose] public section

noncomputable section

namespace Attn

open Idealize.ShloMosaic
open Idealize.SL
open Idealize.SL.BI (sProp)
open scoped Idealize.SL.BI
open Idealize.SL.BI.BIBase Idealize.SL.BI.Laws Idealize.SL.Sem Idealize.SL.ProofMode
open Idealize.SL.RA
open Idealize.ShloMosaic.Det

/-! ## Steps in order -/

/-- The first `k` of `n` steps from `s`. -/
def iter {n : ℕ} {σ : Type} (f : Fin n → σ → σ) (s : σ) : ℕ → σ
  | 0 => s
  | k + 1 => if h : k < n then f ⟨k, h⟩ (iter f s k) else iter f s k

theorem iter_succ {n : ℕ} {σ : Type} (f : Fin n → σ → σ) (s : σ) (k : Fin n) : iter f s (k.val + 1) = f k (iter f s k.val) :=
  dif_pos k.isLt

/-- The first `k` of `n` stores, each of a piece of one size. -/
def puts {α : Type} {s : Shape} {n : ℕ} (size : Fin s.rank → ℕ) (off : Fin n → Fin s.rank → ℕ) (w : Fin n → ((a : Fin s.rank) → Fin (size a)) → α)
    (X : s.Idx → α) : ℕ → s.Idx → α :=
  iter (fun k X => VecWindow.put X (off k) size (w k)) X

theorem puts_succ {α : Type} {s : Shape} {n : ℕ} (size : Fin s.rank → ℕ) (off : Fin n → Fin s.rank → ℕ) (w : Fin n → ((a : Fin s.rank) → Fin (size a)) → α)
    (X : s.Idx → α) (k : Fin n) : puts size off w X (k.val + 1) = VecWindow.put (puts size off w X k.val) (off k) size (w k) := iter_succ _ _ k

/-- A window apart from the first `k` pieces reads what was there before. -/
theorem window_puts_of_apart {α : Type} {s : Shape} {n : ℕ} (size : Fin s.rank → ℕ) (off : Fin n → Fin s.rank → ℕ) (w : Fin n → ((a : Fin s.rank) → Fin (size a)) → α)
    (X : s.Idx → α) (off' size' : Fin s.rank → ℕ) (inb : ∀ a, off' a + size' a ≤ s.size a) (k : ℕ) (hk : k ≤ n)
    (h : ∀ j : Fin n, j.val < k → ∃ a, off' a + size' a ≤ off j a ∨ off j a + size a ≤ off' a) :
    VecWindow.window (puts size off w X k) off' size' inb = VecWindow.window X off' size' inb := by
  induction k with
  | zero => rfl
  | succ k ih =>
    rw [puts_succ size off w X ⟨k, hk⟩]
    obtain ⟨a, ha⟩ := h ⟨k, hk⟩ (Nat.lt_succ_self k)
    exact (VecWindow.window_put_of_disjoint _ _ _ _ _ _ _ a ha).trans (ih (by omega) fun j hj => h j (by omega))

/-- Piece `j` among the first `k`, the pieces apart from one another, reads itself. -/
theorem window_puts {α : Type} {s : Shape} {n : ℕ} (size : Fin s.rank → ℕ) (off : Fin n → Fin s.rank → ℕ) (w : Fin n → ((a : Fin s.rank) → Fin (size a)) → α)
    (X : s.Idx → α) (hd : ∀ i j : Fin n, i ≠ j → ∃ a, off i a + size a ≤ off j a ∨ off j a + size a ≤ off i a)
    (j : Fin n) (inb : ∀ a, off j a + size a ≤ s.size a) (k : ℕ) (hk : k ≤ n) (hj : j.val < k) :
    VecWindow.window (puts size off w X k) (off j) size inb = w j := by
  induction k with
  | zero => omega
  | succ k ih =>
    rw [puts_succ size off w X ⟨k, hk⟩]
    by_cases e : j.val = k
    · have : j = ⟨k, hk⟩ := Fin.ext e
      subst this
      exact VecWindow.window_put_same _ _ _ _ _
    · obtain ⟨a, ha⟩ := hd j ⟨k, hk⟩ (fun h => e (congrArg Fin.val h))
      exact (VecWindow.window_put_of_disjoint _ _ _ _ _ _ _ a ha).trans (ih (by omega) (by omega))

/-- Two windows at equal offsets are equal. -/
theorem window_congr {α : Type} {s : Shape} (X : s.Idx → α) {off off' size : Fin s.rank → ℕ} (inb : ∀ a, off a + size a ≤ s.size a)
    (inb' : ∀ a, off' a + size a ≤ s.size a) (h : off = off') : VecWindow.window X off size inb = VecWindow.window X off' size inb' := by
  subst h; rfl

/-- A window over everything. -/
theorem window_full {α : Type} {s : Shape} (X : s.Idx → α) {off : Fin s.rank → ℕ} (inb : ∀ a, off a + s.size a ≤ s.size a) :
    VecWindow.window X off s.size inb = X := by
  funext y
  exact congrArg X (funext fun a => Fin.ext (by
    show off a + 1 * (y a).val = (y a).val
    have := inb a; omega))

/-- A store over everything. -/
theorem put_full {α : Type} {s : Shape} (X : s.Idx → α) {off : Fin s.rank → ℕ} (inb : ∀ a, off a + s.size a ≤ s.size a)
    (w : ((a : Fin s.rank) → Fin (s.size a)) → α) : VecWindow.put X off s.size w = w := by
  have h := VecWindow.window_put_same X off s.size inb w
  rwa [window_full] at h

/-! ## What the memrefs hold -/

variable {F : FTy → Type} [FloatOps F]

/-- What the fifteen memrefs hold. -/
structure Mem (F : FTy → Type) where
  x : Vec F S1x256x4096 .bf16
  kc : Vec F S1x8x4096x128 .fp8e4m3
  ks : Vec F S1x4096x8 .f32
  vt : Vec F S1x8x128x4096 .fp8e4m3
  vs : Vec F S1x8x128 .f32
  bd : Vec F S256x256 .bf16
  out : Vec F S1x256x4096 .bf16
  qout : Vec F S1x256x32x128 .fp8e4m3
  qs : Vec F S1x256x32 .f32
  xs : Vec F S256x4096 .f32
  qc : Vec F S32x256x128 .fp8e4m3
  ksr : Vec F S8x4096x128 .f32
  c : Vec F S128x256 .f32
  u : Vec F S4096x256 .f32
  m : Vec F S8x256 .f32

/-! ## The contents, as functions of what is read -/

/-- The scales of the keys over lanes, head by head. -/
def ksrPuts (ks : Vec F S1x4096x8 .f32) (X : Vec F S8x4096x128 .f32) : ℕ → Vec F S8x4096x128 .f32 :=
  puts (s := S8x4096x128) (n := 8) S1x4096x128.size (fun h => ![h.val, 0, 0]) (fun h => spread (VecWindow.window ks ![0, 0, h.val] S1x4096x1.size (inb_ks h))) X

/-- The tile's rows, the batch axis dropped. -/
def rows (x : Vec F S1x256x4096 .bf16) : Vec F S256x4096 .bf16 :=
  fun y => x (Shape.reshapeEquiv (s := S1x256x4096) (by decide : S256x4096.numel = S1x256x4096.numel) y)

/-- The rotation of pair `p`. -/
def rotAt (x : Vec F S1x256x4096 .bf16) (bd : Vec F S256x256 .bf16) (p : Fin 16) : FVec F S256x256 .f32 :=
  rot (VecWindow.window (rows x) ![0, 256 * p.val] S256x256.size (inb_xp p)) bd

def xsPuts (x : Vec F S1x256x4096 .bf16) (bd : Vec F S256x256 .bf16) (X : Vec F S256x4096 .f32) : ℕ → Vec F S256x4096 .f32 :=
  puts (s := S256x4096) (n := 16) S256x256.size (fun p => ![0, 256 * p.val]) (fun p => shapeCast S256x256 (rotAt x bd p) (by decide)) X

/-- The largest magnitudes of the first `k` pairs. -/
def amaxAt (x : Vec F S1x256x4096 .bf16) (bd : Vec F S256x256 .bf16) : ℕ → FVec F S256x128 .f32 :=
  iter (n := 16) (fun p a => amaxOf ![0, 128] (by decide) (2 * p.val + 1) (rotAt x bd p) (amaxOf ![0, 0] (by decide) (2 * p.val) (rotAt x bd p) a))
    (broadcast S256x128 (Scalar.ofBits .f32 0x00000000#32))

/-- The tile's scales. -/
def scaleAt (K : Consts F) (x : Vec F S1x256x4096 .bf16) (bd : Vec F S256x256 .bf16) : FVec F S256x128 .f32 := scaleOf K (amaxAt x bd 16)

/-- The codes of head `h`. -/
def codeAt (K : Consts F) (x : Vec F S1x256x4096 .bf16) (bd : Vec F S256x256 .bf16) (xs : Vec F S256x4096 .f32) (h : Fin 32) : FVec F S256x128 .fp8e4m3 :=
  codeOf (invOf K (scaleAt K x bd)) h (VecWindow.window xs ![0, 128 * h.val] S256x128.size (inb_xh h))

/-- Four pieces after one another. -/
def qcStep (w : Fin 32 → FVec F S256x128 .fp8e4m3) (g : Fin 8) (X : Vec F S32x256x128 .fp8e4m3) : Vec F S32x256x128 .fp8e4m3 :=
  let one := fun (h : Fin 32) X => VecWindow.put (s := S32x256x128) X ![h.val, 0, 0] S1x256x128.size (shapeCast S1x256x128 (w h) (by decide))
  one (hd g 3) (one (hd g 2) (one (hd g 1) (one (hd g 0) X)))

/-- The codes of the first `k` groups, head by head. -/
def qcPuts (w : Fin 32 → FVec F S256x128 .fp8e4m3) (X : Vec F S32x256x128 .fp8e4m3) : ℕ → Vec F S32x256x128 .fp8e4m3 :=
  iter (n := 8) (qcStep w) X

/-- The codes of the first `k` groups, row by row. -/
def qoutPuts (w : Fin 32 → FVec F S256x128 .fp8e4m3) (X : Vec F S1x256x32x128 .fp8e4m3) : ℕ → Vec F S1x256x32x128 .fp8e4m3 :=
  puts (s := S1x256x32x128) (n := 8) S1x256x4x128.size (fun g => ![0, 0, 4 * g.val, 0]) (fun g => stack (w (hd g 0)) (w (hd g 1)) (w (hd g 2)) (w (hd g 3))) X

/-- The scores of block `b` of head `h`. -/
def uBlk (S : Mem F) (jj : Fin 16) (h : Fin 32) (b : Fin (jj.val + 1)) : FVec F S256x256 .f32 :=
  let u := scoreOf (VecWindow.window S.kc ![0, h.val / 4, 256 * b.val, 0] S1x1x256x128.size (inb_kc _ _ (by omega) (by omega)))
    (VecWindow.window S.qc ![h.val, 0, 0] S1x256x128.size (inb_qc _ h.isLt))
    (VecWindow.window S.ksr ![h.val / 4, 256 * b.val, 0] S1x256x128.size (inb_ksr _ _ (by omega) (by omega)))
  if b.val = jj.val then maskOf u else u

/-- The first `k` blocks' scores of head `h` stored. -/
def uPuts (S : Mem F) (jj : Fin 16) (h : Fin 32) (X : Vec F S4096x256 .f32) : ℕ → Vec F S4096x256 .f32 :=
  puts (s := S4096x256) (n := jj.val + 1) S256x256.size (fun b => ![256 * b.val, 0]) (fun b => shapeCast S256x256 (uBlk S jj h b) (by decide)) X

/-- The maxima of head `h` over its first `k` blocks. -/
def mxAt (S : Mem F) (jj : Fin 16) (h : Fin 32) : ℕ → FVec F S8x256 .f32 :=
  iter (n := jj.val + 1) (fun b mx => mxOf (uBlk S jj h b) mx) (broadcast S8x256 (Scalar.ofBits .f32 0xFF800000#32))

/-- Head `h`'s row of factors. -/
def cAt (S : Mem F) (h : Fin 32) : Vec F S1x256 .f32 := VecWindow.window S.c ![h.val, 0] S1x256.size (inb_c1 _ h.isLt)

/-- Head `h`'s row of maxima. -/
def mAt (S : Mem F) (jj : Fin 16) (h : Fin 32) : Vec F S1x256 .f32 := VecWindow.window (mOf (mxAt S jj h (jj.val + 1))) ![0, 0] S1x256.size inb_m1

/-- Block `b`'s weights of head `h`. -/
def pAt (S : Mem F) (jj : Fin 16) (h : Fin 32) (b : Fin (jj.val + 1)) : FVec F S256x256 .f32 :=
  pOf (m2Of (mAt S jj h) (cAt S h)) (cAt S h) (shapeCast S256x256 (uBlk S jj h b) (by decide))

/-- The sums of head `h` over its first `k` blocks. -/
def lAt (S : Mem F) (jj : Fin 16) (h : Fin 32) : ℕ → FVec F S8x256 .f32 :=
  iter (n := jj.val + 1) (fun b l => lOf (pAt S jj h b) l) (broadcast S8x256 (Scalar.ofBits .f32 0x00000000#32))

/-- The products of head `h` over its first `k` blocks. -/
def oAt (S : Mem F) (jj : Fin 16) (h : Fin 32) : ℕ → FVec F S128x256 .f32 :=
  iter (n := jj.val + 1) (fun b o => accOf (VecWindow.window S.vt ![0, h.val / 4, 0, 256 * b.val] S1x1x128x256.size (inb_vt _ _ (by omega) (by omega))) (pAt S jj h b) o)
    (broadcast S128x256 (Scalar.ofBits .f32 0x00000000#32))

/-- Head `h`'s output. -/
def outAt (S : Mem F) (jj : Fin 16) (h : Fin 32) : FVec F S1x256x128 .bf16 :=
  outOf (lAt S jj h (jj.val + 1)) (oAt S jj h (jj.val + 1)) (VecWindow.window S.vs ![0, h.val / 4, 0] S1x1x128.size (inb_vs _ (by omega)))

/-- The first `k` heads' outputs stored. -/
def outPuts (S : Mem F) (jj : Fin 16) (X : Vec F S1x256x4096 .bf16) : ℕ → Vec F S1x256x4096 .bf16 :=
  puts (s := S1x256x4096) (n := 32) S1x256x128.size (fun h => ![0, 0, 128 * h.val]) (outAt S jj) X

/-- The head after `k`, or the last. -/
def nx (k : ℕ) : Fin 32 := ⟨min k 31, by omega⟩

/-- The scores when head `k` begins. -/
def uAt (S : Mem F) (jj : Fin 16) (X : Vec F S4096x256 .f32) : ℕ → Vec F S4096x256 .f32
  | 0 => uPuts S jj 0 X (jj.val + 1)
  | k + 1 => uPuts S jj (nx (k + 1)) (uAt S jj X k) (jj.val + 1)

/-- After the queries are quantised. -/
def afterPrep (K : Consts F) (S : Mem F) : Mem F :=
  let xs := xsPuts S.x S.bd S.xs 16
  { S with
    xs := xs
    qc := qcPuts (codeAt K S.x S.bd xs) S.qc 8
    qout := qoutPuts (codeAt K S.x S.bd xs) S.qout 8
    qs := qsOf (scaleAt K S.x S.bd)
    c := cOf K (scaleAt K S.x S.bd) }

/-- When head `k` of a tile begins. -/
def atHead (jj : Fin 16) (S : Mem F) (k : ℕ) : Mem F :=
  { S with u := uAt S jj S.u k, m := mOf (mxAt S jj (nx k) (jj.val + 1)), out := outPuts S jj S.out k }

/-- After the scales are spread, at the first tile. -/
def afterKsr (jj : Fin 16) (S : Mem F) : Mem F := if jj.val = 0 then { S with ksr := ksrPuts S.ks S.ksr 8 } else S

/-- After the body. -/
def afterBody (K : Consts F) (jj : Fin 16) (S : Mem F) : Mem F := atHead jj (afterPrep K (afterKsr jj S)) 32

/-- The blocks of scores are apart. -/
theorem u_apart {n : ℕ} (i j : Fin n) (h : i ≠ j) : ∃ a : Fin 2, (![256 * i.val, 0] : Fin 2 → ℕ) a + S256x256.size a ≤ (![256 * j.val, 0] : Fin 2 → ℕ) a
    ∨ (![256 * j.val, 0] : Fin 2 → ℕ) a + S256x256.size a ≤ (![256 * i.val, 0] : Fin 2 → ℕ) a := by
  refine ⟨0, ?_⟩
  have : i.val ≠ j.val := fun e => h (Fin.ext e)
  show 256 * i.val + 256 ≤ 256 * j.val ∨ 256 * j.val + 256 ≤ 256 * i.val
  omega

/-- When head `k` begins, the scores are its own. -/
theorem window_uAt (S : Mem F) (jj : Fin 16) (X : Vec F S4096x256 .f32) (k : ℕ) (b : Fin (jj.val + 1)) :
    VecWindow.window (uAt S jj X k) ![256 * b.val, 0] S256x256.size (inb_u _ (by omega)) = shapeCast S256x256 (uBlk S jj (nx k) b) (by decide) := by
  cases k with
  | zero => exact window_puts (s := S4096x256) S256x256.size (fun b : Fin (jj.val + 1) => ![256 * b.val, 0]) _ _ u_apart b _ _ le_rfl b.isLt
  | succ k => exact window_puts (s := S4096x256) S256x256.size (fun b : Fin (jj.val + 1) => ![256 * b.val, 0]) _ _ u_apart b _ _ le_rfl b.isLt

/-- While head `k`'s blocks are taken in turn, those not yet taken hold its scores. -/
theorem window_uPuts_uAt (S : Mem F) (jj : Fin 16) (X : Vec F S4096x256 .f32) (h : Fin 32) (k : ℕ) (b : Fin (jj.val + 1)) :
    VecWindow.window (uPuts S jj h (uAt S jj X k) b.val) ![256 * b.val, 0] S256x256.size (inb_u _ (by omega)) = shapeCast S256x256 (uBlk S jj (nx k) b) (by decide) := by
  refine (window_puts_of_apart (s := S4096x256) S256x256.size (fun b : Fin (jj.val + 1) => ![256 * b.val, 0]) _ _ _ _ _ b.val b.isLt.le fun j hj => ?_).trans (window_uAt S jj X k b)
  exact u_apart b j (fun e => by subst e; omega)

end Attn

end
-- ==== Proof.Body.lean ====
/-
  The body's triple: from the memory `S` it goes to `afterBody K jj S`, at tile `jj`.
-/
module

public import proofs.«01_k».proof.Proof.Exec

@[expose] public section

noncomputable section

namespace Attn

open Idealize.ShloMosaic Idealize.ShloMosaic.TcCoe
open Idealize.SL
open Idealize.SL.BI (sProp)
open scoped Idealize.SL.BI
open Idealize.SL.BI.BIBase Idealize.SL.BI.Laws Idealize.SL.Sem Idealize.SL.ProofMode
open Idealize.SL.RA
open Idealize.ShloMosaic.Det

variable {nD : Nat} {τ : Topo} {sig : RefSig} {Ix : Type} [DecidableEq Ix]
variable {F : FTy → Type} [FloatOps F] {Name : Type} [DecidableEq Name]
variable {U : Type} [URA U]
variable {Lvl : Type} {Λ : Labels}
variable [Preorder Lvl] {defs : Defs nD τ sig (Elt F) Λ} {𝒱 : Variants} {c : Dev nD} {bd : Option 𝒱.V} {E : Set Name}

local notation "𝕄" => MT nD τ sig Ix (Elt F) Name U Lvl

/-! ## Ownership of the fifteen memrefs -/

/-- All of a list owned. -/
def stars : List (sProp 𝕄) → sProp 𝕄
  | [] => emp
  | A :: l => iprop(A ∗ stars l)

/-- One of a list, and the others. -/
theorem stars_pick : ∀ (l : List (sProp 𝕄)) (i : ℕ) (h : i < l.length), stars l ⊣⊢ iprop(l[i] ∗ stars (l.eraseIdx i))
  | A :: l, 0, _ => ⟨.rfl, .rfl⟩
  | A :: l, i + 1, h => by
    have ih := stars_pick l i (Nat.lt_of_succ_lt_succ h)
    show iprop(A ∗ stars l) ⊣⊢ iprop(l[i]'(Nat.lt_of_succ_lt_succ h) ∗ (A ∗ stars (l.eraseIdx i)))
    constructor
    · refine (sep_mono .rfl ih.1).trans ?_
      iintro ⟨HA, HP, HQ⟩
      isplitl [HP]; · iexact HP
      isplitl [HA]; · iexact HA
      iexact HQ
    · refine Entails.trans ?_ (sep_mono .rfl ih.2)
      iintro ⟨HP, HA, HQ⟩
      isplitl [HA]; · iexact HA
      isplitl [HP]; · iexact HP
      iexact HQ

/-- The fifteen memrefs at `S`, each owned. -/
def cells (c : Dev nD) (R : Refs sig) (S : Mem F) : List (sProp 𝕄) :=
  [owns (c : Thread nD τ) R.x fullShare S.x,
    owns (c : Thread nD τ) R.kc fullShare S.kc,
    owns (c : Thread nD τ) R.ks fullShare S.ks,
    owns (c : Thread nD τ) R.vt fullShare S.vt,
    owns (c : Thread nD τ) R.vs fullShare S.vs,
    owns (c : Thread nD τ) R.bd fullShare S.bd,
    owns (c : Thread nD τ) R.out fullShare S.out,
    owns (c : Thread nD τ) R.qout fullShare S.qout,
    owns (c : Thread nD τ) R.qs fullShare S.qs,
    owns (c : Thread nD τ) R.xs fullShare S.xs,
    owns (c : Thread nD τ) R.qc fullShare S.qc,
    owns (c : Thread nD τ) R.ksr fullShare S.ksr,
    owns (c : Thread nD τ) R.c fullShare S.c,
    owns (c : Thread nD τ) R.u fullShare S.u,
    owns (c : Thread nD τ) R.m fullShare S.m]

/-- The fifteen memrefs, owned at `S`. -/
def Own (c : Dev nD) (R : Refs sig) (S : Mem F) : sProp 𝕄 := stars (cells c R S)

/-- A triple of the body's core. -/
abbrev Tri (defs : Defs nD τ sig (Elt F) Λ) (𝒱 : Variants) (c : Dev nD) (bd : Option 𝒱.V) (E : Set Name) {α : Type} (A : sProp 𝕄) (p : Ev nD τ sig F Λ α) (a : α) (B : sProp 𝕄) : Prop :=
  Det defs 𝒱 (c : Thread nD τ) bd E A p a B

/-- A load. -/
theorem tld {s : Shape} {e : EltTy} {m : Memref sig .tc .vmem s e} {X : Vec F s e} {A R : sProp 𝕄} (hA : A ⊣⊢ iprop(owns (c : Thread nD τ) m fullShare X ∗ R))
    {off size : Fin s.rank → ℕ} {inb : ∀ a, off a + size a ≤ s.size a} {h : 0 < (Rect.unit off size inb).shape.numel} :
    Tri defs 𝒱 c bd E A (ld m off size inb h) (VecWindow.window X off size inb) A := Det.load (c := (c : Thread nD τ)) hA

/-- A store. -/
theorem tst {s : Shape} {e : EltTy} {m : Memref sig .tc .vmem s e} {X : Vec F s e} {A B R : sProp 𝕄}
    {off size : Fin s.rank → ℕ} {inb : ∀ a, off a + size a ≤ s.size a} {w : (Rect.unit off size inb).shape.Idx → Elt F e}
    {hx : (m.access (Rect.unit off size inb)).Stores Finset.univ}
    (hA : A ⊣⊢ iprop(owns (c : Thread nD τ) m fullShare X ∗ R)) (hB : B ⊣⊢ iprop(owns (c : Thread nD τ) m fullShare (VecWindow.put X off size w) ∗ R)) :
    Tri defs 𝒱 c bd E A (st m off size inb w hx) ⟨⟩ B := Det.store (c := (c : Thread nD τ)) hA.1 hB.2

/-- The batch axis drops. -/
theorem sqz_x : (Rect.unit (s := S1x256x4096) ![0, 0, 0] S1x256x4096.size inb_x).shape.Squeezes S256x4096 := by decide

/-- A load through the memref with its leading axis dropped. -/
theorem tld_rows {m : Memref sig .tc .vmem S1x256x4096 .bf16} {X : Vec F S1x256x4096 .bf16} {A R : sProp 𝕄} (hA : A ⊣⊢ iprop(owns (c : Thread nD τ) m fullShare X ∗ R))
    {off size : Fin 2 → ℕ} {inb : ∀ a, off a + size a ≤ S256x4096.size a} {h : 0 < (Rect.unit (s := S256x4096) off size inb).shape.numel} :
    Tri defs 𝒱 c bd E A (ld ((m.slice (Rect.unit (s := S1x256x4096) ![0, 0, 0] S1x256x4096.size inb_x) (fun _ => rfl)).squeeze S256x4096 sqz_x) off size inb h)
      (VecWindow.window (rows X) off size inb) A := by
  show Det _ _ _ _ _ _ _ _ _
  unfold Det
  refine hA.1.trans ?_
  unfold owns
  iintro ⟨⟨%f, %hf, H⟩, HR⟩
  iapply (wp_load (Val := Elt F) (defs := defs) 𝒱 (c : Thread nD τ) bd E
    (m := (m.slice (Rect.unit (s := S1x256x4096) ![0, 0, 0] S1x256x4096.size inb_x) (fun _ => rfl)).squeeze S256x4096 sqz_x) (S := m.view.set) (q := fullShare) (f := f) (by
    refine (View.setOn_subset_set _ _).trans ?_
    exact (Finset.Subset.antisymm_iff.mp (View.set_reshape _ _)).1.trans (View.set_slice_subset _ _))) $$ H
  iintro H
  rw [wp_ret]
  imodintro
  isplitr [H HR]
  · ipureintro
    refine (View.readAt_unit (Val := Elt F) ((m.slice (Rect.unit (s := S1x256x4096) ![0, 0, 0] S1x256x4096.size inb_x) (fun _ => rfl)).squeeze S256x4096 sqz_x).view f inb rfl inb).trans ?_
    refine congrArg (fun X : Vec F S256x4096 .bf16 => VecWindow.window (s := S256x4096) X off size inb) ?_
    refine (Memref.read_squeeze_full m inb_x sqz_x f).trans ?_
    rw [hf]; rfl
  · iapply hA.2
    isplitl [H]
    · unfold owns
      iexists f
      isplitr [H]
      · ipureintro; exact hf
      · iexact H
    · iexact HR

/-- Steps in order, by what is owned and carried before each. -/
theorem tseq {n : ℕ} {σ : Type} {s : σ} {body : Fin n → σ → Ev nD τ sig F Λ σ} (I : ℕ → sProp 𝕄) (acc : ℕ → σ) (h0 : s = acc 0)
    (h : ∀ k : Fin n, Tri defs 𝒱 c bd E (I k.val) (body k (acc k.val)) (acc (k.val + 1)) (I (k.val + 1))) :
    Tri defs 𝒱 c bd E (I 0) (seq n s body) (acc n) (I n) := by
  have key : ∀ f k (hk : k + f = n), Tri defs 𝒱 c bd E (I k) (seqFrom body f k hk (acc k)) (acc n) (I n) := by
    intro f
    induction f with
    | zero =>
      intro k hk
      have : k = n := hk
      subst this
      exact Det.ret _
    | succ f ih =>
      intro k hk
      exact Det.bind (h ⟨k, by omega⟩) (ih (k + 1) (by omega))
  subst h0
  exact key n 0 (by omega)

variable {R : Refs sig} {S : Mem F} {K : Consts F} {jj : Fin 16}

local notation "T" => Tri (Ix := Ix) (Name := Name) (U := U) (Lvl := Lvl) defs 𝒱 c bd E

section picks
variable (c R S)
theorem pk_x : (Own c R S : sProp 𝕄) ⊣⊢ iprop(owns (c : Thread nD τ) R.x fullShare S.x ∗ stars ((cells c R S).eraseIdx 0)) := stars_pick (cells c R S) 0 (by show 0 < 15; decide)
theorem pk_kc : (Own c R S : sProp 𝕄) ⊣⊢ iprop(owns (c : Thread nD τ) R.kc fullShare S.kc ∗ stars ((cells c R S).eraseIdx 1)) := stars_pick (cells c R S) 1 (by show 1 < 15; decide)
theorem pk_ks : (Own c R S : sProp 𝕄) ⊣⊢ iprop(owns (c : Thread nD τ) R.ks fullShare S.ks ∗ stars ((cells c R S).eraseIdx 2)) := stars_pick (cells c R S) 2 (by show 2 < 15; decide)
theorem pk_vt : (Own c R S : sProp 𝕄) ⊣⊢ iprop(owns (c : Thread nD τ) R.vt fullShare S.vt ∗ stars ((cells c R S).eraseIdx 3)) := stars_pick (cells c R S) 3 (by show 3 < 15; decide)
theorem pk_vs : (Own c R S : sProp 𝕄) ⊣⊢ iprop(owns (c : Thread nD τ) R.vs fullShare S.vs ∗ stars ((cells c R S).eraseIdx 4)) := stars_pick (cells c R S) 4 (by show 4 < 15; decide)
theorem pk_bd : (Own c R S : sProp 𝕄) ⊣⊢ iprop(owns (c : Thread nD τ) R.bd fullShare S.bd ∗ stars ((cells c R S).eraseIdx 5)) := stars_pick (cells c R S) 5 (by show 5 < 15; decide)
theorem pk_out : (Own c R S : sProp 𝕄) ⊣⊢ iprop(owns (c : Thread nD τ) R.out fullShare S.out ∗ stars ((cells c R S).eraseIdx 6)) := stars_pick (cells c R S) 6 (by show 6 < 15; decide)
theorem pk_qout : (Own c R S : sProp 𝕄) ⊣⊢ iprop(owns (c : Thread nD τ) R.qout fullShare S.qout ∗ stars ((cells c R S).eraseIdx 7)) := stars_pick (cells c R S) 7 (by show 7 < 15; decide)
theorem pk_qs : (Own c R S : sProp 𝕄) ⊣⊢ iprop(owns (c : Thread nD τ) R.qs fullShare S.qs ∗ stars ((cells c R S).eraseIdx 8)) := stars_pick (cells c R S) 8 (by show 8 < 15; decide)
theorem pk_xs : (Own c R S : sProp 𝕄) ⊣⊢ iprop(owns (c : Thread nD τ) R.xs fullShare S.xs ∗ stars ((cells c R S).eraseIdx 9)) := stars_pick (cells c R S) 9 (by show 9 < 15; decide)
theorem pk_qc : (Own c R S : sProp 𝕄) ⊣⊢ iprop(owns (c : Thread nD τ) R.qc fullShare S.qc ∗ stars ((cells c R S).eraseIdx 10)) := stars_pick (cells c R S) 10 (by show 10 < 15; decide)
theorem pk_ksr : (Own c R S : sProp 𝕄) ⊣⊢ iprop(owns (c : Thread nD τ) R.ksr fullShare S.ksr ∗ stars ((cells c R S).eraseIdx 11)) := stars_pick (cells c R S) 11 (by show 11 < 15; decide)
theorem pk_c : (Own c R S : sProp 𝕄) ⊣⊢ iprop(owns (c : Thread nD τ) R.c fullShare S.c ∗ stars ((cells c R S).eraseIdx 12)) := stars_pick (cells c R S) 12 (by show 12 < 15; decide)
theorem pk_u : (Own c R S : sProp 𝕄) ⊣⊢ iprop(owns (c : Thread nD τ) R.u fullShare S.u ∗ stars ((cells c R S).eraseIdx 13)) := stars_pick (cells c R S) 13 (by show 13 < 15; decide)
theorem pk_m : (Own c R S : sProp 𝕄) ⊣⊢ iprop(owns (c : Thread nD τ) R.m fullShare S.m ∗ stars ((cells c R S).eraseIdx 14)) := stars_pick (cells c R S) 14 (by show 14 < 15; decide)
end picks

/-- The scales are spread. -/
theorem t_ksr : T (Own c R S) (seq 8 PUnit.unit (ksrStep R)) PUnit.unit (Own c R { S with ksr := ksrPuts S.ks S.ksr 8 }) := by
  refine tseq (fun k => Own c R { S with ksr := ksrPuts S.ks S.ksr k }) (fun _ => PUnit.unit) rfl fun k => ?_
  refine Det.bind (tld (pk_ks c R _)) ?_
  refine Det.bind (tld (pk_ksr c R _)) ?_
  refine tst (pk_ksr c R _) ?_
  rw [show ksrPuts S.ks S.ksr (k.val + 1) = _ from puts_succ _ _ _ _ k]
  exact pk_ksr c R _

/-- The queries are quantised. -/
theorem t_prep : T (Own c R S) (prep R K) PUnit.unit (Own c R (afterPrep K S)) := by
  unfold prep
  refine Det.bind (a := amaxAt S.x S.bd 16) (B := Own c R { S with xs := xsPuts S.x S.bd S.xs 16 })
    (tseq (fun k => Own c R { S with xs := xsPuts S.x S.bd S.xs k }) (amaxAt S.x S.bd) rfl fun k => ?_) ?_
  · refine Det.bind (tld_rows (pk_x c R _)) ?_
    refine Det.bind (tld (pk_bd c R _)) ?_
    refine Det.bind (tld (pk_xs c R _)) ?_
    rw [window_full]
    refine Det.bind (tst (B := Own c R { S with xs := xsPuts S.x S.bd S.xs (k.val + 1) }) (pk_xs c R _) ?_) ?_
    · rw [show xsPuts S.x S.bd S.xs (k.val + 1) = _ from puts_succ _ _ _ _ k]
      exact pk_xs c R _
    · rw [show amaxAt S.x S.bd (k.val + 1) = _ from iter_succ _ _ k]
      exact Det.ret _
  have hq : ∀ (w : Fin 32 → FVec F S256x128 .fp8e4m3) (S : Mem F) (k : Fin 8), w = codeAt K S.x S.bd S.xs →
      T (Own c R S) (quantStep R (invOf K (scaleAt K S.x S.bd)) k PUnit.unit) PUnit.unit
        (Own c R { S with qc := qcStep w k S.qc, qout := VecWindow.put S.qout ![0, 0, 4 * k.val, 0] S1x256x4x128.size (stack (w (hd k 0)) (w (hd k 1)) (w (hd k 2)) (w (hd k 3))) }) := by
    intro w S k hw
    have hl : ∀ h, T (Own c R S) (ldCode R (invOf K (scaleAt K S.x S.bd)) h) (w h) (Own c R S) := by
      intro h
      subst hw
      exact Det.bind (tld (pk_xs c R _)) (Det.ret _)
    have hs : ∀ (S : Mem F) h, T (Own c R S) (stCode R h (w h)) PUnit.unit
        (Own c R { S with qc := VecWindow.put S.qc ![h.val, 0, 0] S1x256x128.size (shapeCast S1x256x128 (w h) (by decide)) }) := by
      intro S h
      exact Det.bind (tld (pk_qc c R _)) (tst (pk_qc c R _) (pk_qc c R _))
    refine Det.bind (hl _) ?_
    refine Det.bind (hl _) ?_
    refine Det.bind (hl _) ?_
    refine Det.bind (hl _) ?_
    refine Det.bind (hs _ _) ?_
    refine Det.bind (hs _ _) ?_
    refine Det.bind (hs _ _) ?_
    refine Det.bind (hs _ _) ?_
    refine Det.bind (tld (pk_qout c R _)) ?_
    exact tst (pk_qout c R _) (pk_qout c R _)
  refine Det.bind (a := PUnit.unit) (B := Own c R { S with
      xs := xsPuts S.x S.bd S.xs 16
      qc := qcPuts (codeAt K S.x S.bd (xsPuts S.x S.bd S.xs 16)) S.qc 8
      qout := qoutPuts (codeAt K S.x S.bd (xsPuts S.x S.bd S.xs 16)) S.qout 8 })
    (tseq (fun k => Own c R { S with
      xs := xsPuts S.x S.bd S.xs 16
      qc := qcPuts (codeAt K S.x S.bd (xsPuts S.x S.bd S.xs 16)) S.qc k
      qout := qoutPuts (codeAt K S.x S.bd (xsPuts S.x S.bd S.xs 16)) S.qout k }) (fun _ => PUnit.unit) rfl fun k => ?_) ?_
  · rw [show qcPuts (codeAt K S.x S.bd (xsPuts S.x S.bd S.xs 16)) S.qc (k.val + 1) = _ from iter_succ _ _ k,
      show qoutPuts (codeAt K S.x S.bd (xsPuts S.x S.bd S.xs 16)) S.qout (k.val + 1) = _ from puts_succ _ _ _ _ k]
    exact hq _ _ k rfl
  refine Det.bind (tld (pk_qs c R _)) ?_
  refine Det.bind (tst (pk_qs c R _) (pk_qs c R { S with
      xs := xsPuts S.x S.bd S.xs 16
      qc := qcPuts (codeAt K S.x S.bd (xsPuts S.x S.bd S.xs 16)) S.qc 8
      qout := qoutPuts (codeAt K S.x S.bd (xsPuts S.x S.bd S.xs 16)) S.qout 8
      qs := VecWindow.put S.qs ![0, 0, 0] S1x256x32.size (qsOf (scaleAt K S.x S.bd)) })) ?_
  refine Det.bind (tld (pk_c c R _)) ?_
  refine tst (pk_c c R _) ?_
  rw [put_full _ inb_c, put_full _ inb_qs]
  exact pk_c c R (afterPrep K S)

/-- A block's scores, kept or masked. -/
def uG (S : Mem F) (h kv r : ℕ) (hh : h < 32) (hkv : kv < 8) (hr : r + 256 ≤ 4096) (diag : Bool) : FVec F S256x256 .f32 :=
  let u := scoreOf (VecWindow.window S.kc ![0, kv, r, 0] S1x1x256x128.size (inb_kc kv r hkv hr))
    (VecWindow.window S.qc ![h, 0, 0] S1x256x128.size (inb_qc h hh)) (VecWindow.window S.ksr ![kv, r, 0] S1x256x128.size (inb_ksr kv r hkv hr))
  if diag then maskOf u else u

theorem uG_eq (S : Mem F) (jj : Fin 16) (hf : Fin 32) (b : Fin (jj.val + 1)) {h kv r : ℕ} {hh : h < 32} {hkv : kv < 8} {hr : r + 256 ≤ 4096} {diag : Bool}
    (e1 : h = hf.val) (e2 : kv = hf.val / 4) (e3 : r = 256 * b.val) (e4 : diag = decide (b.val = jj.val)) : uG S h kv r hh hkv hr diag = uBlk S jj hf b := by
  subst e1 e2 e3 e4
  unfold uG uBlk
  by_cases h : b.val = jj.val <;> simp [h]

/-- The first pass over a block. -/
theorem t_first {h kv r : ℕ} {hh : h < 32} {hkv : kv < 8} {hr : r + 256 ≤ 4096} {diag : Bool} {mx : FVec F S8x256 .f32} :
    T (Own c R S) (first R h kv r hh hkv hr diag mx) (mxOf (uG S h kv r hh hkv hr diag) mx)
      (Own c R { S with u := VecWindow.put S.u ![r, 0] S256x256.size (shapeCast S256x256 (uG S h kv r hh hkv hr diag) (by decide)) }) := by
  refine Det.bind (Det.bind (tld (pk_kc c R _)) (Det.bind (tld (pk_qc c R _)) (Det.bind (tld (pk_ksr c R _)) (Det.ret _)))) ?_
  refine Det.bind (tld (pk_u c R _)) ?_
  exact Det.bind (tst (pk_u c R _) (pk_u c R { S with u := VecWindow.put S.u ![r, 0] S256x256.size (shapeCast S256x256 (uG S h kv r hh hkv hr diag) (by decide)) })) (Det.ret _)

/-- The first pass of head `hf` over its block `b`. -/
theorem t_step (X : Vec F S4096x256 .f32) (hf : Fin 32) (b : Fin (jj.val + 1)) {h kv r : ℕ} {hh : h < 32} {hkv : kv < 8} {hr : r + 256 ≤ 4096} {diag : Bool}
    (e1 : h = hf.val) (e2 : kv = hf.val / 4) (e3 : r = 256 * b.val) (e4 : diag = decide (b.val = jj.val)) :
    T (Own c R { S with u := uPuts S jj hf X b.val }) (first R h kv r hh hkv hr diag (mxAt S jj hf b.val)) (mxAt S jj hf (b.val + 1))
      (Own c R { S with u := uPuts S jj hf X (b.val + 1) }) := by
  have e : ∀ Y, uG { S with u := Y } h kv r hh hkv hr diag = uBlk S jj hf b := fun Y => uG_eq _ jj hf b e1 e2 e3 e4
  refine Det.cast t_first rfl ?_ ?_
  · rw [e, show mxAt S jj hf (b.val + 1) = _ from iter_succ _ _ b]
    rfl
  · rw [e, show uPuts S jj hf X (b.val + 1) = _ from puts_succ _ _ _ _ b]
    subst e3
    rfl

/-- The second pass over a block, and the next head's first. -/
theorem t_block {kv nh nkv r : ℕ} {hkv : kv < 8} {hnh : nh < 32} {hnkv : nkv < 8} {hr : r + 256 ≤ 4096} {diag : Bool}
    {m2 : FVec F S1x256 .f32} {cv : Vec F S1x256 .f32} {a : Acc F} {mx : FVec F S8x256 .f32} {B : sProp 𝕄}
    (hf : T (Own c R S) (first R nh nkv r hnh hnkv hr diag a.mx) mx B) :
    T (Own c R S) (block R kv nh nkv r hkv hnh hnkv hr diag m2 cv a)
      ⟨lOf (pOf m2 cv (VecWindow.window S.u ![r, 0] S256x256.size (inb_u r hr))) a.l,
        accOf (VecWindow.window S.vt ![0, kv, 0, r] S1x1x128x256.size (inb_vt kv r hkv hr)) (pOf m2 cv (VecWindow.window S.u ![r, 0] S256x256.size (inb_u r hr))) a.o, mx⟩ B := by
  refine Det.bind (tld (pk_u c R _)) ?_
  refine Det.bind (tld (pk_vt c R _)) ?_
  exact Det.bind hf (Det.ret _)

/-- The maxima are kept. -/
theorem t_max (mx : FVec F S8x256 .f32) : T (Own c R S) (stMax R mx) PUnit.unit (Own c R { S with m := mOf mx }) := by
  refine Det.bind (tld (pk_m c R _)) (tst (pk_m c R _) ?_)
  rw [put_full _ inb_m]
  exact pk_m c R { S with m := mOf mx }

/-- The blocks before the diagonal, of the first head. -/
theorem t_early : T (Own c R { S with u := uPuts S jj 0 S.u 0 }) (early R jj (mxAt S jj 0 0)) (mxAt S jj 0 jj.val) (Own c R { S with u := uPuts S jj 0 S.u jj.val }) := by
  unfold early
  split
  · rename_i h
    rw [h]
    exact Det.ret _
  · split
    · rename_i h0 h
      refine Det.cast (t_step S.u 0 ⟨0, by omega⟩ rfl rfl rfl ?_) rfl ?_ ?_
      · simp; omega
      · exact congrArg (mxAt S jj 0) h.symm
      · exact congrArg (fun k => Own c R { S with u := uPuts S jj 0 S.u k }) h.symm
    · refine Det.cast (Det.loop (fun k => Own c R { S with u := uPuts S jj 0 S.u k }) (fun k => mxAt S jj 0 k) rfl fun k => ?_) rfl
        (congrArg (mxAt S jj 0) (blockLoop_trips jj)) (congrArg (fun k => Own c R { S with u := uPuts S jj 0 S.u k }) (blockLoop_trips jj))
      have hk : k.val < jj.val := lt_of_lt_of_eq k.isLt (blockLoop_trips jj)
      exact t_step S.u 0 ⟨k.val, by omega⟩ rfl rfl (ix_row jj k) (by simp; omega)

theorem nx_val {k : ℕ} (h : k < 32) : nx k = ⟨k, h⟩ := Fin.ext (by show min k 31 = k; omega)

theorem own_u0 (c : Dev nD) (R : Refs sig) (S : Mem F) (jj : Fin 16) (t : ℕ) : (Own c R (atHead jj S t) : sProp 𝕄)
    = Own c R { atHead jj S t with u := uPuts S jj (nx (t + 1)) (uAt S jj S.u t) 0 } := rfl

/-- One head. -/
theorem t_head (t : Fin headLoop.trips) :
    T (Own c R (atHead jj S t.val)) (head R jj (broadcast S8x256 (Scalar.ofBits .f32 0xFF800000#32)) t PUnit.unit) PUnit.unit (Own c R (atHead jj S (t.val + 1))) := by
  have ht := trip_lt t
  have hnx : (nx t.val).val = t.val := by rw [nx_val ht]
  have hb : ∀ b : Fin (jj.val + 1), ∀ {hkv : ix (kvBV (hBV t)) < 8} {hnh hnkv} {hr : 256 * b.val + 256 ≤ 4096} {diag : Bool}, diag = decide (b.val = jj.val) →
      T (Own c R { atHead jj S t.val with u := uPuts S jj (nx (t.val + 1)) (uAt S jj S.u t.val) b.val })
      (block R (ix (kvBV (hBV t))) (ix (nhBV t)) (ix (kvBV (nhBV t))) (256 * b.val) hkv hnh hnkv hr diag (m2Of (mAt S jj (nx t.val)) (cAt S (nx t.val))) (cAt S (nx t.val))
        ⟨lAt S jj (nx t.val) b.val, oAt S jj (nx t.val) b.val, mxAt S jj (nx (t.val + 1)) b.val⟩)
      ⟨lAt S jj (nx t.val) (b.val + 1), oAt S jj (nx t.val) (b.val + 1), mxAt S jj (nx (t.val + 1)) (b.val + 1)⟩
      (Own c R { atHead jj S t.val with u := uPuts S jj (nx (t.val + 1)) (uAt S jj S.u t.val) (b.val + 1) }) := by
    intro b hkv hnh hnkv hr diag hd
    refine Det.cast (t_block (t_step (S := atHead jj S t.val) (jj := jj) (uAt S jj S.u t.val) (nx (t.val + 1)) b (ix_nh t) (ix_nkv t) rfl hd)) rfl ?_ rfl
    have hu := window_uPuts_uAt S jj S.u (nx (t.val + 1)) t.val b
    rw [show lAt S jj (nx t.val) (b.val + 1) = _ from iter_succ _ _ b, show oAt S jj (nx t.val) (b.val + 1) = _ from iter_succ _ _ b]
    have hv : VecWindow.window S.vt ![0, ix (kvBV (hBV t)), 0, 256 * b.val] S1x1x128x256.size (inb_vt _ _ hkv hr)
        = VecWindow.window S.vt ![0, (nx t.val).val / 4, 0, 256 * b.val] S1x1x128x256.size (inb_vt _ _ (by omega) (by omega)) :=
      window_congr _ _ _ (by rw [ix_kv, hnx])
    congr 1
    · exact congrArg (fun u => lOf (pOf (m2Of (mAt S jj (nx t.val)) (cAt S (nx t.val))) (cAt S (nx t.val)) u) (lAt S jj (nx t.val) b.val)) hu
    · exact congrArg₂ (fun v u => accOf v (pOf (m2Of (mAt S jj (nx t.val)) (cAt S (nx t.val))) (cAt S (nx t.val)) u) (oAt S jj (nx t.val) b.val)) hv hu
  unfold head
  have hc : VecWindow.window S.c ![ix (hBV t), 0] S1x256.size (inb_c1 _ (lt_h t)) = cAt S (nx t.val) := window_congr _ _ _ (by rw [ix_h, hnx])
  refine Det.bind (tld (pk_c c R _)) ?_
  rw [show (atHead jj S t.val).c = S.c from rfl, hc]
  refine Det.bind (tld (pk_m c R _)) ?_
  rw [show VecWindow.window (atHead jj S t.val).m ![0, 0] S1x256.size inb_m1 = mAt S jj (nx t.val) from rfl]
  refine Det.bind (Det.cast (tseq (s := (⟨lAt S jj (nx t.val) 0, oAt S jj (nx t.val) 0, mxAt S jj (nx (t.val + 1)) 0⟩ : Acc F)) (fun k => Own c R { atHead jj S t.val with u := uPuts S jj (nx (t.val + 1)) (uAt S jj S.u t.val) k })
    (fun k => ⟨lAt S jj (nx t.val) k, oAt S jj (nx t.val) k, mxAt S jj (nx (t.val + 1)) k⟩) rfl fun k => hb ⟨k.val, by omega⟩ (by simp; omega)) (own_u0 c R S jj t.val) rfl rfl) ?_
  refine Det.bind (hb ⟨jj.val, by omega⟩ (by simp)) ?_
  refine Det.bind (a := PUnit.unit) (B := Own c R { atHead jj S (t.val + 1) with out := outPuts S jj S.out t.val })
    (t_max (S := { atHead jj S t.val with u := uPuts S jj (nx (t.val + 1)) (uAt S jj S.u t.val) (jj.val + 1) }) _) ?_
  refine Det.bind (tld (pk_vs c R _)) ?_
  refine Det.bind (tld (pk_out c R _)) ?_
  have hv : VecWindow.window S.vs ![0, ix (kvBV (hBV t)), 0] S1x1x128.size (inb_vs _ (lt_kv t))
      = VecWindow.window S.vs ![0, (nx t.val).val / 4, 0] S1x1x128.size (inb_vs _ (by omega)) := window_congr _ _ _ (by rw [ix_kv, hnx])
  have ho : outPuts S jj S.out (t.val + 1) = VecWindow.put (outPuts S jj S.out t.val) ![0, 0, ix (colBV t)] S1x256x128.size
      (outOf (lAt S jj (nx t.val) (jj.val + 1)) (oAt S jj (nx t.val) (jj.val + 1)) (VecWindow.window S.vs ![0, ix (kvBV (hBV t)), 0] S1x1x128.size (inb_vs _ (lt_kv t)))) := by
    rw [show outPuts S jj S.out (t.val + 1) = _ from puts_succ _ _ _ _ (⟨t.val, ht⟩ : Fin 32), ix_col, hv, show outAt S jj ⟨t.val, ht⟩ = outAt S jj (nx t.val) by rw [nx_val ht]]
    rfl
  have e : (Own c R (atHead jj S (t.val + 1)) : sProp 𝕄) = Own c R { atHead jj S (t.val + 1) with
      out := VecWindow.put (s := S1x256x4096) (outPuts S jj S.out t.val) ![0, 0, ix (colBV t)] S1x256x128.size (outOf (lAt S jj (nx t.val) (jj.val + 1)) (oAt S jj (nx t.val) (jj.val + 1)) (VecWindow.window S.vs ![0, ix (kvBV (hBV t)), 0] S1x1x128.size (inb_vs _ (lt_kv t)))) } := by
    rw [← ho]; rfl
  rw [e]
  exact tst (pk_out c R { atHead jj S (t.val + 1) with out := outPuts S jj S.out t.val }) (pk_out c R _)

/-- One tile. -/
theorem t_tile : T (Own c R S) (tile R jj) PUnit.unit (Own c R (atHead jj S 32)) := by
  refine Det.bind (t_early (S := S)) ?_
  refine Det.bind (t_step S.u 0 ⟨jj.val, by omega⟩ rfl rfl rfl (by simp)) ?_
  refine Det.bind (t_max _) ?_
  refine Det.cast (Det.loop (fun k => Own c R (atHead jj S k)) (fun _ => PUnit.unit) rfl fun k => t_head k) rfl rfl
    (congrArg (fun k => Own c R (atHead jj S k)) headLoop_trips)

/-- The body. -/
theorem t_body : T (Own c R S) (bodyAt R K jj) PUnit.unit (Own c R (afterBody K jj S)) := by
  refine Det.bind (a := PUnit.unit) (B := Own c R (afterKsr jj S)) ?_ (Det.bind t_prep t_tile)
  unfold afterKsr
  split
  · exact t_ksr
  · exact Det.ret _

end Attn

end
-- ==== Proof.Cover.lean ====
/-
  What the body leaves does not depend on what its scratch and result memrefs held before: its stores cover them. `canon` is
  the memory once the queries are quantised, `outV` the tile's output; both are functions of the six blocks alone.
-/
module

public import proofs.«01_k».proof.Proof.Exec

@[expose] public section

noncomputable section

namespace Attn

open Idealize.ShloMosaic

/-! ## Stores that cover -/

section
variable {α : Type} {s : Shape} {n : ℕ} (size : Fin s.rank → ℕ) (off : Fin n → Fin s.rank → ℕ) (w : Fin n → ((a : Fin s.rank) → Fin (size a)) → α)

/-- Where one of the first `k` pieces lies, what was there before is gone. -/
theorem puts_apply_congr (X X' : s.Idx → α) (k : ℕ) (hk : k ≤ n) (y : s.Idx)
    (h : ∃ j : Fin n, j.val < k ∧ ∀ a, off j a ≤ (y a).val ∧ (y a).val < off j a + size a) : puts size off w X k y = puts size off w X' k y := by
  induction k with
  | zero => obtain ⟨j, hj, _⟩ := h; omega
  | succ k ih =>
    rw [puts_succ size off w X ⟨k, hk⟩, puts_succ size off w X' ⟨k, hk⟩]
    unfold VecWindow.put
    by_cases hy : ∀ a, off ⟨k, hk⟩ a ≤ (y a).val ∧ (y a).val < off ⟨k, hk⟩ a + size a
    · rw [dif_pos hy, dif_pos hy]
    · rw [dif_neg hy, dif_neg hy]
      refine ih (by omega) ?_
      obtain ⟨j, hj, hjy⟩ := h
      refine ⟨j, ?_, hjy⟩
      rcases Nat.lt_succ_iff_lt_or_eq.mp hj with h' | h'
      · exact h'
      · exact absurd (show ∀ a, off ⟨k, hk⟩ a ≤ (y a).val ∧ (y a).val < off ⟨k, hk⟩ a + size a from by
          have : j = ⟨k, hk⟩ := Fin.ext h'
          rw [← this]; exact hjy) hy

/-- Pieces that cover leave nothing of what was there before. -/
theorem puts_congr (X X' : s.Idx → α) (h : ∀ y : s.Idx, ∃ j : Fin n, ∀ a, off j a ≤ (y a).val ∧ (y a).val < off j a + size a) :
    puts size off w X n = puts size off w X' n :=
  funext fun y => puts_apply_congr size off w X X' n le_rfl y (by obtain ⟨j, hj⟩ := h y; exact ⟨j, j.isLt, hj⟩)

/-- Pieces apart from one another: an index in piece `j` reads that piece. -/
theorem puts_apply (X : s.Idx → α) (hd : ∀ i j : Fin n, i ≠ j → ∃ a, off i a + size a ≤ off j a ∨ off j a + size a ≤ off i a)
    (j : Fin n) (inb : ∀ a, off j a + size a ≤ s.size a) (z : (a : Fin s.rank) → Fin (size a)) (y : s.Idx) (hy : ∀ a, (y a).val = off j a + (z a).val) :
    puts size off w X n y = w j z := by
  have h := congrFun (window_puts size off w X hd j inb n le_rfl j.isLt) z
  rw [← h]
  exact congrArg _ (funext fun a => Fin.ext (by
    show (y a).val = off j a + 1 * (z a).val
    rw [hy, one_mul]))

end

variable {F : FTy → Type} [FloatOps F]

/-- Zeros. -/
def zf (s : Shape) : Vec F s .f32 := broadcast s (Scalar.ofBits .f32 0x00000000#32)
/-- Zeros, as codes. -/
def zc (s : Shape) : Vec F s .fp8e4m3 := broadcast s (Scalar.ofBits .fp8e4m3 0x00#8)
/-- Zeros, as results. -/
def zb (s : Shape) : Vec F s .bf16 := broadcast s (Scalar.ofBits .bf16 0x0000#16)

theorem ksr_congr (ks : Vec F S1x4096x8 .f32) (X X' : Vec F S8x4096x128 .f32) : ksrPuts ks X 8 = ksrPuts ks X' 8 :=
  puts_congr (s := S8x4096x128) (n := 8) _ _ _ X X' fun y => ⟨⟨(y 0).val, (y 0).isLt⟩, fun a => by
    have h0 := (y 0).isLt
    have h1 := (y 1).isLt
    have h2 := (y 2).isLt
    match a with
    | ⟨0, _⟩ => exact ⟨le_rfl, Nat.lt_succ_self _⟩
    | ⟨1, _⟩ => exact ⟨Nat.zero_le _, lt_of_lt_of_eq h1 (Nat.zero_add _).symm⟩
    | ⟨2, _⟩ => exact ⟨Nat.zero_le _, lt_of_lt_of_eq h2 (Nat.zero_add _).symm⟩⟩

theorem xs_congr (x : Vec F S1x256x4096 .bf16) (bd : Vec F S256x256 .bf16) (X X' : Vec F S256x4096 .f32) : xsPuts x bd X 16 = xsPuts x bd X' 16 :=
  puts_congr (s := S256x4096) (n := 16) _ _ _ X X' fun y => by
    have h0 : (y 0).val < 256 := (y 0).isLt
    have h1 : (y 1).val < 4096 := (y 1).isLt
    refine ⟨⟨(y 1).val / 256, by omega⟩, fun a => ?_⟩
    match a with
    | ⟨0, _⟩ => exact ⟨Nat.zero_le _, lt_of_lt_of_eq h0 (Nat.zero_add _).symm⟩
    | ⟨1, _⟩ =>
      show 256 * ((y 1).val / 256) ≤ (y 1).val ∧ (y 1).val < 256 * ((y 1).val / 256) + 256
      omega

theorem qout_congr (w : Fin 32 → FVec F S256x128 .fp8e4m3) (X X' : Vec F S1x256x32x128 .fp8e4m3) : qoutPuts w X 8 = qoutPuts w X' 8 :=
  puts_congr (s := S1x256x32x128) (n := 8) _ _ _ X X' fun y => by
    have h0 : (y 0).val < 1 := (y 0).isLt
    have h1 : (y 1).val < 256 := (y 1).isLt
    have h2 : (y 2).val < 32 := (y 2).isLt
    have h3 : (y 3).val < 128 := (y 3).isLt
    refine ⟨⟨(y 2).val / 4, by omega⟩, fun a => ?_⟩
    match a with
    | ⟨0, _⟩ => exact ⟨Nat.zero_le _, lt_of_lt_of_eq h0 (Nat.zero_add _).symm⟩
    | ⟨1, _⟩ => exact ⟨Nat.zero_le _, lt_of_lt_of_eq h1 (Nat.zero_add _).symm⟩
    | ⟨2, _⟩ =>
      show 4 * ((y 2).val / 4) ≤ (y 2).val ∧ (y 2).val < 4 * ((y 2).val / 4) + 4
      omega
    | ⟨3, _⟩ => exact ⟨Nat.zero_le _, lt_of_lt_of_eq h3 (Nat.zero_add _).symm⟩

theorem out_congr (S : Mem F) (jj : Fin 16) (X X' : Vec F S1x256x4096 .bf16) : outPuts S jj X 32 = outPuts S jj X' 32 :=
  puts_congr (s := S1x256x4096) (n := 32) _ _ _ X X' fun y => by
    have h0 : (y 0).val < 1 := (y 0).isLt
    have h1 : (y 1).val < 256 := (y 1).isLt
    have h2 : (y 2).val < 4096 := (y 2).isLt
    refine ⟨⟨(y 2).val / 128, by omega⟩, fun a => ?_⟩
    match a with
    | ⟨0, _⟩ => exact ⟨Nat.zero_le _, lt_of_lt_of_eq h0 (Nat.zero_add _).symm⟩
    | ⟨1, _⟩ => exact ⟨Nat.zero_le _, lt_of_lt_of_eq h1 (Nat.zero_add _).symm⟩
    | ⟨2, _⟩ =>
      show 128 * ((y 2).val / 128) ≤ (y 2).val ∧ (y 2).val < 128 * ((y 2).val / 128) + 128
      omega

/-- One head's codes stored. -/
def one (w : Fin 32 → FVec F S256x128 .fp8e4m3) (h : Fin 32) (X : Vec F S32x256x128 .fp8e4m3) : Vec F S32x256x128 .fp8e4m3 :=
  VecWindow.put (s := S32x256x128) X ![h.val, 0, 0] S1x256x128.size (shapeCast S1x256x128 (w h) (by decide))

/-- The codes after `k` heads, one head after another. -/
def heads (w : Fin 32 → FVec F S256x128 .fp8e4m3) (X : Vec F S32x256x128 .fp8e4m3) : ℕ → Vec F S32x256x128 .fp8e4m3 :=
  puts (s := S32x256x128) (n := 32) S1x256x128.size (fun h => ![h.val, 0, 0]) (fun h => shapeCast S1x256x128 (w h) (by decide)) X

/-- Four heads at a time are the heads one at a time. -/
theorem qcPuts_eq (w : Fin 32 → FVec F S256x128 .fp8e4m3) (X : Vec F S32x256x128 .fp8e4m3) (k : ℕ) (hk : k ≤ 8) : qcPuts w X k = heads w X (4 * k) := by
  induction k with
  | zero => rfl
  | succ k ih =>
    have e : qcPuts w X (k + 1) = qcStep w ⟨k, hk⟩ (qcPuts w X k) := iter_succ _ _ ⟨k, hk⟩
    have s : ∀ h : Fin 32, heads w X (h.val + 1) = one w h (heads w X h.val) := fun h => puts_succ (s := S32x256x128) _ _ _ _ h
    rw [e, ih (by omega)]
    have e3 := s ⟨4 * k + 3, by omega⟩
    have e2 := s ⟨4 * k + 2, by omega⟩
    have e1 := s ⟨4 * k + 1, by omega⟩
    have e0 := s ⟨4 * k, by omega⟩
    show _ = heads w X (4 * k + 3 + 1)
    rw [e3]
    show _ = one w _ (heads w X (4 * k + 2 + 1))
    rw [e2]
    show _ = one w _ (one w _ (heads w X (4 * k + 1 + 1)))
    rw [e1]
    show _ = one w _ (one w _ (one w _ (heads w X (4 * k + 1))))
    rw [e0]
    rfl

theorem qc_congr (w : Fin 32 → FVec F S256x128 .fp8e4m3) (X X' : Vec F S32x256x128 .fp8e4m3) : qcPuts w X 8 = qcPuts w X' 8 := by
  rw [qcPuts_eq w X 8 le_rfl, qcPuts_eq w X' 8 le_rfl]
  exact puts_congr (s := S32x256x128) (n := 32) _ _ _ X X' fun y => ⟨⟨(y 0).val, (y 0).isLt⟩, fun a => by
    have h0 := (y 0).isLt
    have h1 := (y 1).isLt
    have h2 := (y 2).isLt
    match a with
    | ⟨0, _⟩ => exact ⟨le_rfl, Nat.lt_succ_self _⟩
    | ⟨1, _⟩ => exact ⟨Nat.zero_le _, lt_of_lt_of_eq h1 (Nat.zero_add _).symm⟩
    | ⟨2, _⟩ => exact ⟨Nat.zero_le _, lt_of_lt_of_eq h2 (Nat.zero_add _).symm⟩⟩

/-! ## The memory once the queries are quantised -/

/-- The scales of the keys, spread. -/
def ksrV (ks : Vec F S1x4096x8 .f32) : Vec F S8x4096x128 .f32 := ksrPuts ks (zf _) 8

/-- The rotated tile. -/
def xsV (x : Vec F S1x256x4096 .bf16) (bd : Vec F S256x256 .bf16) : Vec F S256x4096 .f32 := xsPuts x bd (zf _) 16

/-- The tile's codes, head by head. -/
def codesV (K : Consts F) (x : Vec F S1x256x4096 .bf16) (bd : Vec F S256x256 .bf16) : Fin 32 → FVec F S256x128 .fp8e4m3 := codeAt K x bd (xsV x bd)

/-- The tile's codes as a result. -/
def qoutV (K : Consts F) (x : Vec F S1x256x4096 .bf16) (bd : Vec F S256x256 .bf16) : Vec F S1x256x32x128 .fp8e4m3 := qoutPuts (codesV K x bd) (zc _) 8

/-- The tile's scales as a result. -/
def qsV (K : Consts F) (x : Vec F S1x256x4096 .bf16) (bd : Vec F S256x256 .bf16) : Vec F S1x256x32 .f32 := qsOf (scaleAt K x bd)

/-- The memory once the queries are quantised. -/
def canon (K : Consts F) (x : Vec F S1x256x4096 .bf16) (kc : Vec F S1x8x4096x128 .fp8e4m3) (ks : Vec F S1x4096x8 .f32)
    (vt : Vec F S1x8x128x4096 .fp8e4m3) (vs : Vec F S1x8x128 .f32) (bd : Vec F S256x256 .bf16) : Mem F where
  x := x
  kc := kc
  ks := ks
  vt := vt
  vs := vs
  bd := bd
  out := zb _
  qout := qoutV K x bd
  qs := qsV K x bd
  xs := xsV x bd
  qc := qcPuts (codesV K x bd) (zc _) 8
  ksr := ksrV ks
  c := cOf K (scaleAt K x bd)
  u := zf _
  m := zf _

/-- The tile's output. -/
def outV (K : Consts F) (jj : Fin 16) (x : Vec F S1x256x4096 .bf16) (kc : Vec F S1x8x4096x128 .fp8e4m3) (ks : Vec F S1x4096x8 .f32)
    (vt : Vec F S1x8x128x4096 .fp8e4m3) (vs : Vec F S1x8x128 .f32) (bd : Vec F S256x256 .bf16) : Vec F S1x256x4096 .bf16 :=
  outPuts (canon K x kc ks vt vs bd) jj (zb _) 32

/-- Once the queries are quantised the memory is `canon`, but for the scores, their maxima and the output. -/
theorem afterPrep_eq (K : Consts F) (jj : Fin 16) (S : Mem F) (h : jj.val ≠ 0 → S.ksr = ksrV S.ks) :
    afterPrep K (afterKsr jj S) = { canon K S.x S.kc S.ks S.vt S.vs S.bd with out := S.out, u := S.u, m := S.m } := by
  have e1 := ksr_congr S.ks S.ksr (zf _)
  have e2 := xs_congr S.x S.bd S.xs (zf _)
  by_cases hj : jj.val = 0
  · unfold afterKsr
    rw [if_pos hj]
    unfold afterPrep canon qoutV codesV xsV ksrV qsV
    dsimp only
    rw [e2, e1, qc_congr _ S.qc (zc _), qout_congr _ S.qout (zc _)]
  · unfold afterKsr
    rw [if_neg hj]
    unfold afterPrep canon qoutV codesV xsV qsV
    dsimp only
    rw [e2, h hj, qc_congr _ S.qc (zc _), qout_congr _ S.qout (zc _)]

/-- What the body leaves. -/
theorem afterBody_eq (K : Consts F) (jj : Fin 16) (S : Mem F) (h : jj.val ≠ 0 → S.ksr = ksrV S.ks) :
    ∃ u m, afterBody K jj S = { canon K S.x S.kc S.ks S.vt S.vs S.bd with out := outV K jj S.x S.kc S.ks S.vt S.vs S.bd, u := u, m := m } := by
  refine ⟨(afterBody K jj S).u, (afterBody K jj S).m, ?_⟩
  unfold afterBody
  rw [afterPrep_eq K jj S h]
  unfold atHead outV
  dsimp only
  rw [out_congr (canon K S.x S.kc S.ks S.vt S.vs S.bd) jj (zb _) S.out]
  rfl

end Attn

end
-- ==== Proof.Point.lean ====
/-
  The body at a point of a grid: from six blocks and anything in the other memrefs to the results, which are functions of
  the blocks, and the spread scales for the next point.
-/
module

public import proofs.«01_k».proof.Proof.Body
public import proofs.«01_k».proof.Proof.Cover

@[expose] public section

noncomputable section

namespace Attn

open Idealize.ShloMosaic Idealize.ShloMosaic.TcCoe
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U]
variable {Lvl : Type} {Λ : Labels}
variable [Preorder Lvl] {defs : Defs nD τ sig (Elt F) Λ} {𝒱 : Variants} {c : Dev nD} {bd : Option 𝒱.V} {E : Set Name}

local notation "𝕄" => MT nD τ sig Ix (Elt F) Name U Lvl

/-- The scratch owned, the spread scales as `φ` says. -/
def Scr (c : Dev nD) (R : Refs sig) (φ : Vec F S8x4096x128 .f32 → Prop) : sProp 𝕄 :=
  iprop(∃ xs qc ksr cc u mm, ⌜φ ksr⌝
    ∗ owns (c : Thread nD τ) R.xs fullShare xs
    ∗ owns (c : Thread nD τ) R.qc fullShare qc
    ∗ owns (c : Thread nD τ) R.ksr fullShare ksr
    ∗ owns (c : Thread nD τ) R.c fullShare cc
    ∗ owns (c : Thread nD τ) R.u fullShare u
    ∗ owns (c : Thread nD τ) R.m fullShare mm)

theorem t_point {R : Refs sig} {K : Consts F} {jj : Fin 16} {x : Vec F S1x256x4096 .bf16} {kc : Vec F S1x8x4096x128 .fp8e4m3} {ks : Vec F S1x4096x8 .f32}
    {vt : Vec F S1x8x128x4096 .fp8e4m3} {vs : Vec F S1x8x128 .f32} {b : Vec F S256x256 .bf16} {I0 I1 I2 I3 I4 I5 I6 I7 I8 : Type} {f6 : I6 → Vec F S1x256x4096 .bf16}
    {f7 : I7 → Vec F S1x256x32x128 .fp8e4m3} {f8 : I8 → Vec F S1x256x32 .f32} {φ φ' : Vec F S8x4096x128 .f32 → Prop}
    (h : ∀ ksr, φ ksr → jj.val ≠ 0 → ksr = ksrV ks) (h' : φ' (ksrV ks)) {P Q : sProp 𝕄} :
    iprop((Scr c R φ ∗ P) ∗ Q ∗ (∃ d : I0, owns (c : Thread nD τ) R.x fullShare x) ∗ (∃ d : I1, owns (c : Thread nD τ) R.kc fullShare kc) ∗ (∃ d : I2, owns (c : Thread nD τ) R.ks fullShare ks)
      ∗ (∃ d : I3, owns (c : Thread nD τ) R.vt fullShare vt) ∗ (∃ d : I4, owns (c : Thread nD τ) R.vs fullShare vs) ∗ (∃ d : I5, owns (c : Thread nD τ) R.bd fullShare b)
      ∗ (∃ d, owns (c : Thread nD τ) R.out fullShare (f6 d)) ∗ (∃ d, owns (c : Thread nD τ) R.qout fullShare (f7 d)) ∗ (∃ d, owns (c : Thread nD τ) R.qs fullShare (f8 d)))
    ⊢ wp frame (wpE defs 𝒱 (c : Thread nD τ) bd) E (bodyAt R K jj) (fun _ =>
      iprop((Scr c R φ' ∗ P) ∗ Q ∗ owns (c : Thread nD τ) R.x fullShare x ∗ owns (c : Thread nD τ) R.kc fullShare kc ∗ owns (c : Thread nD τ) R.ks fullShare ks
      ∗ owns (c : Thread nD τ) R.vt fullShare vt ∗ owns (c : Thread nD τ) R.vs fullShare vs ∗ owns (c : Thread nD τ) R.bd fullShare b
      ∗ owns (c : Thread nD τ) R.out fullShare (outV K jj x kc ks vt vs b) ∗ owns (c : Thread nD τ) R.qout fullShare (qoutV K x b)
      ∗ owns (c : Thread nD τ) R.qs fullShare (qsV K x b))) := by
  unfold Scr
  iintro ⟨⟨⟨%xs, %qc, %ksr, %cc, %u, %mm, %hk, Hxs, Hqc, Hksr, Hcc, Hu, Hmm⟩, HP⟩, HQ, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨u', m', hS⟩ := afterBody_eq K jj ⟨x, kc, ks, vt, vs, b, f6 d6, f7 d7, f8 d8, xs, qc, ksr, cc, u, mm⟩ (h ksr hk)
  have hb := t_body (Ix := Ix) (Name := Name) (U := U) (Lvl := Lvl) (defs := defs) (𝒱 := 𝒱) (c := c) (bd := bd) (E := E) (R := R) (K := K) (jj := jj) (S := ⟨x, kc, ks, vt, vs, b, f6 d6, f7 d7, f8 d8, xs, qc, ksr, cc, u, mm⟩)
  rw [hS] at hb
  unfold Tri Det.Det at hb
  iapply (wp_wand_r Idealize.ShloMosaic.frame (wpE defs 𝒱 (c : Thread nD τ) bd) E)
  isplitl [H0 H1 H2 H3 H4 H5 H6 H7 H8 Hxs Hqc Hksr Hcc Hu Hmm]
  · iapply hb
    unfold Own cells
    dsimp only [stars]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hxs]; · iexact Hxs
    isplitl [Hqc]; · iexact Hqc
    isplitl [Hksr]; · iexact Hksr
    isplitl [Hcc]; · iexact Hcc
    isplitl [Hu]; · iexact Hu
    isplitl [Hmm]; · iexact Hmm
    iempintro
  · unfold Own cells
    dsimp only [stars, canon]
    iintro %r ⟨-, H0, H1, H2, H3, H4, H5, H6, H7, H8, Hxs, Hqc, Hksr, Hcc, Hu, Hmm, -⟩
    isplitl [Hxs Hqc Hksr Hcc Hu Hmm HP]
    · isplitr [HP]
      · iexists _, _, _, _, _, _
        isplitr [Hxs Hqc Hksr Hcc Hu Hmm]
        · ipureintro; exact h'
        isplitl [Hxs]; · iexact Hxs
        isplitl [Hqc]; · iexact Hqc
        isplitl [Hksr]; · iexact Hksr
        isplitl [Hcc]; · iexact Hcc
        isplitl [Hu]; · iexact Hu
        iexact Hmm
      iexact HP
    isplitl [HQ]; · iexact HQ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Attn

end
-- ==== Proof.Kernel.Frame.lean ====
/-
  The launch of `Kernel`: what each point of the grid leaves, the body's obligation there, and the frame.
-/
module

public import proofs.«01_k».proof.Proof.Gen.Kernel.Frame
public import proofs.«01_k».proof.Proof.Kernel.Printed
public import proofs.«01_k».proof.Proof.Point
public import Idealize.ShloMosaic.Lib.Claim

@[expose] public section

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scalar constants of this program. -/
def K : Attn.Consts F := ⟨Scalar.ofBits .f32 0x3DB504F3#32, Scalar.ofBits .f32 0x3E0293EE#32⟩

/-- The tile of a point. -/
def tileOf (t : Fin cfg0.N) : Fin 16 := ⟨t.val % 16, Nat.mod_lt _ (by decide)⟩

theorem tile_coords (t : Fin cfg0.N) : (grid0.coords t 1).val = (tileOf t).val := by
  have h := Pipeline.Grid.coords_val (G := grid0) t 1 (S := 1) (B := 16) (by decide) rfl
  rw [h, Nat.div_one]
  rfl

/-- The body's memrefs at a point. -/
def refs (t : Fin cfg0.N) : Attn.Refs sig :=
  ⟨st0_0 t, st0_1 t, st0_2 t, st0_3 t, st0_4 t, st0_5 t, st0_6 t, st0_7 t, st0_8 t, Memref.whole cc0_scratch0, Memref.whole cc0_scratch1, Memref.whole cc0_scratch2,
    Memref.whole cc0_scratch3, Memref.whole cc0_scratch4, Memref.whole cc0_scratch5, hstage0_6 ((cfg0.slots t 6).cast nbuf0_6), hstage0_7 ((cfg0.slots t 7).cast nbuf0_7),
    Memref.isWhole_whole _⟩

/-- The scratch memrefs, and the staging memrefs of point `0` beside them. -/
def scratch : Attn.Refs sig := refs ⟨0, by decide⟩

/-- What the body may count on before point `n`: the scratch, the scales spread unless a batch begins. -/
def Inv (c : Dev nD) (n : ℕ) (hn : n ≤ cfg0.N) : sProp 𝕄 :=
  iprop(Attn.Scr c scratch (fun ksr => ∀ h : n % 16 ≠ 0, ksr = Attn.ksrV (iblk m c 2 ⟨n - 1, by omega⟩)) ∗ ∃ r, prngReg c r)

/-- The tile's output at point `t`. -/
def out6 (c : Dev nD) (t : Fin cfg0.N) : Vec F S1x256x4096 .bf16 :=
  Attn.outV K (tileOf t) (iblk m c 0 t) (iblk m c 1 t) (iblk m c 2 t) (iblk m c 3 t) (iblk m c 4 t) (iblk m c 5 t)

/-- The tile's codes at point `t`. -/
def out7 (c : Dev nD) (t : Fin cfg0.N) : Vec F S1x256x32x128 .fp8e4m3 := Attn.qoutV K (iblk m c 0 t) (iblk m c 5 t)

/-- The tile's scales at point `t`. -/
def out8 (c : Dev nD) (t : Fin cfg0.N) : Vec F S1x256x32 .f32 := Attn.qsV K (iblk m c 0 t) (iblk m c 5 t)

/-- What each point finds and leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c t
    | ⟨8, _⟩ => out8 m c t
  Φ t := Inv m c t.val (Nat.le_of_lt_succ t.isLt)
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = out6 m c t := by dsimp only [dats]
theorem after_7 (c : Dev nD) (t : Fin cfg0.N) : (dats m 0 c).after 7 t = out7 m c t := by dsimp only [dats]
theorem after_8 (c : Dev nD) (t : Fin cfg0.N) : (dats m 0 c).after 8 t = out8 m c t := by dsimp only [dats]

theorem before_0 (c : Dev nD) (t : Fin cfg0.N) (d) : (dats m 0 c).before 0 t d = iblk m c 0 t := before0_0_of m _ (A_eq m c 0) (after_0 m c) t d
theorem before_1 (c : Dev nD) (t : Fin cfg0.N) (d) : (dats m 0 c).before 1 t d = iblk m c 1 t := before0_1_of m _ (A_eq m c 1) (after_1 m c) t d
theorem before_2 (c : Dev nD) (t : Fin cfg0.N) (d) : (dats m 0 c).before 2 t d = iblk m c 2 t := before0_2_of m _ (A_eq m c 2) (after_2 m c) t d
theorem before_3 (c : Dev nD) (t : Fin cfg0.N) (d) : (dats m 0 c).before 3 t d = iblk m c 3 t := before0_3_of m _ (A_eq m c 3) (after_3 m c) t d
theorem before_4 (c : Dev nD) (t : Fin cfg0.N) (d) : (dats m 0 c).before 4 t d = iblk m c 4 t := before0_4_of m _ (A_eq m c 4) (after_4 m c) t d
theorem before_5 (c : Dev nD) (t : Fin cfg0.N) (d) : (dats m 0 c).before 5 t d = iblk m c 5 t := before0_5_of m _ (A_eq m c 5) (after_5 m c) t d

/-- Within a batch the scales of the keys do not move. -/
theorem iblk2_pred (c : Dev nD) (t : Fin cfg0.N) (h : t.val % 16 ≠ 0) : iblk m c 2 ⟨t.val - 1, by omega⟩ = iblk m c 2 t := by
  have hf : (cfg0.win 2).fetch t = false := by
    rw [← Bool.not_eq_true]
    exact fun e => h ((fetch0_2 t).mp e)
  obtain ⟨ht, hix⟩ := (cfg0.win 2).index_eq_of_fetch rfl t hf
  have e := fun t' d => show (dats m 0 c).fetched 2 t' d = iblk m c 2 t' from by unfold Dat.fetched Dat.blockOf iblk; rw [A_eq]; try rfl
  have hc := (dats m 0 c).fetched_congr 2 hix.symm rfl (iblk m c 2 t)
  rw [e, e] at hc
  exact hc

theorem body_eq (t : Fin cfg0.N) : (bodyAt0 t : Prog (TpuEff nD τ sig (Elt F) Λ₀ .tc) PUnit) = Attn.bodyAt (refs t) K (tileOf t) :=
  cc0_eq (tileOf t) (grid0.coords t) (tile_coords t) _ _ _ _ _ _ _ _ _ _ _ _ _ _ _ _ _ _ _ _ _ _ _ _ _ _ _ _ _ _

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem inv_castSucc (c : Dev nD) (t : Fin cfg0.N) : (dats m 0 c).Φ t.castSucc = Inv m c t.val (Nat.le_of_lt t.isLt) := by
  dsimp only [dats]; exact Pipeline.Dat.Φ_castSucc (Inv m c) t

theorem inv_succ (c : Dev nD) (t : Fin cfg0.N) : (dats m 0 c).Φ t.succ = Inv m c (t.val + 1) t.isLt := by
  dsimp only [dats]; rfl

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5]
  rw [show (dats m 0 c).owesAt () t.succ = (dats m 0 c).owesAt () t.castSucc from rfl, inv_castSucc, inv_succ,
    after_0, after_1, after_2, after_3, after_4, after_5, after_6, after_7, after_8]
  rw [body_eq]
  exact Attn.t_point (Ix := Unit) (Name := ℕ) (U := UR sig nD τ) (Lvl := ℕ) (defs := defs₀ (F := F)) (𝒱 := Variants.none) (c := c) (bd := none) (E := Set.univ) (R := refs t) (K := K) (jj := tileOf t) (f6 := fun d => (dats m 0 c).before 6 t d) (f7 := fun d => (dats m 0 c).before 7 t d) (f8 := fun d => (dats m 0 c).before 8 t d)
    (φ := fun ksr => ∀ h : t.val % 16 ≠ 0, ksr = Attn.ksrV (iblk m c 2 ⟨t.val - 1, by omega⟩)) (φ' := fun ksr => ∀ h : (t.val + 1) % 16 ≠ 0, ksr = Attn.ksrV (iblk m c 2 t))
    (fun ksr hk h => (hk h).trans (congrArg Attn.ksrV (iblk2_pred m c t h))) (fun _ => rfl)

theorem defs₀_row (t : Fin cfg0.N) :
    defs₀ (F := F) .tc cfg0.body (cfg0.bodyArgs t (cfg0.slots t)) = bodyAt0 t := by
  unfold defs₀; rw [Defs.onTc_tc]

/-- Every tile writes its output. -/
theorem idle6 (i : grid0.Coords) : idle0 6 i = false := by
  have hi : (i 1).val < 16 := (i 1).isLt
  dsimp only [idle0]
  simp only [cond2_eq, cond3_eq, cond4_eq, cond5_eq, cond6_eq, cond7_eq, cond8_eq, cond9_eq, cond10_eq, cond11_eq, cond12_eq, cond13_eq, cond14_eq, cond15_eq, cond16_eq, cond17_eq]
  generalize (i 1).val = n at hi
  revert n
  decide

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  have e : cfg0.idle 6 (cfg0.grid.coords t) = false := idle6 _
  rw [e]
  exact .rfl

theorem inv_in (c : Dev nD) : Pipeline.ΦA spec0 c ⊢ (dats (F := F) m 0 c).Φ 0 := by
  show _ ⊢ Inv m c 0 (Nat.zero_le _)
  unfold Pipeline.ΦA Inv Attn.Scr scratch refs
  dsimp only
  rw [scopedRest0_eq]
  iintro ⟨⟨⟨%f0, H0⟩, ⟨%f1, H1⟩, ⟨%f2, H2⟩, ⟨%f3, H3⟩, ⟨%f4, H4⟩, ⟨%f5, H5⟩⟩, Hr⟩
  simp only [owns_whole]
  isplitr [Hr]
  rotate_left
  · iexact Hr
  iexists f0, f1, f2, f3, f4, f5
  isplitr [H0 H1 H2 H3 H4 H5]
  · ipureintro; exact fun h => absurd rfl h
  isplitl [H0]; · iexact H0
  isplitl [H1]; · iexact H1
  isplitl [H2]; · iexact H2
  isplitl [H3]; · iexact H3
  isplitl [H4]; · iexact H4
  iexact H5

theorem inv_out (c : Dev nD) : (dats (F := F) m 0 c).Φ (Fin.last cfg0.N) ⊢ Pipeline.ΦA spec0 c := by
  show Inv m c cfg0.N le_rfl ⊢ _
  unfold Pipeline.ΦA Inv Attn.Scr scratch refs
  dsimp only
  rw [scopedRest0_eq]
  simp only [owns_whole]
  iintro ⟨⟨%f0, %f1, %f2, %f3, %f4, %f5, -, H0, H1, H2, H3, H4, H5⟩, Hr⟩
  isplitl [H0 H1 H2 H3 H4 H5]
  · isplitl [H0]; · iexists f0; iexact H0
    isplitl [H1]; · iexists f1; iexact H1
    isplitl [H2]; · iexists f2; iexact H2
    isplitl [H3]; · iexists f3; iexact H3
    isplitl [H4]; · iexists f4; iexact H4
    iexists f5; iexact H5
  iexact Hr

set_option backward.isDefEq.respectTransparency.types false in
set_option maxHeartbeats 800000 in
/-- The launch: every weakly fair execution ends, each array as the points leave it, every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The frame: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.Kernel.Hand

end
-- ==== Proof.KernelIdeal.Printed.lean ====
/-
  The printed body of the attention kernel is the body written by its structure, at every tile.
-/
module

public import proofs.«01_k».proof.KernelIdeal
public import proofs.«01_k».proof.Proof.Attn
public import proofs.«01_k».proof.Proof.Steps

@[expose] public section

set_option maxRecDepth 100000

noncomputable section

namespace Cert.KernelIdeal

open Idealize.ShloMosaic Idealize.SL.Sem

variable {F : FTy → Type} [FloatOps F] [Named F] [Facts]

/-- Whether a tile number is `k`, as a bit. -/
theorem isTile_eq {n k : ℕ} (hn : n < 16) (hk : k < 16) :
    Scalar.cmpi .ne (Scalar.extui (Scalar.cmpi .eq (BitVec.ofNat 32 n) (BitVec.ofNat 32 k)) : BitVec 32) 0#32 = if n = k then 1#1 else 0#1 := by
  have h : ∀ a b : Fin 16, Scalar.cmpi .ne (Scalar.extui (Scalar.cmpi .eq (BitVec.ofNat 32 a.val) (BitVec.ofNat 32 b.val)) : BitVec 32) 0#32
      = if a.val = b.val then 1#1 else 0#1 := by decide
  exact h ⟨n, hn⟩ ⟨k, hk⟩

theorem cond2_eq (i : grid0.Coords) : k0_cond2 i = if (i 1).val = 0 then 1#1 else 0#1 := isTile_eq (i 1).isLt (by decide)
theorem cond3_eq (i : grid0.Coords) : k0_cond3 i = if (i 1).val = 1 then 1#1 else 0#1 := isTile_eq (i 1).isLt (by decide)
theorem cond4_eq (i : grid0.Coords) : k0_cond4 i = if (i 1).val = 2 then 1#1 else 0#1 := isTile_eq (i 1).isLt (by decide)
theorem cond5_eq (i : grid0.Coords) : k0_cond5 i = if (i 1).val = 3 then 1#1 else 0#1 := isTile_eq (i 1).isLt (by decide)
theorem cond6_eq (i : grid0.Coords) : k0_cond6 i = if (i 1).val = 4 then 1#1 else 0#1 := isTile_eq (i 1).isLt (by decide)
theorem cond7_eq (i : grid0.Coords) : k0_cond7 i = if (i 1).val = 5 then 1#1 else 0#1 := isTile_eq (i 1).isLt (by decide)
theorem cond8_eq (i : grid0.Coords) : k0_cond8 i = if (i 1).val = 6 then 1#1 else 0#1 := isTile_eq (i 1).isLt (by decide)
theorem cond9_eq (i : grid0.Coords) : k0_cond9 i = if (i 1).val = 7 then 1#1 else 0#1 := isTile_eq (i 1).isLt (by decide)
theorem cond10_eq (i : grid0.Coords) : k0_cond10 i = if (i 1).val = 8 then 1#1 else 0#1 := isTile_eq (i 1).isLt (by decide)
theorem cond11_eq (i : grid0.Coords) : k0_cond11 i = if (i 1).val = 9 then 1#1 else 0#1 := isTile_eq (i 1).isLt (by decide)
theorem cond12_eq (i : grid0.Coords) : k0_cond12 i = if (i 1).val = 10 then 1#1 else 0#1 := isTile_eq (i 1).isLt (by decide)
theorem cond13_eq (i : grid0.Coords) : k0_cond13 i = if (i 1).val = 11 then 1#1 else 0#1 := isTile_eq (i 1).isLt (by decide)
theorem cond14_eq (i : grid0.Coords) : k0_cond14 i = if (i 1).val = 12 then 1#1 else 0#1 := isTile_eq (i 1).isLt (by decide)
theorem cond15_eq (i : grid0.Coords) : k0_cond15 i = if (i 1).val = 13 then 1#1 else 0#1 := isTile_eq (i 1).isLt (by decide)
theorem cond16_eq (i : grid0.Coords) : k0_cond16 i = if (i 1).val = 14 then 1#1 else 0#1 := isTile_eq (i 1).isLt (by decide)
theorem cond17_eq (i : grid0.Coords) : k0_cond17 i = if (i 1).val = 15 then 1#1 else 0#1 := isTile_eq (i 1).isLt (by decide)

set_option maxHeartbeats 0 in
/-- The printed body at tile `jj` is `Attn.bodyAt`. -/
theorem cc0_eq (jj : Fin 16) (i : grid0.Coords) (hi : (i 1).val = jj.val) (arg2 : Memref sig .tc .vmem S1x256x4096 .bf16) (harg2 : arg2.IsWhole) (arg3 : Memref sig .tc .vmem S1x8x4096x128 .fp8e4m3) (harg3 : arg3.IsWhole) (arg4 : Memref sig .tc .vmem S1x4096x8 .f32) (harg4 : arg4.IsWhole) (arg5 : Memref sig .tc .vmem S1x8x128x4096 .fp8e4m3) (harg5 : arg5.IsWhole) (arg6 : Memref sig .tc .vmem S1x8x128 .f32) (harg6 : arg6.IsWhole) (arg7 : Memref sig .tc .vmem S256x256 .bf16) (harg7 : arg7.IsWhole) (arg8 : Memref sig .tc .vmem S1x256x4096 .bf16) (harg8 : arg8.IsWhole) (arg9 : Memref sig .tc .vmem S1x256x32x128 .fp8e4m3) (harg9 : arg9.IsWhole) (arg10 : Memref sig .tc .vmem S1x256x32 .f32) (harg10 : arg10.IsWhole) (arg11 : Memref sig .tc .vmem S256x4096 .f32) (harg11 : arg11.IsWhole) (arg12 : Memref sig .tc .vmem S32x256x128 .fp8e4m3) (harg12 : arg12.IsWhole) (arg13 : Memref sig .tc .vmem S8x4096x128 .f32) (harg13 : arg13.IsWhole) (arg14 : Memref sig .tc .vmem S128x256 .f32) (harg14 : arg14.IsWhole) (arg15 : Memref sig .tc .vmem S4096x256 .f32) (harg15 : arg15.IsWhole) (arg16 : Memref sig .tc .vmem S8x256 .f32) (harg16 : arg16.IsWhole) :
    (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 : Prog (TpuEff nD τ sig (Elt F) Λ₀ .tc) PUnit)
      = Attn.bodyAt ⟨arg2, arg3, arg4, arg5, arg6, arg7, arg8, arg9, arg10, arg11, arg12, arg13, arg14, arg15, arg16, harg8, harg9, harg12⟩ ⟨Named.named κ "inv_sqrt_d" 0x3DB504F3#32, Named.named κ "log2e_inv_sqrt_d" 0x3E0293EE#32⟩ jj := by
  fin_cases jj
  all_goals
    unfold cc0_attn k0_part208 k0_part233 k0_part234
    simp -zeta -zetaDelta only [↓reduceDIte, cond2_eq, cond3_eq, cond4_eq, cond5_eq, cond6_eq, cond7_eq, cond8_eq, cond9_eq, cond10_eq, cond11_eq, cond12_eq, cond13_eq, cond14_eq, cond15_eq, cond16_eq, cond17_eq, hi, Nat.reduceEqDiff, ↓reduceIte, zero_ne_one, one_ne_zero, BitVec.reduceEq, OfNat.ofNat_ne_zero, OfNat.zero_ne_ofNat, OfNat.ofNat_ne_one, OfNat.one_ne_ofNat]
    first
    | refine Attn.dnb (by decide) ?_
    | refine Attn.dpb (by decide) ?_
    repeat refine Attn.opc rfl fun x => ?_
    repeat refine Attn.asl ?_
    repeat refine Attn.asr ?_
    first
    | refine Attn.forl rfl (fun k s => ?_) (fun a => rfl)
      repeat refine Attn.opc rfl fun x => ?_
      exact rfl
    | refine Attn.forc rfl (fun k s => ?_) (fun a => ?_)
      · repeat refine Attn.opc rfl fun x => ?_
        exact rfl
      repeat refine Attn.opc rfl fun x => ?_
      repeat refine Attn.asl ?_
      refine Attn.forl rfl (fun k s => ?_) (fun a => rfl)
      repeat refine Attn.opc rfl fun x => ?_
      exact rfl

end Cert.KernelIdeal

end
-- ==== Proof.KernelIdeal.Frame.lean ====
/-
  The launch of `KernelIdeal`: what each point of the grid leaves, the body's obligation there, and the frame.
-/
module

public import proofs.«01_k».proof.Proof.Gen.KernelIdeal.Frame
public import proofs.«01_k».proof.Proof.KernelIdeal.Printed
public import proofs.«01_k».proof.Proof.Point
public import Idealize.ShloMosaic.Lib.Claim

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scalar constants of this program. -/
def K : Attn.Consts F := ⟨Named.named κ "inv_sqrt_d" 0x3DB504F3#32, Named.named κ "log2e_inv_sqrt_d" 0x3E0293EE#32⟩

/-- The tile of a point. -/
def tileOf (t : Fin cfg0.N) : Fin 16 := ⟨t.val % 16, Nat.mod_lt _ (by decide)⟩

theorem tile_coords (t : Fin cfg0.N) : (grid0.coords t 1).val = (tileOf t).val := by
  have h := Pipeline.Grid.coords_val (G := grid0) t 1 (S := 1) (B := 16) (by decide) rfl
  rw [h, Nat.div_one]
  rfl

/-- The body's memrefs at a point. -/
def refs (t : Fin cfg0.N) : Attn.Refs sig :=
  ⟨st0_0 t, st0_1 t, st0_2 t, st0_3 t, st0_4 t, st0_5 t, st0_6 t, st0_7 t, st0_8 t, Memref.whole cc0_scratch0, Memref.whole cc0_scratch1, Memref.whole cc0_scratch2,
    Memref.whole cc0_scratch3, Memref.whole cc0_scratch4, Memref.whole cc0_scratch5, hstage0_6 ((cfg0.slots t 6).cast nbuf0_6), hstage0_7 ((cfg0.slots t 7).cast nbuf0_7),
    Memref.isWhole_whole _⟩

/-- The scratch memrefs, and the staging memrefs of point `0` beside them. -/
def scratch : Attn.Refs sig := refs ⟨0, by decide⟩

/-- What the body may count on before point `n`: the scratch, the scales spread unless a batch begins. -/
def Inv (c : Dev nD) (n : ℕ) (hn : n ≤ cfg0.N) : sProp 𝕄 :=
  iprop(Attn.Scr c scratch (fun ksr => ∀ h : n % 16 ≠ 0, ksr = Attn.ksrV (iblk m c 2 ⟨n - 1, by omega⟩)) ∗ ∃ r, prngReg c r)

/-- The tile's output at point `t`. -/
def out6 (c : Dev nD) (t : Fin cfg0.N) : Vec F S1x256x4096 .bf16 :=
  Attn.outV K (tileOf t) (iblk m c 0 t) (iblk m c 1 t) (iblk m c 2 t) (iblk m c 3 t) (iblk m c 4 t) (iblk m c 5 t)

/-- The tile's codes at point `t`. -/
def out7 (c : Dev nD) (t : Fin cfg0.N) : Vec F S1x256x32x128 .fp8e4m3 := Attn.qoutV K (iblk m c 0 t) (iblk m c 5 t)

/-- The tile's scales at point `t`. -/
def out8 (c : Dev nD) (t : Fin cfg0.N) : Vec F S1x256x32 .f32 := Attn.qsV K (iblk m c 0 t) (iblk m c 5 t)

/-- What each point finds and leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c t
    | ⟨8, _⟩ => out8 m c t
  Φ t := Inv m c t.val (Nat.le_of_lt_succ t.isLt)
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = out6 m c t := by dsimp only [dats]
theorem after_7 (c : Dev nD) (t : Fin cfg0.N) : (dats m 0 c).after 7 t = out7 m c t := by dsimp only [dats]
theorem after_8 (c : Dev nD) (t : Fin cfg0.N) : (dats m 0 c).after 8 t = out8 m c t := by dsimp only [dats]

theorem before_0 (c : Dev nD) (t : Fin cfg0.N) (d) : (dats m 0 c).before 0 t d = iblk m c 0 t := before0_0_of m _ (A_eq m c 0) (after_0 m c) t d
theorem before_1 (c : Dev nD) (t : Fin cfg0.N) (d) : (dats m 0 c).before 1 t d = iblk m c 1 t := before0_1_of m _ (A_eq m c 1) (after_1 m c) t d
theorem before_2 (c : Dev nD) (t : Fin cfg0.N) (d) : (dats m 0 c).before 2 t d = iblk m c 2 t := before0_2_of m _ (A_eq m c 2) (after_2 m c) t d
theorem before_3 (c : Dev nD) (t : Fin cfg0.N) (d) : (dats m 0 c).before 3 t d = iblk m c 3 t := before0_3_of m _ (A_eq m c 3) (after_3 m c) t d
theorem before_4 (c : Dev nD) (t : Fin cfg0.N) (d) : (dats m 0 c).before 4 t d = iblk m c 4 t := before0_4_of m _ (A_eq m c 4) (after_4 m c) t d
theorem before_5 (c : Dev nD) (t : Fin cfg0.N) (d) : (dats m 0 c).before 5 t d = iblk m c 5 t := before0_5_of m _ (A_eq m c 5) (after_5 m c) t d

/-- Within a batch the scales of the keys do not move. -/
theorem iblk2_pred (c : Dev nD) (t : Fin cfg0.N) (h : t.val % 16 ≠ 0) : iblk m c 2 ⟨t.val - 1, by omega⟩ = iblk m c 2 t := by
  have hf : (cfg0.win 2).fetch t = false := by
    rw [← Bool.not_eq_true]
    exact fun e => h ((fetch0_2 t).mp e)
  obtain ⟨ht, hix⟩ := (cfg0.win 2).index_eq_of_fetch rfl t hf
  have e := fun t' d => show (dats m 0 c).fetched 2 t' d = iblk m c 2 t' from by unfold Dat.fetched Dat.blockOf iblk; rw [A_eq]; try rfl
  have hc := (dats m 0 c).fetched_congr 2 hix.symm rfl (iblk m c 2 t)
  rw [e, e] at hc
  exact hc

theorem body_eq (t : Fin cfg0.N) : (bodyAt0 t : Prog (TpuEff nD τ sig (Elt F) Λ₀ .tc) PUnit) = Attn.bodyAt (refs t) K (tileOf t) :=
  cc0_eq (tileOf t) (grid0.coords t) (tile_coords t) _ _ _ _ _ _ _ _ _ _ _ _ _ _ _ _ _ _ _ _ _ _ _ _ _ _ _ _ _ _

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem inv_castSucc (c : Dev nD) (t : Fin cfg0.N) : (dats m 0 c).Φ t.castSucc = Inv m c t.val (Nat.le_of_lt t.isLt) := by
  dsimp only [dats]; exact Pipeline.Dat.Φ_castSucc (Inv m c) t

theorem inv_succ (c : Dev nD) (t : Fin cfg0.N) : (dats m 0 c).Φ t.succ = Inv m c (t.val + 1) t.isLt := by
  dsimp only [dats]; rfl

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5]
  rw [show (dats m 0 c).owesAt () t.succ = (dats m 0 c).owesAt () t.castSucc from rfl, inv_castSucc, inv_succ,
    after_0, after_1, after_2, after_3, after_4, after_5, after_6, after_7, after_8]
  rw [body_eq]
  exact Attn.t_point (Ix := Unit) (Name := ℕ) (U := UR sig nD τ) (Lvl := ℕ) (defs := defs₀ (F := F)) (𝒱 := Variants.none) (c := c) (bd := none) (E := Set.univ) (R := refs t) (K := K) (jj := tileOf t) (f6 := fun d => (dats m 0 c).before 6 t d) (f7 := fun d => (dats m 0 c).before 7 t d) (f8 := fun d => (dats m 0 c).before 8 t d)
    (φ := fun ksr => ∀ h : t.val % 16 ≠ 0, ksr = Attn.ksrV (iblk m c 2 ⟨t.val - 1, by omega⟩)) (φ' := fun ksr => ∀ h : (t.val + 1) % 16 ≠ 0, ksr = Attn.ksrV (iblk m c 2 t))
    (fun ksr hk h => (hk h).trans (congrArg Attn.ksrV (iblk2_pred m c t h))) (fun _ => rfl)

theorem defs₀_row (t : Fin cfg0.N) :
    defs₀ (F := F) .tc cfg0.body (cfg0.bodyArgs t (cfg0.slots t)) = bodyAt0 t := by
  unfold defs₀; rw [Defs.onTc_tc]

/-- Every tile writes its output. -/
theorem idle6 (i : grid0.Coords) : idle0 6 i = false := by
  have hi : (i 1).val < 16 := (i 1).isLt
  dsimp only [idle0]
  simp only [cond2_eq, cond3_eq, cond4_eq, cond5_eq, cond6_eq, cond7_eq, cond8_eq, cond9_eq, cond10_eq, cond11_eq, cond12_eq, cond13_eq, cond14_eq, cond15_eq, cond16_eq, cond17_eq]
  generalize (i 1).val = n at hi
  revert n
  decide

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  have e : cfg0.idle 6 (cfg0.grid.coords t) = false := idle6 _
  rw [e]
  exact .rfl

theorem inv_in (c : Dev nD) : Pipeline.ΦA spec0 c ⊢ (dats (F := F) m 0 c).Φ 0 := by
  show _ ⊢ Inv m c 0 (Nat.zero_le _)
  unfold Pipeline.ΦA Inv Attn.Scr scratch refs
  dsimp only
  rw [scopedRest0_eq]
  iintro ⟨⟨⟨%f0, H0⟩, ⟨%f1, H1⟩, ⟨%f2, H2⟩, ⟨%f3, H3⟩, ⟨%f4, H4⟩, ⟨%f5, H5⟩⟩, Hr⟩
  simp only [owns_whole]
  isplitr [Hr]
  rotate_left
  · iexact Hr
  iexists f0, f1, f2, f3, f4, f5
  isplitr [H0 H1 H2 H3 H4 H5]
  · ipureintro; exact fun h => absurd rfl h
  isplitl [H0]; · iexact H0
  isplitl [H1]; · iexact H1
  isplitl [H2]; · iexact H2
  isplitl [H3]; · iexact H3
  isplitl [H4]; · iexact H4
  iexact H5

theorem inv_out (c : Dev nD) : (dats (F := F) m 0 c).Φ (Fin.last cfg0.N) ⊢ Pipeline.ΦA spec0 c := by
  show Inv m c cfg0.N le_rfl ⊢ _
  unfold Pipeline.ΦA Inv Attn.Scr scratch refs
  dsimp only
  rw [scopedRest0_eq]
  simp only [owns_whole]
  iintro ⟨⟨%f0, %f1, %f2, %f3, %f4, %f5, -, H0, H1, H2, H3, H4, H5⟩, Hr⟩
  isplitl [H0 H1 H2 H3 H4 H5]
  · isplitl [H0]; · iexists f0; iexact H0
    isplitl [H1]; · iexists f1; iexact H1
    isplitl [H2]; · iexists f2; iexact H2
    isplitl [H3]; · iexists f3; iexact H3
    isplitl [H4]; · iexists f4; iexact H4
    iexists f5; iexact H5
  iexact Hr

set_option backward.isDefEq.respectTransparency.types false in
set_option maxHeartbeats 800000 in
/-- The launch: every weakly fair execution ends, each array as the points leave it, every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The frame: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.KernelIdeal.Hand

end
-- ==== Proof.Table.lean ====
/-
  The Hadamard table, as the host builds it: one entry, doubled seven times.
-/
module

public import Idealize.ShloMosaic.Lib.Pointwise
public import Idealize.ShloMosaic.Lib.Claim

@[expose] public section

noncomputable section

namespace Attn

open Idealize.ShloMosaic

/-- A square. -/
abbrev Sq (n k : ℕ) : Shape := ⟨2, ![n, k]⟩

variable {F : FTy → Type} [FloatOps F]

/-- A table beside itself, over the table beside its negation. -/
def dbl (n k : ℕ) (h1 : Shape.Concatenates [Sq n n, Sq n n] (Sq n k) 1) (h2 : Shape.Concatenates [Sq n k, Sq n k] (Sq k k) 0) (x : FVec F (Sq n n) .f32) : FVec F (Sq k k) .f32 :=
  concatenate (Sq k k) 0 [⟨Sq n k, concatenate (Sq n k) 1 [⟨Sq n n, x⟩, ⟨Sq n n, x⟩] h1⟩, ⟨Sq n k, concatenate (Sq n k) 1 [⟨Sq n n, x⟩, ⟨Sq n n, Host.negf x⟩] h1⟩] h2

theorem bcast1 : Shape.BroadcastsInDim (⟨0, ![]⟩ : Shape) (Sq 1 1) ![] := by decide

def had1 : FVec F (Sq 1 1) .f32 := broadcastInDim (Sq 1 1) ![] bcast1 (constant (⟨0, ![]⟩ : Shape) .f32 0x3F800000#32)
def had2 : FVec F (Sq 2 2) .f32 := dbl 1 2 (by decide) (by decide) had1
def had4 : FVec F (Sq 4 4) .f32 := dbl 2 4 (by decide) (by decide) had2
def had8 : FVec F (Sq 8 8) .f32 := dbl 4 8 (by decide) (by decide) had4
def had16 : FVec F (Sq 16 16) .f32 := dbl 8 16 (by decide) (by decide) had8
def had32 : FVec F (Sq 32 32) .f32 := dbl 16 32 (by decide) (by decide) had16
def had64 : FVec F (Sq 64 64) .f32 := dbl 32 64 (by decide) (by decide) had32
/-- The table of 128 rows. -/
def had : FVec F (Sq 128 128) .f32 := dbl 64 128 (by decide) (by decide) had64

/-- Two tables along the diagonal, `z` beside them. -/
def blocks (h1 : Shape.Concatenates [Sq 128 128, Sq 128 128] (Sq 128 256) 1) (h2 : Shape.Concatenates [Sq 128 256, Sq 128 256] (Sq 256 256) 0) (x z : FVec F (Sq 128 128) .f32) : FVec F (Sq 256 256) .bf16 :=
  truncf .bf16 (concatenate (Sq 256 256) 0
    [⟨Sq 128 256, concatenate (Sq 128 256) 1 [⟨Sq 128 128, x⟩, ⟨Sq 128 128, z⟩] h1⟩,
      ⟨Sq 128 256, concatenate (Sq 128 256) 1 [⟨Sq 128 128, z⟩, ⟨Sq 128 128, x⟩] h1⟩] h2) (by decide)

theorem bcast128 : Shape.BroadcastsInDim (⟨0, ![]⟩ : Shape) (Sq 128 128) ![] := by decide

def zeros : FVec F (Sq 128 128) .f32 := broadcastInDim (Sq 128 128) ![] bcast128 (constant (⟨0, ![]⟩ : Shape) .f32 0x00000000#32)

/-- The two tables of a pair of heads. -/
def pair : FVec F (Sq 256 256) .bf16 := blocks (by decide) (by decide) had zeros

/-- Operations in two parts. -/
theorem after_split {τ : Topo} {sig : RefSig} {Val : EltTy → Type} (n : ℕ) (l : List (HloOp τ sig Val)) (V) :
    StableHlo.after l V = StableHlo.after (l.drop n) (StableHlo.after (l.take n) V) := by
  induction n generalizing l V with
  | zero => rfl
  | succ n ih =>
    cases l with
    | nil => rfl
    | cons a l => exact ih l _

theorem zeros_apply (x d : Fin 128) : zeros (F := Ideal) (ix2 x d) = 0 := by
  pointwise [zeros]

theorem blocks_apply (h1 h2) (x z : FVec Ideal (Sq 128 128) .f32) (i j : Fin 256) : blocks (F := Ideal) h1 h2 x z (ix2 i j)
    = if h : i.val < 128 then if h' : j.val < 128 then x (ix2 ⟨i.val, h⟩ ⟨j.val, h'⟩) else z (ix2 ⟨i.val, h⟩ ⟨j.val - 128, by omega⟩)
      else if h' : j.val < 128 then z (ix2 ⟨i.val - 128, by omega⟩ ⟨j.val, h'⟩) else x (ix2 ⟨i.val - 128, by omega⟩ ⟨j.val - 128, by omega⟩) := by
  pointwise [blocks]

/-- An entry of the two tables, at the ideal instance. -/
theorem pair_apply (a b : Fin 2) (x d : Fin 128) : pair (F := Ideal) (ix2 ⟨a.val * 128 + x.val, by omega⟩ ⟨b.val * 128 + d.val, by omega⟩)
    = if a = b then had (F := Ideal) (ix2 x d) else 0 := by
  unfold pair
  rw [blocks_apply]
  have ha : a = 0 ∨ a = 1 := by omega
  have hb : b = 0 ∨ b = 1 := by omega
  rcases ha with rfl | rfl <;> rcases hb with rfl | rfl
  · rw [dif_pos (by simp), dif_pos (by simp), if_pos rfl]
    congr 2 <;> exact Fin.ext (by simp)
  · rw [dif_pos (by simp), dif_neg (by simp), if_neg (by decide), zeros_apply]
  · rw [dif_neg (by simp), dif_pos (by simp), if_neg (by decide), zeros_apply]
  · rw [dif_neg (by simp), dif_neg (by simp), if_pos rfl]
    congr 2 <;> exact Fin.ext (by simp)

end Attn
-- ==== Proof.KernelIdeal.Host.lean ====
/-
  What the host builds before the call: the table, as two tables beside one another.
-/
module

public import proofs.«01_k».proof.Proof.Table
public import proofs.«01_k».proof.Proof.Gen.KernelIdeal.Frame

@[expose] public section

noncomputable section

namespace Cert.KernelIdeal.Hand

open Idealize.ShloMosaic Idealize.ShloMosaic.TcCoe Idealize.SL.Sem
open Cert.KernelIdeal Cert.KernelIdeal.Gen

variable {F : FTy → Type} [FloatOps F] [Named F]
variable (m : (ℓ : Loc nD τ sig) → Buf (Elt F) ℓ)

theorem had2_eq (V) : StableHlo.after ((hostOps0 (F := F)).take 6) V main_v4 = Attn.had2 := by
  simp only [hostOps0, List.take_succ_cons, List.take_zero]
  entry_read
  rfl

theorem had4_eq (V) : StableHlo.after ((hostOps0 (F := F)).take 10) V main_v8 = Attn.had4 := by
  have e := had2_eq (F := F) V
  rw [Attn.after_split 6, List.take_take]
  change StableHlo.after ((hostOps0 (F := F)).take 6) V main_v4 = _ at e
  rw [show min 6 10 = 6 by decide]
  generalize StableHlo.after ((hostOps0 (F := F)).take 6) V = W at e ⊢
  simp only [hostOps0, List.drop_succ_cons, List.drop_zero, List.take_succ_cons, List.take_zero]
  entry_read
  rw [e]
  rfl

theorem had8_eq (V) : StableHlo.after ((hostOps0 (F := F)).take 14) V main_v12 = Attn.had8 := by
  have e := had4_eq (F := F) V
  rw [Attn.after_split 10, List.take_take]
  change StableHlo.after ((hostOps0 (F := F)).take 10) V main_v8 = _ at e
  rw [show min 10 14 = 10 by decide]
  generalize StableHlo.after ((hostOps0 (F := F)).take 10) V = W at e ⊢
  simp only [hostOps0, List.drop_succ_cons, List.drop_zero, List.take_succ_cons, List.take_zero]
  entry_read
  rw [e]
  rfl

theorem had16_eq (V) : StableHlo.after ((hostOps0 (F := F)).take 18) V main_v16 = Attn.had16 := by
  have e := had8_eq (F := F) V
  rw [Attn.after_split 14, List.take_take]
  change StableHlo.after ((hostOps0 (F := F)).take 14) V main_v12 = _ at e
  rw [show min 14 18 = 14 by decide]
  generalize StableHlo.after ((hostOps0 (F := F)).take 14) V = W at e ⊢
  simp only [hostOps0, List.drop_succ_cons, List.drop_zero, List.take_succ_cons, List.take_zero]
  entry_read
  rw [e]
  rfl

theorem had32_eq (V) : StableHlo.after ((hostOps0 (F := F)).take 22) V main_v20 = Attn.had32 := by
  have e := had16_eq (F := F) V
  rw [Attn.after_split 18, List.take_take]
  change StableHlo.after ((hostOps0 (F := F)).take 18) V main_v16 = _ at e
  rw [show min 18 22 = 18 by decide]
  generalize StableHlo.after ((hostOps0 (F := F)).take 18) V = W at e ⊢
  simp only [hostOps0, List.drop_succ_cons, List.drop_zero, List.take_succ_cons, List.take_zero]
  entry_read
  rw [e]
  rfl

theorem had64_eq (V) : StableHlo.after ((hostOps0 (F := F)).take 26) V main_v24 = Attn.had64 := by
  have e := had32_eq (F := F) V
  rw [Attn.after_split 22, List.take_take]
  change StableHlo.after ((hostOps0 (F := F)).take 22) V main_v20 = _ at e
  rw [show min 22 26 = 22 by decide]
  generalize StableHlo.after ((hostOps0 (F := F)).take 22) V = W at e ⊢
  simp only [hostOps0, List.drop_succ_cons, List.drop_zero, List.take_succ_cons, List.take_zero]
  entry_read
  rw [e]
  rfl

theorem had128_eq (V) : StableHlo.after ((hostOps0 (F := F)).take 30) V main_v28 = Attn.had := by
  have e := had64_eq (F := F) V
  rw [Attn.after_split 26, List.take_take]
  change StableHlo.after ((hostOps0 (F := F)).take 26) V main_v24 = _ at e
  rw [show min 26 30 = 26 by decide]
  generalize StableHlo.after ((hostOps0 (F := F)).take 26) V = W at e ⊢
  simp only [hostOps0, List.drop_succ_cons, List.drop_zero, List.take_succ_cons, List.take_zero]
  entry_read
  rw [e]
  rfl

/-- The table of a pair of heads, as the call finds it. -/
theorem table_eq (c : Dev nD) : V m c main_v33 = Attn.pair (F := F) := by
  have e := had128_eq (F := F) (fun b => m (c, b))
  show StableHlo.after hostOps0 (fun b => m (c, b)) main_v33 = _
  rw [Attn.after_split 30]
  generalize StableHlo.after ((hostOps0 (F := F)).take 30) (fun b => m (c, b)) = W at e ⊢
  simp only [hostOps0, List.drop_succ_cons, List.drop_zero, List.take_succ_cons, List.take_zero]
  entry_read
  rw [e]
  rfl

end Cert.KernelIdeal.Hand

end
-- ==== Proof.Scale.lean ====
/-
  The scale of a row, over the extended reals: the least power of two above a value, found by doubling steps of falling
  size or taken as the least of all the powers, is the same; and what scaling by a positive real commutes with.
-/
module

public import Idealize.ShloMosaic.Lib.Pointwise

@[expose] public section

noncomputable section

namespace Attn

open Idealize.ShloMosaic
open scoped BigOperators

/-- A power of two. -/
def P (e : ℤ) : EReal := (((2 : ℝ) ^ e : ℝ) : EReal)

theorem P_zero : P 0 = 1 := by simp [P]

theorem P_mul (e f : ℤ) : P e * P f = P (e + f) := by
  unfold P
  rw [← EReal.coe_mul, zpow_add₀ (by norm_num : (2 : ℝ) ≠ 0)]

theorem P_le {e f : ℤ} : P e ≤ P f ↔ e ≤ f := by
  unfold P
  rw [EReal.coe_le_coe_iff]
  exact zpow_le_zpow_iff_right₀ (by norm_num)

theorem P_lt {e f : ℤ} : P e < P f ↔ e < f := by
  unfold P
  rw [EReal.coe_lt_coe_iff]
  exact zpow_lt_zpow_iff_right₀ (by norm_num)

/-- One doubling step: `s` moves up by `2 ^ n` where `t` is at least `s · 2 ^ (n - 1)`. -/
def stepE (n : ℤ) (t s : EReal) : EReal := if s * P (n - 1) ≤ t then s * P n else s

/-- What the steps keep: the power is the least or half of it is at most `t`, and what remains reaches above `t` or to the top. -/
def Holds (t : EReal) (e R : ℤ) : Prop := -126 ≤ e ∧ e + R ≤ 127 ∧ (e = -126 ∨ P (e - 1) ≤ t) ∧ (t < P (e + R) ∨ e + R = 127)

theorem stepE_holds {t s : EReal} {R n : ℤ} (hn : 1 ≤ n) (hR : 2 * n ≤ R + 1) (h : ∃ e, s = P e ∧ Holds t e R) :
    ∃ e, stepE n t s = P e ∧ Holds t e (R - n) := by
  obtain ⟨e, rfl, h1, h2, h3, h4⟩ := h
  unfold stepE
  rw [P_mul, P_mul]
  by_cases hc : P (e + (n - 1)) ≤ t
  · rw [if_pos hc]
    refine ⟨e + n, rfl, by omega, by omega, .inr ?_, ?_⟩
    · rw [show e + n - 1 = e + (n - 1) by ring]
      exact hc
    · rw [show e + n + (R - n) = e + R by ring]
      exact h4
  · rw [if_neg hc]
    refine ⟨e, rfl, h1, by omega, h3, .inl (lt_of_lt_of_le (not_le.mp hc) (P_le.mpr (by omega)))⟩

/-- The steps from the least power. -/
def searchE (t : EReal) : EReal :=
  stepE 1 t (stepE 2 t (stepE 4 t (stepE 8 t (stepE 16 t (stepE 32 t (stepE 63 t (stepE 127 t (P (-126)))))))))

/-- The least power above `t`, of those that there are. -/
def leastE (t : EReal) : EReal := Finset.univ.fold min ⊤ fun k : Fin 254 => if t < P (k.val - 126) then P (k.val - 126) else P 127

theorem searchE_holds (t : EReal) : ∃ e, searchE t = P e ∧ Holds t e 0 := by
  have h0 : ∃ e, P (-126) = P e ∧ Holds t e 253 := ⟨-126, rfl, by omega, by omega, .inl rfl, .inr rfl⟩
  have h1 := stepE_holds (n := 127) (by omega) (by omega) h0
  have h2 := stepE_holds (n := 63) (by omega) (by omega) h1
  have h3 := stepE_holds (n := 32) (by omega) (by omega) h2
  have h4 := stepE_holds (n := 16) (by omega) (by omega) h3
  have h5 := stepE_holds (n := 8) (by omega) (by omega) h4
  have h6 := stepE_holds (n := 4) (by omega) (by omega) h5
  have h7 := stepE_holds (n := 2) (by omega) (by omega) h6
  exact stepE_holds (n := 1) (by omega) (by omega) h7

/-- The search finds the least power. -/
theorem searchE_eq (t : EReal) : searchE t = leastE t := by
  obtain ⟨e, he, h1, h2, h3, h4⟩ := searchE_holds t
  rw [he]
  unfold leastE
  refine le_antisymm ?_ ?_
  · rw [Finset.le_fold_min]
    refine ⟨le_top, fun k _ => ?_⟩
    split
    · rename_i hk
      rw [P_le]
      rcases h3 with h3 | h3
      · omega
      · have := P_lt.mp (lt_of_le_of_lt h3 hk)
        omega
    · rw [P_le]
      omega
  · rw [Finset.fold_min_le]
    refine .inr ⟨⟨(e + 126).toNat, by omega⟩, Finset.mem_univ _, ?_⟩
    have hk : (((e + 126).toNat : ℕ) : ℤ) - 126 = e := by omega
    show (if t < P ((((e + 126).toNat : ℕ) : ℤ) - 126) then P ((((e + 126).toNat : ℕ) : ℤ) - 126) else P 127) ≤ P e
    rw [hk]
    split
    · exact le_rfl
    · rename_i hn
      rcases h4 with h4 | h4
      · rw [add_zero] at h4
        exact absurd h4 hn
      · rw [P_le]
        omega

/-- A row's scale, from its largest magnitude `a` and that over the codes' range, `t`. -/
def scaleE (a t : EReal) : EReal := if a = 0 then 1 else leastE t

/-- A scale is a positive real. -/
theorem scaleE_pos (a t : EReal) : ∃ r : ℝ, 0 < r ∧ scaleE a t = (r : EReal) := by
  unfold scaleE
  split
  · exact ⟨1, one_pos, rfl⟩
  · obtain ⟨e, he, -⟩ := searchE_holds t
    rw [← searchE_eq, he]
    exact ⟨2 ^ e, zpow_pos (by norm_num) e, rfl⟩

/-! ## Scaling by a positive real -/

theorem mul_mono {r : ℝ} (hr : 0 < r) : Monotone fun x : EReal => x * (r : EReal) := fun x y h =>
  mul_le_mul_of_nonneg_right h (EReal.coe_nonneg.mpr hr.le)

/-- The largest of scaled values is the largest, scaled. -/
theorem fold_max_mul {ι : Type} [Fintype ι] {r : ℝ} (hr : 0 < r) (f : ι → EReal) :
    (Finset.univ.fold max ⊥ fun i => f i * (r : EReal)) = Finset.univ.fold max ⊥ f * (r : EReal) := by
  have h := Finset.fold_hom (op := (max : EReal → EReal → EReal)) (op' := max) (b := ⊥) (f := f) (s := Finset.univ)
    (m := fun x : EReal => x * (r : EReal)) fun _ _ => (mul_mono hr).map_max
  rw [← h]
  show _ = Finset.fold max (⊥ * (r : EReal)) _ _
  rw [EReal.bot_mul_coe_of_pos hr]

/-- A magnitude. -/
def absE (x : EReal) : EReal := max x (-x)

theorem absE_mul {r : ℝ} (hr : 0 < r) (x : EReal) : absE (x * (r : EReal)) = absE x * (r : EReal) := by
  unfold absE
  rw [← EReal.neg_mul]
  exact ((mul_mono hr).map_max).symm

theorem add_mul_coe {r : ℝ} (hr : 0 < r) (x y : EReal) : (x + y) * (r : EReal) = x * r + y * r :=
  EReal.right_distrib_of_nonneg_of_ne_top (EReal.coe_nonneg.mpr hr.le) (EReal.coe_ne_top r) x y

/-- A sum of scaled values is the sum, scaled. -/
theorem sum_mul_coe {ι : Type} {r : ℝ} (hr : 0 < r) (s : Finset ι) (f : ι → EReal) : ∑ i ∈ s, f i * (r : EReal) = (∑ i ∈ s, f i) * (r : EReal) := by
  classical
  induction s using Finset.induction_on with
  | empty => simp
  | insert a s ha ih => rw [Finset.sum_insert ha, Finset.sum_insert ha, ih, add_mul_coe hr]

/-! ## Constants -/

theorem bot_bits : Ideal.ofBits .f32 0xFF800000#32 = ⊥ := by simp [Ideal.ofBits, Ideal.ieee]
theorem top_bits : Ideal.ofBits .f32 0x7F800000#32 = ⊤ := by simp [Ideal.ofBits, Ideal.ieee]

theorem c126 : Ideal.ofBits .f32 0x42FC0000#32 = ((126 : ℝ) : EReal) := by
  simp [Ideal.ofBits, Ideal.ieee, -EReal.coe_mul]; norm_num
theorem c256 : Ideal.ofBits .f32 0x43800000#32 = ((256 : ℝ) : EReal) := by
  simp [Ideal.ofBits, Ideal.ieee, -EReal.coe_mul]; norm_num
theorem c1_256 : Ideal.ofBits .f32 0x3B800000#32 = (((1 : ℝ) / 256 : ℝ) : EReal) := by
  simp [Ideal.ofBits, Ideal.ieee, -EReal.coe_mul]; norm_num
theorem c8 : Ideal.ofBits .f32 0x41000000#32 = ((8 : ℝ) : EReal) := by
  simp [Ideal.ofBits, Ideal.ieee, -EReal.coe_mul]; norm_num
/-- The reciprocal of 448, rounded, is a positive real. -/
theorem c448 : ∃ r : ℝ, 0 < r ∧ Ideal.ofBits .f32 0x3B124925#32 = (r : EReal) := by
  refine ⟨(9586981 : ℝ) / 4294967296, by norm_num, ?_⟩
  simp [Ideal.ofBits, Ideal.ieee, -EReal.coe_mul]; norm_num

theorem p_n126 : Ideal.ofBits .f32 0x00800000#32 = P (-126) := by
  unfold P; simp [Ideal.ofBits, Ideal.ieee, -EReal.coe_mul, -EReal.coe_pow]; norm_num
theorem p_126 : Ideal.ofBits .f32 0x7E800000#32 = P (127 - 1) := by
  unfold P; simp [Ideal.ofBits, Ideal.ieee, -EReal.coe_mul, -EReal.coe_pow]; norm_num
theorem p_127 : Ideal.ofBits .f32 0x7F000000#32 = P 127 := by
  unfold P; simp [Ideal.ofBits, Ideal.ieee, -EReal.coe_mul, -EReal.coe_pow]; norm_num
theorem p_62 : Ideal.ofBits .f32 0x5E800000#32 = P (63 - 1) := by
  unfold P; simp [Ideal.ofBits, Ideal.ieee, -EReal.coe_mul, -EReal.coe_pow]; norm_num
theorem p_63 : Ideal.ofBits .f32 0x5F000000#32 = P 63 := by
  unfold P; simp [Ideal.ofBits, Ideal.ieee, -EReal.coe_mul, -EReal.coe_pow]; norm_num
theorem p_31 : Ideal.ofBits .f32 0x4F000000#32 = P (32 - 1) := by
  unfold P; simp [Ideal.ofBits, Ideal.ieee, -EReal.coe_mul, -EReal.coe_pow]; norm_num
theorem p_32 : Ideal.ofBits .f32 0x4F800000#32 = P 32 := by
  unfold P; simp [Ideal.ofBits, Ideal.ieee, -EReal.coe_mul, -EReal.coe_pow]; norm_num
theorem p_15 : Ideal.ofBits .f32 0x47000000#32 = P (16 - 1) := by
  unfold P; simp [Ideal.ofBits, Ideal.ieee, -EReal.coe_mul, -EReal.coe_pow]; norm_num
theorem p_16 : Ideal.ofBits .f32 0x47800000#32 = P 16 := by
  unfold P; simp [Ideal.ofBits, Ideal.ieee, -EReal.coe_mul, -EReal.coe_pow]; norm_num
theorem p_7 : Ideal.ofBits .f32 0x43000000#32 = P (8 - 1) := by
  unfold P; simp [Ideal.ofBits, Ideal.ieee, -EReal.coe_mul, -EReal.coe_pow]; norm_num
theorem p_8 : Ideal.ofBits .f32 0x43800000#32 = P 8 := by
  unfold P; simp [Ideal.ofBits, Ideal.ieee, -EReal.coe_mul, -EReal.coe_pow]; norm_num
theorem p_3 : Ideal.ofBits .f32 0x41000000#32 = P (4 - 1) := by
  unfold P; simp [Ideal.ofBits, Ideal.ieee, -EReal.coe_mul, -EReal.coe_pow]; norm_num
theorem p_4 : Ideal.ofBits .f32 0x41800000#32 = P 4 := by
  unfold P; simp [Ideal.ofBits, Ideal.ieee, -EReal.coe_mul, -EReal.coe_pow]; norm_num
theorem p_1 : Ideal.ofBits .f32 0x40000000#32 = P (2 - 1) := by
  unfold P; simp [Ideal.ofBits, Ideal.ieee, -EReal.coe_mul, -EReal.coe_pow]; norm_num
theorem p_2 : Ideal.ofBits .f32 0x40800000#32 = P 2 := by
  unfold P; simp [Ideal.ofBits, Ideal.ieee, -EReal.coe_mul, -EReal.coe_pow]; norm_num
theorem p_0 : Ideal.ofBits .f32 0x3F800000#32 = P (1 - 1) := by
  rw [Ideal.ofBits_one_f32]; exact P_zero.symm
theorem p_1' : Ideal.ofBits .f32 0x40000000#32 = P 1 := p_1

/-- The powers that the reference takes. -/
theorem pow_bits (k : Fin 254) : Ideal.exp2 (((BitVec.ofNat 32 k.val).toInt : ℝ) - Ideal.ofBits .f32 0x42FC0000#32) = P (k.val - 126) := by
  have h : (BitVec.ofNat 32 k.val).toInt = (k.val : ℤ) := by
    rw [BitVec.toInt_ofNat']
    have := k.isLt
    norm_num [Int.bmod]
    omega
  rw [h, c126, ← EReal.coe_sub, Ideal.exp2_coe]
  unfold P
  congr 1
  show (2 : ℝ) ^ (((k.val : ℤ) : ℝ) - 126) = 2 ^ ((k.val : ℤ) - 126)
  rw [← Real.rpow_intCast]
  push_cast
  rfl

end Attn

end
-- ==== Proof.Math.lean ====
/-
  The problem's mathematics over the extended reals, for one row of queries: its rotation, its scale and its codes; and the
  attention of one query over its keys, from the codes and scales.
-/
module

public import proofs.«01_k».proof.Proof.Scale

@[expose] public section

noncomputable section

namespace Attn

open Idealize.ShloMosaic
open scoped BigOperators

/-- The reciprocal of the square root of 128. -/
def isd : EReal := (((Real.sqrt 128)⁻¹ : ℝ) : EReal)

/-- That over the logarithm of two. -/
def lgE : EReal := (((Real.sqrt 128)⁻¹ * (Real.log 2)⁻¹ : ℝ) : EReal)

theorem isd_pos : (0 : ℝ) < (Real.sqrt 128)⁻¹ := inv_pos.mpr (Real.sqrt_pos.mpr (by norm_num))

/-- A row times the table. -/
def rotE (T : Fin 128 → Fin 128 → EReal) (x : Fin 128 → EReal) (d : Fin 128) : EReal := ∑ e, x e * T e d

/-- The largest magnitude of a row times the table. -/
def magE (T : Fin 128 → Fin 128 → EReal) (x : Fin 128 → EReal) : EReal := Finset.univ.fold max ⊥ fun d => absE (rotE T x d)

/-- The row's scale. -/
def rowScale (T : Fin 128 → Fin 128 → EReal) (x : Fin 128 → EReal) : EReal := scaleE (magE T x * isd) (magE T x * isd * Ideal.ofBits .f32 0x3B124925#32)

/-- A value clipped to the codes' range. -/
def clipE (v : EReal) : EReal := min (Ideal.ofBits .f32 0x43E00000#32) (max (Ideal.ofBits .f32 0xC3E00000#32) v)

/-- The row's codes. -/
def rowCode (T : Fin 128 → Fin 128 → EReal) (x : Fin 128 → EReal) (d : Fin 128) : EReal := clipE (rotE T x d * isd * Ideal.div 1 (rowScale T x))

theorem magE_nonneg (T : Fin 128 → Fin 128 → EReal) (x : Fin 128 → EReal) : 0 ≤ magE T x := by
  unfold magE
  rw [Finset.le_fold_max]
  refine .inr ⟨0, Finset.mem_univ _, ?_⟩
  unfold absE
  rcases le_total 0 (rotE T x 0) with h | h
  · exact le_max_of_le_left h
  · exact le_max_of_le_right (EReal.neg_nonneg.mpr h)

/-! ## One query over its keys -/

/-- Scores of the keys after query `i` are dropped. -/
def maskE (i : ℕ) (u : Fin 4096 → EReal) (k : Fin 4096) : EReal := if k.val ≤ i then u k else ⊥

/-- The mask's comparison is that of the positions. -/
theorem le_eq (k i : ℕ) (hk : k < 4096) (hi : i < 4096) (a b : EReal) :
    Scalar.select (IntOp.cmpi .sle (BitVec.ofNat 32 k) (BitVec.ofNat 32 i)) a b = if k ≤ i then a else b := by
  have e : (BitVec.ofNat 32 k).sle (BitVec.ofNat 32 i) = decide (k ≤ i) := by
    rw [BitVec.sle_eq_decide, BitVec.toInt_ofNat', BitVec.toInt_ofNat']
    congr 1
    norm_num [Int.bmod]
    omega
  show (if BitVec.ofBool ((BitVec.ofNat 32 k).sle (BitVec.ofNat 32 i)) = 1#1 then a else b) = _
  rw [e]
  by_cases c : k ≤ i
  · rw [if_pos c, decide_eq_true c]
    rfl
  · rw [if_neg c, decide_eq_false c]
    rfl

/-- A key's weight: the exponential of its score less the largest. -/
def weightE (s : Fin 4096 → EReal) (k : Fin 4096) : EReal := Ideal.exp (s k - Finset.univ.fold max ⊥ s)

/-- One feature of a query's output: `s` the scores, `v` the values' codes, `vs` their scale. -/
def attnE (s v : Fin 4096 → EReal) (vs : EReal) : EReal :=
  (∑ k, clipE (weightE s k * Ideal.ofBits .f32 0x43800000#32) * v k) * Ideal.ofBits .f32 0x3B800000#32 * vs * Ideal.div 1 (∑ k, weightE s k)

end Attn

end
-- ==== Proof.Leaf.lean ====
/-
  The body's definitions at the ideal instance, read at an index.
-/
module

public import proofs.«01_k».proof.Proof.Cover
public import proofs.«01_k».proof.Proof.Math
public import Idealize.ShloMosaic.Lib.Pointwise

@[expose] public section

noncomputable section

namespace Attn

open Idealize.ShloMosaic
open scoped BigOperators

theorem rot_apply (xv bdv : Vec Ideal S256x256 .bf16) (i j : Fin 256) : rot xv bdv (ix2 i j) = (∑ x, xv (ix2 i x) * bdv (ix2 x j) : EReal) := by
  pointwise [rot]

theorem lane_eq (l : Fin 128) (h : ℕ) (hh : h < 32) (a b : EReal) :
    Scalar.select (IntOp.cmpi .eq (BitVec.ofNat 32 l.val) (BitVec.ofNat 32 h)) a b = if l.val = h then a else b := by
  have e : (BitVec.ofNat 32 l.val = BitVec.ofNat 32 h) ↔ l.val = h := by
    rw [← BitVec.toNat_inj, BitVec.toNat_ofNat, BitVec.toNat_ofNat, Nat.mod_eq_of_lt (by omega), Nat.mod_eq_of_lt (by omega)]
  show (if BitVec.ofBool (BitVec.ofNat 32 l.val == BitVec.ofNat 32 h) = 1#1 then a else b) = _
  by_cases c : l.val = h
  · rw [if_pos c, beq_iff_eq.mpr (e.mpr c)]
    rfl
  · rw [if_neg c, beq_eq_false_iff_ne.mpr fun q => c (e.mp q)]
    rfl

theorem amaxOf_hi (h : ℕ) (r : FVec Ideal S256x256 .f32) (amax : FVec Ideal S256x128 .f32) (i : Fin 256) (l : Fin 128) :
    amaxOf ![0, 128] (by decide) h r amax (ix2 i l)
      = Scalar.select (IntOp.cmpi .eq (BitVec.ofNat 32 l.val) (BitVec.ofNat 32 h)) (Finset.univ.fold max ⊥ fun d : Fin 128 => absE (r (ix2 i ⟨128 + d.val, by omega⟩))) (amax (ix2 i l)) := by
  rw [← bot_bits]
  pointwise [amaxOf]
  rfl

theorem amaxOf_lo (h : ℕ) (r : FVec Ideal S256x256 .f32) (amax : FVec Ideal S256x128 .f32) (i : Fin 256) (l : Fin 128) :
    amaxOf ![0, 0] (by decide) h r amax (ix2 i l)
      = Scalar.select (IntOp.cmpi .eq (BitVec.ofNat 32 l.val) (BitVec.ofNat 32 h)) (Finset.univ.fold max ⊥ fun d : Fin 128 => absE (r (ix2 i ⟨d.val, by omega⟩))) (amax (ix2 i l)) := by
  rw [← bot_bits]
  pointwise [amaxOf]
  rfl

theorem powStep_apply (a b : BitVec 32) (t s : FVec Ideal S256x128 .f32) (i : Fin 256) (l : Fin 128) :
    powStep a b t s (ix2 i l) = if s (ix2 i l) * Ideal.ofBits .f32 a ≤ t (ix2 i l) then s (ix2 i l) * Ideal.ofBits .f32 b else s (ix2 i l) := by
  pointwise [powStep]

theorem step_apply {a b : BitVec 32} {n : ℤ} {t s : FVec Ideal S256x128 .f32} {i : Fin 256} {l : Fin 128} {z : EReal}
    (ha : Ideal.ofBits .f32 a = P (n - 1)) (hb : Ideal.ofBits .f32 b = P n) (hs : s (ix2 i l) = z) :
    powStep a b t s (ix2 i l) = stepE n (t (ix2 i l)) z := by
  rw [powStep_apply, ha, hb, hs]
  rfl

theorem tOf_apply (K : Consts Ideal) (amax : FVec Ideal S256x128 .f32) (i : Fin 256) (l : Fin 128) :
    tOf K amax (ix2 i l) = (amax (ix2 i l) * K.had * Ideal.ofBits .f32 0x3B124925#32 : EReal) := by
  pointwise [tOf]

/-- The guard around a search. -/
theorem guard_apply (t s : FVec Ideal S256x128 .f32) (i : Fin 256) (l : Fin 128) :
    select (cmpf .oeq t (broadcast S256x128 (Scalar.ofBits .f32 0x00000000#32))) (broadcast S256x128 (Scalar.ofBits .f32 0x3F800000#32)) s (ix2 i l)
      = if t (ix2 i l) = 0 then 1 else s (ix2 i l) := by
  pointwise []

/-- The search from the least power. -/
def search (t : FVec Ideal S256x128 .f32) : FVec Ideal S256x128 .f32 :=
  powStep 0x3F800000#32 0x40000000#32 t (powStep 0x40000000#32 0x40800000#32 t (powStep 0x41000000#32 0x41800000#32 t (powStep 0x43000000#32 0x43800000#32 t
    (powStep 0x47000000#32 0x47800000#32 t (powStep 0x4F000000#32 0x4F800000#32 t (powStep 0x5E800000#32 0x5F000000#32 t (powStep 0x7E800000#32 0x7F000000#32 t
      (broadcast S256x128 (Scalar.ofBits .f32 0x00800000#32)))))))))

theorem search_apply (t : FVec Ideal S256x128 .f32) (i : Fin 256) (l : Fin 128) : search t (ix2 i l) = searchE (t (ix2 i l)) := by
  unfold search searchE
  exact step_apply p_0 p_1' (step_apply p_1 p_2 (step_apply p_3 p_4 (step_apply p_7 p_8 (step_apply p_15 p_16
    (step_apply p_31 p_32 (step_apply p_62 p_63 (step_apply p_126 p_127 p_n126)))))))

theorem scaleOf_apply (K : Consts Ideal) (amax : FVec Ideal S256x128 .f32) (i : Fin 256) (l : Fin 128) :
    scaleOf K amax (ix2 i l) = if tOf K amax (ix2 i l) = 0 then 1 else leastE (tOf K amax (ix2 i l)) := by
  rw [← searchE_eq, ← search_apply]
  exact guard_apply (tOf K amax) (search (tOf K amax)) i l

theorem codeOf_apply (inv : FVec Ideal S256x128 .f32) (h : Fin 32) (v : Vec Ideal S256x128 .f32) (i : Fin 256) (l : Fin 128) :
    codeOf inv h v (ix2 i l) = clipE (v (ix2 i l) * inv (ix2 i ⟨h.val, by omega⟩)) := by
  unfold clipE
  pointwise [codeOf, quant]

theorem invOf_apply (K : Consts Ideal) (s : FVec Ideal S256x128 .f32) (i : Fin 256) (l : Fin 128) :
    invOf K s (ix2 i l) = (Ideal.div 1 (s (ix2 i l)) * K.had : EReal) := by
  pointwise [invOf]

theorem stack_apply (w : Fin 4 → FVec Ideal S256x128 .fp8e4m3) (i : Fin 256) (l : Fin 128) (j : Fin 4) :
    stack (w 0) (w 1) (w 2) (w 3) (ix4 0 i j l) = w j (ix2 i l) := by
  pointwise [stack]
  have hj : j = 0 ∨ j = 1 ∨ j = 2 ∨ j = 3 := by omega
  rcases hj with rfl | rfl | rfl | rfl <;> rfl

theorem qsOf_apply (s : FVec Ideal S256x128 .f32) (i : Fin 256) (l : Fin 32) : qsOf s (ix3 0 i l) = s (ix2 i ⟨l.val, by omega⟩) := by
  pointwise [qsOf]

theorem cOf_apply (K : Consts Ideal) (s : FVec Ideal S256x128 .f32) (i : Fin 256) (l : Fin 128) :
    cOf K s (ix2 l i) = (s (ix2 i l) * K.lg : EReal) := by
  pointwise [cOf]

theorem scoreOf_apply (k : Vec Ideal S1x1x256x128 .fp8e4m3) (q : Vec Ideal S1x256x128 .fp8e4m3) (s : Vec Ideal S1x256x128 .f32) (i : Fin 256) (l : Fin 256) :
    scoreOf k q s (ix2 i l) = ((∑ x, k (ix4 0 0 i x) * q (ix3 0 l x)) * if h : l.val < 128 then s (ix3 0 i ⟨l.val, h⟩) else s (ix3 0 i ⟨l.val - 128, by omega⟩) : EReal) := by
  pointwise [scoreOf]

theorem maskOf_apply (u : FVec Ideal S256x256 .f32) (i : Fin 256) (l : Fin 256) :
    maskOf u (ix2 i l) = Scalar.select (IntOp.cmpi .sle (BitVec.ofNat 32 i.val) (BitVec.ofNat 32 l.val)) (u (ix2 i l)) ⊥ := by
  rw [← bot_bits]
  pointwise [maskOf]

theorem mxOf_apply (u : FVec Ideal S256x256 .f32) (mx : FVec Ideal S8x256 .f32) (i : Fin 8) (l : Fin 256) :
    mxOf u mx (ix2 i l) = max (mx (ix2 i l)) (Finset.univ.fold max ⊥ fun x : Fin 32 => u (ix2 ⟨x.val * 8 + i.val, by omega⟩ l)) := by
  rw [← bot_bits]
  pointwise [mxOf]

theorem mOf_apply (mx : FVec Ideal S8x256 .f32) (i : Fin 8) (l : Fin 256) :
    mOf mx (ix2 i l) = Finset.univ.fold max ⊥ fun x : Fin 8 => mx (ix2 x l) := by
  rw [← bot_bits]
  pointwise [mOf]

theorem m2Of_apply (m c : Vec Ideal S1x256 .f32) (l : Fin 256) :
    m2Of (F := Ideal) m c (ix2 0 l) = (m (ix2 0 l) - Ideal.div (Ideal.ofBits .f32 0x41000000#32) (c (ix2 0 l)) : EReal) := by
  pointwise [m2Of]

theorem pOf_apply (m2 : FVec Ideal S1x256 .f32) (c : Vec Ideal S1x256 .f32) (u : Vec Ideal S256x256 .f32) (i : Fin 256) (l : Fin 256) :
    pOf (F := Ideal) m2 c u (ix2 i l) = Ideal.exp2 ((u (ix2 i l) - m2 (ix2 0 l)) * c (ix2 0 l)) := by
  pointwise [pOf]
  rfl

theorem lOf_apply (l : FVec Ideal S8x256 .f32) (p : FVec Ideal S256x256 .f32) (i : Fin 8) (j : Fin 256) :
    lOf p l (ix2 i j) = (l (ix2 i j) + ∑ x : Fin 32, p (ix2 ⟨x.val * 8 + i.val, by omega⟩ j) : EReal) := by
  pointwise [lOf]

theorem accOf_apply (v : Vec Ideal S1x1x128x256 .fp8e4m3) (p : FVec Ideal S256x256 .f32) (a : FVec Ideal S128x256 .f32) (i : Fin 128) (j : Fin 256) :
    accOf v p a (ix2 i j) = (a (ix2 i j) + ∑ x, v (ix4 0 0 i x) * clipE (p (ix2 x j)) : EReal) := by
  unfold clipE
  pointwise [accOf, quant]

theorem outOf_apply (l : FVec Ideal S8x256 .f32) (acc : FVec Ideal S128x256 .f32) (vs : Vec Ideal S1x1x128 .f32) (i : Fin 128) (j : Fin 256) :
    outOf l acc vs (ix3 0 j i) = (acc (ix2 i j) * Ideal.div 1 (∑ x, l (ix2 x j)) * vs (ix3 0 0 i) : EReal) := by
  pointwise [outOf]

theorem spread_apply (v : Vec Ideal S1x4096x1 .f32) (i : Fin 4096) (j : Fin 128) : spread v (ix3 0 i j) = v (ix3 0 i 0) := by
  pointwise [spread]

theorem rows_apply (v : Vec Ideal S1x256x4096 .bf16) (i : Fin 256) (j : Fin 4096) : rows v (ix2 i j) = v (ix3 0 i j) := by
  pointwise [rows]

theorem cast_apply (v : Vec Ideal S256x256 .f32) (h : S256x256.ShapeCasts S256x256) (i j : Fin 256) : shapeCast S256x256 v h (ix2 i j) = v (ix2 i j) := by
  pointwise []

theorem castCode_apply (v : Vec Ideal S256x128 .fp8e4m3) (h : S256x128.ShapeCasts S1x256x128) (i : Fin 256) (j : Fin 128) : shapeCast S1x256x128 v h (ix3 0 i j) = v (ix2 i j) := by
  pointwise []

end Attn

end
-- ==== Proof.Tile.lean ====
/-
  The scales and the codes of a tile of queries, from its rows and the table of a pair of heads.
-/
module

public import proofs.«01_k».proof.Proof.Leaf
public import proofs.«01_k».proof.Proof.Table

@[expose] public section

noncomputable section

namespace Attn

open Idealize.ShloMosaic
open scoped BigOperators

/-- The table's entries. -/
def T (e d : Fin 128) : EReal := had (F := Ideal) (ix2 e d)

/-- Row `i` of head `h`. -/
def headRow (x : Vec Ideal S1x256x4096 .bf16) (i : Fin 256) (h : Fin 32) (e : Fin 128) : EReal := x (ix3 0 i ⟨128 * h.val + e.val, by omega⟩)

/-- Head `c` of pair `p`. -/
def ph (p : Fin 16) (c : Fin 2) : Fin 32 := ⟨2 * p.val + c.val, by omega⟩

/-- A sum over a pair of heads. -/
theorem sum_pair (f : Fin 256 → EReal) : ∑ e, f e = (∑ e : Fin 128, f ⟨0 * 128 + e.val, by omega⟩) + ∑ e : Fin 128, f ⟨1 * 128 + e.val, by omega⟩ := by
  refine (Fin.sum_univ_add (a := 128) (b := 128) f).trans ?_
  congr 1

theorem if_pos_sum {ι : Type} [Fintype ι] {c : Prop} [Decidable c] (hc : c) (f : ι → EReal) : (∑ e, if c then f e else 0) = ∑ e, f e :=
  Finset.sum_congr rfl fun _ _ => if_pos hc

theorem if_neg_sum {ι : Type} [Fintype ι] {c : Prop} [Decidable c] (hc : ¬ c) (f : ι → EReal) : (∑ e, if c then f e else 0) = 0 :=
  (Finset.sum_congr rfl fun _ _ => if_neg hc).trans Finset.sum_const_zero

theorem rotAt_apply (x : Vec Ideal S1x256x4096 .bf16) (p : Fin 16) (i : Fin 256) (c : Fin 2) (d : Fin 128) :
    rotAt x (pair (F := Ideal)) p (ix2 i ⟨c.val * 128 + d.val, by omega⟩) = rotE T (headRow x i (ph p c)) d := by
  unfold rotAt
  rw [rot_apply, sum_pair]
  have e : ∀ (a : Fin 2) (e : Fin 128), VecWindow.window (rows x) ![0, 256 * p.val] S256x256.size (inb_xp p) (ix2 i ⟨a.val * 128 + e.val, by omega⟩)
      * pair (F := Ideal) (ix2 ⟨a.val * 128 + e.val, by omega⟩ ⟨c.val * 128 + d.val, by omega⟩)
      = if a = c then headRow x i (ph p c) e * T e d else 0 := by
    intro a e
    rw [pair_apply]
    by_cases h : a = c
    · subst h
      rw [if_pos rfl, if_pos rfl]
      congr 1
      refine Eq.trans ?_ (rows_apply x i ⟨128 * (ph p a).val + e.val, by omega⟩)
      refine congrArg (rows x) (funext fun q => ?_)
      match q with
      | ⟨0, _⟩ => exact Fin.ext (by show 0 + 1 * i.val = i.val; omega)
      | ⟨1, _⟩ => exact Fin.ext (by show 256 * p.val + 1 * (a.val * 128 + e.val) = 128 * (2 * p.val + a.val) + e.val; omega)
    · rw [if_neg h, if_neg h]
      exact mul_zero _
  have e0 := e 0
  have e1 := e 1
  refine (congrArg₂ (· + ·) (Finset.sum_congr rfl fun q _ => e0 q) (Finset.sum_congr rfl fun q _ => e1 q)).trans ?_
  have hc : c = 0 ∨ c = 1 := by omega
  rcases hc with rfl | rfl
  · rw [if_pos_sum rfl, if_neg_sum (by decide), add_zero]
    rfl
  · rw [if_pos_sum rfl, if_neg_sum (by decide), zero_add]
    rfl

theorem rotAt_at (x : Vec Ideal S1x256x4096 .bf16) (p : Fin 16) (i : Fin 256) (c : Fin 2) (d : Fin 128) (j : Fin 256) (hj : j.val = c.val * 128 + d.val) (h : Fin 32)
    (hh : h = ph p c) : rotAt x (pair (F := Ideal)) p (ix2 i j) = rotE T (headRow x i h) d := by
  subst hh
  rw [show j = (⟨c.val * 128 + d.val, by omega⟩ : Fin 256) from Fin.ext hj]
  exact rotAt_apply x p i c d

theorem fold_max_congr {ι : Type} [Fintype ι] {f g : ι → EReal} (h : ∀ d, f d = g d) : Finset.univ.fold max ⊥ f = Finset.univ.fold max ⊥ g := by
  rw [funext h]

/-- The magnitudes of the first `k` pairs. -/
theorem amaxAt_apply (x : Vec Ideal S1x256x4096 .bf16) (i : Fin 256) (h : Fin 32) (k : ℕ) (hk : k ≤ 16) :
    amaxAt x (pair (F := Ideal)) k (ix2 i ⟨h.val, by omega⟩) = if h.val < 2 * k then magE T (headRow x i h) else 0 := by
  induction k with
  | zero =>
    rw [if_neg (by omega)]
    exact Ideal.ofBits_zero_f32
  | succ k ih =>
    have ih := ih (by omega)
    have s : amaxAt x (pair (F := Ideal)) (k + 1) = _ := iter_succ _ _ (⟨k, hk⟩ : Fin 16)
    rw [s, amaxOf_hi, amaxOf_lo, lane_eq _ _ (by show 2 * k + 1 < 32; omega), lane_eq _ _ (by show 2 * k < 32; omega)]
    by_cases h1 : h.val = 2 * k + 1
    · rw [if_pos h1, if_pos (by omega)]
      exact fold_max_congr fun d => congrArg absE (rotAt_at x ⟨k, hk⟩ i 1 d _ (by show 128 + d.val = 1 * 128 + d.val; omega) h (Fin.ext h1))
    · rw [if_neg h1]
      by_cases h0 : h.val = 2 * k
      · rw [if_pos h0, if_pos (by omega)]
        exact fold_max_congr fun d => congrArg absE (rotAt_at x ⟨k, hk⟩ i 0 d _ (by show d.val = 0 * 128 + d.val; omega) h (Fin.ext h0))
      · rw [if_neg h0]
        refine ih.trans ?_
        by_cases h2 : h.val < 2 * k
        · rw [if_pos h2, if_pos (by omega)]
        · rw [if_neg h2, if_neg (by omega)]

variable {K : Consts Ideal}

/-- The scale of row `i` of head `h`. -/
theorem scaleAt_apply (hK : K.had = isd) (x : Vec Ideal S1x256x4096 .bf16) (i : Fin 256) (h : Fin 32) :
    scaleAt K x (pair (F := Ideal)) (ix2 i ⟨h.val, by omega⟩) = rowScale T (headRow x i h) := by
  unfold scaleAt rowScale scaleE
  have t : tOf K (amaxAt x (pair (F := Ideal)) 16) (ix2 i ⟨h.val, by omega⟩) = magE T (headRow x i h) * isd * Ideal.ofBits .f32 0x3B124925#32 := by
    rw [tOf_apply, amaxAt_apply x i h 16 le_rfl, if_pos (show h.val < 2 * 16 by omega), hK]
  rw [scaleOf_apply, t]
  have e : magE T (headRow x i h) * isd * Ideal.ofBits .f32 0x3B124925#32 = 0 ↔ magE T (headRow x i h) * isd = 0 := by
    obtain ⟨r, hr, er⟩ := c448
    rw [er]
    constructor
    · intro q
      rcases mul_eq_zero.mp q with q | q
      · exact q
      · exact absurd (EReal.coe_eq_zero.mp q) hr.ne'
    · intro q
      rw [q, zero_mul]
  by_cases c : magE T (headRow x i h) * isd = 0
  · rw [if_pos (e.mpr c), if_pos c]
  · rw [if_neg fun q => c (e.mp q), if_neg c]

/-- The pieces of the rotated tile, at an index. -/
theorem xs_pieces (w : Fin 16 → S256x256.Idx → EReal) (X : S256x4096.Idx → EReal) (p : Fin 16) (i j : Fin 256) (J : Fin 4096) (hJ : J.val = 256 * p.val + j.val) :
    puts (s := S256x4096) (n := 16) S256x256.size (fun p => ![0, 256 * p.val]) w X 16 (ix2 i J) = w p (ix2 i j) := by
  refine puts_apply (s := S256x4096) (n := 16) S256x256.size (fun p => ![0, 256 * p.val]) w X ?_ p (inb_xp p) (ix2 i j : S256x256.Idx) (ix2 i J : S256x4096.Idx) ?_
  · intro a b hab
    refine ⟨1, ?_⟩
    have : a.val ≠ b.val := fun q => hab (Fin.ext q)
    show 256 * a.val + 256 ≤ 256 * b.val ∨ 256 * b.val + 256 ≤ 256 * a.val
    omega
  · intro a
    match a with
    | ⟨0, _⟩ =>
      show i.val = 0 + i.val
      omega
    | ⟨1, _⟩ => exact hJ

/-- The rotated tile. -/
theorem xsV_apply (x : Vec Ideal S1x256x4096 .bf16) (i : Fin 256) (h : Fin 32) (d : Fin 128) :
    xsV x (pair (F := Ideal)) (ix2 i ⟨128 * h.val + d.val, by omega⟩) = rotE T (headRow x i h) d := by
  unfold xsV xsPuts
  rw [xs_pieces _ _ ⟨h.val / 2, by omega⟩ i ⟨h.val % 2 * 128 + d.val, by omega⟩ _ (by show 128 * h.val + d.val = 256 * (h.val / 2) + (h.val % 2 * 128 + d.val); omega)]
  refine (cast_apply _ _ i _).trans ?_
  exact rotAt_at x ⟨h.val / 2, by omega⟩ i ⟨h.val % 2, by omega⟩ d _ rfl h (Fin.ext (by show h.val = 2 * (h.val / 2) + h.val % 2; omega))

/-- The codes of row `i` of head `h`. -/
theorem codesV_apply (hK : K.had = isd) (x : Vec Ideal S1x256x4096 .bf16) (i : Fin 256) (h : Fin 32) (d : Fin 128) :
    codesV K x (pair (F := Ideal)) h (ix2 i d) = rowCode T (headRow x i h) d := by
  unfold codesV codeAt rowCode
  rw [codeOf_apply, invOf_apply, scaleAt_apply hK, hK]
  congr 1
  have e : VecWindow.window (xsV x (pair (F := Ideal))) ![0, 128 * h.val] S256x128.size (inb_xh h) (ix2 i d) = rotE T (headRow x i h) d := by
    refine Eq.trans ?_ (xsV_apply x i h d)
    refine congrArg (xsV x (pair (F := Ideal))) (funext fun q => ?_)
    match q with
    | ⟨0, _⟩ => exact Fin.ext (by show 0 + 1 * i.val = i.val; omega)
    | ⟨1, _⟩ => exact Fin.ext (by show 128 * h.val + 1 * d.val = 128 * h.val + d.val; omega)
  rw [e, mul_assoc, mul_comm isd]

/-- The tile's scales, at an index. -/
theorem qsV_apply (hK : K.had = isd) (x : Vec Ideal S1x256x4096 .bf16) (i : Fin 256) (h : Fin 32) :
    qsV K x (pair (F := Ideal)) (ix3 0 i h) = rowScale T (headRow x i h) := by
  unfold qsV
  rw [qsOf_apply, scaleAt_apply hK]

/-- The pieces of the codes, at an index. -/
theorem qout_pieces (w : Fin 8 → S1x256x4x128.Idx → EReal) (X : S1x256x32x128.Idx → EReal) (g : Fin 8) (j : Fin 4) (i : Fin 256) (h : Fin 32) (d : Fin 128) (hJ : h.val = 4 * g.val + j.val) :
    puts (s := S1x256x32x128) (n := 8) S1x256x4x128.size (fun g => ![0, 0, 4 * g.val, 0]) w X 8 (ix4 0 i h d) = w g (ix4 0 i j d) := by
  refine puts_apply (s := S1x256x32x128) (n := 8) S1x256x4x128.size (fun g => ![0, 0, 4 * g.val, 0]) w X ?_ g (inb_qout g) (ix4 0 i j d : S1x256x4x128.Idx) (ix4 0 i h d : S1x256x32x128.Idx) ?_
  · intro a b hab
    refine ⟨2, ?_⟩
    have : a.val ≠ b.val := fun q => hab (Fin.ext q)
    show 4 * a.val + 4 ≤ 4 * b.val ∨ 4 * b.val + 4 ≤ 4 * a.val
    omega
  · intro a
    match a with
    | ⟨0, _⟩ => rfl
    | ⟨1, _⟩ =>
      show i.val = 0 + i.val
      omega
    | ⟨2, _⟩ => exact hJ
    | ⟨3, _⟩ =>
      show d.val = 0 + d.val
      omega

/-- The tile's codes, at an index. -/
theorem qoutV_apply (hK : K.had = isd) (x : Vec Ideal S1x256x4096 .bf16) (i : Fin 256) (h : Fin 32) (d : Fin 128) :
    qoutV K x (pair (F := Ideal)) (ix4 0 i h d) = rowCode T (headRow x i h) d := by
  have hp : hd ⟨h.val / 4, by omega⟩ ⟨h.val % 4, by omega⟩ = h := Fin.ext (by show 4 * (h.val / 4) + h.val % 4 = h.val; omega)
  unfold qoutV qoutPuts
  rw [qout_pieces _ _ ⟨h.val / 4, by omega⟩ ⟨h.val % 4, by omega⟩ i h d (by show h.val = 4 * (h.val / 4) + h.val % 4; omega)]
  refine (stack_apply (fun j => codesV K x (pair (F := Ideal)) (hd ⟨h.val / 4, by omega⟩ j)) i d ⟨h.val % 4, by omega⟩).trans ?_
  rw [hp, codesV_apply hK]

end Attn

end
-- ==== Proof.Spec.lean ====
/-
  The three results as functions of the five arguments.
-/
module

public import proofs.«01_k».proof.Proof.Tile

@[expose] public section

noncomputable section

namespace Attn

open Idealize.ShloMosaic
open scoped BigOperators

variable (x : Fin 8 → Fin 4096 → Fin 4096 → EReal) (kc : Fin 8 → Fin 8 → Fin 4096 → Fin 128 → EReal) (ks : Fin 8 → Fin 4096 → Fin 8 → EReal)
  (vt : Fin 8 → Fin 8 → Fin 128 → Fin 4096 → EReal) (vs : Fin 8 → Fin 8 → Fin 128 → EReal)

/-- Row `i` of head `h` of batch `b`. -/
def qRow (b : Fin 8) (i : Fin 4096) (h : Fin 32) (e : Fin 128) : EReal := x b i ⟨128 * h.val + e.val, by omega⟩

/-- The queries' scales. -/
def scaleR (b : Fin 8) (i : Fin 4096) (h : Fin 32) : EReal := rowScale T (qRow x b i h)

/-- The queries' codes. -/
def codeR (b : Fin 8) (i : Fin 4096) (h : Fin 32) (d : Fin 128) : EReal := rowCode T (qRow x b i h) d

/-- The keys' head of a head of queries. -/
def kv (h : Fin 32) : Fin 8 := ⟨h.val / 4, by omega⟩

/-- The scores of query `i` of head `h`, later keys dropped. -/
def scoreR (b : Fin 8) (i : Fin 4096) (h : Fin 32) (k : Fin 4096) : EReal :=
  maskE i.val (fun k => (∑ d, codeR x b i h d * kc b (kv h) k d) * scaleR x b i h * ks b k (kv h) * isd) k

/-- Feature `d` of head `h`'s output for query `i`. -/
def headR (b : Fin 8) (i : Fin 4096) (h : Fin 32) (d : Fin 128) : EReal := attnE (scoreR x kc ks b i h) (fun k => vt b (kv h) d k) (vs b (kv h) d)

/-- The output. -/
def outR (b : Fin 8) (i j : Fin 4096) : EReal := headR x kc ks vt vs b i ⟨j.val / 128, by omega⟩ ⟨j.val % 128, by omega⟩

end Attn

end
-- ==== Proof.Soft.lean ====
/-
  Attention taken block by block: the weights from the powers of two, the largest score and the sums regrouped.
-/
module

public import proofs.«01_k».proof.Proof.Math

@[expose] public section

noncomputable section

namespace Attn

open Idealize.ShloMosaic
open scoped BigOperators

/-! ## Sums and maxima in steps -/

/-- What is added to in steps is the sum. -/
theorem steps_sum {n : ℕ} (f : Fin n → EReal) (a : ℕ → EReal) (h0 : a 0 = 0) (hs : ∀ b : Fin n, a (b.val + 1) = a b.val + f b) : a n = ∑ b, f b := by
  induction n with
  | zero => simpa using h0
  | succ n ih =>
    rw [Fin.sum_univ_castSucc, ← ih (fun b => f b.castSucc) (fun b => hs b.castSucc)]
    exact hs (Fin.last n)

/-- What takes larger values in steps is at most `z` just if all of them are. -/
theorem steps_max {n : ℕ} (f : Fin n → EReal) (a : ℕ → EReal) (h0 : a 0 = ⊥) (hs : ∀ b : Fin n, a (b.val + 1) = max (a b.val) (f b)) (z : EReal) : a n ≤ z ↔ ∀ b, f b ≤ z := by
  induction n with
  | zero => rw [h0]; exact ⟨fun _ b => b.elim0, fun _ => bot_le⟩
  | succ n ih =>
    have e : a (n + 1) = max (a n) (f (Fin.last n)) := hs (Fin.last n)
    rw [e, max_le_iff, ih (fun b => f b.castSucc) (fun b => hs b.castSucc)]
    refine ⟨fun h b => ?_, fun h => ⟨fun b => h _, h _⟩⟩
    by_cases hb : b.val = n
    · have : b = Fin.last n := Fin.ext hb
      rw [this]; exact h.2
    · exact h.1 ⟨b.val, by omega⟩

/-- A sum over 32 by 8. -/
theorem sum_32_8 (f : Fin 256 → EReal) : ∑ r : Fin 8, ∑ x : Fin 32, f ⟨x.val * 8 + r.val, by omega⟩ = ∑ y, f y := by
  rw [Finset.sum_comm, ← Finset.sum_product', Finset.univ_product_univ]
  refine Fintype.sum_equiv (finProdFinEquiv (m := 32) (n := 8)) _ _ fun y => congrArg f (Fin.ext ?_)
  show y.1.val * 8 + y.2.val = y.2.val + 8 * y.1.val
  omega

/-- A sum over blocks, the rest being zero. -/
theorem sum_blocks {n : ℕ} (hn : n ≤ 16) (f : Fin 4096 → EReal) (h0 : ∀ k, 256 * n ≤ k.val → f k = 0) :
    ∑ b : Fin n, ∑ x : Fin 256, f ⟨256 * b.val + x.val, by omega⟩ = ∑ k, f k := by
  have e : ∑ k, f k = ∑ b : Fin 16, ∑ x : Fin 256, f ⟨256 * b.val + x.val, by omega⟩ := by
    rw [← Finset.sum_product', Finset.univ_product_univ]
    refine (Fintype.sum_equiv (finProdFinEquiv (m := 16) (n := 256)) _ _ fun y => congrArg f (Fin.ext ?_)).symm
    show 256 * y.1.val + y.2.val = y.2.val + 256 * y.1.val
    omega
  rw [e]
  let g : ℕ → EReal := fun b => if h : b < 16 then ∑ x : Fin 256, f ⟨256 * b + x.val, by omega⟩ else 0
  have e1 : ∀ b : Fin n, ∑ x : Fin 256, f ⟨256 * b.val + x.val, by omega⟩ = g b.val := by
    intro b
    show _ = dite _ _ _
    rw [dif_pos (show b.val < 16 by omega)]
  have e2 : ∀ b : Fin 16, ∑ x : Fin 256, f ⟨256 * b.val + x.val, by omega⟩ = g b.val := by
    intro b
    show _ = dite _ _ _
    rw [dif_pos b.isLt]
  rw [Finset.sum_congr rfl fun b _ => e1 b, Finset.sum_congr rfl fun b _ => e2 b, Fin.sum_univ_eq_sum_range g n, Fin.sum_univ_eq_sum_range g 16]
  refine Finset.sum_subset (Finset.range_subset_range.mpr hn) fun b hb hb' => ?_
  have hb1 : b < 16 := Finset.mem_range.mp hb
  have hb2 : n ≤ b := not_lt.mp fun h => hb' (Finset.mem_range.mpr h)
  show dite _ _ _ = _
  rw [dif_pos hb1]
  exact Finset.sum_eq_zero fun x _ => h0 _ (show 256 * n ≤ 256 * b + x.val by omega)

/-! ## The weights -/

theorem div_coe (x C : ℝ) (hC : C ≠ 0) : Ideal.div (x : EReal) (C : EReal) = ((x / C : ℝ) : EReal) := by
  unfold Ideal.div
  rw [if_neg (by exact_mod_cast hC), div_eq_mul_inv, EReal.coe_mul, EReal.coe_inv]

/-- A power of two, its argument shifted by eight, is an exponential times 256. -/
theorem exp2_eq (u m : EReal) {A C : ℝ} (hA : 0 < A) (hC : C = A * (Real.log 2)⁻¹) :
    Ideal.exp2 ((u - (m - Ideal.div (Ideal.ofBits .f32 0x41000000#32) (C : EReal))) * (C : EReal)) = Ideal.exp (u * (A : EReal) - m * (A : EReal)) * ((256 : ℝ) : EReal) := by
  have hl : 0 < Real.log 2 := Real.log_pos (by norm_num)
  have hC0 : 0 < C := by rw [hC]; exact mul_pos hA (inv_pos.mpr hl)
  have h256 : (0 : ℝ) < 256 := by norm_num
  rw [c8, div_coe _ _ hC0.ne']
  induction u with
  | bot => simp only [sub_eq_add_neg, EReal.bot_add, EReal.bot_mul_coe_of_pos hC0, EReal.bot_mul_coe_of_pos hA, Ideal.exp2_bot, Ideal.exp_bot, zero_mul]
  | top =>
    induction m with
    | bot => simp only [sub_eq_add_neg, EReal.bot_add, EReal.neg_bot, EReal.top_add_top, EReal.top_mul_coe_of_pos hC0, EReal.top_mul_coe_of_pos hA, EReal.bot_mul_coe_of_pos hA, Ideal.exp2_top, Ideal.exp_top, EReal.top_mul_coe_of_pos h256]
    | top => simp only [sub_eq_add_neg, ← EReal.coe_neg, EReal.top_add_coe, EReal.neg_top, EReal.add_bot, EReal.bot_mul_coe_of_pos hC0, EReal.top_mul_coe_of_pos hA, Ideal.exp2_bot, Ideal.exp_bot, zero_mul]
    | coe m => simp only [sub_eq_add_neg, ← EReal.coe_neg, ← EReal.coe_add, ← EReal.coe_mul, EReal.top_add_coe, EReal.top_mul_coe_of_pos hC0, EReal.top_mul_coe_of_pos hA, Ideal.exp2_top, Ideal.exp_top, EReal.top_mul_coe_of_pos h256]
  | coe u =>
    induction m with
    | bot => simp only [sub_eq_add_neg, ← EReal.coe_mul, EReal.bot_add, EReal.neg_bot, EReal.coe_add_top, EReal.top_mul_coe_of_pos hC0, EReal.bot_mul_coe_of_pos hA, Ideal.exp2_top, Ideal.exp_top, EReal.top_mul_coe_of_pos h256]
    | top => simp only [sub_eq_add_neg, ← EReal.coe_neg, ← EReal.coe_mul, EReal.top_add_coe, EReal.neg_top, EReal.add_bot, EReal.bot_mul_coe_of_pos hC0, EReal.top_mul_coe_of_pos hA, Ideal.exp2_bot, Ideal.exp_bot, zero_mul]
    | coe m =>
      simp only [← EReal.coe_sub, ← EReal.coe_mul, Ideal.exp2_coe, Ideal.exp_coe]
      refine congrArg (fun r : ℝ => (r : EReal)) ?_
      show (2 : ℝ) ^ ((u - (m - 8 / C)) * C) = _
      rw [show (u - (m - 8 / C)) * C = (u - m) * C + 8 by field_simp; ring, Real.rpow_add (by norm_num)]
      refine congr (congrArg (fun (x y : ℝ) => x * y) ?_) ?_
      · rw [Real.rpow_def_of_pos (by norm_num), hC]
        refine congrArg Real.exp ?_
        field_simp
      · norm_num

/-! ## The division -/

theorem div_256 (L : EReal) : Ideal.div 1 (L * ((256 : ℝ) : EReal)) = (((1 : ℝ) / 256 : ℝ) : EReal) * Ideal.div 1 L := by
  have h256 : ((256 : ℝ) : EReal) ≠ 0 := by exact_mod_cast (by norm_num : (256 : ℝ) ≠ 0)
  have hp : (0 : EReal) < 1 := by norm_num
  unfold Ideal.div
  by_cases h : L = 0
  · rw [h, zero_mul, if_pos rfl, if_pos hp, EReal.coe_mul_top_of_pos (by norm_num)]
  · rw [if_neg h, if_neg (fun e => (mul_eq_zero.mp e).elim h h256), one_mul, one_mul, EReal.mul_inv, mul_comm, one_div, EReal.coe_inv]

theorem c448' : Ideal.ofBits .f32 0x43E00000#32 = ((448 : ℝ) : EReal) := by
  simp [Ideal.ofBits, Ideal.ieee, -EReal.coe_mul]; norm_num
theorem c448n : Ideal.ofBits .f32 0xC3E00000#32 = ((-448 : ℝ) : EReal) := by
  simp [Ideal.ofBits, Ideal.ieee, -EReal.coe_mul, -EReal.coe_neg]; norm_num

theorem clip_zero : clipE 0 = 0 := by
  unfold clipE
  rw [c448', c448n, max_eq_right (by exact_mod_cast (by norm_num : (-448 : ℝ) ≤ 0)), min_eq_right (by exact_mod_cast (by norm_num : (0 : ℝ) ≤ 448))]

/-! ## A query's attention from its blocks -/

/-- The largest score, from the steps over the blocks of each of eight rows. -/
theorem max_blocks {n : ℕ} (hn : n ≤ 16) (S : Fin 4096 → EReal) (hS : ∀ k, 256 * n ≤ k.val → S k = ⊥) (mx : ℕ → Fin 8 → EReal) (h0 : ∀ r, mx 0 r = ⊥)
    (hs : ∀ (b : Fin n) r, mx (b.val + 1) r = max (mx b.val r) (Finset.univ.fold max ⊥ fun x : Fin 32 => S ⟨256 * b.val + (x.val * 8 + r.val), by omega⟩)) :
    (Finset.univ.fold max ⊥ fun r => mx n r) = Finset.univ.fold max ⊥ S := by
  refine eq_of_forall_ge_iff fun z => ?_
  rw [Finset.fold_max_le, Finset.fold_max_le]
  simp only [bot_le, true_and, Finset.mem_univ, forall_true_left]
  have h := fun r => steps_max (fun b : Fin n => Finset.univ.fold max ⊥ fun x : Fin 32 => S ⟨256 * b.val + (x.val * 8 + r.val), by omega⟩) (fun k => mx k r) (h0 r) (fun b => hs b r) z
  simp only [h, Finset.fold_max_le, bot_le, true_and, Finset.mem_univ, forall_true_left]
  refine ⟨fun H k => ?_, fun H r b x => H _⟩
  by_cases hk : 256 * n ≤ k.val
  · rw [hS k hk]; exact bot_le
  · have := H ⟨k.val % 8, by omega⟩ ⟨k.val / 256, by omega⟩ ⟨k.val % 256 / 8, by omega⟩
    refine (le_of_eq (congrArg S (Fin.ext ?_))).trans this
    show k.val = 256 * (k.val / 256) + (k.val % 256 / 8 * 8 + k.val % 8)
    omega

/-- The attention of one query, taken over the first `n` blocks of keys with weights 256 times as large, is the attention over all of them. -/
theorem attn_blocks {n : ℕ} (hn : n ≤ 16) (S V : Fin 4096 → EReal) (hS : ∀ k, 256 * n ≤ k.val → S k = ⊥) {A C : ℝ} (hA : 0 < A) (hC : C = A * (Real.log 2)⁻¹) (vs : EReal)
    (pB : Fin n → Fin 256 → EReal)
    (hp : ∀ b x, pB b x = Ideal.exp2 ((S ⟨256 * b.val + x.val, by omega⟩ - (Finset.univ.fold max ⊥ S - Ideal.div (Ideal.ofBits .f32 0x41000000#32) (C : EReal))) * (C : EReal))) :
    (∑ b : Fin n, ∑ x : Fin 256, V ⟨256 * b.val + x.val, by omega⟩ * clipE (pB b x))
        * Ideal.div 1 (∑ r : Fin 8, ∑ b : Fin n, ∑ x : Fin 32, pB b ⟨x.val * 8 + r.val, by omega⟩) * vs
      = attnE (fun k => S k * (A : EReal)) V vs := by
  have hw : ∀ b x, pB b x = weightE (fun k => S k * (A : EReal)) ⟨256 * b.val + x.val, by omega⟩ * ((256 : ℝ) : EReal) := by
    intro b x
    rw [hp, exp2_eq _ _ hA hC]
    unfold weightE
    rw [fold_max_mul hA]
  have hz : ∀ k : Fin 4096, 256 * n ≤ k.val → weightE (fun k => S k * (A : EReal)) k = 0 := by
    intro k hk
    show Ideal.exp (S k * (A : EReal) - _) = 0
    rw [hS k hk, EReal.bot_mul_coe_of_pos hA, sub_eq_add_neg, EReal.bot_add, Ideal.exp_bot]
  have hL : (∑ r : Fin 8, ∑ b : Fin n, ∑ x : Fin 32, pB b ⟨x.val * 8 + r.val, by omega⟩) = (∑ k, weightE (fun k => S k * (A : EReal)) k) * ((256 : ℝ) : EReal) := by
    rw [Finset.sum_comm, ← sum_mul_coe (by norm_num : (0 : ℝ) < 256), ← sum_blocks hn _ (fun k hk => by rw [hz k hk, zero_mul])]
    refine Finset.sum_congr rfl fun b _ => ?_
    rw [sum_32_8 (pB b)]
    exact Finset.sum_congr rfl fun x _ => hw b x
  have hO : (∑ b : Fin n, ∑ x : Fin 256, V ⟨256 * b.val + x.val, by omega⟩ * clipE (pB b x))
      = ∑ k, clipE (weightE (fun k => S k * (A : EReal)) k * ((256 : ℝ) : EReal)) * V k := by
    rw [← sum_blocks hn _ (fun k hk => by rw [hz k hk, zero_mul, clip_zero, zero_mul])]
    refine Finset.sum_congr rfl fun b _ => Finset.sum_congr rfl fun x _ => ?_
    rw [hw, mul_comm]
  rw [hL, hO, div_256]
  unfold attnE
  rw [c256, c1_256]
  exact (congrArg (fun y : EReal => y * vs) (mul_assoc _ _ _).symm).trans (mul_right_comm _ _ _)

end Attn

end
-- ==== Proof.Out.lean ====
/-
  A tile's output at an index, over the extended reals: the attention of one query over its keys.
-/
module

public import proofs.«01_k».proof.Proof.Tile
public import proofs.«01_k».proof.Proof.Soft

@[expose] public section

noncomputable section

namespace Attn

open Idealize.ShloMosaic
open scoped BigOperators

/-! ## Pieces at an index -/

theorem ksr_pieces (w : Fin 8 → S1x4096x128.Idx → EReal) (X : S8x4096x128.Idx → EReal) (g : Fin 8) (k : Fin 4096) (d : Fin 128) :
    puts (s := S8x4096x128) (n := 8) S1x4096x128.size (fun h => ![h.val, 0, 0]) w X 8 (ix3 g k d) = w g (ix3 0 k d) := by
  refine puts_apply (s := S8x4096x128) (n := 8) S1x4096x128.size (fun h => ![h.val, 0, 0]) w X ?_ g
    (by intro a; match a with | ⟨0, _⟩ => exact (show g.val + 1 ≤ 8 by omega) | ⟨1, _⟩ => exact le_rfl | ⟨2, _⟩ => exact le_rfl) (ix3 0 k d : S1x4096x128.Idx) (ix3 g k d : S8x4096x128.Idx) ?_
  · intro a b hab
    refine ⟨0, ?_⟩
    have : a.val ≠ b.val := fun q => hab (Fin.ext q)
    show a.val + 1 ≤ b.val ∨ b.val + 1 ≤ a.val
    omega
  · intro a
    match a with
    | ⟨0, _⟩ => exact (show g.val = g.val + 0 by omega)
    | ⟨1, _⟩ => exact (show k.val = 0 + k.val by omega)
    | ⟨2, _⟩ => exact (show d.val = 0 + d.val by omega)

theorem qc_pieces (w : Fin 32 → S1x256x128.Idx → EReal) (X : S32x256x128.Idx → EReal) (g : Fin 32) (k : Fin 256) (d : Fin 128) :
    puts (s := S32x256x128) (n := 32) S1x256x128.size (fun h => ![h.val, 0, 0]) w X 32 (ix3 g k d) = w g (ix3 0 k d) := by
  refine puts_apply (s := S32x256x128) (n := 32) S1x256x128.size (fun h => ![h.val, 0, 0]) w X ?_ g
    (by intro a; match a with | ⟨0, _⟩ => exact (show g.val + 1 ≤ 32 by omega) | ⟨1, _⟩ => exact le_rfl | ⟨2, _⟩ => exact le_rfl) (ix3 0 k d : S1x256x128.Idx) (ix3 g k d : S32x256x128.Idx) ?_
  · intro a b hab
    refine ⟨0, ?_⟩
    have : a.val ≠ b.val := fun q => hab (Fin.ext q)
    show a.val + 1 ≤ b.val ∨ b.val + 1 ≤ a.val
    omega
  · intro a
    match a with
    | ⟨0, _⟩ => exact (show g.val = g.val + 0 by omega)
    | ⟨1, _⟩ => exact (show k.val = 0 + k.val by omega)
    | ⟨2, _⟩ => exact (show d.val = 0 + d.val by omega)

theorem out_pieces (w : Fin 32 → S1x256x128.Idx → EReal) (X : S1x256x4096.Idx → EReal) (g : Fin 32) (k : Fin 256) (d : Fin 128) (J : Fin 4096) (hJ : J.val = 128 * g.val + d.val) :
    puts (s := S1x256x4096) (n := 32) S1x256x128.size (fun h => ![0, 0, 128 * h.val]) w X 32 (ix3 0 k J) = w g (ix3 0 k d) := by
  refine puts_apply (s := S1x256x4096) (n := 32) S1x256x128.size (fun h => ![0, 0, 128 * h.val]) w X ?_ g
    (by intro a; match a with | ⟨0, _⟩ => exact le_rfl | ⟨1, _⟩ => exact le_rfl | ⟨2, _⟩ => exact (show 128 * g.val + 128 ≤ 4096 by omega)) (ix3 0 k d : S1x256x128.Idx) (ix3 0 k J : S1x256x4096.Idx) ?_
  · intro a b hab
    refine ⟨2, ?_⟩
    have : a.val ≠ b.val := fun q => hab (Fin.ext q)
    show 128 * a.val + 128 ≤ 128 * b.val ∨ 128 * b.val + 128 ≤ 128 * a.val
    omega
  · intro a
    match a with
    | ⟨0, _⟩ => exact (show 0 = 0 + 0 from rfl)
    | ⟨1, _⟩ => exact (show k.val = 0 + k.val by omega)
    | ⟨2, _⟩ => exact hJ

/-! ## Windows at an index -/

variable {α : Type}

theorem win_kc (X : S1x8x4096x128.Idx → α) (g b : ℕ) (hg : g < 8) (hb : b < 16) (inb : _) (i : Fin 256) (d : Fin 128) :
    VecWindow.window X ![0, g, 256 * b, 0] S1x1x256x128.size inb (ix4 0 0 i d : S1x1x256x128.Idx) = X (ix4 0 ⟨g, hg⟩ ⟨256 * b + i.val, by omega⟩ d) :=
  congrArg X (funext fun q => match q with
    | ⟨0, _⟩ => Fin.ext (show 0 + 1 * 0 = 0 from rfl)
    | ⟨1, _⟩ => Fin.ext (show g + 1 * 0 = g by omega)
    | ⟨2, _⟩ => Fin.ext (show 256 * b + 1 * i.val = 256 * b + i.val by omega)
    | ⟨3, _⟩ => Fin.ext (show 0 + 1 * d.val = d.val by omega))

theorem win_vt (X : S1x8x128x4096.Idx → α) (g b : ℕ) (hg : g < 8) (hb : b < 16) (inb : _) (d : Fin 128) (i : Fin 256) :
    VecWindow.window X ![0, g, 0, 256 * b] S1x1x128x256.size inb (ix4 0 0 d i : S1x1x128x256.Idx) = X (ix4 0 ⟨g, hg⟩ d ⟨256 * b + i.val, by omega⟩) :=
  congrArg X (funext fun q => match q with
    | ⟨0, _⟩ => Fin.ext (show 0 + 1 * 0 = 0 from rfl)
    | ⟨1, _⟩ => Fin.ext (show g + 1 * 0 = g by omega)
    | ⟨2, _⟩ => Fin.ext (show 0 + 1 * d.val = d.val by omega)
    | ⟨3, _⟩ => Fin.ext (show 256 * b + 1 * i.val = 256 * b + i.val by omega))

theorem win_qc (X : S32x256x128.Idx → α) (h : Fin 32) (inb : _) (i : Fin 256) (d : Fin 128) :
    VecWindow.window X ![h.val, 0, 0] S1x256x128.size inb (ix3 0 i d : S1x256x128.Idx) = X (ix3 h i d) :=
  congrArg X (funext fun q => match q with
    | ⟨0, _⟩ => Fin.ext (show h.val + 1 * 0 = h.val by omega)
    | ⟨1, _⟩ => Fin.ext (show 0 + 1 * i.val = i.val by omega)
    | ⟨2, _⟩ => Fin.ext (show 0 + 1 * d.val = d.val by omega))

theorem win_ksr (X : S8x4096x128.Idx → α) (g b : ℕ) (hg : g < 8) (hb : b < 16) (inb : _) (i : Fin 256) (d : Fin 128) :
    VecWindow.window X ![g, 256 * b, 0] S1x256x128.size inb (ix3 0 i d : S1x256x128.Idx) = X (ix3 ⟨g, hg⟩ ⟨256 * b + i.val, by omega⟩ d) :=
  congrArg X (funext fun q => match q with
    | ⟨0, _⟩ => Fin.ext (show g + 1 * 0 = g by omega)
    | ⟨1, _⟩ => Fin.ext (show 256 * b + 1 * i.val = 256 * b + i.val by omega)
    | ⟨2, _⟩ => Fin.ext (show 0 + 1 * d.val = d.val by omega))

theorem win_ks (X : S1x4096x8.Idx → α) (g : Fin 8) (inb : _) (k : Fin 4096) :
    VecWindow.window X ![0, 0, g.val] S1x4096x1.size inb (ix3 0 k 0 : S1x4096x1.Idx) = X (ix3 0 k g) :=
  congrArg X (funext fun q => match q with
    | ⟨0, _⟩ => Fin.ext (show 0 + 1 * 0 = 0 from rfl)
    | ⟨1, _⟩ => Fin.ext (show 0 + 1 * k.val = k.val by omega)
    | ⟨2, _⟩ => Fin.ext (show g.val + 1 * 0 = g.val by omega))

theorem win_c (X : S128x256.Idx → α) (h : ℕ) (hh : h < 128) (inb : _) (l : Fin 256) :
    VecWindow.window X ![h, 0] S1x256.size inb (ix2 0 l : S1x256.Idx) = X (ix2 ⟨h, hh⟩ l) :=
  congrArg X (funext fun q => match q with
    | ⟨0, _⟩ => Fin.ext (show h + 1 * 0 = h by omega)
    | ⟨1, _⟩ => Fin.ext (show 0 + 1 * l.val = l.val by omega))

theorem win_m (X : S8x256.Idx → α) (inb : _) (l : Fin 256) :
    VecWindow.window X ![0, 0] S1x256.size inb (ix2 0 l : S1x256.Idx) = X (ix2 0 l) :=
  congrArg X (funext fun q => match q with
    | ⟨0, _⟩ => Fin.ext (show 0 + 1 * 0 = 0 from rfl)
    | ⟨1, _⟩ => Fin.ext (show 0 + 1 * l.val = l.val by omega))

theorem win_vs (X : S1x8x128.Idx → α) (g : ℕ) (hg : g < 8) (inb : _) (d : Fin 128) :
    VecWindow.window X ![0, g, 0] S1x1x128.size inb (ix3 0 0 d : S1x1x128.Idx) = X (ix3 0 ⟨g, hg⟩ d) :=
  congrArg X (funext fun q => match q with
    | ⟨0, _⟩ => Fin.ext (show 0 + 1 * 0 = 0 from rfl)
    | ⟨1, _⟩ => Fin.ext (show g + 1 * 0 = g by omega)
    | ⟨2, _⟩ => Fin.ext (show 0 + 1 * d.val = d.val by omega))

/-! ## The scores -/

/-- The keys' scales over lanes. -/
theorem ksrV_apply (ks : Vec Ideal S1x4096x8 .f32) (g : Fin 8) (k : Fin 4096) (d : Fin 128) : ksrV ks (ix3 g k d) = ks (ix3 0 k g) := by
  unfold ksrV ksrPuts
  rw [ksr_pieces]
  refine (spread_apply (VecWindow.window ks ![0, 0, g.val] S1x4096x1.size (inb_ks g)) k d).trans ?_
  exact win_ks ks g _ k

section
variable (K : Consts Ideal) (jj : Fin 16) (x : Vec Ideal S1x256x4096 .bf16) (kc : Vec Ideal S1x8x4096x128 .fp8e4m3) (ks : Vec Ideal S1x4096x8 .f32)
  (vt : Vec Ideal S1x8x128x4096 .fp8e4m3) (vs : Vec Ideal S1x8x128 .f32)

/-- The tile's codes as they are kept. -/
theorem qc_apply (hK : K.had = isd) (h : Fin 32) (i : Fin 256) (d : Fin 128) :
    (canon K x kc ks vt vs (pair (F := Ideal))).qc (ix3 h i d) = rowCode T (headRow x i h) d := by
  show qcPuts (codesV K x (pair (F := Ideal))) (zc _) 8 (ix3 h i d) = _
  have e := qcPuts_eq (codesV K x (pair (F := Ideal))) (zc _) 8 le_rfl
  rw [show 4 * 8 = 32 from rfl] at e
  rw [e]
  unfold heads
  rw [qc_pieces]
  exact (castCode_apply _ _ i d).trans (codesV_apply hK x i h d)

/-- A key's score before it is scaled. -/
def rawE (l : Fin 256) (h : Fin 32) (k : Fin 4096) : EReal :=
  (∑ d, kc (ix4 0 ⟨h.val / 4, by omega⟩ k d) * rowCode T (headRow x l h) d) * ks (ix3 0 k ⟨h.val / 4, by omega⟩)

/-- The scores of a block. -/
theorem uBlk_apply (hK : K.had = isd) (h : Fin 32) (b : Fin (jj.val + 1)) (i l : Fin 256) :
    uBlk (canon K x kc ks vt vs (pair (F := Ideal))) jj h b (ix2 i l)
      = maskE (256 * jj.val + l.val) (rawE x kc ks l h) ⟨256 * b.val + i.val, by omega⟩ := by
  have hg : h.val / 4 < 8 := by omega
  have hb : b.val < 16 := by omega
  have hu : scoreOf (VecWindow.window (canon K x kc ks vt vs (pair (F := Ideal))).kc ![0, h.val / 4, 256 * b.val, 0] S1x1x256x128.size (inb_kc _ _ (by omega) (by omega)))
      (VecWindow.window (canon K x kc ks vt vs (pair (F := Ideal))).qc ![h.val, 0, 0] S1x256x128.size (inb_qc _ h.isLt))
      (VecWindow.window (canon K x kc ks vt vs (pair (F := Ideal))).ksr ![h.val / 4, 256 * b.val, 0] S1x256x128.size (inb_ksr _ _ (by omega) (by omega))) (ix2 i l)
      = rawE x kc ks l h ⟨256 * b.val + i.val, by omega⟩ := by
    have hs : ∀ d : Fin 128, VecWindow.window (canon K x kc ks vt vs (pair (F := Ideal))).ksr ![h.val / 4, 256 * b.val, 0] S1x256x128.size (inb_ksr _ _ (by omega) (by omega)) (ix3 0 i d : S1x256x128.Idx)
        = ks (ix3 0 ⟨256 * b.val + i.val, by omega⟩ ⟨h.val / 4, hg⟩) := fun d => (win_ksr _ _ _ hg hb _ i d).trans (ksrV_apply ks _ _ d)
    rw [scoreOf_apply]
    unfold rawE
    refine congr (congrArg (fun (x y : EReal) => x * y) (Finset.sum_congr rfl fun d _ => ?_)) ?_
    · refine congr (congrArg (fun (x y : EReal) => x * y) (win_kc _ _ _ hg hb _ i d)) ?_
      exact (win_qc _ h _ l d).trans (qc_apply K x kc ks vt vs hK h l d)
    · by_cases c : l.val < 128
      · rw [dif_pos c]; exact hs _
      · rw [dif_neg c]; exact hs _
  unfold uBlk maskE
  dsimp only
  by_cases e : b.val = jj.val
  · rw [if_pos e, maskOf_apply, le_eq _ _ (by omega) (by omega), hu]
    have : (i.val ≤ l.val) = (256 * b.val + i.val ≤ 256 * jj.val + l.val) := by rw [e]; exact propext (by omega)
    exact if_congr (iff_of_eq this) rfl rfl
  · rw [if_neg e, hu, if_pos (show 256 * b.val + i.val ≤ 256 * jj.val + l.val by omega)]

/-! ## The output -/

/-- The tile's output at an index. -/
theorem outV_apply (hK : K.had = isd) (hL : K.lg = lgE) (l : Fin 256) (h : Fin 32) (d : Fin 128) (J : Fin 4096) (hJ : J.val = 128 * h.val + d.val) :
    outV K jj x kc ks vt vs (pair (F := Ideal)) (ix3 0 l J)
      = attnE (fun k => maskE (256 * jj.val + l.val) (rawE x kc ks l h) k * (rowScale T (headRow x l h) * isd)) (fun k => vt (ix4 0 ⟨h.val / 4, by omega⟩ d k))
          (vs (ix3 0 ⟨h.val / 4, by omega⟩ d)) := by
  have hg : h.val / 4 < 8 := by omega
  have hn : jj.val + 1 ≤ 16 := by omega
  unfold outV outPuts
  rw [out_pieces _ _ h l d J hJ]
  generalize hS : canon K x kc ks vt vs (pair (F := Ideal)) = S
  have hu : ∀ (b : Fin (jj.val + 1)) (i : Fin 256), uBlk S jj h b (ix2 i l) = maskE (256 * jj.val + l.val) (rawE x kc ks l h) ⟨256 * b.val + i.val, by omega⟩ := by
    intro b i
    rw [← hS]
    exact uBlk_apply K jj x kc ks vt vs hK h b i l
  have hvt : S.vt = vt := by rw [← hS]; rfl
  have hvs : S.vs = vs := by rw [← hS]; rfl
  obtain ⟨r, hr, er⟩ : ∃ r : ℝ, 0 < r ∧ rowScale T (headRow x l h) = (r : EReal) := scaleE_pos _ _
  have hA : 0 < r * (Real.sqrt 128)⁻¹ := mul_pos hr isd_pos
  have eA : rowScale T (headRow x l h) * isd = ((r * (Real.sqrt 128)⁻¹ : ℝ) : EReal) := by rw [er, EReal.coe_mul]; rfl
  have hc : cAt S h (ix2 0 l) = ((r * (Real.sqrt 128)⁻¹ * (Real.log 2)⁻¹ : ℝ) : EReal) := by
    refine (win_c _ _ (show h.val < 128 by omega) _ l).trans ?_
    rw [← hS]
    refine (cOf_apply K _ l _).trans ?_
    rw [scaleAt_apply hK, hL, er, mul_assoc, EReal.coe_mul]
    rfl
  have hM : ∀ k : Fin 4096, 256 * (jj.val + 1) ≤ k.val → maskE (256 * jj.val + l.val) (rawE x kc ks l h) k = ⊥ := fun k hk => if_neg (by omega)
  generalize maskE (256 * jj.val + l.val) (rawE x kc ks l h) = M at hu hM ⊢
  have hm : mAt S jj h (ix2 0 l) = Finset.univ.fold max ⊥ M := by
    refine (win_m _ _ l).trans ((mOf_apply _ 0 l).trans ?_)
    refine max_blocks hn M hM (fun n r => mxAt S jj h n (ix2 r l)) (fun r => bot_bits) fun b r => ?_
    have e : mxAt S jj h (b.val + 1) = mxOf (uBlk S jj h b) (mxAt S jj h b.val) := iter_succ _ _ b
    rw [e, mxOf_apply]
    refine congrArg (fun y : EReal => max (mxAt S jj h b.val (ix2 r l)) y) ?_
    exact congrArg (fun f => Finset.univ.fold max ⊥ f) (funext fun x => hu b _)
  have hp : ∀ (b : Fin (jj.val + 1)) (i : Fin 256), pAt S jj h b (ix2 i l)
      = Ideal.exp2 ((M ⟨256 * b.val + i.val, by omega⟩ - (Finset.univ.fold max ⊥ M - Ideal.div (Ideal.ofBits .f32 0x41000000#32) ((r * (Real.sqrt 128)⁻¹ * (Real.log 2)⁻¹ : ℝ) : EReal)))
          * ((r * (Real.sqrt 128)⁻¹ * (Real.log 2)⁻¹ : ℝ) : EReal)) := by
    intro b i
    unfold pAt
    rw [pOf_apply, m2Of_apply, hm, hc]
    refine congrArg (fun u : EReal => Ideal.exp2 ((u - (Finset.univ.fold max ⊥ M - Ideal.div (Ideal.ofBits .f32 0x41000000#32) ((r * (Real.sqrt 128)⁻¹ * (Real.log 2)⁻¹ : ℝ) : EReal)))
          * ((r * (Real.sqrt 128)⁻¹ * (Real.log 2)⁻¹ : ℝ) : EReal))) ?_
    exact (cast_apply _ _ i l).trans (hu b i)
  have hl : ∀ r : Fin 8, lAt S jj h (jj.val + 1) (ix2 r l) = ∑ b : Fin (jj.val + 1), ∑ x : Fin 32, pAt S jj h b (ix2 ⟨x.val * 8 + r.val, by omega⟩ l) := by
    intro r
    refine steps_sum (fun b : Fin (jj.val + 1) => ∑ x : Fin 32, pAt S jj h b (ix2 ⟨x.val * 8 + r.val, by omega⟩ l)) (fun n => lAt S jj h n (ix2 r l)) (Ideal.ofBits_zero .f32) fun b => ?_
    have e : lAt S jj h (b.val + 1) = lOf (pAt S jj h b) (lAt S jj h b.val) := iter_succ _ _ b
    rw [e, lOf_apply]
  have ho : oAt S jj h (jj.val + 1) (ix2 d l) = ∑ b : Fin (jj.val + 1), ∑ x : Fin 256, vt (ix4 0 ⟨h.val / 4, hg⟩ d ⟨256 * b.val + x.val, by omega⟩) * clipE (pAt S jj h b (ix2 x l)) := by
    refine steps_sum (fun b : Fin (jj.val + 1) => ∑ x : Fin 256, vt (ix4 0 ⟨h.val / 4, hg⟩ d ⟨256 * b.val + x.val, by omega⟩) * clipE (pAt S jj h b (ix2 x l))) (fun n => oAt S jj h n (ix2 d l)) (Ideal.ofBits_zero .f32) fun b => ?_
    have e : oAt S jj h (b.val + 1) = accOf (VecWindow.window S.vt ![0, h.val / 4, 0, 256 * b.val] S1x1x128x256.size (inb_vt _ _ (by omega) (by omega))) (pAt S jj h b) (oAt S jj h b.val) := iter_succ _ _ b
    rw [e, accOf_apply]
    refine congrArg (fun y : EReal => oAt S jj h b.val (ix2 d l) + y) (Finset.sum_congr rfl fun x _ => ?_)
    rw [win_vt _ _ _ hg (by omega), hvt]
  rw [eA]
  unfold outAt
  rw [outOf_apply, ho]
  have hw : VecWindow.window S.vs ![0, h.val / 4, 0] S1x1x128.size (inb_vs _ (by omega)) (ix3 0 0 d : S1x1x128.Idx) = vs (ix3 0 ⟨h.val / 4, hg⟩ d) := by
    rw [win_vs _ _ hg, hvs]
  refine Eq.trans ?_ (attn_blocks hn M (fun k => vt (ix4 0 ⟨h.val / 4, hg⟩ d k)) hM hA rfl (vs (ix3 0 ⟨h.val / 4, hg⟩ d)) (fun b i => pAt S jj h b (ix2 i l)) hp)
  refine congr (congrArg (fun (x y : EReal) => x * y) (congrArg (fun y : EReal => _ * Ideal.div 1 y) (Finset.sum_congr rfl fun r _ => hl r))) hw

end

end Attn

end
-- ==== Proof.KernelIdeal.Arrays.lean ====
/-
  The kernel's three arrays, read at an index.
-/
module

public import proofs.«01_k».proof.Proof.KernelIdeal.Frame
public import proofs.«01_k».proof.Proof.KernelIdeal.Host
public import proofs.«01_k».proof.Proof.Spec
public import proofs.«01_k».proof.Proof.Out
public import Idealize.ShloMosaic.Lib.Pointwise
public import Idealize.ShloMosaic.Lib.Pipeline.ValueKit

@[expose] public section

noncomputable section

namespace Cert.KernelIdeal.Hand

open Cert.KernelIdeal Cert.KernelIdeal.Gen Idealize.ShloMosaic Idealize.ShloMosaic.TcCoe Idealize.SL.Sem
open scoped BigOperators

variable (m : (ℓ : Loc nD τ sig) → Buf (Elt Ideal) ℓ)

theorem K_had : (K (F := Ideal)).had = Attn.isd := IdealRules.named_const.ideal_named_scalar _ _ _ _ rfl
theorem K_lg : (K (F := Ideal)).lg = Attn.lgE := IdealRules.named_const.ideal_named_scalar _ _ _ _ rfl

/-- The five arguments at coordinates. -/
def a0 (c : Dev nD) (b : Fin 8) (i j : Fin 4096) : EReal := m ((c : Thread nD τ).loc main_arg0) (ix3 b i j)
def a1 (c : Dev nD) (b : Fin 8) (h : Fin 8) (k : Fin 4096) (d : Fin 128) : EReal := m ((c : Thread nD τ).loc main_arg1) (ix4 b h k d)
def a2 (c : Dev nD) (b : Fin 8) (k : Fin 4096) (h : Fin 8) : EReal := m ((c : Thread nD τ).loc main_arg2) (ix3 b k h)
def a3 (c : Dev nD) (b : Fin 8) (h : Fin 8) (d : Fin 128) (k : Fin 4096) : EReal := m ((c : Thread nD τ).loc main_arg3) (ix4 b h d k)
def a4 (c : Dev nD) (b : Fin 8) (h : Fin 8) (d : Fin 128) : EReal := m ((c : Thread nD τ).loc main_arg4) (ix3 b h d)

/-- The batch of a point. -/
def batch (t : Fin cfg0.N) : Fin 8 := ⟨t.val / 16, by have : t.val < 128 := t.isLt; omega⟩

/-- A query of a point's tile. -/
def query (t : Fin cfg0.N) (i : Fin 256) : Fin 4096 := ⟨256 * (tileOf t).val + i.val, by have := (tileOf t).isLt; omega⟩

theorem idx : ∀ t : Fin cfg0.N, win0_0.index t = ![t.val / 16, t.val % 16, 0] ∧ win0_1.index t = ![t.val / 16, 0, 0, 0] ∧ win0_2.index t = ![t.val / 16, 0, 0]
   ∧ win0_3.index t = ![t.val / 16, 0, 0, 0] ∧ win0_4.index t = ![t.val / 16, 0, 0] ∧ win0_5.index t = ![0, 0]
   ∧ win0_6.index t = ![t.val / 16, t.val % 16, 0] ∧ win0_7.index t = ![t.val / 16, t.val % 16, 0, 0] ∧ win0_8.index t = ![t.val / 16, t.val % 16, 0] := by
  decide +kernel

theorem x_apply (c : Dev nD) (t : Fin cfg0.N) (i : Fin 256) (j : Fin 4096) : iblk m c 0 t (ix3 0 i j) = a0 m c (batch t) (query t i) j := by
  unfold a0 batch query tileOf
  blk_ext [iblk, V_main_arg0, idx t]

theorem kc_apply (c : Dev nD) (t : Fin cfg0.N) (h : Fin 8) (k : Fin 4096) (d : Fin 128) : iblk m c 1 t (ix4 0 h k d) = a1 m c (batch t) h k d := by
  unfold a1 batch
  blk_ext [iblk, V_main_arg1, idx t]

theorem ks_apply (c : Dev nD) (t : Fin cfg0.N) (k : Fin 4096) (h : Fin 8) : iblk m c 2 t (ix3 0 k h) = a2 m c (batch t) k h := by
  unfold a2 batch
  blk_ext [iblk, V_main_arg2, idx t]

theorem vt_apply (c : Dev nD) (t : Fin cfg0.N) (h : Fin 8) (d : Fin 128) (k : Fin 4096) : iblk m c 3 t (ix4 0 h d k) = a3 m c (batch t) h d k := by
  unfold a3 batch
  blk_ext [iblk, V_main_arg3, idx t]

theorem vs_apply (c : Dev nD) (t : Fin cfg0.N) (h : Fin 8) (d : Fin 128) : iblk m c 4 t (ix3 0 h d) = a4 m c (batch t) h d := by
  unfold a4 batch
  blk_ext [iblk, V_main_arg4, idx t]

theorem bd_eq (c : Dev nD) (t : Fin cfg0.N) : iblk m c 5 t = Attn.pair (F := Ideal) := by
  rw [← table_eq m c]
  funext y
  have e : y = ix2 (y 0) (y 1) := eq_ix2 (n0 := 256) (n1 := 256) y
  generalize y 0 = a, y 1 = b at e
  subst e
  show iblk m c 5 t (ix2 a b) = V m c main_v33 (ix2 a b)
  blk_ext [iblk, idx t]

theorem row_eq (c : Dev nD) (t : Fin cfg0.N) (i : Fin 256) (h : Fin 32) : Attn.headRow (iblk m c 0 t) i h = Attn.qRow (a0 m c) (batch t) (query t i) h :=
  funext fun e => x_apply m c t i _

theorem qs_apply (c : Dev nD) (t : Fin cfg0.N) (i : Fin 256) (h : Fin 32) : out8 m c t (ix3 0 i h) = Attn.scaleR (a0 m c) (batch t) (query t i) h := by
  unfold out8 Attn.scaleR
  rw [bd_eq, Attn.qsV_apply K_had, row_eq]

theorem qc_apply (c : Dev nD) (t : Fin cfg0.N) (i : Fin 256) (h : Fin 32) (d : Fin 128) : out7 m c t (ix4 0 i h d) = Attn.codeR (a0 m c) (batch t) (query t i) h d := by
  unfold out7 Attn.codeR
  rw [bd_eq, Attn.qoutV_apply K_had, row_eq]

theorem emb8 (t : Fin cfg0.N) (i : Fin 256) (h : Fin 32) (G : S8x4096x32.Idx → EReal) : G ((win0_8.blk t).view.emb (ix3 0 i h)) = G (ix3 (batch t) (query t i) h) := by
  unfold batch query tileOf
  blk_ext [idx t]
theorem emb7 (t : Fin cfg0.N) (i : Fin 256) (h : Fin 32) (d : Fin 128) (G : S8x4096x32x128.Idx → EReal) : G ((win0_7.blk t).view.emb (ix4 0 i h d)) = G (ix4 (batch t) (query t i) h d) := by
  unfold batch query tileOf
  blk_ext [idx t]
theorem emb6 (t : Fin cfg0.N) (i : Fin 256) (j : Fin 4096) (G : S8x4096x4096.Idx → EReal) : G ((win0_6.blk t).view.emb (ix3 0 i j)) = G (ix3 (batch t) (query t i) j) := by
  unfold batch query tileOf
  blk_ext [idx t]

theorem final8 (c : Dev nD) : (dats m 0 c).arrAt 8 cfg0.N = (fun y : S8x4096x32.Idx => Attn.scaleR (a0 m c) (y 0) (y 1) (y 2)) := by
  refine (dats m 0 c).arrAt_eq_of_covers 8 _ (by decide +kernel) fun t hf y => ?_
  blk_simp
  rw [after_8]
  have e : y = ix3 0 (y 1) (y 2) := (eq_ix3 (n0 := 1) (n1 := 256) (n2 := 32) y).trans (congrArg (fun a => ix3 a _ _) (Fin.fin_one_eq_zero _))
  generalize y 1 = i, y 2 = h at e
  subst e
  refine Eq.trans ?_ (emb8 t i h (fun y : S8x4096x32.Idx => Attn.scaleR (a0 m c) (y 0) (y 1) (y 2))).symm
  exact qs_apply m c t i h

theorem final7 (c : Dev nD) : (dats m 0 c).arrAt 7 cfg0.N = (fun y : S8x4096x32x128.Idx => Attn.codeR (a0 m c) (y 0) (y 1) (y 2) (y 3)) := by
  refine (dats m 0 c).arrAt_eq_of_covers 7 _ (by decide +kernel) fun t hf y => ?_
  blk_simp
  rw [after_7]
  have e : y = ix4 0 (y 1) (y 2) (y 3) := (eq_ix4 (n0 := 1) (n1 := 256) (n2 := 32) (n3 := 128) y).trans (congrArg (fun a => ix4 a _ _ _) (Fin.fin_one_eq_zero _))
  generalize y 1 = i, y 2 = h, y 3 = d at e
  subst e
  refine Eq.trans ?_ (emb7 t i h d (fun y : S8x4096x32x128.Idx => Attn.codeR (a0 m c) (y 0) (y 1) (y 2) (y 3))).symm
  exact qc_apply m c t i h d

theorem raw_eq (c : Dev nD) (t : Fin cfg0.N) (i : Fin 256) (h : Fin 32) (k : Fin 4096) :
    Attn.maskE (256 * (tileOf t).val + i.val) (Attn.rawE (iblk m c 0 t) (iblk m c 1 t) (iblk m c 2 t) i h) k * (Attn.rowScale Attn.T (Attn.headRow (iblk m c 0 t) i h) * Attn.isd)
      = Attn.scoreR (a0 m c) (a1 m c) (a2 m c) (batch t) (query t i) h k := by
  obtain ⟨r, hr, er⟩ : ∃ r : ℝ, 0 < r ∧ Attn.rowScale Attn.T (Attn.headRow (iblk m c 0 t) i h) = (r : EReal) := Attn.scaleE_pos _ _
  have eA : Attn.rowScale Attn.T (Attn.headRow (iblk m c 0 t) i h) * Attn.isd = ((r * (Real.sqrt 128)⁻¹ : ℝ) : EReal) := by rw [er, EReal.coe_mul]; rfl
  have hA : 0 < r * (Real.sqrt 128)⁻¹ := mul_pos hr Attn.isd_pos
  unfold Attn.scoreR Attn.maskE
  show (if k.val ≤ (query t i).val then _ else _) * _ = _
  by_cases hk : k.val ≤ (query t i).val
  · rw [if_pos hk, if_pos hk]
    unfold Attn.rawE Attn.scaleR Attn.codeR
    rw [row_eq, ks_apply]
    simp only [kc_apply]
    have e : (∑ d, a1 m c (batch t) (Attn.kv h) k d * Attn.rowCode Attn.T (Attn.qRow (a0 m c) (batch t) (query t i) h) d)
        = ∑ d, Attn.rowCode Attn.T (Attn.qRow (a0 m c) (batch t) (query t i) h) d * a1 m c (batch t) (Attn.kv h) k d :=
      Finset.sum_congr rfl fun d _ => mul_comm _ _
    show (∑ d, a1 m c (batch t) (Attn.kv h) k d * Attn.rowCode Attn.T (Attn.qRow (a0 m c) (batch t) (query t i) h) d) * a2 m c (batch t) k (Attn.kv h) * _ = _
    rw [e]
    exact (mul_assoc _ _ _).symm.trans (congrArg (fun y : EReal => y * Attn.isd) (mul_right_comm _ _ _))
  · rw [if_neg hk, if_neg hk, eA, EReal.bot_mul_coe_of_pos hA]

theorem out_apply (c : Dev nD) (t : Fin cfg0.N) (i : Fin 256) (j : Fin 4096) :
    out6 m c t (ix3 0 i j) = Attn.outR (a0 m c) (a1 m c) (a2 m c) (a3 m c) (a4 m c) (batch t) (query t i) j := by
  unfold out6 Attn.outR Attn.headR
  rw [bd_eq, Attn.outV_apply K (tileOf t) _ _ _ _ _ K_had K_lg i ⟨j.val / 128, by omega⟩ ⟨j.val % 128, by omega⟩ j (by show j.val = 128 * (j.val / 128) + j.val % 128; omega)]
  rw [vs_apply, funext fun k => raw_eq m c t i ⟨j.val / 128, by omega⟩ k]
  exact congrArg (fun v => Attn.attnE _ v _) (funext fun k => vt_apply m c t _ _ k)

theorem final6 (c : Dev nD) : (dats m 0 c).arrAt 6 cfg0.N = (fun y : S8x4096x4096.Idx => Attn.outR (a0 m c) (a1 m c) (a2 m c) (a3 m c) (a4 m c) (y 0) (y 1) (y 2)) := by
  refine (dats m 0 c).arrAt_eq_of_covers 6 _ (by decide +kernel) fun t hf y => ?_
  blk_simp
  rw [after_6]
  have e : y = ix3 0 (y 1) (y 2) := (eq_ix3 (n0 := 1) (n1 := 256) (n2 := 4096) y).trans (congrArg (fun a => ix3 a _ _) (Fin.fin_one_eq_zero _))
  generalize y 1 = i, y 2 = j at e
  subst e
  refine Eq.trans ?_ (emb6 t i j (fun y : S8x4096x4096.Idx => Attn.outR (a0 m c) (a1 m c) (a2 m c) (a3 m c) (a4 m c) (y 0) (y 1) (y 2))).symm
  exact out_apply m c t i j

end Cert.KernelIdeal.Hand

end
-- ==== Proof.ReferenceIdeal.RefVal.lean ====
/-
  The reference's payloads at the ideal instance, read at an index.
-/
module

public import proofs.«01_k».proof.Proof.Gen.ReferenceIdeal.Frame
public import proofs.«01_k».proof.Proof.Math
public import Idealize.ShloMosaic.Lib.Pointwise

@[expose] public section

noncomputable section

namespace Cert.ReferenceIdeal.Hand

open Cert.ReferenceIdeal Cert.ReferenceIdeal.Gen Idealize.ShloMosaic
open scoped BigOperators

theorem named_isd : (Named.named κ "inv_sqrt_d" 0x3DB504F3#32 : Ideal .f32) = Attn.isd := IdealRules.named_const.ideal_named_scalar _ _ _ _ rfl

/-! ## The rotation, the scales and the codes -/

/-- Row `g` of the queries. -/
def row (v0 : Vec Ideal S64x16384x128 .bf16) (g : Fin 1048576) (e : Fin 128) : EReal := v0 (ix3 ⟨g.val / 16384, by omega⟩ ⟨g.val % 16384, by omega⟩ e)

/-- The table's entries. -/
def tab (v4 : Vec Ideal S128x128 .f32) (e d : Fin 128) : EReal := v4 (ix2 e d)

theorem pay2_raw (v0 : Vec Ideal S64x16384x128 .bf16) (v4 : Vec Ideal S128x128 .f32) (g : Fin 1048576) (d : Fin 128) :
    k0_pay2 v0 v4 (ix2 g d) = (∑ x, row v0 g x * (tab v4 x d * (Named.named κ "inv_sqrt_d" 0x3DB504F3#32 : Ideal .f32)) : EReal) := by
  unfold row tab
  pointwise [k0_pay2]

theorem pay2_apply (v0 : Vec Ideal S64x16384x128 .bf16) (v4 : Vec Ideal S128x128 .f32) (g : Fin 1048576) (d : Fin 128) :
    k0_pay2 v0 v4 (ix2 g d) = Attn.rotE (tab v4) (row v0 g) d * Attn.isd := by
  rw [pay2_raw, named_isd]
  unfold Attn.rotE Attn.isd
  rw [← Attn.sum_mul_coe Attn.isd_pos]
  exact Finset.sum_congr rfl fun x _ => (mul_assoc _ _ _).symm

theorem max_apply (v9 : FVec Ideal S1048576x128 .f32) (g : Fin 1048576) :
    (shapeCast S1048576x1 (multiReduction .maximumf [1] S1048576 v9 0xFF800000#32 reduces_S1048576x128_S1048576 (.inl rfl) rfl) shapeCasts_S1048576_S1048576x1) (ix2 g 0)
      = Finset.univ.fold max ⊥ fun x => v9 (ix2 g x) := by
  rw [← Attn.bot_bits]
  pointwise []

theorem min_apply (v25 : FVec Ideal S1048576x254 .f32) (g : Fin 1048576) :
    (shapeCast S1048576x1 (multiReduction .minimumf [1] S1048576 v25 0x7F800000#32 reduces_S1048576x254_S1048576 (.inl rfl) rfl) shapeCasts_S1048576_S1048576x1) (ix2 g 0)
      = Finset.univ.fold min ⊤ fun x => v25 (ix2 g x) := by
  rw [← Attn.top_bits]
  pointwise []

theorem pow_apply (k : Fin 254) :
    exp2 (subf (sitofp .f32 (iota .tc S1x254 32 [1] iota_S1x254_d1_w32)) (broadcast S1x254 (Scalar.ofBits .f32 0x42FC0000#32) : FVec Ideal S1x254 .f32)) (ix2 0 k) = Attn.P (k.val - 126) := by
  rw [← Attn.pow_bits]
  pointwise []
  rfl

theorem above_apply (v18 : FVec Ideal S1x254 .f32) (v13 : FVec Ideal S1048576x1 .f32) (g : Fin 1048576) (k : Fin 254) (c : Ideal .f32) :
    select (cmpf .ogt (broadcastTo S1048576x254 v18 broadcasts_S1x254_S1048576x254) (broadcastTo S1048576x254 v13 broadcasts_S1048576x1_S1048576x254))
      (broadcastTo S1048576x254 (shapeCast S1x254 v18 shapeCasts_S1x254_S1x254) broadcasts_S1x254_S1048576x254) (broadcast S1048576x254 c) (ix2 g k)
      = if v13 (ix2 g 0) < v18 (ix2 0 k) then v18 (ix2 0 k) else c := by
  pointwise []

theorem guard_apply (v11 v27 : FVec Ideal S1048576x1 .f32) (g : Fin 1048576) :
    select (cmpf .oeq v11 (broadcast S1048576x1 (Scalar.ofBits .f32 0x00000000#32))) (broadcast S1048576x1 (Scalar.ofBits .f32 0x3F800000#32)) v27 (ix2 g 0)
      = if v11 (ix2 g 0) = 0 then 1 else v27 (ix2 g 0) := by
  pointwise []

theorem abs_apply (v : FVec Ideal S1048576x128 .f32) (g : Fin 1048576) (d : Fin 128) : absf v (ix2 g d) = Attn.absE (v (ix2 g d)) := rfl

theorem over_apply (v : FVec Ideal S1048576x1 .f32) (g : Fin 1048576) :
    mulf v (broadcast S1048576x1 (Scalar.ofBits .f32 0x3B124925#32)) (ix2 g 0) = (v (ix2 g 0) * Ideal.ofBits .f32 0x3B124925#32 : EReal) := by
  pointwise []

theorem mag_apply (v0 : Vec Ideal S64x16384x128 .bf16) (v4 : Vec Ideal S128x128 .f32) (g : Fin 1048576) :
    (Finset.univ.fold max ⊥ fun x => absf (k0_pay2 v0 v4) (ix2 g x)) = Attn.magE (tab v4) (row v0 g) * Attn.isd := by
  unfold Attn.magE
  have e : ∀ x, absf (k0_pay2 v0 v4) (ix2 g x) = Attn.absE (Attn.rotE (tab v4) (row v0 g) x) * Attn.isd := by
    intro x
    rw [abs_apply, pay2_apply]
    exact Attn.absE_mul Attn.isd_pos _
  rw [funext e]
  exact Attn.fold_max_mul Attn.isd_pos _

/-- The least power above, for a column of values. -/
def leastV (v13 : FVec Ideal S1048576x1 .f32) : FVec Ideal S1048576x1 .f32 :=
  have v18 : FVec Ideal S1x254 .f32 := exp2 (subf (sitofp .f32 (iota .tc S1x254 32 [1] iota_S1x254_d1_w32)) (broadcast S1x254 (Scalar.ofBits .f32 0x42FC0000#32)))
  shapeCast S1048576x1 (multiReduction .minimumf [1] S1048576 (select (cmpf .ogt (broadcastTo S1048576x254 v18 broadcasts_S1x254_S1048576x254) (broadcastTo S1048576x254 v13 broadcasts_S1048576x1_S1048576x254))
      (broadcastTo S1048576x254 (shapeCast S1x254 v18 shapeCasts_S1x254_S1x254) broadcasts_S1x254_S1048576x254) (broadcast S1048576x254 (Scalar.ofBits .f32 0x7F000000#32))) 0x7F800000#32 reduces_S1048576x254_S1048576 (.inl rfl) rfl) shapeCasts_S1048576_S1048576x1

theorem leastV_apply (v13 : FVec Ideal S1048576x1 .f32) (g : Fin 1048576) : leastV v13 (ix2 g 0) = Attn.leastE (v13 (ix2 g 0)) := by
  unfold leastV Attn.leastE
  refine (min_apply _ g).trans ?_
  congr 1
  funext k
  refine (above_apply _ _ g k _).trans ?_
  rw [pow_apply, ← Attn.p_127]
  rfl

/-- The largest magnitudes, as a column. -/
def magV (v0 : Vec Ideal S64x16384x128 .bf16) (v4 : Vec Ideal S128x128 .f32) : FVec Ideal S1048576x1 .f32 :=
  shapeCast S1048576x1 (multiReduction .maximumf [1] S1048576 (absf (k0_pay2 v0 v4)) 0xFF800000#32 reduces_S1048576x128_S1048576 (.inl rfl) rfl) shapeCasts_S1048576_S1048576x1

theorem magV_apply (v0 : Vec Ideal S64x16384x128 .bf16) (v4 : Vec Ideal S128x128 .f32) (g : Fin 1048576) : magV v0 v4 (ix2 g 0) = Attn.magE (tab v4) (row v0 g) * Attn.isd :=
  (max_apply _ g).trans (mag_apply v0 v4 g)

theorem pay3_eq (v0 : Vec Ideal S64x16384x128 .bf16) (v4 : Vec Ideal S128x128 .f32) :
    k0_pay3 v0 v4 = select (cmpf .oeq (magV v0 v4) (broadcast S1048576x1 (Scalar.ofBits .f32 0x00000000#32))) (broadcast S1048576x1 (Scalar.ofBits .f32 0x3F800000#32))
      (leastV (mulf (magV v0 v4) (broadcast S1048576x1 (Scalar.ofBits .f32 0x3B124925#32)))) := rfl

theorem pay3_apply (v0 : Vec Ideal S64x16384x128 .bf16) (v4 : Vec Ideal S128x128 .f32) (g : Fin 1048576) :
    k0_pay3 v0 v4 (ix2 g 0) = Attn.rowScale (tab v4) (row v0 g) := by
  unfold Attn.rowScale Attn.scaleE
  rw [pay3_eq, guard_apply, leastV_apply, over_apply, magV_apply]

theorem clip_apply (s : FVec Ideal S1048576x1 .f32) (v : FVec Ideal S1048576x128 .f32) (g : Fin 1048576) (d : Fin 128) :
    truncf .fp8e4m3 (minimumf (broadcast S1048576x128 (Scalar.ofBits .f32 0x43E00000#32 : Ideal .f32)) (maximumf (broadcast S1048576x128 (Scalar.ofBits .f32 0xC3E00000#32))
      (mulf v (broadcastTo S1048576x128 (divf (broadcast S1048576x1 (Scalar.ofBits .f32 0x3F800000#32)) s) broadcasts_S1048576x1_S1048576x128)))) bitsLt_fp8e4m3_f32 (ix2 g d)
      = Attn.clipE (v (ix2 g d) * Ideal.div 1 (s (ix2 g 0))) := by
  unfold Attn.clipE
  pointwise []

theorem fold_apply (s : FVec Ideal S1048576x128 .fp8e4m3) (a : Fin 64) (r : Fin 16384) (d : Fin 128) :
    shapeCast S64x16384x128 s shapeCasts_S1048576x128_S64x16384x128 (ix3 a r d) = s (ix2 ⟨a.val * 16384 + r.val, by omega⟩ d) := by
  pointwise []

/-- Row `r` of group `a`. -/
def flat (a : Fin 64) (r : Fin 16384) : Fin 1048576 := ⟨a.val * 16384 + r.val, by omega⟩

theorem pay4_eq (v0 : Vec Ideal S64x16384x128 .bf16) (v4 : Vec Ideal S128x128 .f32) :
    k0_pay4 v0 v4 = shapeCast S64x16384x128 (truncf .fp8e4m3 (minimumf (broadcast S1048576x128 (Scalar.ofBits .f32 0x43E00000#32 : Ideal .f32)) (maximumf (broadcast S1048576x128 (Scalar.ofBits .f32 0xC3E00000#32))
      (mulf (k0_pay2 v0 v4) (broadcastTo S1048576x128 (divf (broadcast S1048576x1 (Scalar.ofBits .f32 0x3F800000#32)) (k0_pay3 v0 v4)) broadcasts_S1048576x1_S1048576x128)))) bitsLt_fp8e4m3_f32) shapeCasts_S1048576x128_S64x16384x128 := rfl

theorem pay4_apply (v0 : Vec Ideal S64x16384x128 .bf16) (v4 : Vec Ideal S128x128 .f32) (a : Fin 64) (r : Fin 16384) (d : Fin 128) :
    k0_pay4 v0 v4 (ix3 a r d) = Attn.rowCode (tab v4) (row v0 (flat a r)) d := by
  unfold Attn.rowCode
  rw [pay4_eq]
  refine (fold_apply _ a r d).trans ?_
  refine (clip_apply (k0_pay3 v0 v4) (k0_pay2 v0 v4) (flat a r) d).trans ?_
  rw [pay2_apply, pay3_apply]

theorem pay5_apply (v0 : Vec Ideal S64x16384x128 .bf16) (v4 : Vec Ideal S128x128 .f32) (b : Fin 8) (h : Fin 32) (i : Fin 4096) (d : Fin 128) :
    k0_pay5 v0 v4 (ix4 b h i d) = k0_pay4 v0 v4 (ix3 ⟨b.val * 8 + h.val / 4, by omega⟩ ⟨h.val % 4 * 4096 + i.val, by omega⟩ d) := by
  pointwise [k0_pay5]

theorem pay6_apply (v : FVec Ideal S8x32x4096x128 .fp8e4m3) (b : Fin 8) (h : Fin 32) (i : Fin 4096) (d : Fin 128) : k0_pay6 v (ix4 b i h d) = v (ix4 b h i d) := by
  pointwise [k0_pay6]

theorem pay7_apply (v : FVec Ideal S1048576x1 .f32) (b : Fin 8) (h : Fin 32) (i : Fin 4096) :
    k0_pay7 v (ix3 b i h) = v (ix2 ⟨b.val * 131072 + h.val * 4096 + i.val, by omega⟩ 0) := by
  pointwise [k0_pay7]

/-! ## The attention -/

theorem score_apply (v31 : FVec Ideal S1048576x1 .f32) (a : Fin 64) (r : Fin 16384) (k : Fin 4096) :
    broadcastTo S64x16384x4096 (shapeCast S64x16384x1 v31 shapeCasts_S1048576x1_S64x16384x1) broadcasts_S64x16384x1_S64x16384x4096 (ix3 a r k) = v31 (ix2 (flat a r) 0) := by
  unfold flat
  pointwise []

theorem keyScale_apply (v54 : Vec Ideal S64x1x4096 .f32) (a : Fin 64) (r : Fin 16384) (k : Fin 4096) :
    broadcastTo S64x16384x4096 (shapeCast S64x1x4096 v54 shapeCasts_S64x1x4096_S64x1x4096) broadcasts_S64x1x4096_S64x16384x4096 (ix3 a r k) = v54 (ix3 a 0 k) := by
  pointwise []

theorem dot_apply (v41 : FVec Ideal S64x16384x128 .fp8e4m3) (v48 : FVec Ideal S64x4096x128 .fp8e4m3) (a : Fin 64) (r : Fin 16384) (k : Fin 4096) :
    matmul dot_S64x16384x128_S64x4096x128_S64x16384x4096_2_2_1_1_0_0 none v41 (shapeCast S64x4096x128 v48 shapeCasts_S64x4096x128_S64x4096x128) (constant S64x16384x4096 .f32 0x00000000#32) (ix3 a r k)
      = (∑ x, v41 (ix3 a r x) * v48 (ix3 a k x) : EReal) := by
  pointwise []

theorem maskRaw_apply (v59 : FVec Ideal S64x16384x4096 .f32) (a : Fin 64) (r : Fin 16384) (k : Fin 4096) :
    shapeCast S64x16384x4096 (select (cmpi .sle (iota .tc S64x4x4096x4096 32 [3] iota_S64x4x4096x4096_d3_w32) (iota .tc S64x4x4096x4096 32 [2] iota_S64x4x4096x4096_d2_w32))
      (shapeCast S64x4x4096x4096 v59 shapeCasts_S64x16384x4096_S64x4x4096x4096) (broadcast S64x4x4096x4096 (Scalar.ofBits .f32 0xFF800000#32))) shapeCasts_S64x4x4096x4096_S64x16384x4096 (ix3 a r k)
      = Scalar.select (IntOp.cmpi .sle (BitVec.ofNat 32 k.val) (BitVec.ofNat 32 (r.val % 4096))) (v59 (ix3 a r k)) (Ideal.ofBits .f32 0xFF800000#32) := by
  pointwise []

theorem soft_apply (v66 : FVec Ideal S64x16384x4096 .f32) (a : Fin 64) (r : Fin 16384) (k : Fin 4096) :
    exp (subf v66 (broadcastTo S64x16384x4096 (shapeCast S64x16384x1 (multiReduction .maximumf [2] S64x16384 v66 0xFF800000#32 reduces_S64x16384x4096_S64x16384 (.inl rfl) rfl) shapeCasts_S64x16384_S64x16384x1) broadcasts_S64x16384x1_S64x16384x4096)) (ix3 a r k)
      = Attn.weightE (fun x => v66 (ix3 a r x)) k := by
  unfold Attn.weightE
  rw [← Attn.bot_bits]
  pointwise []

/-- The scores, masked. -/
def scoresV (v31 : FVec Ideal S1048576x1 .f32) (v41 : FVec Ideal S64x16384x128 .fp8e4m3) (v48 : Vec Ideal S64x4096x128 .fp8e4m3) (v54 : Vec Ideal S64x1x4096 .f32) : FVec Ideal S64x16384x4096 .f32 :=
  shapeCast S64x16384x4096 (select (cmpi .sle (iota .tc S64x4x4096x4096 32 [3] iota_S64x4x4096x4096_d3_w32) (iota .tc S64x4x4096x4096 32 [2] iota_S64x4x4096x4096_d2_w32))
      (shapeCast S64x4x4096x4096 (mulf (mulf (mulf (matmul (φ₂ := .fp8e4m3) dot_S64x16384x128_S64x4096x128_S64x16384x4096_2_2_1_1_0_0 none v41 (shapeCast S64x4096x128 v48 shapeCasts_S64x4096x128_S64x4096x128) (constant S64x16384x4096 .f32 0x00000000#32))
        (broadcastTo S64x16384x4096 (shapeCast S64x16384x1 v31 shapeCasts_S1048576x1_S64x16384x1) broadcasts_S64x16384x1_S64x16384x4096))
        (broadcastTo S64x16384x4096 (shapeCast S64x1x4096 v54 shapeCasts_S64x1x4096_S64x1x4096) broadcasts_S64x1x4096_S64x16384x4096))
        (broadcast S64x16384x4096 (Named.named κ "inv_sqrt_d" 0x3DB504F3#32))) shapeCasts_S64x16384x4096_S64x4x4096x4096) (broadcast S64x4x4096x4096 (Scalar.ofBits .f32 0xFF800000#32))) shapeCasts_S64x4x4096x4096_S64x16384x4096

theorem scoresV_apply (v31 : FVec Ideal S1048576x1 .f32) (v41 : FVec Ideal S64x16384x128 .fp8e4m3) (v48 : Vec Ideal S64x4096x128 .fp8e4m3) (v54 : Vec Ideal S64x1x4096 .f32) (a : Fin 64) (r : Fin 16384) (k : Fin 4096) :
    scoresV v31 v41 v48 v54 (ix3 a r k)
      = Attn.maskE (r.val % 4096) (fun k => (∑ x, v41 (ix3 a r x) * v48 (ix3 a k x) : EReal) * v31 (ix2 (flat a r) 0) * v54 (ix3 a 0 k) * Attn.isd) k := by
  refine (maskRaw_apply _ a r k).trans ?_
  rw [Attn.le_eq _ _ k.isLt (Nat.mod_lt _ (by decide)), Attn.bot_bits]
  unfold Attn.maskE
  congr 1
  exact congrArg₂ (· * ·) (congrArg₂ (· * ·) (congrArg₂ (· * ·) (dot_apply v41 v48 a r k) (score_apply v31 a r k)) (keyScale_apply v54 a r k)) named_isd

theorem pay8_apply (v31 : FVec Ideal S1048576x1 .f32) (v41 : FVec Ideal S64x16384x128 .fp8e4m3) (v48 : Vec Ideal S64x4096x128 .fp8e4m3) (v54 : Vec Ideal S64x1x4096 .f32) (a : Fin 64) (r : Fin 16384) (k : Fin 4096) :
    k0_pay8 v31 v41 v48 v54 (ix3 a r k) = Attn.weightE (fun k => scoresV v31 v41 v48 v54 (ix3 a r k)) k :=
  soft_apply (scoresV v31 v41 v48 v54) a r k

theorem sum_apply (v : FVec Ideal S64x16384x4096 .f32) (a : Fin 64) (r : Fin 16384) :
    shapeCast S64x16384x1 (multiReduction .add [2] S64x16384 v 0x00000000#32 reduces_S64x16384x4096_S64x16384 (.inl rfl) rfl) shapeCasts_S64x16384_S64x16384x1 (ix3 a r 0)
      = (∑ k, v (ix3 a r k) : EReal) := by
  pointwise []

theorem pay9_apply (v31 : FVec Ideal S1048576x1 .f32) (v41 : FVec Ideal S64x16384x128 .fp8e4m3) (v48 : Vec Ideal S64x4096x128 .fp8e4m3) (v54 : Vec Ideal S64x1x4096 .f32) (a : Fin 64) (r : Fin 16384) :
    k0_pay9 v31 v41 v48 v54 (ix3 a r 0) = (∑ k, k0_pay8 v31 v41 v48 v54 (ix3 a r k) : EReal) :=
  sum_apply (k0_pay8 v31 v41 v48 v54) a r

theorem weightCode_apply (v : FVec Ideal S64x16384x4096 .f32) (a : Fin 64) (r : Fin 16384) (k : Fin 4096) :
    minimumf (broadcast S64x16384x4096 (Scalar.ofBits .f32 0x43E00000#32)) (maximumf (broadcast S64x16384x4096 (Scalar.ofBits .f32 0xC3E00000#32)) (mulf v (broadcast S64x16384x4096 (Scalar.ofBits .f32 0x43800000#32)))) (ix3 a r k)
      = Attn.clipE (v (ix3 a r k) * Ideal.ofBits .f32 0x43800000#32) := by
  unfold Attn.clipE
  pointwise []

theorem pay10_apply (v31 : FVec Ideal S1048576x1 .f32) (v41 : FVec Ideal S64x16384x128 .fp8e4m3) (v48 : Vec Ideal S64x4096x128 .fp8e4m3) (v54 : Vec Ideal S64x1x4096 .f32) (a : Fin 64) (r : Fin 16384) (k : Fin 4096) :
    k0_pay10 v31 v41 v48 v54 (ix3 a r k) = Attn.clipE (k0_pay8 v31 v41 v48 v54 (ix3 a r k) * Ideal.ofBits .f32 0x43800000#32) :=
  weightCode_apply (k0_pay8 v31 v41 v48 v54) a r k

theorem pay1_apply (v73 : FVec Ideal S64x16384x1 .f32) (v79 : FVec Ideal S64x16384x4096 .f32) (v81 : Vec Ideal S64x128x4096 .fp8e4m3) (v86 : Vec Ideal S64x1x128 .f32) (b : Fin 8) (i : Fin 4096) (j : Fin 4096) :
    k0_pay1 v73 v79 v81 v86 (ix3 b i j)
      = ((∑ x, v79 (ix3 ⟨b.val * 8 + j.val / 128 / 4, by omega⟩ ⟨j.val / 128 % 4 * 4096 + i.val, by omega⟩ x) * v81 (ix3 ⟨b.val * 8 + j.val / 128 / 4, by omega⟩ ⟨j.val % 128, by omega⟩ x)) * Ideal.ofBits .f32 0x3B800000#32
        * v86 (ix3 ⟨b.val * 8 + j.val / 128 / 4, by omega⟩ 0 ⟨j.val % 128, by omega⟩) * Ideal.div 1 (v73 (ix3 ⟨b.val * 8 + j.val / 128 / 4, by omega⟩ ⟨j.val / 128 % 4 * 4096 + i.val, by omega⟩ 0)) : EReal) := by
  pointwise [k0_pay1]

end Cert.ReferenceIdeal.Hand

end
-- ==== Proof.ReferenceIdeal.Host.lean ====
/-
  What the host builds before the call: the table and the operands in the call's layout.
-/
module

public import proofs.«01_k».proof.Proof.Table
public import proofs.«01_k».proof.Proof.Gen.ReferenceIdeal.Frame

@[expose] public section

noncomputable section

namespace Cert.ReferenceIdeal.Hand

open Idealize.ShloMosaic Idealize.ShloMosaic.TcCoe Idealize.SL.Sem
open Cert.ReferenceIdeal Cert.ReferenceIdeal.Gen

variable {F : FTy → Type} [FloatOps F] [Named F]
variable (m : (ℓ : Loc nD τ sig) → Buf (Elt F) ℓ)

theorem had2_eq (V) : StableHlo.after ((hostOps0 (F := F)).take 6) V main_v4 = Attn.had2 := by
  simp only [hostOps0, List.take_succ_cons, List.take_zero]
  entry_read
  rfl

theorem had4_eq (V) : StableHlo.after ((hostOps0 (F := F)).take 10) V main_v8 = Attn.had4 := by
  have e := had2_eq (F := F) V
  rw [Attn.after_split 6, List.take_take]
  change StableHlo.after ((hostOps0 (F := F)).take 6) V main_v4 = _ at e
  rw [show min 6 10 = 6 by decide]
  generalize StableHlo.after ((hostOps0 (F := F)).take 6) V = W at e ⊢
  simp only [hostOps0, List.drop_succ_cons, List.drop_zero, List.take_succ_cons, List.take_zero]
  entry_read
  rw [e]
  rfl

theorem had8_eq (V) : StableHlo.after ((hostOps0 (F := F)).take 14) V main_v12 = Attn.had8 := by
  have e := had4_eq (F := F) V
  rw [Attn.after_split 10, List.take_take]
  change StableHlo.after ((hostOps0 (F := F)).take 10) V main_v8 = _ at e
  rw [show min 10 14 = 10 by decide]
  generalize StableHlo.after ((hostOps0 (F := F)).take 10) V = W at e ⊢
  simp only [hostOps0, List.drop_succ_cons, List.drop_zero, List.take_succ_cons, List.take_zero]
  entry_read
  rw [e]
  rfl

theorem had16_eq (V) : StableHlo.after ((hostOps0 (F := F)).take 18) V main_v16 = Attn.had16 := by
  have e := had8_eq (F := F) V
  rw [Attn.after_split 14, List.take_take]
  change StableHlo.after ((hostOps0 (F := F)).take 14) V main_v12 = _ at e
  rw [show min 14 18 = 14 by decide]
  generalize StableHlo.after ((hostOps0 (F := F)).take 14) V = W at e ⊢
  simp only [hostOps0, List.drop_succ_cons, List.drop_zero, List.take_succ_cons, List.take_zero]
  entry_read
  rw [e]
  rfl

theorem had32_eq (V) : StableHlo.after ((hostOps0 (F := F)).take 22) V main_v20 = Attn.had32 := by
  have e := had16_eq (F := F) V
  rw [Attn.after_split 18, List.take_take]
  change StableHlo.after ((hostOps0 (F := F)).take 18) V main_v16 = _ at e
  rw [show min 18 22 = 18 by decide]
  generalize StableHlo.after ((hostOps0 (F := F)).take 18) V = W at e ⊢
  simp only [hostOps0, List.drop_succ_cons, List.drop_zero, List.take_succ_cons, List.take_zero]
  entry_read
  rw [e]
  rfl

theorem had64_eq (V) : StableHlo.after ((hostOps0 (F := F)).take 26) V main_v24 = Attn.had64 := by
  have e := had32_eq (F := F) V
  rw [Attn.after_split 22, List.take_take]
  change StableHlo.after ((hostOps0 (F := F)).take 22) V main_v20 = _ at e
  rw [show min 22 26 = 22 by decide]
  generalize StableHlo.after ((hostOps0 (F := F)).take 22) V = W at e ⊢
  simp only [hostOps0, List.drop_succ_cons, List.drop_zero, List.take_succ_cons, List.take_zero]
  entry_read
  rw [e]
  rfl

theorem had128_eq (V) : StableHlo.after ((hostOps0 (F := F)).take 30) V main_v28 = Attn.had := by
  have e := had64_eq (F := F) V
  rw [Attn.after_split 26, List.take_take]
  change StableHlo.after ((hostOps0 (F := F)).take 26) V main_v24 = _ at e
  rw [show min 26 30 = 26 by decide]
  generalize StableHlo.after ((hostOps0 (F := F)).take 26) V = W at e ⊢
  simp only [hostOps0, List.drop_succ_cons, List.drop_zero, List.take_succ_cons, List.take_zero]
  entry_read
  rw [e]
  rfl

/-- The table, as the call finds it. -/
theorem table_eq (c : Dev nD) : V m c main_v28 = Attn.had (F := F) := by
  have e := had128_eq (F := F) (fun b => m (c, b))
  show StableHlo.after hostOps0 (fun b => m (c, b)) main_v28 = _
  rw [Attn.after_split 30]
  generalize StableHlo.after ((hostOps0 (F := F)).take 30) (fun b => m (c, b)) = W at e ⊢
  simp only [hostOps0, List.drop_succ_cons, List.drop_zero, List.take_succ_cons, List.take_zero]
  entry_read
  rw [e]

theorem x_eq (c : Dev nD) : V m c main_v31 = (shapeCast S64x16384x128 (transpose S8x32x4096x128 [0, 2, 1, 3] (shapeCast S8x4096x32x128 (m ((c : Thread nD τ).loc main_arg0)) shapeCasts_S8x4096x4096_S8x4096x32x128) transposes_S8x4096x32x128_S8x32x4096x128_0_2_1_3) shapeCasts_S8x32x4096x128_S64x16384x128 : S64x16384x128.Idx → F .bf16) := by
  entry_read
  rfl

theorem kc_eq (c : Dev nD) : V m c main_v32 = (shapeCast S64x4096x128 (m ((c : Thread nD τ).loc main_arg1)) shapeCasts_S8x8x4096x128_S64x4096x128 : S64x4096x128.Idx → F .fp8e4m3) := by
  entry_read
  rfl

theorem ks_eq (c : Dev nD) : V m c main_v34 = (shapeCast S64x1x4096 (transpose S8x8x4096 [0, 2, 1] (m ((c : Thread nD τ).loc main_arg2)) transposes_S8x4096x8_S8x8x4096_0_2_1) shapeCasts_S8x8x4096_S64x1x4096 : S64x1x4096.Idx → F .f32) := by
  entry_read
  rfl

theorem vt_eq (c : Dev nD) : V m c main_v35 = (shapeCast S64x128x4096 (m ((c : Thread nD τ).loc main_arg3)) shapeCasts_S8x8x128x4096_S64x128x4096 : S64x128x4096.Idx → F .fp8e4m3) := by
  entry_read
  rfl

theorem vs_eq (c : Dev nD) : V m c main_v36 = (shapeCast S64x1x128 (m ((c : Thread nD τ).loc main_arg4)) shapeCasts_S8x8x128_S64x1x128 : S64x1x128.Idx → F .f32) := by
  entry_read
  rfl

end Cert.ReferenceIdeal.Hand

end
-- ==== Proof.ReferenceIdeal.Arrays.lean ====
/-
  The reference's three arrays, read at an index.
-/
module

public import proofs.«01_k».proof.Proof.ReferenceIdeal.RefVal
public import proofs.«01_k».proof.Proof.ReferenceIdeal.Host
public import proofs.«01_k».proof.Proof.Spec
public import Idealize.ShloMosaic.Lib.Pipeline.ValueKit

@[expose] public section

noncomputable section

namespace Cert.ReferenceIdeal.Hand

open Cert.ReferenceIdeal Cert.ReferenceIdeal.Gen Idealize.ShloMosaic Idealize.ShloMosaic.TcCoe Idealize.SL.Sem
open scoped BigOperators

variable (m : (ℓ : Loc nD τ sig) → Buf (Elt Ideal) ℓ)

/-- The five arguments at coordinates. -/
def a0 (c : Dev nD) (b : Fin 8) (i j : Fin 4096) : EReal := m ((c : Thread nD τ).loc main_arg0) (ix3 b i j)
def a1 (c : Dev nD) (b : Fin 8) (h : Fin 8) (k : Fin 4096) (d : Fin 128) : EReal := m ((c : Thread nD τ).loc main_arg1) (ix4 b h k d)
def a2 (c : Dev nD) (b : Fin 8) (k : Fin 4096) (h : Fin 8) : EReal := m ((c : Thread nD τ).loc main_arg2) (ix3 b k h)
def a3 (c : Dev nD) (b : Fin 8) (h : Fin 8) (d : Fin 128) (k : Fin 4096) : EReal := m ((c : Thread nD τ).loc main_arg3) (ix4 b h d k)
def a4 (c : Dev nD) (b : Fin 8) (h : Fin 8) (d : Fin 128) : EReal := m ((c : Thread nD τ).loc main_arg4) (ix3 b h d)

/-! ## The operands at coordinates -/

theorem idx : ∀ t : Fin cfg0.N, win0_0.index t = ![0, 0, 0] ∧ win0_1.index t = ![0, 0] ∧ win0_2.index t = ![0, 0, 0]
   ∧ win0_3.index t = ![0, 0, 0] ∧ win0_4.index t = ![0, 0, 0] ∧ win0_5.index t = ![0, 0, 0]
   ∧ win0_6.index t = ![0, 0, 0] ∧ win0_7.index t = ![0, 0, 0, 0] ∧ win0_8.index t = ![0, 0, 0] := by
  decide +kernel

theorem xShape (X : S8x4096x4096.Idx → EReal) (a : Fin 64) (r : Fin 16384) (e : Fin 128) :
    (shapeCast S64x16384x128 (transpose S8x32x4096x128 [0, 2, 1, 3] (shapeCast S8x4096x32x128 X shapeCasts_S8x4096x4096_S8x4096x32x128) transposes_S8x4096x32x128_S8x32x4096x128_0_2_1_3) shapeCasts_S8x32x4096x128_S64x16384x128 : S64x16384x128.Idx → EReal) (ix3 a r e)
      = X (ix3 ⟨a.val / 8, by omega⟩ ⟨r.val % 4096, by omega⟩ ⟨128 * (a.val % 8 * 4 + r.val / 4096) + e.val, by omega⟩) := by
  pointwise []
  refine congrArg (fun j => X (ix3 _ _ j)) (Fin.ext ?_)
  show (a.val % 8 * 4 + r.val / 4096) * 128 + e.val = 128 * (a.val % 8 * 4 + r.val / 4096) + e.val
  omega

theorem ksShape (X : S8x4096x8.Idx → EReal) (a : Fin 64) (k : Fin 4096) :
    (shapeCast S64x1x4096 (transpose S8x8x4096 [0, 2, 1] X transposes_S8x4096x8_S8x8x4096_0_2_1) shapeCasts_S8x8x4096_S64x1x4096 : S64x1x4096.Idx → EReal) (ix3 a 0 k)
      = X (ix3 ⟨a.val / 8, by omega⟩ k ⟨a.val % 8, by omega⟩) := by
  pointwise []

theorem kcShape (X : S8x8x4096x128.Idx → EReal) (a : Fin 64) (k : Fin 4096) (d : Fin 128) :
    (shapeCast S64x4096x128 X shapeCasts_S8x8x4096x128_S64x4096x128 : S64x4096x128.Idx → EReal) (ix3 a k d) = X (ix4 ⟨a.val / 8, by omega⟩ ⟨a.val % 8, by omega⟩ k d) := by
  pointwise []

theorem vtShape (X : S8x8x128x4096.Idx → EReal) (a : Fin 64) (k : Fin 4096) (d : Fin 128) :
    (shapeCast S64x128x4096 X shapeCasts_S8x8x128x4096_S64x128x4096 : S64x128x4096.Idx → EReal) (ix3 a d k) = X (ix4 ⟨a.val / 8, by omega⟩ ⟨a.val % 8, by omega⟩ d k) := by
  pointwise []

theorem vsShape (X : S8x8x128.Idx → EReal) (a : Fin 64) (d : Fin 128) :
    (shapeCast S64x1x128 X shapeCasts_S8x8x128_S64x1x128 : S64x1x128.Idx → EReal) (ix3 a 0 d) = X (ix3 ⟨a.val / 8, by omega⟩ ⟨a.val % 8, by omega⟩ d) := by
  pointwise []

theorem blk0 (c : Dev nD) (t : Fin cfg0.N) (a : Fin 64) (r : Fin 16384) (e : Fin 128) :
    iblk m c 0 t (ix3 a r e) = a0 m c ⟨a.val / 8, by omega⟩ ⟨r.val % 4096, by omega⟩ ⟨128 * (a.val % 8 * 4 + r.val / 4096) + e.val, by omega⟩ := by
  refine Eq.trans (b := V m c main_v31 (ix3 a r e)) ?_ ?_
  · blk_ext [iblk, idx t]
  · rw [x_eq]
    exact xShape _ a r e

theorem blk1 (c : Dev nD) (t : Fin cfg0.N) (e d : Fin 128) : iblk m c 1 t (ix2 e d) = Attn.T e d := by
  refine Eq.trans (b := V m c main_v28 (ix2 e d)) ?_ ?_
  · blk_ext [iblk, idx t]
  · rw [table_eq]
    rfl

theorem blk2 (c : Dev nD) (t : Fin cfg0.N) (a : Fin 64) (k : Fin 4096) (d : Fin 128) :
    iblk m c 2 t (ix3 a k d) = a1 m c ⟨a.val / 8, by omega⟩ ⟨a.val % 8, by omega⟩ k d := by
  refine Eq.trans (b := V m c main_v32 (ix3 a k d)) ?_ ?_
  · blk_ext [iblk, idx t]
  · rw [kc_eq]
    exact kcShape _ a k d

theorem blk3 (c : Dev nD) (t : Fin cfg0.N) (a : Fin 64) (k : Fin 4096) :
    iblk m c 3 t (ix3 a 0 k) = a2 m c ⟨a.val / 8, by omega⟩ k ⟨a.val % 8, by omega⟩ := by
  refine Eq.trans (b := V m c main_v34 (ix3 a 0 k)) ?_ ?_
  · blk_ext [iblk, idx t]
  · rw [ks_eq]
    exact ksShape _ a k

theorem blk4 (c : Dev nD) (t : Fin cfg0.N) (a : Fin 64) (k : Fin 4096) (d : Fin 128) :
    iblk m c 4 t (ix3 a d k) = a3 m c ⟨a.val / 8, by omega⟩ ⟨a.val % 8, by omega⟩ d k := by
  refine Eq.trans (b := V m c main_v35 (ix3 a d k)) ?_ ?_
  · blk_ext [iblk, idx t]
  · rw [vt_eq]
    exact vtShape _ a k d

theorem blk5 (c : Dev nD) (t : Fin cfg0.N) (a : Fin 64) (d : Fin 128) :
    iblk m c 5 t (ix3 a 0 d) = a4 m c ⟨a.val / 8, by omega⟩ ⟨a.val % 8, by omega⟩ d := by
  refine Eq.trans (b := V m c main_v36 (ix3 a 0 d)) ?_ ?_
  · blk_ext [iblk, idx t]
  · rw [vs_eq]
    exact vsShape _ a d

/-! ## The arrays -/

/-- The place of head `h` of batch `b` among the keys' heads, and of its query `i` among the queries there. -/
def pA (b : Fin 8) (h : Fin 32) : Fin 64 := ⟨b.val * 8 + h.val / 4, by omega⟩
def pR (h : Fin 32) (i : Fin 4096) : Fin 16384 := ⟨h.val % 4 * 4096 + i.val, by omega⟩

theorem tab_eq (c : Dev nD) (t : Fin cfg0.N) : tab (iblk m c 1 t) = Attn.T := by
  funext e d
  exact blk1 m c t e d

theorem place1 (b h : ℕ) (hh : h < 32) : (b * 8 + h / 4) / 8 = b := by omega
theorem place2 (a i : ℕ) (hi : i < 4096) : (a * 4096 + i) % 4096 = i := by omega
theorem place3 (b h i e : ℕ) (hh : h < 32) (hi : i < 4096) : 128 * ((b * 8 + h / 4) % 8 * 4 + (h % 4 * 4096 + i) / 4096) + e = 128 * h + e := by omega
theorem place4 (a r : ℕ) (hr : r < 16384) : (a * 16384 + r) / 16384 = a := by omega
theorem place5 (a r : ℕ) (hr : r < 16384) : (a * 16384 + r) % 16384 = r := by omega

theorem row_eq (c : Dev nD) (t : Fin cfg0.N) (b : Fin 8) (h : Fin 32) (i : Fin 4096) : row (iblk m c 0 t) (flat (pA b h) (pR h i)) = Attn.qRow (a0 m c) b i h := by
  funext e
  unfold row Attn.qRow
  refine (blk0 m c t _ _ e).trans ?_
  have p1 : (pA b h).val = b.val * 8 + h.val / 4 := rfl
  have p2 : (pR h i).val = h.val % 4 * 4096 + i.val := rfl
  have e1 : ((pA b h).val * 16384 + (pR h i).val) / 16384 = (pA b h).val := place4 _ _ (pR h i).isLt
  have e2 : ((pA b h).val * 16384 + (pR h i).val) % 16384 = (pR h i).val := place5 _ _ (pR h i).isLt
  have e3 : ∀ {x x' : Fin 8} {y y' z z' : Fin 4096}, x.val = x'.val → y.val = y'.val → z.val = z'.val → a0 m c x y z = a0 m c x' y' z' := by
    intro x x' y y' z z' h1 h2 h3
    rw [Fin.ext h1, Fin.ext h2, Fin.ext h3]
  refine e3 ?_ ?_ ?_
  · show ((pA b h).val * 16384 + (pR h i).val) / 16384 / 8 = b.val
    rw [e1, p1, place1 _ _ h.isLt]
  · show ((pA b h).val * 16384 + (pR h i).val) % 16384 % 4096 = i.val
    rw [e2, p2, place2 _ _ i.isLt]
  · show 128 * (((pA b h).val * 16384 + (pR h i).val) / 16384 % 8 * 4 + ((pA b h).val * 16384 + (pR h i).val) % 16384 / 4096) + e.val = 128 * h.val + e.val
    rw [e1, e2, p1, p2, place3 _ _ _ _ h.isLt i.isLt]

theorem scale_apply (c : Dev nD) (t : Fin cfg0.N) (b : Fin 8) (h : Fin 32) (i : Fin 4096) :
    k0_pay3 (iblk m c 0 t) (iblk m c 1 t) (ix2 (flat (pA b h) (pR h i)) 0) = Attn.scaleR (a0 m c) b i h := by
  rw [pay3_apply, tab_eq, row_eq]
  rfl

theorem code_apply (c : Dev nD) (t : Fin cfg0.N) (b : Fin 8) (h : Fin 32) (i : Fin 4096) (d : Fin 128) :
    k0_pay4 (iblk m c 0 t) (iblk m c 1 t) (ix3 (pA b h) (pR h i) d) = Attn.codeR (a0 m c) b i h d := by
  rw [pay4_apply, tab_eq, row_eq]
  rfl

theorem emb8 (t : Fin cfg0.N) (b : Fin 8) (i : Fin 4096) (h : Fin 32) (G : S8x4096x32.Idx → EReal) : G ((win0_8.blk t).view.emb (ix3 b i h)) = G (ix3 b i h) := by
  blk_ext [idx t]
theorem emb7 (t : Fin cfg0.N) (b : Fin 8) (i : Fin 4096) (h : Fin 32) (d : Fin 128) (G : S8x4096x32x128.Idx → EReal) : G ((win0_7.blk t).view.emb (ix4 b i h d)) = G (ix4 b i h d) := by
  blk_ext [idx t]
theorem emb6 (t : Fin cfg0.N) (b : Fin 8) (i : Fin 4096) (j : Fin 4096) (G : S8x4096x4096.Idx → EReal) : G ((win0_6.blk t).view.emb (ix3 b i j)) = G (ix3 b i j) := by
  blk_ext [idx t]

theorem final8 (c : Dev nD) : (dats m 0 c).arrAt 8 cfg0.N = (fun y : S8x4096x32.Idx => Attn.scaleR (a0 m c) (y 0) (y 1) (y 2)) := by
  refine (dats m 0 c).arrAt_eq_of_covers 8 _ (by decide +kernel) fun t hf y => ?_
  blk_simp
  rw [after0_8]
  unfold out0_8 k0_pay11
  frame_out
  have e : y = ix3 (y 0) (y 1) (y 2) := eq_ix3 (n0 := 8) (n1 := 4096) (n2 := 32) y
  generalize y 0 = b, y 1 = i, y 2 = h at e
  subst e
  refine Eq.trans ?_ (emb8 t b i h (fun y : S8x4096x32.Idx => Attn.scaleR (a0 m c) (y 0) (y 1) (y 2))).symm
  refine (pay7_apply _ b h i).trans (Eq.trans ?_ (scale_apply m c t b h i))
  refine congrArg (fun g => k0_pay3 (iblk m c 0 t) (iblk m c 1 t) (ix2 g 0)) (Fin.ext ?_)
  show b.val * 131072 + h.val * 4096 + i.val = (b.val * 8 + h.val / 4) * 16384 + (h.val % 4 * 4096 + i.val)
  omega

theorem final7 (c : Dev nD) : (dats m 0 c).arrAt 7 cfg0.N = (fun y : S8x4096x32x128.Idx => Attn.codeR (a0 m c) (y 0) (y 1) (y 2) (y 3)) := by
  refine (dats m 0 c).arrAt_eq_of_covers 7 _ (by decide +kernel) fun t hf y => ?_
  blk_simp
  rw [after0_7]
  unfold out0_7
  frame_out
  have e : y = ix4 (y 0) (y 1) (y 2) (y 3) := eq_ix4 (n0 := 8) (n1 := 4096) (n2 := 32) (n3 := 128) y
  generalize y 0 = b, y 1 = i, y 2 = h, y 3 = d at e
  subst e
  refine Eq.trans ?_ (emb7 t b i h d (fun y : S8x4096x32x128.Idx => Attn.codeR (a0 m c) (y 0) (y 1) (y 2) (y 3))).symm
  exact (pay6_apply _ b h i d).trans ((pay5_apply _ _ b h i d).trans (code_apply m c t b h i d))

/-- A query's scores. -/
theorem scores_apply (c : Dev nD) (t : Fin cfg0.N) (b : Fin 8) (h : Fin 32) (i : Fin 4096) (k : Fin 4096) :
    scoresV (k0_pay3 (iblk m c 0 t) (iblk m c 1 t)) (k0_pay4 (iblk m c 0 t) (iblk m c 1 t)) (iblk m c 2 t) (iblk m c 3 t) (ix3 (pA b h) (pR h i) k)
      = Attn.scoreR (a0 m c) (a1 m c) (a2 m c) b i h k := by
  refine (scoresV_apply _ _ _ _ _ _ k).trans ?_
  have ea : (⟨(pA b h).val / 8, by omega⟩ : Fin 8) = b := Fin.ext (by show (b.val * 8 + h.val / 4) / 8 = b.val; omega)
  have eh : (⟨(pA b h).val % 8, by omega⟩ : Fin 8) = Attn.kv h := Fin.ext (by show (b.val * 8 + h.val / 4) % 8 = h.val / 4; omega)
  have ei : (pR h i).val % 4096 = i.val := by show (h.val % 4 * 4096 + i.val) % 4096 = i.val; omega
  unfold Attn.scoreR
  rw [ei]
  refine congrArg (fun f => Attn.maskE i.val f k) (funext fun k => ?_)
  rw [scale_apply, blk3, ea, eh]
  refine congrArg (fun s : EReal => s * Attn.scaleR (a0 m c) b i h * a2 m c b k (Attn.kv h) * Attn.isd) (Finset.sum_congr rfl fun d _ => ?_)
  rw [code_apply, blk2, ea, eh]

theorem final6 (c : Dev nD) : (dats m 0 c).arrAt 6 cfg0.N = (fun y : S8x4096x4096.Idx => Attn.outR (a0 m c) (a1 m c) (a2 m c) (a3 m c) (a4 m c) (y 0) (y 1) (y 2)) := by
  refine (dats m 0 c).arrAt_eq_of_covers 6 _ (by decide +kernel) fun t hf y => ?_
  blk_simp
  rw [after0_6]
  unfold out0_6 k0_pay11 k0_pay12
  frame_out
  have e : y = ix3 (y 0) (y 1) (y 2) := eq_ix3 (n0 := 8) (n1 := 4096) (n2 := 4096) y
  generalize (y 0 : Fin 8) = b, (y 1 : Fin 4096) = i, (y 2 : Fin 4096) = j at e
  subst e
  refine Eq.trans ?_ (emb6 t b i j (fun y : S8x4096x4096.Idx => Attn.outR (a0 m c) (a1 m c) (a2 m c) (a3 m c) (a4 m c) (y 0) (y 1) (y 2))).symm
  refine (pay1_apply _ _ _ _ b i j).trans ?_
  have hj : j.val < 4096 := j.isLt
  have hh : j.val / 128 < 32 := by omega
  have ea : (⟨(pA b ⟨j.val / 128, hh⟩).val / 8, by omega⟩ : Fin 8) = b := Fin.ext (by show (b.val * 8 + j.val / 128 / 4) / 8 = b.val; omega)
  have eh : (⟨(pA b ⟨j.val / 128, hh⟩).val % 8, by omega⟩ : Fin 8) = Attn.kv ⟨j.val / 128, hh⟩ := Fin.ext (by show (b.val * 8 + j.val / 128 / 4) % 8 = j.val / 128 / 4; omega)
  have es := funext fun k => scores_apply m c t b ⟨j.val / 128, hh⟩ i k
  have e4 := blk5 m c t (pA b ⟨j.val / 128, hh⟩) ⟨j.val % 128, by omega⟩
  have e3 := fun k => blk4 m c t (pA b ⟨j.val / 128, hh⟩) k ⟨j.val % 128, by omega⟩
  rw [ea, eh] at e4
  simp only [ea, eh] at e3
  show _ = Attn.outR (a0 m c) (a1 m c) (a2 m c) (a3 m c) (a4 m c) b i j
  unfold Attn.outR Attn.headR Attn.attnE
  rw [← es]
  refine congr (congrArg (fun (x y : EReal) => x * y) ?_) ?_
  · refine congr (congrArg (fun (x y : EReal) => x * y) ?_) e4
    refine congrArg (fun x : EReal => x * Ideal.ofBits .f32 0x3B800000#32) (Finset.sum_congr rfl fun k _ => ?_)
    refine congr (congrArg (fun (x y : EReal) => x * y) ?_) (e3 k)
    exact (pay10_apply _ _ _ _ _ _ k).trans (congrArg (fun p : EReal => Attn.clipE (p * Ideal.ofBits .f32 0x43800000#32)) (pay8_apply _ _ _ _ _ _ k))
  · refine congrArg (Ideal.div 1) ((pay9_apply _ _ _ _ _ _).trans (Finset.sum_congr rfl fun k _ => ?_))
    exact pay8_apply _ _ _ _ _ _ k

end Cert.ReferenceIdeal.Hand

end
-- ==== Proof.Equal.lean ====
/-
  The kernel and the reference leave the same three arrays.
-/
module

public import proofs.«01_k».proof.Defs
public import proofs.«01_k».proof.Proof.KernelIdeal.Arrays
public import proofs.«01_k».proof.Proof.ReferenceIdeal.Arrays
public import Idealize.ShloMosaic.Lib.Claim

@[expose] public section

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (ρ : Dev nD → PrngReg)

/-- The three arrays the kernel leaves. -/
def r0 (c : Dev nD) : S8x4096x4096.Idx → EReal := fun y => Attn.outR (a0 m c) (a1 m c) (a2 m c) (a3 m c) (a4 m c) (y 0) (y 1) (y 2)
def r1 (c : Dev nD) : S8x4096x32x128.Idx → EReal := fun y => Attn.codeR (a0 m c) (y 0) (y 1) (y 2) (y 3)
def r2 (c : Dev nD) : S8x4096x32.Idx → EReal := fun y => Attn.scaleR (a0 m c) (y 0) (y 1) (y 2)

/-- The kernel's run: its results, its arguments unchanged. -/
theorem run_values : θ_run defs (onTc (τ := τ) (main (F := Ideal))) ⟨m, fun _ => 0, ρ⟩ (fun r => ∀ c : Dev nD,
      r.2.mem ((c.tc : Thread nD τ).loc main_v34_0) = r0 m c
      ∧ r.2.mem ((c.tc : Thread nD τ).loc main_v34_1) = r1 m c
      ∧ r.2.mem ((c.tc : Thread nD τ).loc main_v34_2) = r2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.2.1 c).1 6).trans (final6 m c), ((h.2.1 c).1 7).trans (final7 m c), ((h.2.1 c).1 8).trans (final8 m c), h.1.1 c⟩)
    (θ_run_and (frame m ρ) (run_main m ρ))

end Cert.KernelIdeal.Hand

namespace Cert.ReferenceIdeal.Hand

open Cert.ReferenceIdeal Cert.ReferenceIdeal.Gen

variable (m : (ℓ : Loc nD τ sig) → Buf (Elt Ideal) ℓ) (ρ : Dev nD → PrngReg)

/-- The three arrays the reference leaves. -/
def r0 (c : Dev nD) : S8x4096x4096.Idx → EReal := fun y => Attn.outR (a0 m c) (a1 m c) (a2 m c) (a3 m c) (a4 m c) (y 0) (y 1) (y 2)
def r1 (c : Dev nD) : S8x4096x32x128.Idx → EReal := fun y => Attn.codeR (a0 m c) (y 0) (y 1) (y 2) (y 3)
def r2 (c : Dev nD) : S8x4096x32.Idx → EReal := fun y => Attn.scaleR (a0 m c) (y 0) (y 1) (y 2)

/-- The reference's run: its results, its arguments unchanged. -/
theorem run_values : θ_run defs (onTc (τ := τ) (main (F := Ideal))) ⟨m, fun _ => 0, ρ⟩ (fun r => ∀ c : Dev nD,
      r.2.mem ((c.tc : Thread nD τ).loc main_v37_0) = r0 m c
      ∧ r.2.mem ((c.tc : Thread nD τ).loc main_v37_1) = r1 m c
      ∧ r.2.mem ((c.tc : Thread nD τ).loc main_v37_2) = r2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.2 c).1 6).trans (final6 m c), ((h.2 c).1 7).trans (final7 m c), ((h.2 c).1 8).trans (final8 m c), h.1.1 c⟩)
    (θ_run_and (frame m ρ) (run_main m ρ))

end Cert.ReferenceIdeal.Hand

namespace Cert.Proof

/-- From equal arguments the kernel and the reference leave equal results. -/
theorem algebraic : algebraic_KernelIdeal_ReferenceIdeal (hKernelIdeal := Cert.KernelIdeal.Gen.facts) (hReferenceIdeal := Cert.ReferenceIdeal.Gen.facts) := by
  intro m g m' g' _ hm
  have e0 : ∀ c, Cert.ReferenceIdeal.Hand.a0 m' c = Cert.KernelIdeal.Hand.a0 m c := fun c => funext fun b => funext fun i => funext fun j => congrFun (hm c).1 (ix3 b i j)
  have e1 : ∀ c, Cert.ReferenceIdeal.Hand.a1 m' c = Cert.KernelIdeal.Hand.a1 m c := fun c => funext fun b => funext fun h => funext fun k => funext fun d => congrFun (hm c).2.1 (ix4 b h k d)
  have e2 : ∀ c, Cert.ReferenceIdeal.Hand.a2 m' c = Cert.KernelIdeal.Hand.a2 m c := fun c => funext fun b => funext fun k => funext fun h => congrFun (hm c).2.2.1 (ix3 b k h)
  have e3 : ∀ c, Cert.ReferenceIdeal.Hand.a3 m' c = Cert.KernelIdeal.Hand.a3 m c := fun c => funext fun b => funext fun h => funext fun d => funext fun k => congrFun (hm c).2.2.2.1 (ix4 b h d k)
  have e4 : ∀ c, Cert.ReferenceIdeal.Hand.a4 m' c = Cert.KernelIdeal.Hand.a4 m c := fun c => funext fun b => funext fun h => funext fun d => congrFun (hm c).2.2.2.2 (ix3 b h d)
  have f0 : ∀ c, Cert.ReferenceIdeal.Hand.r0 m' c = Cert.KernelIdeal.Hand.r0 m c := fun c => by
    unfold Cert.ReferenceIdeal.Hand.r0 Cert.KernelIdeal.Hand.r0
    rw [e0, e1, e2, e3, e4]
  have f1 : ∀ c, Cert.ReferenceIdeal.Hand.r1 m' c = Cert.KernelIdeal.Hand.r1 m c := fun c => by
    unfold Cert.ReferenceIdeal.Hand.r1 Cert.KernelIdeal.Hand.r1
    rw [e0]
  have f2 : ∀ c, Cert.ReferenceIdeal.Hand.r2 m' c = Cert.KernelIdeal.Hand.r2 m c := fun c => by
    unfold Cert.ReferenceIdeal.Hand.r2 Cert.KernelIdeal.Hand.r2
    rw [e0]
  refine ⟨Cert.KernelIdeal.Hand.r0 m, Cert.KernelIdeal.Hand.r1 m, Cert.KernelIdeal.Hand.r2 m, Cert.KernelIdeal.Hand.run_values m g, ?_⟩
  exact (θ_run _ _ _).mono (fun r h c => ⟨(h c).1.trans (f0 c), (h c).2.1.trans (f1 c), (h c).2.2.1.trans (f2 c), (h c).2.2.2⟩) (Cert.ReferenceIdeal.Hand.run_values m' g')

end Cert.Proof

end
-- ==== Proof.lean ====
/-
  The proof of `Cert.Claim`: the frames of the four programs, the two idealizations, and that the kernel and the reference
  compute the same.
-/
module

public import proofs.«01_k».proof.Defs
public import proofs.«01_k».proof.Proof.Kernel.Frame
public import proofs.«01_k».proof.Proof.KernelIdeal.Frame
public import proofs.«01_k».proof.Proof.Equal
public import proofs.«01_k».proof.Proof.Gen.ReferenceIdeal.Frame
public import proofs.«01_k».proof.Proof.Gen.Reference.Frame
public import Idealize.ShloMosaic.Adequacy
public import Idealize.ShloMosaic.Init

@[expose] public section

noncomputable section

namespace Cert.Proof

open Idealize.ShloMosaic Idealize.SL.Sem

/-- Everything claimed. -/
theorem claim : Cert.Claim := ⟨Cert.Kernel.Gen.facts, Cert.KernelIdeal.Gen.facts, Cert.ReferenceIdeal.Gen.facts, Cert.Reference.Gen.facts,
  fun m g _ => Cert.Kernel.Hand.frame m g,
  fun m g _ => Cert.KernelIdeal.Hand.frame m g,
  fun m g _ => Cert.ReferenceIdeal.Gen.frame m g,
  fun m g _ => Cert.Reference.Gen.frame m g,
  ⟨IdealRules.named_const.statement Cert.KernelIdeal.κ "inv_sqrt_d" .f32 0x3DB504F3#32 (((Real.sqrt 128)⁻¹ : ℝ) : EReal) rfl,
    IdealRules.named_const.statement Cert.KernelIdeal.κ "log2e_inv_sqrt_d" .f32 0x3E0293EE#32 (((Real.sqrt 128)⁻¹ * (Real.log 2)⁻¹ : ℝ) : EReal) rfl⟩,
  IdealRules.named_const.statement Cert.ReferenceIdeal.κ "inv_sqrt_d" .f32 0x3DB504F3#32 (((Real.sqrt 128)⁻¹ : ℝ) : EReal) rfl,
  algebraic⟩

end Cert.Proof

end
